-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v49) = v2 c
          ∧ r.2.mem ((c.tc : Thread Cert.Reference2Ideal.nD Cert.Reference2Ideal.τ).loc Cert.Reference2Ideal.main_v54) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v47) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v24_1)) (v1 : (c : Dev Cert.Kernel12Ideal.nD) → Buf (Elt Ideal) ((c.tc : Thread Cert.Kernel12Ideal.nD Cert.Kernel12Ideal.τ).loc Cert.Kernel12Ideal.main_v24_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v24_1) = v0 c
          ∧ r.2.mem ((c.tc : Thread Cert.Kernel12Ideal.nD Cert.Kernel12Ideal.τ).loc Cert.Kernel12Ideal.main_v24_2) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v51) = v0 c
          ∧ r.2.mem ((c.tc : Thread Cert.Reference12Ideal.nD Cert.Reference12Ideal.τ).loc Cert.Reference12Ideal.main_v80) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S16x1024x2048 : Shape := ⟨3, ![16, 1024, 2048]⟩
abbrev S16x1024x128 : Shape := ⟨3, ![16, 1024, 128]⟩
abbrev S64x512x256 : Shape := ⟨3, ![64, 512, 256]⟩
abbrev S64x256x256 : Shape := ⟨3, ![64, 256, 256]⟩
abbrev S2x32x2x128 : Shape := ⟨4, ![2, 32, 2, 128]⟩
abbrev S64x256x1 : Shape := ⟨3, ![64, 256, 1]⟩
abbrev S16x32x2048 : Shape := ⟨3, ![16, 32, 2048]⟩
abbrev S16x32x128 : Shape := ⟨3, ![16, 32, 128]⟩
abbrev S2x512x256 : Shape := ⟨3, ![2, 512, 256]⟩
abbrev S2x256x256 : Shape := ⟨3, ![2, 256, 256]⟩
abbrev S2x1x2x128 : Shape := ⟨4, ![2, 1, 2, 128]⟩
abbrev S2x256x1 : Shape := ⟨3, ![2, 256, 1]⟩
abbrev S2x2x2176x128 : Shape := ⟨4, ![2, 2, 2176, 128]⟩
abbrev S2x2x2048x128 : Shape := ⟨4, ![2, 2, 2048, 128]⟩
abbrev S2x256x2048 : Shape := ⟨3, ![2, 256, 2048]⟩
abbrev S1x256x256 : Shape := ⟨3, ![1, 256, 256]⟩
abbrev S256x256 : Shape := ⟨2, ![256, 256]⟩
abbrev S16x16x128 : Shape := ⟨3, ![16, 16, 128]⟩
abbrev S256x128 : Shape := ⟨2, ![256, 128]⟩
abbrev S1x512x256 : Shape := ⟨3, ![1, 512, 256]⟩
abbrev S512x256 : Shape := ⟨2, ![512, 256]⟩
abbrev S16x16x2048 : Shape := ⟨3, ![16, 16, 2048]⟩
abbrev S256x2048 : Shape := ⟨2, ![256, 2048]⟩
abbrev S512x2048 : Shape := ⟨2, ![512, 2048]⟩
abbrev S1x256x2048 : Shape := ⟨3, ![1, 256, 2048]⟩
abbrev S64x128 : Shape := ⟨2, ![64, 128]⟩
abbrev S128x128 : Shape := ⟨2, ![128, 128]⟩
abbrev S1x1x128x128 : Shape := ⟨4, ![1, 1, 128, 128]⟩
abbrev S64x2048 : Shape := ⟨2, ![64, 2048]⟩
abbrev S128x2048 : Shape := ⟨2, ![128, 2048]⟩
abbrev S2048x128 : Shape := ⟨2, ![2048, 128]⟩
abbrev S1x1x2048x128 : Shape := ⟨4, ![1, 1, 2048, 128]⟩
abbrev S1x1x1x128 : Shape := ⟨4, ![1, 1, 1, 128]⟩
abbrev S1x128 : Shape := ⟨2, ![1, 128]⟩
abbrev S8x128 : Shape := ⟨2, ![8, 128]⟩
abbrev S1x1x8x128 : Shape := ⟨4, ![1, 1, 8, 128]⟩
abbrev S1x1x512x128 : Shape := ⟨4, ![1, 1, 512, 128]⟩
abbrev S512x128 : Shape := ⟨2, ![512, 128]⟩
abbrev S128x512 : Shape := ⟨2, ![128, 512]⟩
abbrev S16x16x512 : Shape := ⟨3, ![16, 16, 512]⟩
abbrev S256x512 : Shape := ⟨2, ![256, 512]⟩
abbrev S64x512 : Shape := ⟨2, ![64, 512]⟩
abbrev S1x256x512 : Shape := ⟨3, ![1, 256, 512]⟩
abbrev S1x256x1 : Shape := ⟨3, ![1, 256, 1]⟩
abbrev S256x1 : Shape := ⟨2, ![256, 1]⟩

abbrev nBuf : Space → Nat
  | .hbm => 7
  | .vmem => 17
  | .smem => 0
  | _ => 0

abbrev bufTy : (tb : Table) → Fin (tcTables nBuf tb) → BufTy
  | .hbm, ⟨0, _⟩ => ⟨S16x1024x2048, .bf16⟩
  | .hbm, ⟨1, _⟩ => ⟨S16x1024x128, .bf16⟩
  | .hbm, ⟨2, _⟩ => ⟨S64x512x256, .bf16⟩
  | .hbm, ⟨3, _⟩ => ⟨S64x256x256, .bf16⟩
  | .hbm, ⟨4, _⟩ => ⟨S2x32x2x128, .f32⟩
  | .hbm, ⟨5, _⟩ => ⟨S64x256x1, .f32⟩
  | .hbm, ⟨6, _⟩ => ⟨S16x1024x2048, .bf16⟩
  | .local _ .vmem, ⟨0, _⟩ => ⟨S16x32x2048, .bf16⟩
  | .local _ .vmem, ⟨1, _⟩ => ⟨S16x32x2048, .bf16⟩
  | .local _ .vmem, ⟨2, _⟩ => ⟨S16x32x128, .bf16⟩
  | .local _ .vmem, ⟨3, _⟩ => ⟨S16x32x128, .bf16⟩
  | .local _ .vmem, ⟨4, _⟩ => ⟨S2x512x256, .bf16⟩
  | .local _ .vmem, ⟨5, _⟩ => ⟨S2x512x256, .bf16⟩
  | .local _ .vmem, ⟨6, _⟩ => ⟨S2x256x256, .bf16⟩
  | .local _ .vmem, ⟨7, _⟩ => ⟨S2x256x256, .bf16⟩
  | .local _ .vmem, ⟨8, _⟩ => ⟨S2x1x2x128, .f32⟩
  | .local _ .vmem, ⟨9, _⟩ => ⟨S2x1x2x128, .f32⟩
  | .local _ .vmem, ⟨10, _⟩ => ⟨S2x256x1, .f32⟩
  | .local _ .vmem, ⟨11, _⟩ => ⟨S2x256x1, .f32⟩
  | .local _ .vmem, ⟨12, _⟩ => ⟨S16x32x2048, .bf16⟩
  | .local _ .vmem, ⟨13, _⟩ => ⟨S16x32x2048, .bf16⟩
  | .local _ .vmem, ⟨14, _⟩ => ⟨S2x2x2176x128, .f32⟩
  | .local _ .vmem, ⟨15, _⟩ => ⟨S2x2x2048x128, .f32⟩
  | .local _ .vmem, ⟨16, _⟩ => ⟨S2x256x2048, .f32⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v103 : BitVec 32 := Scalar.addi c0_i32 c16_i32
  let c1_i32 : BitVec 32 := 1#32
  ⟨c0_i32, v103, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32 : BitVec 32 := 8#32
  let v427 : BitVec 32 := Scalar.muli arg11 c8_i32
  v427
def k0_off1 (k0_t1 : Fin k0_t1_loop.trips) : Fin 4 → Nat :=
  let c0_294 : Index := 0#32
  let c0_295 : Index := 0#32
  let c0_i32 : BitVec 32 := 0#32
  let c1_i32 : BitVec 32 := 1#32
  let arg11 : BitVec 32 := Scf.iv c0_i32 c1_i32 k0_t1
  let c8_i32 : BitVec 32 := 8#32
  let v427 : BitVec 32 := Scalar.muli arg11 c8_i32
  let v428 : BitVec 32 := v427
  let v429 : Index := Scalar.indexCast v428
  let c0_296 : Index := 0#32
  ![0, 0, v429.toNat, 0]
def k0_off2 (k0_t1 : Fin k0_t1_loop.trips) : Fin 4 → Nat :=
  let c0_297 : Index := 0#32
  let c1_298 : Index := 1#32
  let c0_i32 : BitVec 32 := 0#32
  let c1_i32 : BitVec 32 := 1#32
  let arg11 : BitVec 32 := Scf.iv c0_i32 c1_i32 k0_t1
  let c8_i32 : BitVec 32 := 8#32
  let v427 : BitVec 32 := Scalar.muli arg11 c8_i32
  let v428 : BitVec 32 := v427
  let v432 : Index := Scalar.indexCast v428
  let c0_299 : Index := 0#32
  ![0, 1, v432.toNat, 0]
def k0_mult2 (k0_t1 : Fin k0_t1_loop.trips) : BitVec 32 :=
  let c15_i32 : BitVec 32 := 15#32
  let c0_i32 : BitVec 32 := 0#32
  let c1_i32 : BitVec 32 := 1#32
  let arg11 : BitVec 32 := Scf.iv c0_i32 c1_i32 k0_t1
  let v443 : BitVec 32 := Scalar.subi c15_i32 arg11
  let c8_i32_300 : BitVec 32 := 8#32
  let v444 : BitVec 32 := Scalar.muli v443 c8_i32_300
  v444
def k0_off3 (k0_t1 : Fin k0_t1_loop.trips) : Fin 4 → Nat :=
  let c1_301 : Index := 1#32
  let c0_302 : Index := 0#32
  let c15_i32 : BitVec 32 := 15#32
  let c0_i32 : BitVec 32 := 0#32
  let c1_i32 : BitVec 32 := 1#32
  let arg11 : BitVec 32 := Scf.iv c0_i32 c1_i32 k0_t1
  let v443 : BitVec 32 := Scalar.subi c15_i32 arg11
  let c8_i32_300 : BitVec 32 := 8#32
  let v444 : BitVec 32 := Scalar.muli v443 c8_i32_300
  let v445 : BitVec 32 := v444
  let v446 : Index := Scalar.indexCast v445
  let c0_303 : Index := 0#32
  ![1, 0, v446.toNat, 0]
def k0_off4 (k0_t1 : Fin k0_t1_loop.trips) : Fin 4 → Nat :=
  let c1_304 : Index := 1#32
  let c1_305 : Index := 1#32
  let c15_i32 : BitVec 32 := 15#32
  let c0_i32 : BitVec 32 := 0#32
  let c1_i32 : BitVec 32 := 1#32
  let arg11 : BitVec 32 := Scf.iv c0_i32 c1_i32 k0_t1
  let v443 : BitVec 32 := Scalar.subi c15_i32 arg11
  let c8_i32_300 : BitVec 32 := 8#32
  let v444 : BitVec 32 := Scalar.muli v443 c8_i32_300
  let v445 : BitVec 32 := v444
  let v449 : Index := Scalar.indexCast v445
  let c0_306 : Index := 0#32
  ![1, 1, v449.toNat, 0]
@[reducible] def k0_t2_loop : Scf.Loop 32 :=
  let c0_i32_78 : BitVec 32 := 0#32
  let c256_i32 : BitVec 32 := 256#32
  let v105 : BitVec 32 := Scalar.addi c0_i32_78 c256_i32
  let c1_i32_79 : BitVec 32 := 1#32
  ⟨c0_i32_78, v105, c1_i32_79⟩
def k0_mult3 (k0_t2 : Fin k0_t2_loop.trips) : BitVec 32 :=
  let c0_i32_78 : BitVec 32 := 0#32
  let c1_i32_79 : BitVec 32 := 1#32
  let arg11 : BitVec 32 := Scf.iv c0_i32_78 c1_i32_79 k0_t2
  let c3_i32 : BitVec 32 := 3#32
  let v427 : BitVec 32 := Scalar.andi arg11 c3_i32
  let c64_i32 : BitVec 32 := 64#32
  let v429 : BitVec 32 := Scalar.muli v427 c64_i32
  let c2_i32 : BitVec 32 := 2#32
  let v428 : BitVec 32 := Scalar.shrui arg11 c2_i32
  let v430 : BitVec 32 := Scalar.addi v429 v428
  let c8_i32 : BitVec 32 := 8#32
  let v431 : BitVec 32 := Scalar.muli v430 c8_i32
  v431
def k0_mult4 (k0_t2 : Fin k0_t2_loop.trips) : BitVec 32 :=
  let c255_i32 : BitVec 32 := 255#32
  let c0_i32_78 : BitVec 32 := 0#32
  let c1_i32_79 : BitVec 32 := 1#32
  let arg11 : BitVec 32 := Scf.iv c0_i32_78 c1_i32_79 k0_t2
  let v433 : BitVec 32 := Scalar.subi c255_i32 arg11
  let c3_i32_294 : BitVec 32 := 3#32
  let v434 : BitVec 32 := Scalar.andi v433 c3_i32_294
  let c64_i32_296 : BitVec 32 := 64#32
  let v436 : BitVec 32 := Scalar.muli v434 c64_i32_296
  let c2_i32_295 : BitVec 32 := 2#32
  let v435 : BitVec 32 := Scalar.shrui v433 c2_i32_295
  let v437 : BitVec 32 := Scalar.addi v436 v435
  let c8_i32_297 : BitVec 32 := 8#32
  let v438 : BitVec 32 := Scalar.muli v437 c8_i32_297
  v438
def k0_off5 (k0_t2 : Fin k0_t2_loop.trips) : Fin 4 → Nat :=
  let c0_298 : Index := 0#32
  let c0_299 : Index := 0#32
  let c0_i32_78 : BitVec 32 := 0#32
  let c1_i32_79 : BitVec 32 := 1#32
  let arg11 : BitVec 32 := Scf.iv c0_i32_78 c1_i32_79 k0_t2
  let c3_i32 : BitVec 32 := 3#32
  let v427 : BitVec 32 := Scalar.andi arg11 c3_i32
  let c64_i32 : BitVec 32 := 64#32
  let v429 : BitVec 32 := Scalar.muli v427 c64_i32
  let c2_i32 : BitVec 32 := 2#32
  let v428 : BitVec 32 := Scalar.shrui arg11 c2_i32
  let v430 : BitVec 32 := Scalar.addi v429 v428
  let c8_i32 : BitVec 32 := 8#32
  let v431 : BitVec 32 := Scalar.muli v430 c8_i32
  let v432 : BitVec 32 := v431
  let v440 : Index := Scalar.indexCast v432
  let c0_300 : Index := 0#32
  ![0, 0, v440.toNat, 0]
def k0_off6 (k0_t2 : Fin k0_t2_loop.trips) : Fin 4 → Nat :=
  let c0_301 : Index := 0#32
  let c1_302 : Index := 1#32
  let c0_i32_78 : BitVec 32 := 0#32
  let c1_i32_79 : BitVec 32 := 1#32
  let arg11 : BitVec 32 := Scf.iv c0_i32_78 c1_i32_79 k0_t2
  let c3_i32 : BitVec 32 := 3#32
  let v427 : BitVec 32 := Scalar.andi arg11 c3_i32
  let c64_i32 : BitVec 32 := 64#32
  let v429 : BitVec 32 := Scalar.muli v427 c64_i32
  let c2_i32 : BitVec 32 := 2#32
  let v428 : BitVec 32 := Scalar.shrui arg11 c2_i32
  let v430 : BitVec 32 := Scalar.addi v429 v428
  let c8_i32 : BitVec 32 := 8#32
  let v431 : BitVec 32 := Scalar.muli v430 c8_i32
  let v432 : BitVec 32 := v431
  let v444 : Index := Scalar.indexCast v432
  let c0_303 : Index := 0#32
  ![0, 1, v444.toNat, 0]
def k0_off7 (k0_t2 : Fin k0_t2_loop.trips) : Fin 4 → Nat :=
  let c1_304 : Index := 1#32
  let c0_305 : Index := 0#32
  let c255_i32 : BitVec 32 := 255#32
  let c0_i32_78 : BitVec 32 := 0#32
  let c1_i32_79 : BitVec 32 := 1#32
  let arg11 : BitVec 32 := Scf.iv c0_i32_78 c1_i32_79 k0_t2
  let v433 : BitVec 32 := Scalar.subi c255_i32 arg11
  let c3_i32_294 : BitVec 32 := 3#32
  let v434 : BitVec 32 := Scalar.andi v433 c3_i32_294
  let c64_i32_296 : BitVec 32 := 64#32
  let v436 : BitVec 32 := Scalar.muli v434 c64_i32_296
  let c2_i32_295 : BitVec 32 := 2#32
  let v435 : BitVec 32 := Scalar.shrui v433 c2_i32_295
  let v437 : BitVec 32 := Scalar.addi v436 v435
  let c8_i32_297 : BitVec 32 := 8#32
  let v438 : BitVec 32 := Scalar.muli v437 c8_i32_297
  let v439 : BitVec 32 := v438
  let v448 : Index := Scalar.indexCast v439
  let c0_306 : Index := 0#32
  ![1, 0, v448.toNat, 0]
def k0_off8 (k0_t2 : Fin k0_t2_loop.trips) : Fin 4 → Nat :=
  let c1_307 : Index := 1#32
  let c1_308 : Index := 1#32
  let c255_i32 : BitVec 32 := 255#32
  let c0_i32_78 : BitVec 32 := 0#32
  let c1_i32_79 : BitVec 32 := 1#32
  let arg11 : BitVec 32 := Scf.iv c0_i32_78 c1_i32_79 k0_t2
  let v433 : BitVec 32 := Scalar.subi c255_i32 arg11
  let c3_i32_294 : BitVec 32 := 3#32
  let v434 : BitVec 32 := Scalar.andi v433 c3_i32_294
  let c64_i32_296 : BitVec 32 := 64#32
  let v436 : BitVec 32 := Scalar.muli v434 c64_i32_296
  let c2_i32_295 : BitVec 32 := 2#32
  let v435 : BitVec 32 := Scalar.shrui v433 c2_i32_295
  let v437 : BitVec 32 := Scalar.addi v436 v435
  let c8_i32_297 : BitVec 32 := 8#32
  let v438 : BitVec 32 := Scalar.muli v437 c8_i32_297
  let v439 : BitVec 32 := v438
  let v452 : Index := Scalar.indexCast v439
  let c0_309 : Index := 0#32
  ![1, 1, v452.toNat, 0]
def k0_mult5 (k0_t2 : Fin k0_t2_loop.trips) : BitVec 32 :=
  let c128_i32 : BitVec 32 := 128#32
  let c0_i32_78 : BitVec 32 := 0#32
  let c1_i32_79 : BitVec 32 := 1#32
  let arg11 : BitVec 32 := Scf.iv c0_i32_78 c1_i32_79 k0_t2
  let c3_i32 : BitVec 32 := 3#32
  let v427 : BitVec 32 := Scalar.andi arg11 c3_i32
  let c64_i32 : BitVec 32 := 64#32
  let v429 : BitVec 32 := Scalar.muli v427 c64_i32
  let c2_i32 : BitVec 32 := 2#32
  let v428 : BitVec 32 := Scalar.shrui arg11 c2_i32
  let v430 : BitVec 32 := Scalar.addi v429 v428
  let c8_i32 : BitVec 32 := 8#32
  let v431 : BitVec 32 := Scalar.muli v430 c8_i32
  let v432 : BitVec 32 := v431
  let v456 : BitVec 32 := Scalar.addi c128_i32 v432
  v456
def k0_off9 (k0_t2 : Fin k0_t2_loop.trips) : Fin 4 → Nat :=
  let c0_310 : Index := 0#32
  let c0_311 : Index := 0#32
  let c128_i32 : BitVec 32 := 128#32
  let c0_i32_78 : BitVec 32 := 0#32
  let c1_i32_79 : BitVec 32 := 1#32
  let arg11 : BitVec 32 := Scf.iv c0_i32_78 c1_i32_79 k0_t2
  let c3_i32 : BitVec 32 := 3#32
  let v427 : BitVec 32 := Scalar.andi arg11 c3_i32
  let c64_i32 : BitVec 32 := 64#32
  let v429 : BitVec 32 := Scalar.muli v427 c64_i32
  let c2_i32 : BitVec 32 := 2#32
  let v428 : BitVec 32 := Scalar.shrui arg11 c2_i32
  let v430 : BitVec 32 := Scalar.addi v429 v428
  let c8_i32 : BitVec 32 := 8#32
  let v431 : BitVec 32 := Scalar.muli v430 c8_i32
  let v432 : BitVec 32 := v431
  let v456 : BitVec 32 := Scalar.addi c128_i32 v432
  let v457 : BitVec 32 := v456
  let v458 : Index := Scalar.indexCast v457
  let c0_312 : Index := 0#32
  ![0, 0, v458.toNat, 0]
def k0_off10 (k0_t2 : Fin k0_t2_loop.trips) : Fin 4 → Nat :=
  let c0_313 : Index := 0#32
  let c1_314 : Index := 1#32
  let c128_i32 : BitVec 32 := 128#32
  let c0_i32_78 : BitVec 32 := 0#32
  let c1_i32_79 : BitVec 32 := 1#32
  let arg11 : BitVec 32 := Scf.iv c0_i32_78 c1_i32_79 k0_t2
  let c3_i32 : BitVec 32 := 3#32
  let v427 : BitVec 32 := Scalar.andi arg11 c3_i32
  let c64_i32 : BitVec 32 := 64#32
  let v429 : BitVec 32 := Scalar.muli v427 c64_i32
  let c2_i32 : BitVec 32 := 2#32
  let v428 : BitVec 32 := Scalar.shrui arg11 c2_i32
  let v430 : BitVec 32 := Scalar.addi v429 v428
  let c8_i32 : BitVec 32 := 8#32
  let v431 : BitVec 32 := Scalar.muli v430 c8_i32
  let v432 : BitVec 32 := v431
  let v456 : BitVec 32 := Scalar.addi c128_i32 v432
  let v457 : BitVec 32 := v456
  let v461 : Index := Scalar.indexCast v457
  let c0_315 : Index := 0#32
  ![0, 1, v461.toNat, 0]
def k0_mult6 (k0_t2 : Fin k0_t2_loop.trips) : BitVec 32 :=
  let c128_i32_316 : BitVec 32 := 128#32
  let c255_i32 : BitVec 32 := 255#32
  let c0_i32_78 : BitVec 32 := 0#32
  let c1_i32_79 : BitVec 32 := 1#32
  let arg11 : BitVec 32 := Scf.iv c0_i32_78 c1_i32_79 k0_t2
  let v433 : BitVec 32 := Scalar.subi c255_i32 arg11
  let c3_i32_294 : BitVec 32 := 3#32
  let v434 : BitVec 32 := Scalar.andi v433 c3_i32_294
  let c64_i32_296 : BitVec 32 := 64#32
  let v436 : BitVec 32 := Scalar.muli v434 c64_i32_296
  let c2_i32_295 : BitVec 32 := 2#32
  let v435 : BitVec 32 := Scalar.shrui v433 c2_i32_295
  let v437 : BitVec 32 := Scalar.addi v436 v435
  let c8_i32_297 : BitVec 32 := 8#32
  let v438 : BitVec 32 := Scalar.muli v437 c8_i32_297
  let v439 : BitVec 32 := v438
  let v472 : BitVec 32 := Scalar.addi c128_i32_316 v439
  v472
def k0_off11 (k0_t2 : Fin k0_t2_loop.trips) : Fin 4 → Nat :=
  let c1_317 : Index := 1#32
  let c0_318 : Index := 0#32
  let c128_i32_316 : BitVec 32 := 128#32
  let c255_i32 : BitVec 32 := 255#32
  let c0_i32_78 : BitVec 32 := 0#32
  let c1_i32_79 : BitVec 32 := 1#32
  let arg11 : BitVec 32 := Scf.iv c0_i32_78 c1_i32_79 k0_t2
  let v433 : BitVec 32 := Scalar.subi c255_i32 arg11
  let c3_i32_294 : BitVec 32 := 3#32
  let v434 : BitVec 32 := Scalar.andi v433 c3_i32_294
  let c64_i32_296 : BitVec 32 := 64#32
  let v436 : BitVec 32 := Scalar.muli v434 c64_i32_296
  let c2_i32_295 : BitVec 32 := 2#32
  let v435 : BitVec 32 := Scalar.shrui v433 c2_i32_295
  let v437 : BitVec 32 := Scalar.addi v436 v435
  let c8_i32_297 : BitVec 32 := 8#32
  let v438 : BitVec 32 := Scalar.muli v437 c8_i32_297
  let v439 : BitVec 32 := v438
  let v472 : BitVec 32 := Scalar.addi c128_i32_316 v439
  let v473 : BitVec 32 := v472
  let v474 : Index := Scalar.indexCast v473
  let c0_319 : Index := 0#32
  ![1, 0, v474.toNat, 0]
def k0_off12 (k0_t2 : Fin k0_t2_loop.trips) : Fin 4 → Nat :=
  let c1_320 : Index := 1#32
  let c1_321 : Index := 1#32
  let c128_i32_316 : BitVec 32 := 128#32
  let c255_i32 : BitVec 32 := 255#32
  let c0_i32_78 : BitVec 32 := 0#32
  let c1_i32_79 : BitVec 32 := 1#32
  let arg11 : BitVec 32 := Scf.iv c0_i32_78 c1_i32_79 k0_t2
  let v433 : BitVec 32 := Scalar.subi c255_i32 arg11
  let c3_i32_294 : BitVec 32 := 3#32
  let v434 : BitVec 32 := Scalar.andi v433 c3_i32_294
  let c64_i32_296 : BitVec 32 := 64#32
  let v436 : BitVec 32 := Scalar.muli v434 c64_i32_296
  let c2_i32_295 : BitVec 32 := 2#32
  let v435 : BitVec 32 := Scalar.shrui v433 c2_i32_295
  let v437 : BitVec 32 := Scalar.addi v436 v435
  let c8_i32_297 : BitVec 32 := 8#32
  let v438 : BitVec 32 := Scalar.muli v437 c8_i32_297
  let v439 : BitVec 32 := v438
  let v472 : BitVec 32 := Scalar.addi c128_i32_316 v439
  let v473 : BitVec 32 := v472
  let v477 : Index := Scalar.indexCast v473
  let c0_322 : Index := 0#32
  ![1, 1, v477.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x1024x2048 : Shape := ⟨3, ![16, 1024, 2048]⟩
abbrev S16x1024x128 : Shape := ⟨3, ![16, 1024, 128]⟩
abbrev S64x512x256 : Shape := ⟨3, ![64, 512, 256]⟩
abbrev S64x256x256 : Shape := ⟨3, ![64, 256, 256]⟩
abbrev S2x32x2x128 : Shape := ⟨4, ![2, 32, 2, 128]⟩
abbrev S64x256x1 : Shape := ⟨3, ![64, 256, 1]⟩
abbrev S16x64x16x2048 : Shape := ⟨4, ![16, 64, 16, 2048]⟩
abbrev S64x16x16x2048 : Shape := ⟨4, ![64, 16, 16, 2048]⟩
abbrev S64x256x2048 : Shape := ⟨3, ![64, 256, 2048]⟩
abbrev S64x2x2x64x4x64x8 : Shape := ⟨7, ![64, 2, 2, 64, 4, 64, 8]⟩
abbrev S64x4x2x2x64x64x8 : Shape := ⟨7, ![64, 4, 2, 2, 64, 64, 8]⟩
abbrev S256x2x2x64x64x8 : Shape := ⟨6, ![256, 2, 2, 64, 64, 8]⟩
abbrev S16x64x16x128 : Shape := ⟨4, ![16, 64, 16, 128]⟩
abbrev S64x16x16x128 : Shape := ⟨4, ![64, 16, 16, 128]⟩
abbrev S64x256x128 : Shape := ⟨3, ![64, 256, 128]⟩
abbrev S64x2x2x64x16x8 : Shape := ⟨6, ![64, 2, 2, 64, 16, 8]⟩
abbrev S16x2x2x64x64x8 : Shape := ⟨6, ![16, 2, 2, 64, 64, 8]⟩
abbrev S2x32x2x2x64 : Shape := ⟨5, ![2, 32, 2, 2, 64]⟩
abbrev S2x2x32x2x64 : Shape := ⟨5, ![2, 2, 32, 2, 64]⟩
abbrev S2x2x64x64x1 : Shape := ⟨5, ![2, 2, 64, 64, 1]⟩
abbrev S_ : Shape := ⟨0, ![]⟩
abbrev S2x64x64x8 : Shape := ⟨4, ![2, 64, 64, 8]⟩
abbrev S16x1x2x64x64x8 : Shape := ⟨6, ![16, 1, 2, 64, 64, 8]⟩
abbrev S16x2x64x64x8 : Shape := ⟨5, ![16, 2, 64, 64, 8]⟩
abbrev S256x1x2x64x64x8 : Shape := ⟨6, ![256, 1, 2, 64, 64, 8]⟩
abbrev S256x2x64x64x8 : Shape := ⟨5, ![256, 2, 64, 64, 8]⟩
abbrev S272x2x2x64x64x8 : Shape := ⟨6, ![272, 2, 2, 64, 64, 8]⟩
abbrev S1x2x2x64x64x8 : Shape := ⟨6, ![1, 2, 2, 64, 64, 8]⟩
abbrev S2x2x64x64x8 : Shape := ⟨5, ![2, 2, 64, 64, 8]⟩
abbrev S1x2x64x64x1 : Shape := ⟨5, ![1, 2, 64, 64, 1]⟩
abbrev S2x64x64x1 : Shape := ⟨4, ![2, 64, 64, 1]⟩
abbrev S2x1x64x64x8 : Shape := ⟨5, ![2, 1, 64, 64, 8]⟩

abbrev nBuf : Space → Nat
  | .hbm => 146
  | .vmem => 0
  | .smem => 0
  | _ => 0

abbrev hbmTy0_0 (i : Nat) : BufTy := match i % 128 with
  | 0 => ⟨S16x1024x2048, .bf16⟩
  | 1 => ⟨S16x1024x128, .bf16⟩
  | 2 => ⟨S64x512x256, .bf16⟩
  | 3 => ⟨S64x256x256, .bf16⟩
  | 4 => ⟨S2x32x2x128, .f32⟩
  | 5 => ⟨S64x256x1, .f32⟩
  | 6 => ⟨S64x512x256, .f32⟩
  | 7 => ⟨S64x256x256, .f32⟩
  | 8 => ⟨S16x1024x2048, .f32⟩
  | 9 => ⟨S16x64x16x2048, .f32⟩
  | 10 => ⟨S64x16x16x2048, .f32⟩
  | 11 => ⟨S64x256x2048, .f32⟩
  | 12 => ⟨S64x256x2048, .f32⟩
  | 13 => ⟨S64x2x2x64x4x64x8, .f32⟩
  | 14 => ⟨S64x4x2x2x64x64x8, .f32⟩
  | 15 => ⟨S256x2x2x64x64x8, .f32⟩
  | 16 => ⟨S16x1024x128, .f32⟩
  | 17 => ⟨S16x64x16x128, .f32⟩
  | 18 => ⟨S64x16x16x128, .f32⟩
  | 19 => ⟨S64x256x128, .f32⟩
  | 20 => ⟨S64x256x128, .f32⟩
  | 21 => ⟨S64x2x2x64x16x8, .f32⟩
  | 22 => ⟨S16x2x2x64x64x8, .f32⟩
  | 23 => ⟨S2x32x2x2x64, .f32⟩
  | 24 => ⟨S2x2x32x2x64, .f32⟩
  | 25 => ⟨S2x2x64x64x1, .f32⟩
  | 26 => ⟨S_, .f32⟩
  | 27 => ⟨S2x64x64x8, .f32⟩
  | 28 => ⟨S16x1x2x64x64x8, .f32⟩
  | 29 => ⟨S16x2x64x64x8, .f32⟩
  | 30 => ⟨S16x1x2x64x64x8, .f32⟩
  | 31 => ⟨S16x1x2x64x64x8, .f32⟩
  | 32 => ⟨S16x2x64x64x8, .f32⟩
  | 33 => ⟨S16x1x2x64x64x8, .f32⟩
  | 34 => ⟨S16x1x2x64x64x8, .f32⟩
  | 35 => ⟨S16x2x2x64x64x8, .f32⟩
  | 36 => ⟨S256x1x2x64x64x8, .f32⟩
  | 37 => ⟨S256x2x64x64x8, .f32⟩
  | 38 => ⟨S256x1x2x64x64x8, .f32⟩
  | 39 => ⟨S256x1x2x64x64x8, .f32⟩
  | 40 => ⟨S256x2x64x64x8, .f32⟩
  | 41 => ⟨S256x1x2x64x64x8, .f32⟩
  | 42 => ⟨S256x1x2x64x64x8, .f32⟩
  | 43 => ⟨S256x2x2x64x64x8, .f32⟩
  | 44 => ⟨S272x2x2x64x64x8, .f32⟩
  | 45 => ⟨S_, .f32⟩
  | 46 => ⟨S272x2x2x64x64x8, .f32⟩
  | 47 => ⟨S_, .i32⟩
  | 48 => ⟨S272x2x2x64x64x8, .f32⟩
  | 49 => ⟨S2x2x64x64x1, .f32⟩
  | 50 => ⟨S_, .i32⟩
  | 51 => ⟨S2x64x64x8, .f32⟩
  | 52 => ⟨S2x64x64x8, .f32⟩
  | 53 => ⟨S272x2x2x64x64x8, .f32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S1x2x2x64x64x8, .f32⟩
  | 62 => ⟨S2x2x64x64x8, .f32⟩
  | 63 => ⟨S1x2x64x64x1, .f32⟩
  | 64 => ⟨S2x64x64x1, .f32⟩
  | 65 => ⟨S2x64x64x8, .f32⟩
  | 66 => ⟨S2x64x64x8, .f32⟩
  | 67 => ⟨S1x2x64x64x1, .f32⟩
  | 68 => ⟨S2x64x64x1, .f32⟩
  | 69 => ⟨S2x64x64x8, .f32⟩
  | 70 => ⟨S2x64x64x8, .f32⟩
  | 71 => ⟨S2x64x64x8, .f32⟩
  | 72 => ⟨S2x1x64x64x8, .f32⟩
  | 73 => ⟨S2x64x64x8, .f32⟩
  | 74 => ⟨S2x64x64x8, .f32⟩
  | 75 => ⟨S1x2x64x64x1, .f32⟩
  | 76 => ⟨S2x64x64x1, .f32⟩
  | 77 => ⟨S2x64x64x8, .f32⟩
  | 78 => ⟨S2x64x64x8, .f32⟩
  | 79 => ⟨S1x2x64x64x1, .f32⟩
  | 80 => ⟨S2x64x64x1, .f32⟩
  | 81 => ⟨S2x64x64x8, .f32⟩
  | 82 => ⟨S2x64x64x8, .f32⟩
  | 83 => ⟨S2x64x64x8, .f32⟩
  | 84 => ⟨S2x1x64x64x8, .f32⟩
  | 85 => ⟨S2x64x64x8, .f32⟩
  | 86 => ⟨S2x64x64x8, .f32⟩
  | 87 => ⟨S2x1x64x64x8, .f32⟩
  | 88 => ⟨S2x1x64x64x8, .f32⟩
  | 89 => ⟨S2x2x64x64x8, .f32⟩
  | 90 => ⟨S1x2x2x64x64x8, .f32⟩
  | 91 => ⟨S_, .i32⟩
  | 92 => ⟨S_, .i32⟩
  | 93 => ⟨S_, .i32⟩
  | 94 => ⟨S_, .i32⟩
  | 95 => ⟨S_, .i32⟩
  | 96 => ⟨S272x2x2x64x64x8, .f32⟩
  | 97 => ⟨S_, .i32⟩
  | 98 => ⟨S_, .i32⟩
  | 99 => ⟨S256x2x2x64x64x8, .f32⟩
  | 100 => ⟨S256x1x2x64x64x8, .f32⟩
  | 101 => ⟨S256x2x64x64x8, .f32⟩
  | 102 => ⟨S256x1x2x64x64x8, .f32⟩
  | 103 => ⟨S256x1x2x64x64x8, .f32⟩
  | 104 => ⟨S256x2x64x64x8, .f32⟩
  | 105 => ⟨S256x1x2x64x64x8, .f32⟩
  | 106 => ⟨S256x1x2x64x64x8, .f32⟩
  | 107 => ⟨S256x2x2x64x64x8, .f32⟩
  | 108 => ⟨S64x4x2x2x64x64x8, .f32⟩
  | 109 => ⟨S64x2x2x64x4x64x8, .f32⟩
  | 110 => ⟨S64x256x2048, .f32⟩
  | 111 => ⟨S16x1024x2048, .f32⟩
  | 112 => ⟨S16x64x16x2048, .f32⟩
  | 113 => ⟨S64x16x16x2048, .f32⟩
  | 114 => ⟨S64x256x2048, .f32⟩
  | 115 => ⟨S64x256x2048, .f32⟩
  | 116 => ⟨S64x256x2048, .f32⟩
  | 117 => ⟨S64x512x256, .f32⟩
  | 118 => ⟨S64x256x256, .f32⟩
  | 119 => ⟨S64x256x2048, .f32⟩
  | 120 => ⟨S64x256x2048, .f32⟩
  | 121 => ⟨S64x256x256, .f32⟩
  | 122 => ⟨S64x256x2048, .f32⟩
  | 123 => ⟨S64x256x2048, .f32⟩
  | 124 => ⟨S_, .f32⟩
  | 125 => ⟨S64x256x2048, .f32⟩
  | 126 => ⟨S64x256x2048, .f32⟩
  | 127 => ⟨S_, .f32⟩
  | _ => ⟨S16x1024x2048, .bf16⟩

abbrev hbmTy0_1 (i : Nat) : BufTy := match i % 128 with
  | 0 => ⟨S64x256x2048, .f32⟩
  | 1 => ⟨S64x256x2048, .f32⟩
  | 2 => ⟨S_, .f32⟩
  | 3 => ⟨S64x256x2048, .f32⟩
  | 4 => ⟨S64x256x2048, .f32⟩
  | 5 => ⟨S64x256x2048, .f32⟩
  | 6 => ⟨S64x256x2048, .f32⟩
  | 7 => ⟨S_, .f32⟩
  | 8 => ⟨S64x256x2048, .f32⟩
  | 9 => ⟨S64x256x2048, .f32⟩
  | 10 => ⟨S64x256x2048, .f32⟩
  | 11 => ⟨S64x256x2048, .f32⟩
  | 12 => ⟨S64x256x2048, .f32⟩
  | 13 => ⟨S64x256x2048, .f32⟩
  | 14 => ⟨S64x16x16x2048, .f32⟩
  | 15 => ⟨S16x64x16x2048, .f32⟩
  | 16 => ⟨S16x1024x2048, .f32⟩
  | 17 => ⟨S16x1024x2048, .bf16⟩
  | _ => ⟨S16x1024x2048, .bf16⟩

abbrev hbmTy (i : Nat) : BufTy := match i / 128 with
  | 0 => hbmTy0_0 i
  | 1 => hbmTy0_1 i
  | _ => ⟨S16x1024x2048, .bf16⟩

abbrev bufTy : (tb : Table) → Fin (tcTables nBuf tb) → BufTy
  | .hbm, ⟨i, _⟩ => hbmTy i
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_0 : Ref sig .tc := ⟨.hbm, 45, rfl⟩
abbrev main_v38 : Ref sig .tc := ⟨.hbm, 46, rfl⟩
abbrev main_c : Ref sig .tc := ⟨.hbm, 47, rfl⟩
abbrev main_v39_0 : Ref sig .tc := ⟨.hbm, 48, rfl⟩
abbrev main_v39_1 : Ref sig .tc := ⟨.hbm, 49, rfl⟩
abbrev main_v39_2 : Ref sig .tc := ⟨.hbm, 50, rfl⟩
abbrev main_v39_3 : Ref sig .tc := ⟨.hbm, 51, rfl⟩
abbrev main_v39_4 : Ref sig .tc := ⟨.hbm, 52, rfl⟩
abbrev main_v39_5 : Ref sig .tc := ⟨.hbm, 53, rfl⟩
abbrev main_while0c_c_10 : Ref sig .tc := ⟨.hbm, 54, rfl⟩
abbrev main_while0c_v83 : Ref sig .tc := ⟨.hbm, 55, rfl⟩
abbrev main_while0b_call0_c : Ref sig .tc := ⟨.hbm, 56, rfl⟩
abbrev main_while0b_call0_c_0 : Ref sig .tc := ⟨.hbm, 57, rfl⟩
abbrev main_while0b_call0_c_1 : Ref sig .tc := ⟨.hbm, 58, rfl⟩
abbrev main_while0b_call0_c_2 : Ref sig .tc := ⟨.hbm, 59, rfl⟩
abbrev main_while0b_call0_c_3 : Ref sig .tc := ⟨.hbm, 60, rfl⟩
abbrev main_while0b_call0_v0 : Ref sig .tc := ⟨.hbm, 61, rfl⟩
abbrev main_while0b_v83 : Ref sig .tc := ⟨.hbm, 62, rfl⟩
abbrev main_while0b_v84 : Ref sig .tc := ⟨.hbm, 63, rfl⟩
abbrev main_while0b_v85 : Ref sig .tc := ⟨.hbm, 64, rfl⟩
abbrev main_while0b_v86 : Ref sig .tc := ⟨.hbm, 65, rfl⟩
abbrev main_while0b_v87 : Ref sig .tc := ⟨.hbm, 66, rfl⟩
abbrev main_while0b_v88 : Ref sig .tc := ⟨.hbm, 67, rfl⟩
abbrev main_while0b_v89 : Ref sig .tc := ⟨.hbm, 68, rfl⟩
abbrev main_while0b_v90 : Ref sig .tc := ⟨.hbm, 69, rfl⟩
abbrev main_while0b_v91 : Ref sig .tc := ⟨.hbm, 70, rfl⟩
abbrev main_while0b_v92 : Ref sig .tc := ⟨.hbm, 71, rfl⟩
abbrev main_while0b_v93 : Ref sig .tc := ⟨.hbm, 72, rfl⟩
abbrev main_while0b_v94 : Ref sig .tc := ⟨.hbm, 73, rfl⟩
abbrev main_while0b_v95 : Ref sig .tc := ⟨.hbm, 74, rfl⟩
abbrev main_while0b_v96 : Ref sig .tc := ⟨.hbm, 75, rfl⟩
abbrev main_while0b_v97 : Ref sig .tc := ⟨.hbm, 76, rfl⟩
abbrev main_while0b_v98 : Ref sig .tc := ⟨.hbm, 77, rfl⟩
abbrev main_while0b_v99 : Ref sig .tc := ⟨.hbm, 78, rfl⟩
abbrev main_while0b_v100 : Ref sig .tc := ⟨.hbm, 79, rfl⟩
abbrev main_while0b_v101 : Ref sig .tc := ⟨.hbm, 80, rfl⟩
abbrev main_while0b_v102 : Ref sig .tc := ⟨.hbm, 81, rfl⟩
abbrev main_while0b_v103 : Ref sig .tc := ⟨.hbm, 82, rfl⟩
abbrev main_while0b_v104 : Ref sig .tc := ⟨.hbm, 83, rfl⟩
abbrev main_while0b_v105 : Ref sig .tc := ⟨.hbm, 84, rfl⟩
abbrev main_while0b_v106 : Ref sig .tc := ⟨.hbm, 85, rfl⟩
abbrev main_while0b_v107 : Ref sig .tc := ⟨.hbm, 86, rfl⟩
abbrev main_while0b_v108 : Ref sig .tc := ⟨.hbm, 87, rfl⟩
abbrev main_while0b_v109 : Ref sig .tc := ⟨.hbm, 88, rfl⟩
abbrev main_while0b_v110 : Ref sig .tc := ⟨.hbm, 89, rfl⟩
abbrev main_while0b_call1_v0 : Ref sig .tc := ⟨.hbm, 90, rfl⟩
abbrev main_while0b_call1_c : Ref sig .tc := ⟨.hbm, 91, rfl⟩
abbrev main_while0b_call1_c_0 : Ref sig .tc := ⟨.hbm, 92, rfl⟩
abbrev main_while0b_call1_c_1 : Ref sig .tc := ⟨.hbm, 93, rfl⟩
abbrev main_while0b_call1_c_2 : Ref sig .tc := ⟨.hbm, 94, rfl⟩
abbrev main_while0b_call1_c_3 : Ref sig .tc := ⟨.hbm, 95, rfl⟩
abbrev main_while0b_v111 : Ref sig .tc := ⟨.hbm, 96, rfl⟩
abbrev main_while0b_c_10 : Ref sig .tc := ⟨.hbm, 97, rfl⟩
abbrev main_while0b_v112 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_cst_1 : Ref sig .tc := ⟨.hbm, 124, rfl⟩
abbrev main_v65 : Ref sig .tc := ⟨.hbm, 125, rfl⟩
abbrev main_v66 : Ref sig .tc := ⟨.hbm, 126, rfl⟩
abbrev main_cst_2 : Ref sig .tc := ⟨.hbm, 127, rfl⟩
abbrev main_v67 : Ref sig .tc := ⟨.hbm, 128, rfl⟩
abbrev main_v68 : Ref sig .tc := ⟨.hbm, 129, rfl⟩
abbrev main_cst_3 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_cst_4 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩

abbrev nD : Nat := 1
abbrev τ : Topo := Topo.v7x

variable {F : FTy → Type} [FloatOps F]

abbrev main_while0_count : Scf.Loop 32 := ⟨0#32, 272#32, 1#32⟩
-- ==== Kernel2.lean ====
abbrev S8x4096x1024 : Shape := ⟨3, ![8, 4096, 1024]⟩
abbrev S1x1024 : Shape := ⟨2, ![1, 1024]⟩
abbrev S8x1024 : Shape := ⟨2, ![8, 1024]⟩
abbrev S2048x1024 : Shape := ⟨2, ![2048, 1024]⟩
abbrev S3072x1024 : Shape := ⟨2, ![3072, 1024]⟩
abbrev S1024 : Shape := ⟨1, ![1024]⟩
abbrev S_ : Shape := ⟨0, ![]⟩
abbrev S4096x8x1024 : Shape := ⟨3, ![4096, 8, 1024]⟩
abbrev S64x64x8x1024 : Shape := ⟨4, ![64, 64, 8, 1024]⟩
abbrev S16x1024x2048 : Shape := ⟨3, ![16, 1024, 2048]⟩
abbrev S64x4x512x128 : Shape := ⟨4, ![64, 4, 512, 128]⟩
abbrev S512x32768 : Shape := ⟨2, ![512, 32768]⟩
abbrev S64x1x8x1024 : Shape := ⟨4, ![64, 1, 8, 1024]⟩
abbrev S512x1024 : Shape := ⟨2, ![512, 1024]⟩
abbrev S1x1024x512 : Shape := ⟨3, ![1, 1024, 512]⟩
abbrev S1x4x512x128 : Shape := ⟨4, ![1, 4, 512, 128]⟩
abbrev S512x512 : Shape := ⟨2, ![512, 512]⟩
abbrev S32x1x8x1024 : Shape := ⟨4, ![32, 1, 8, 1024]⟩
abbrev S32x8x1024 : Shape := ⟨3, ![32, 8, 1024]⟩
abbrev S32x8 : Shape := ⟨2, ![32, 8]⟩
abbrev S32x8x1 : Shape := ⟨3, ![32, 8, 1]⟩
abbrev S1x8x1024 : Shape := ⟨3, ![1, 8, 1024]⟩
abbrev S256x1024 : Shape := ⟨2, ![256, 1024]⟩
abbrev S2048x256 : Shape := ⟨2, ![2048, 256]⟩
abbrev S1024x256 : Shape := ⟨2, ![1024, 256]⟩
abbrev S1x1024x256 : Shape := ⟨3, ![1, 1024, 256]⟩
abbrev S512x256 : Shape := ⟨2, ![512, 256]⟩
abbrev S1536x256 : Shape := ⟨2, ![1536, 256]⟩
abbrev S512x128 : Shape := ⟨2, ![512, 128]⟩
abbrev S1x1x512x128 : Shape := ⟨4, ![1, 1, 512, 128]⟩

abbrev nBuf : Space → Nat
  | .hbm => 19
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S8x1024, .f32⟩
  | .hbm, ⟨3, _⟩ => ⟨S8x1024, .f32⟩
  | .hbm, ⟨4, _⟩ => ⟨S2048x1024, .bf16⟩
  | .hbm, ⟨5, _⟩ => ⟨S3072x1024, .bf16⟩
  | .hbm, ⟨6, _⟩ => ⟨S1024, .f32⟩
  | .hbm, ⟨7, _⟩ => ⟨S1x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S4096x8x1024, .f32⟩
  | .hbm, ⟨14, _⟩ => ⟨S64x64x8x1024, .f32⟩
  | .hbm, ⟨15, _⟩ => ⟨S16x1024x2048, .bf16⟩
  | .hbm, ⟨16, _⟩ => ⟨S16x1024x2048, .bf16⟩
  | .hbm, ⟨17, _⟩ => ⟨S64x4x512x128, .bf16⟩
  | .hbm, ⟨18, _⟩ => ⟨S512x32768, .bf16⟩
  | .local _ .vmem, ⟨0, _⟩ => ⟨S64x1x8x1024, .f32⟩
  | .local _ .vmem, ⟨1, _⟩ => ⟨S64x1x8x1024, .f32⟩
  | .local _ .vmem, ⟨2, _⟩ => ⟨S8x1024, .f32⟩
  | .local _ .vmem, ⟨3, _⟩ => ⟨S8x1024, .f32⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x4x512x128, .bf16⟩
  | .local _ .vmem, ⟨13, _⟩ => ⟨S1x4x512x128, .bf16⟩
  | .local _ .vmem, ⟨14, _⟩ => ⟨S512x512, .bf16⟩
  | .local _ .vmem, ⟨15, _⟩ => ⟨S512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_6 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_7 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, c0_i32_10.toNat, v26.toNat]

def cc0_transform_8 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, c0_i32_10.toNat, v26.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x4096x1024 : Shape := ⟨3, ![8, 4096, 1024]⟩
abbrev S1x1024 : Shape := ⟨2, ![1, 1024]⟩
abbrev S8x1024 : Shape := ⟨2, ![8, 1024]⟩
abbrev S2048x1024 : Shape := ⟨2, ![2048, 1024]⟩
abbrev S3072x1024 : Shape := ⟨2, ![3072, 1024]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S8x1x1024 : Shape := ⟨3, ![8, 1, 1024]⟩
abbrev S8x64x64x1024 : Shape := ⟨4, ![8, 64, 64, 1024]⟩
abbrev S1024x1024 : Shape := ⟨2, ![1024, 1024]⟩
abbrev S1024x8x64x64 : Shape := ⟨4, ![1024, 8, 64, 64]⟩
abbrev S64x1024x64x8 : Shape := ⟨4, ![64, 1024, 64, 8]⟩
abbrev S512x1024 : Shape := ⟨2, ![512, 1024]⟩
abbrev S512x8x64x64 : Shape := ⟨4, ![512, 8, 64, 64]⟩
abbrev S64x512x64x8 : Shape := ⟨4, ![64, 512, 64, 8]⟩
abbrev S64x512x4x128 : Shape := ⟨4, ![64, 512, 4, 128]⟩
abbrev S64x4x512x128 : Shape := ⟨4, ![64, 4, 512, 128]⟩
abbrev S64x512x512 : Shape := ⟨3, ![64, 512, 512]⟩
abbrev S512x64x512 : Shape := ⟨3, ![512, 64, 512]⟩
abbrev S512x32768 : Shape := ⟨2, ![512, 32768]⟩
abbrev S4x16x1024x512 : Shape := ⟨4, ![4, 16, 1024, 512]⟩
abbrev S16x1024x4x512 : Shape := ⟨4, ![16, 1024, 4, 512]⟩
abbrev S16x1024x2048 : Shape := ⟨3, ![16, 1024, 2048]⟩

abbrev nBuf : Space → Nat
  | .hbm => 92
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S8x1024, .f32⟩
  | .hbm, ⟨3, _⟩ => ⟨S8x1024, .f32⟩
  | .hbm, ⟨4, _⟩ => ⟨S2048x1024, .bf16⟩
  | .hbm, ⟨5, _⟩ => ⟨S3072x1024, .bf16⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x64x64x1024, .f32⟩
  | .hbm, ⟨33, _⟩ => ⟨S2048x1024, .f32⟩
  | .hbm, ⟨34, _⟩ => ⟨S3072x1024, .f32⟩
  | .hbm, ⟨35, _⟩ => ⟨S1024x1024, .f32⟩
  | .hbm, ⟨36, _⟩ => ⟨S1024x8x64x64, .f32⟩
  | .hbm, ⟨37, _⟩ => ⟨S64x1024x64x8, .f32⟩
  | .hbm, ⟨38, _⟩ => ⟨S1024x1024, .f32⟩
  | .hbm, ⟨39, _⟩ => ⟨S1024x8x64x64, .f32⟩
  | .hbm, ⟨40, _⟩ => ⟨S64x1024x64x8, .f32⟩
  | .hbm, ⟨41, _⟩ => ⟨S512x1024, .f32⟩
  | .hbm, ⟨42, _⟩ => ⟨S512x8x64x64, .f32⟩
  | .hbm, ⟨43, _⟩ => ⟨S64x512x64x8, .f32⟩
  | .hbm, ⟨44, _⟩ => ⟨S512x1024, .f32⟩
  | .hbm, ⟨45, _⟩ => ⟨S512x8x64x64, .f32⟩
  | .hbm, ⟨46, _⟩ => ⟨S64x512x64x8, .f32⟩
  | .hbm, ⟨47, _⟩ => ⟨S512x1024, .f32⟩
  | .hbm, ⟨48, _⟩ => ⟨S512x8x64x64, .f32⟩
  | .hbm, ⟨49, _⟩ => ⟨S64x512x64x8, .f32⟩
  | .hbm, ⟨50, _⟩ => ⟨S64x512x64x8, .f32⟩
  | .hbm, ⟨51, _⟩ => ⟨S64x512x64x8, .f32⟩
  | .hbm, ⟨52, _⟩ => ⟨S_, .f32⟩
  | .hbm, ⟨53, _⟩ => ⟨S64x512x64x8, .f32⟩
  | .hbm, ⟨54, _⟩ => ⟨S64x512x64x8, .f32⟩
  | .hbm, ⟨55, _⟩ => ⟨S_, .f32⟩
  | .hbm, ⟨56, _⟩ => ⟨S64x512x64x8, .f32⟩
  | .hbm, ⟨57, _⟩ => ⟨S64x512x64x8, .f32⟩
  | .hbm, ⟨58, _⟩ => ⟨S64x512x64x8, .f32⟩
  | .hbm, ⟨59, _⟩ => ⟨S64x512x4x128, .f32⟩
  | .hbm, ⟨60, _⟩ => ⟨S64x4x512x128, .f32⟩
  | .hbm, ⟨61, _⟩ => ⟨S64x4x512x128, .bf16⟩
  | .hbm, ⟨62, _⟩ => ⟨S64x512x64x8, .f32⟩
  | .hbm, ⟨63, _⟩ => ⟨S64x512x64x8, .f32⟩
  | .hbm, ⟨64, _⟩ => ⟨S_, .f32⟩
  | .hbm, ⟨65, _⟩ => ⟨S64x512x64x8, .f32⟩
  | .hbm, ⟨66, _⟩ => ⟨S64x512x64x8, .f32⟩
  | .hbm, ⟨67, _⟩ => ⟨S_, .f32⟩
  | .hbm, ⟨68, _⟩ => ⟨S64x512x64x8, .f32⟩
  | .hbm, ⟨69, _⟩ => ⟨S64x512x64x8, .f32⟩
  | .hbm, ⟨70, _⟩ => ⟨S64x512x64x8, .f32⟩
  | .hbm, ⟨71, _⟩ => ⟨S64x512x512, .f32⟩
  | .hbm, ⟨72, _⟩ => ⟨S512x64x512, .f32⟩
  | .hbm, ⟨73, _⟩ => ⟨S512x32768, .f32⟩
  | .hbm, ⟨74, _⟩ => ⟨S512x32768, .bf16⟩
  | .hbm, ⟨75, _⟩ => ⟨S4x16x1024x512, .f32⟩
  | .hbm, ⟨76, _⟩ => ⟨S16x1024x4x512, .f32⟩
  | .hbm, ⟨77, _⟩ => ⟨S16x1024x2048, .f32⟩
  | .hbm, ⟨78, _⟩ => ⟨S16x1024x2048, .bf16⟩
  | .hbm, ⟨79, _⟩ => ⟨S64x1024x64x8, .f32⟩
  | .hbm, ⟨80, _⟩ => ⟨S64x1024x64x8, .f32⟩
  | .hbm, ⟨81, _⟩ => ⟨S_, .f32⟩
  | .hbm, ⟨82, _⟩ => ⟨S64x1024x64x8, .f32⟩
  | .hbm, ⟨83, _⟩ => ⟨S64x1024x64x8, .f32⟩
  | .hbm, ⟨84, _⟩ => ⟨S_, .f32⟩
  | .hbm, ⟨85, _⟩ => ⟨S64x1024x64x8, .f32⟩
  | .hbm, ⟨86, _⟩ => ⟨S64x1024x64x8, .f32⟩
  | .hbm, ⟨87, _⟩ => ⟨S64x1024x64x8, .f32⟩
  | .hbm, ⟨88, _⟩ => ⟨S4x16x1024x512, .f32⟩
  | .hbm, ⟨89, _⟩ => ⟨S16x1024x4x512, .f32⟩
  | .hbm, ⟨90, _⟩ => ⟨S16x1024x2048, .f32⟩
  | .hbm, ⟨91, _⟩ => ⟨S16x1024x2048, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024 : Shape := ⟨2, ![1, 1024]⟩
abbrev S8x1024 : Shape := ⟨2, ![8, 1024]⟩
abbrev S3072x1024 : Shape := ⟨2, ![3072, 1024]⟩
abbrev S1024 : Shape := ⟨1, ![1024]⟩
abbrev S_ : Shape := ⟨0, ![]⟩
abbrev S4096x8x1024 : Shape := ⟨3, ![4096, 8, 1024]⟩
abbrev S64x64x8x1024 : Shape := ⟨4, ![64, 64, 8, 1024]⟩
abbrev S64x4x512x128 : Shape := ⟨4, ![64, 4, 512, 128]⟩
abbrev S512x32768 : Shape := ⟨2, ![512, 32768]⟩
abbrev S1x64x8x1024 : Shape := ⟨4, ![1, 64, 8, 1024]⟩
abbrev S512x1024 : Shape := ⟨2, ![512, 1024]⟩
abbrev S1x4x512x128 : Shape := ⟨4, ![1, 4, 512, 128]⟩
abbrev S512x512 : Shape := ⟨2, ![512, 512]⟩
abbrev S1x32x8x1024 : Shape := ⟨4, ![1, 32, 8, 1024]⟩
abbrev S32x8x1024 : Shape := ⟨3, ![32, 8, 1024]⟩
abbrev S32x8 : Shape := ⟨2, ![32, 8]⟩
abbrev S32x8x1 : Shape := ⟨3, ![32, 8, 1]⟩
abbrev S1x8x1024 : Shape := ⟨3, ![1, 8, 1024]⟩
abbrev S256x1024 : Shape := ⟨2, ![256, 1024]⟩
abbrev S512x256 : Shape := ⟨2, ![512, 256]⟩
abbrev S1536x256 : Shape := ⟨2, ![1536, 256]⟩
abbrev S512x128 : Shape := ⟨2, ![512, 128]⟩
abbrev S1x1x512x128 : Shape := ⟨4, ![1, 1, 512, 128]⟩

abbrev nBuf : Space → Nat
  | .hbm => 16
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S8x1024, .f32⟩
  | .hbm, ⟨3, _⟩ => ⟨S8x1024, .f32⟩
  | .hbm, ⟨4, _⟩ => ⟨S3072x1024, .bf16⟩
  | .hbm, ⟨5, _⟩ => ⟨S1024, .f32⟩
  | .hbm, ⟨6, _⟩ => ⟨S1x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4096x8x1024, .f32⟩
  | .hbm, ⟨13, _⟩ => ⟨S64x64x8x1024, .f32⟩
  | .hbm, ⟨14, _⟩ => ⟨S64x4x512x128, .bf16⟩
  | .hbm, ⟨15, _⟩ => ⟨S512x32768, .bf16⟩
  | .local _ .vmem, ⟨0, _⟩ => ⟨S1x64x8x1024, .f32⟩
  | .local _ .vmem, ⟨1, _⟩ => ⟨S1x64x8x1024, .f32⟩
  | .local _ .vmem, ⟨2, _⟩ => ⟨S8x1024, .f32⟩
  | .local _ .vmem, ⟨3, _⟩ => ⟨S8x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1x4x512x128, .bf16⟩
  | .local _ .vmem, ⟨8, _⟩ => ⟨S1x4x512x128, .bf16⟩
  | .local _ .vmem, ⟨9, _⟩ => ⟨S512x512, .bf16⟩
  | .local _ .vmem, ⟨10, _⟩ => ⟨S512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_5 (i : grid0.Coords) : Fin 2 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x4096x1024 : Shape := ⟨3, ![8, 4096, 1024]⟩
abbrev S1x1024 : Shape := ⟨2, ![1, 1024]⟩
abbrev S8x1024 : Shape := ⟨2, ![8, 1024]⟩
abbrev S3072x1024 : Shape := ⟨2, ![3072, 1024]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S8x1x1024 : Shape := ⟨3, ![8, 1, 1024]⟩
abbrev S8x64x64x1024 : Shape := ⟨4, ![8, 64, 64, 1024]⟩
abbrev S512x1024 : Shape := ⟨2, ![512, 1024]⟩
abbrev S512x8x64x64 : Shape := ⟨4, ![512, 8, 64, 64]⟩
abbrev S64x512x64x8 : Shape := ⟨4, ![64, 512, 64, 8]⟩
abbrev S64x512x4x128 : Shape := ⟨4, ![64, 512, 4, 128]⟩
abbrev S64x4x512x128 : Shape := ⟨4, ![64, 4, 512, 128]⟩
abbrev S64x512x512 : Shape := ⟨3, ![64, 512, 512]⟩
abbrev S512x64x512 : Shape := ⟨3, ![512, 64, 512]⟩
abbrev S512x32768 : Shape := ⟨2, ![512, 32768]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S8x1024, .f32⟩
  | .hbm, ⟨3, _⟩ => ⟨S8x1024, .f32⟩
  | .hbm, ⟨4, _⟩ => ⟨S3072x1024, .bf16⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x64x64x1024, .f32⟩
  | .hbm, ⟨32, _⟩ => ⟨S3072x1024, .f32⟩
  | .hbm, ⟨33, _⟩ => ⟨S512x1024, .f32⟩
  | .hbm, ⟨34, _⟩ => ⟨S512x8x64x64, .f32⟩
  | .hbm, ⟨35, _⟩ => ⟨S64x512x64x8, .f32⟩
  | .hbm, ⟨36, _⟩ => ⟨S512x1024, .f32⟩
  | .hbm, ⟨37, _⟩ => ⟨S512x8x64x64, .f32⟩
  | .hbm, ⟨38, _⟩ => ⟨S64x512x64x8, .f32⟩
  | .hbm, ⟨39, _⟩ => ⟨S512x1024, .f32⟩
  | .hbm, ⟨40, _⟩ => ⟨S512x8x64x64, .f32⟩
  | .hbm, ⟨41, _⟩ => ⟨S64x512x64x8, .f32⟩
  | .hbm, ⟨42, _⟩ => ⟨S64x512x64x8, .f32⟩
  | .hbm, ⟨43, _⟩ => ⟨S64x512x64x8, .f32⟩
  | .hbm, ⟨44, _⟩ => ⟨S_, .f32⟩
  | .hbm, ⟨45, _⟩ => ⟨S64x512x64x8, .f32⟩
  | .hbm, ⟨46, _⟩ => ⟨S64x512x64x8, .f32⟩
  | .hbm, ⟨47, _⟩ => ⟨S_, .f32⟩
  | .hbm, ⟨48, _⟩ => ⟨S64x512x64x8, .f32⟩
  | .hbm, ⟨49, _⟩ => ⟨S64x512x64x8, .f32⟩
  | .hbm, ⟨50, _⟩ => ⟨S64x512x64x8, .f32⟩
  | .hbm, ⟨51, _⟩ => ⟨S64x512x4x128, .f32⟩
  | .hbm, ⟨52, _⟩ => ⟨S64x4x512x128, .f32⟩
  | .hbm, ⟨53, _⟩ => ⟨S64x4x512x128, .bf16⟩
  | .hbm, ⟨54, _⟩ => ⟨S64x512x64x8, .f32⟩
  | .hbm, ⟨55, _⟩ => ⟨S64x512x64x8, .f32⟩
  | .hbm, ⟨56, _⟩ => ⟨S_, .f32⟩
  | .hbm, ⟨57, _⟩ => ⟨S64x512x64x8, .f32⟩
  | .hbm, ⟨58, _⟩ => ⟨S64x512x64x8, .f32⟩
  | .hbm, ⟨59, _⟩ => ⟨S_, .f32⟩
  | .hbm, ⟨60, _⟩ => ⟨S64x512x64x8, .f32⟩
  | .hbm, ⟨61, _⟩ => ⟨S64x512x64x8, .f32⟩
  | .hbm, ⟨62, _⟩ => ⟨S64x512x64x8, .f32⟩
  | .hbm, ⟨63, _⟩ => ⟨S64x512x512, .f32⟩
  | .hbm, ⟨64, _⟩ => ⟨S512x64x512, .f32⟩
  | .hbm, ⟨65, _⟩ => ⟨S512x32768, .f32⟩
  | .hbm, ⟨66, _⟩ => ⟨S512x32768, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Kernel4.lean ====
abbrev S16x1024x2048 : Shape := ⟨3, ![16, 1024, 2048]⟩
abbrev S64x512x512 : Shape := ⟨3, ![64, 512, 512]⟩
abbrev S512x32768 : Shape := ⟨2, ![512, 32768]⟩
abbrev S64x512 : Shape := ⟨2, ![64, 512]⟩
abbrev S1024x1024 : Shape := ⟨2, ![1024, 1024]⟩
abbrev S1024x1 : Shape := ⟨2, ![1024, 1]⟩
abbrev S2048x1024 : Shape := ⟨2, ![2048, 1024]⟩
abbrev S512x1 : Shape := ⟨2, ![512, 1]⟩
abbrev S_ : Shape := ⟨0, ![]⟩
abbrev S4x32768 : Shape := ⟨2, ![4, 32768]⟩
abbrev S1x32768 : Shape := ⟨2, ![1, 32768]⟩
abbrev S64x64x8 : Shape := ⟨3, ![64, 64, 8]⟩
abbrev S8x32768 : Shape := ⟨2, ![8, 32768]⟩
abbrev S64x32x16x1024 : Shape := ⟨4, ![64, 32, 16, 1024]⟩
abbrev S2x1024x512 : Shape := ⟨3, ![2, 1024, 512]⟩
abbrev S2x512x512 : Shape := ⟨3, ![2, 512, 512]⟩
abbrev S512x1024 : Shape := ⟨2, ![512, 1024]⟩
abbrev S8x1024 : Shape := ⟨2, ![8, 1024]⟩
abbrev S64x1x16x1024 : Shape := ⟨4, ![64, 1, 16, 1024]⟩
abbrev S1x1024x512 : Shape := ⟨3, ![1, 1024, 512]⟩
abbrev S1024x512 : Shape := ⟨2, ![1024, 512]⟩
abbrev S1x512x512 : Shape := ⟨3, ![1, 512, 512]⟩
abbrev S512x512 : Shape := ⟨2, ![512, 512]⟩
abbrev S8x512 : Shape := ⟨2, ![8, 512]⟩
abbrev S1x512 : Shape := ⟨2, ![1, 512]⟩
abbrev S64x8x1024 : Shape := ⟨3, ![64, 8, 1024]⟩
abbrev S64x16x1024 : Shape := ⟨3, ![64, 16, 1024]⟩

abbrev nBuf : Space → Nat
  | .hbm => 25
  | .vmem => 18
  | .smem => 0
  | _ => 0

abbrev bufTy : (tb : Table) → Fin (tcTables nBuf tb) → BufTy
  | .hbm, ⟨0, _⟩ => ⟨S16x1024x2048, .bf16⟩
  | .hbm, ⟨1, _⟩ => ⟨S16x1024x2048, .bf16⟩
  | .hbm, ⟨2, _⟩ => ⟨S64x512x512, .bf16⟩
  | .hbm, ⟨3, _⟩ => ⟨S512x32768, .bf16⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .hbm, ⟨8, _⟩ => ⟨S1024x1024, .bf16⟩
  | .hbm, ⟨9, _⟩ => ⟨S1024x1, .f32⟩
  | .hbm, ⟨10, _⟩ => ⟨S2048x1024, .bf16⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S4x32768, .f32⟩
  | .hbm, ⟨15, _⟩ => ⟨S1x32768, .f32⟩
  | .hbm, ⟨16, _⟩ => ⟨S1x32768, .f32⟩
  | .hbm, ⟨17, _⟩ => ⟨S64x64x8, .f32⟩
  | .hbm, ⟨18, _⟩ => ⟨S64x64x8, .f32⟩
  | .hbm, ⟨19, _⟩ => ⟨S1x32768, .f32⟩
  | .hbm, ⟨20, _⟩ => ⟨S64x64x8, .f32⟩
  | .hbm, ⟨21, _⟩ => ⟨S64x64x8, .f32⟩
  | .hbm, ⟨22, _⟩ => ⟨S1x32768, .f32⟩
  | .hbm, ⟨23, _⟩ => ⟨S8x32768, .f32⟩
  | .hbm, ⟨24, _⟩ => ⟨S64x32x16x1024, .bf16⟩
  | .local _ .vmem, ⟨0, _⟩ => ⟨S2x1024x512, .bf16⟩
  | .local _ .vmem, ⟨1, _⟩ => ⟨S2x1024x512, .bf16⟩
  | .local _ .vmem, ⟨2, _⟩ => ⟨S2x1024x512, .bf16⟩
  | .local _ .vmem, ⟨3, _⟩ => ⟨S2x1024x512, .bf16⟩
  | .local _ .vmem, ⟨4, _⟩ => ⟨S2x512x512, .bf16⟩
  | .local _ .vmem, ⟨5, _⟩ => ⟨S2x512x512, .bf16⟩
  | .local _ .vmem, ⟨6, _⟩ => ⟨S512x1024, .bf16⟩
  | .local _ .vmem, ⟨7, _⟩ => ⟨S512x1024, .bf16⟩
  | .local _ .vmem, ⟨8, _⟩ => ⟨S8x1024, .f32⟩
  | .local _ .vmem, ⟨9, _⟩ => ⟨S8x1024, .f32⟩
  | .local _ .vmem, ⟨10, _⟩ => ⟨S1024x1024, .bf16⟩
  | .local _ .vmem, ⟨11, _⟩ => ⟨S1024x1, .f32⟩
  | .local _ .vmem, ⟨12, _⟩ => ⟨S1024x1024, .bf16⟩
  | .local _ .vmem, ⟨13, _⟩ => ⟨S512x1024, .bf16⟩
  | .local _ .vmem, ⟨14, _⟩ => ⟨S512x1, .f32⟩
  | .local _ .vmem, ⟨15, _⟩ => ⟨S512x1, .f32⟩
  | .local _ .vmem, ⟨16, _⟩ => ⟨S64x1x16x1024, .bf16⟩
  | .local _ .vmem, ⟨17, _⟩ => ⟨S64x1x16x1024, .bf16⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, c0_i32_10.toNat, v26.toNat]

def cc0_transform_1 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, c0_i32_10.toNat, v26.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x1x16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16x1024x2048 : Shape := ⟨3, ![16, 1024, 2048]⟩
abbrev S64x512x512 : Shape := ⟨3, ![64, 512, 512]⟩
abbrev S512x32768 : Shape := ⟨2, ![512, 32768]⟩
abbrev S64x512 : Shape := ⟨2, ![64, 512]⟩
abbrev S1024x1024 : Shape := ⟨2, ![1024, 1024]⟩
abbrev S1024x1 : Shape := ⟨2, ![1024, 1]⟩
abbrev S2048x1024 : Shape := ⟨2, ![2048, 1024]⟩
abbrev S512x1 : Shape := ⟨2, ![512, 1]⟩
abbrev S16x1024x4x64x8 : Shape := ⟨5, ![16, 1024, 4, 64, 8]⟩
abbrev S4x16x1024x64x8 : Shape := ⟨5, ![4, 16, 1024, 64, 8]⟩
abbrev S64x1024x64x8 : Shape := ⟨4, ![64, 1024, 64, 8]⟩
abbrev S64x64x8x1024 : Shape := ⟨4, ![64, 64, 8, 1024]⟩
abbrev S1024x1x1 : Shape := ⟨3, ![1024, 1, 1]⟩
abbrev S1x1024x1x1 : Shape := ⟨4, ![1, 1024, 1, 1]⟩
abbrev S_ : Shape := ⟨0, ![]⟩
abbrev S64x1x64x8 : Shape := ⟨4, ![64, 1, 64, 8]⟩
abbrev S64x64x8 : Shape := ⟨3, ![64, 64, 8]⟩
abbrev S64x512x64x8 : Shape := ⟨4, ![64, 512, 64, 8]⟩
abbrev S512x1x1 : Shape := ⟨3, ![512, 1, 1]⟩
abbrev S1x512x1x1 : Shape := ⟨4, ![1, 512, 1, 1]⟩
abbrev S512x64x64x8 : Shape := ⟨4, ![512, 64, 64, 8]⟩
abbrev S1024x64x64x8 : Shape := ⟨4, ![1024, 64, 64, 8]⟩
abbrev S512x1024 : Shape := ⟨2, ![512, 1024]⟩
abbrev S64x32x16x1024 : Shape := ⟨4, ![64, 32, 16, 1024]⟩

abbrev nBuf : Space → Nat
  | .hbm => 97
  | .vmem => 0
  | .smem => 0
  | _ => 0

abbrev bufTy : (tb : Table) → Fin (tcTables nBuf tb) → BufTy
  | .hbm, ⟨0, _⟩ => ⟨S16x1024x2048, .bf16⟩
  | .hbm, ⟨1, _⟩ => ⟨S16x1024x2048, .bf16⟩
  | .hbm, ⟨2, _⟩ => ⟨S64x512x512, .bf16⟩
  | .hbm, ⟨3, _⟩ => ⟨S512x32768, .bf16⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .hbm, ⟨8, _⟩ => ⟨S1024x1024, .bf16⟩
  | .hbm, ⟨9, _⟩ => ⟨S1024x1, .f32⟩
  | .hbm, ⟨10, _⟩ => ⟨S2048x1024, .bf16⟩
  | .hbm, ⟨11, _⟩ => ⟨S512x1, .f32⟩
  | .hbm, ⟨12, _⟩ => ⟨S512x1, .f32⟩
  | .hbm, ⟨13, _⟩ => ⟨S16x1024x2048, .f32⟩
  | .hbm, ⟨14, _⟩ => ⟨S16x1024x4x64x8, .f32⟩
  | .hbm, ⟨15, _⟩ => ⟨S4x16x1024x64x8, .f32⟩
  | .hbm, ⟨16, _⟩ => ⟨S64x1024x64x8, .f32⟩
  | .hbm, ⟨17, _⟩ => ⟨S1024x1024, .f32⟩
  | .hbm, ⟨18, _⟩ => ⟨S64x64x8x1024, .f32⟩
  | .hbm, ⟨19, _⟩ => ⟨S64x1024x64x8, .f32⟩
  | .hbm, ⟨20, _⟩ => ⟨S1024x1x1, .f32⟩
  | .hbm, ⟨21, _⟩ => ⟨S1x1024x1x1, .f32⟩
  | .hbm, ⟨22, _⟩ => ⟨S64x1024x64x8, .f32⟩
  | .hbm, ⟨23, _⟩ => ⟨S64x1024x64x8, .f32⟩
  | .hbm, ⟨24, _⟩ => ⟨S64x1024x64x8, .f32⟩
  | .hbm, ⟨25, _⟩ => ⟨S64x1024x64x8, .f32⟩
  | .hbm, ⟨26, _⟩ => ⟨S_, .f32⟩
  | .hbm, ⟨27, _⟩ => ⟨S64x1024x64x8, .f32⟩
  | .hbm, ⟨28, _⟩ => ⟨S64x1024x64x8, .f32⟩
  | .hbm, ⟨29, _⟩ => ⟨S_, .f32⟩
  | .hbm, ⟨30, _⟩ => ⟨S64x1024x64x8, .f32⟩
  | .hbm, ⟨31, _⟩ => ⟨S64x1024x64x8, .f32⟩
  | .hbm, ⟨32, _⟩ => ⟨S64x1024x64x8, .f32⟩
  | .hbm, ⟨33, _⟩ => ⟨S16x1024x2048, .f32⟩
  | .hbm, ⟨34, _⟩ => ⟨S16x1024x4x64x8, .f32⟩
  | .hbm, ⟨35, _⟩ => ⟨S4x16x1024x64x8, .f32⟩
  | .hbm, ⟨36, _⟩ => ⟨S64x1024x64x8, .f32⟩
  | .hbm, ⟨37, _⟩ => ⟨S64x1024x64x8, .f32⟩
  | .hbm, ⟨38, _⟩ => ⟨S64x1x64x8, .f32⟩
  | .hbm, ⟨39, _⟩ => ⟨S64x64x8, .f32⟩
  | .hbm, ⟨40, _⟩ => ⟨S64x64x8, .f32⟩
  | .hbm, ⟨41, _⟩ => ⟨S64x1x64x8, .f32⟩
  | .hbm, ⟨42, _⟩ => ⟨S64x1x64x8, .f32⟩
  | .hbm, ⟨43, _⟩ => ⟨S_, .f32⟩
  | .hbm, ⟨44, _⟩ => ⟨S64x1x64x8, .f32⟩
  | .hbm, ⟨45, _⟩ => ⟨S64x1x64x8, .f32⟩
  | .hbm, ⟨46, _⟩ => ⟨S64x1x64x8, .f32⟩
  | .hbm, ⟨47, _⟩ => ⟨S64x64x8, .f32⟩
  | .hbm, ⟨48, _⟩ => ⟨S64x64x8, .f32⟩
  | .hbm, ⟨49, _⟩ => ⟨S64x1x64x8, .f32⟩
  | .hbm, ⟨50, _⟩ => ⟨S64x1x64x8, .f32⟩
  | .hbm, ⟨51, _⟩ => ⟨S_, .f32⟩
  | .hbm, ⟨52, _⟩ => ⟨S64x1x64x8, .f32⟩
  | .hbm, ⟨53, _⟩ => ⟨S64x1x64x8, .f32⟩
  | .hbm, ⟨54, _⟩ => ⟨S64x1x64x8, .f32⟩
  | .hbm, ⟨55, _⟩ => ⟨S64x1x64x8, .f32⟩
  | .hbm, ⟨56, _⟩ => ⟨S64x512x512, .f32⟩
  | .hbm, ⟨57, _⟩ => ⟨S64x512x64x8, .f32⟩
  | .hbm, ⟨58, _⟩ => ⟨S64x512x64x8, .f32⟩
  | .hbm, ⟨59, _⟩ => ⟨S64x512x64x8, .f32⟩
  | .hbm, ⟨60, _⟩ => ⟨S_, .f32⟩
  | .hbm, ⟨61, _⟩ => ⟨S64x1x64x8, .f32⟩
  | .hbm, ⟨62, _⟩ => ⟨S64x1x64x8, .f32⟩
  | .hbm, ⟨63, _⟩ => ⟨S64x1x64x8, .f32⟩
  | .hbm, ⟨64, _⟩ => ⟨S64x512x64x8, .f32⟩
  | .hbm, ⟨65, _⟩ => ⟨S64x512x64x8, .f32⟩
  | .hbm, ⟨66, _⟩ => ⟨S512x1x1, .f32⟩
  | .hbm, ⟨67, _⟩ => ⟨S1x512x1x1, .f32⟩
  | .hbm, ⟨68, _⟩ => ⟨S64x512x64x8, .f32⟩
  | .hbm, ⟨69, _⟩ => ⟨S64x512x64x8, .f32⟩
  | .hbm, ⟨70, _⟩ => ⟨S512x1x1, .f32⟩
  | .hbm, ⟨71, _⟩ => ⟨S1x512x1x1, .f32⟩
  | .hbm, ⟨72, _⟩ => ⟨S64x512x64x8, .f32⟩
  | .hbm, ⟨73, _⟩ => ⟨S64x512x64x8, .f32⟩
  | .hbm, ⟨74, _⟩ => ⟨S64x512x64x8, .f32⟩
  | .hbm, ⟨75, _⟩ => ⟨S64x512x64x8, .f32⟩
  | .hbm, ⟨76, _⟩ => ⟨S_, .f32⟩
  | .hbm, ⟨77, _⟩ => ⟨S64x512x64x8, .f32⟩
  | .hbm, ⟨78, _⟩ => ⟨S64x512x64x8, .f32⟩
  | .hbm, ⟨79, _⟩ => ⟨S_, .f32⟩
  | .hbm, ⟨80, _⟩ => ⟨S64x512x64x8, .f32⟩
  | .hbm, ⟨81, _⟩ => ⟨S64x512x64x8, .f32⟩
  | .hbm, ⟨82, _⟩ => ⟨S64x512x64x8, .f32⟩
  | .hbm, ⟨83, _⟩ => ⟨S512x32768, .f32⟩
  | .hbm, ⟨84, _⟩ => ⟨S512x64x64x8, .f32⟩
  | .hbm, ⟨85, _⟩ => ⟨S64x512x64x8, .f32⟩
  | .hbm, ⟨86, _⟩ => ⟨S64x512x64x8, .f32⟩
  | .hbm, ⟨87, _⟩ => ⟨S2048x1024, .f32⟩
  | .hbm, ⟨88, _⟩ => ⟨S1024x1024, .f32⟩
  | .hbm, ⟨89, _⟩ => ⟨S1024x64x64x8, .f32⟩
  | .hbm, ⟨90, _⟩ => ⟨S64x64x8x1024, .f32⟩
  | .hbm, ⟨91, _⟩ => ⟨S512x1024, .f32⟩
  | .hbm, ⟨92, _⟩ => ⟨S1024x64x64x8, .f32⟩
  | .hbm, ⟨93, _⟩ => ⟨S64x64x8x1024, .f32⟩
  | .hbm, ⟨94, _⟩ => ⟨S64x64x8x1024, .f32⟩
  | .hbm, ⟨95, _⟩ => ⟨S64x32x16x1024, .f32⟩
  | .hbm, ⟨96, _⟩ => ⟨S64x32x16x1024, .bf16⟩
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== Kernel5.lean ====
abbrev S64x512x512 : Shape := ⟨3, ![64, 512, 512]⟩
abbrev S512x32768 : Shape := ⟨2, ![512, 32768]⟩
abbrev S64x512 : Shape := ⟨2, ![64, 512]⟩
abbrev S64x32x16x1024 : Shape := ⟨4, ![64, 32, 16, 1024]⟩
abbrev S8x4096x1024 : Shape := ⟨3, ![8, 4096, 1024]⟩
abbrev S2048x1024 : Shape := ⟨2, ![2048, 1024]⟩
abbrev S512x1 : Shape := ⟨2, ![512, 1]⟩
abbrev S8x1024 : Shape := ⟨2, ![8, 1024]⟩
abbrev S1024 : Shape := ⟨1, ![1024]⟩
abbrev S_ : Shape := ⟨0, ![]⟩
abbrev S4x32768 : Shape := ⟨2, ![4, 32768]⟩
abbrev S1x32768 : Shape := ⟨2, ![1, 32768]⟩
abbrev S64x64x8 : Shape := ⟨3, ![64, 64, 8]⟩
abbrev S8x32768 : Shape := ⟨2, ![8, 32768]⟩
abbrev S1x1024 : Shape := ⟨2, ![1, 1024]⟩
abbrev S1x512x512 : Shape := ⟨3, ![1, 512, 512]⟩
abbrev S512x512 : Shape := ⟨2, ![512, 512]⟩
abbrev S8x512 : Shape := ⟨2, ![8, 512]⟩
abbrev S1x32x16x1024 : Shape := ⟨4, ![1, 32, 16, 1024]⟩
abbrev S8x64x1024 : Shape := ⟨3, ![8, 64, 1024]⟩
abbrev S512x1024 : Shape := ⟨2, ![512, 1024]⟩
abbrev S8x512x128 : Shape := ⟨3, ![8, 512, 128]⟩
abbrev S1x512 : Shape := ⟨2, ![1, 512]⟩
abbrev S32x16x1024 : Shape := ⟨3, ![32, 16, 1024]⟩
abbrev S512x128 : Shape := ⟨2, ![512, 128]⟩
abbrev S1x512x128 : Shape := ⟨3, ![1, 512, 128]⟩
abbrev S1x64x128 : Shape := ⟨3, ![1, 64, 128]⟩
abbrev S64x128 : Shape := ⟨2, ![64, 128]⟩
abbrev S64x1024 : Shape := ⟨2, ![64, 1024]⟩
abbrev S1x64x1024 : Shape := ⟨3, ![1, 64, 1024]⟩
abbrev S64 : Shape := ⟨1, ![64]⟩
abbrev S64x1 : Shape := ⟨2, ![64, 1]⟩

abbrev nBuf : Space → Nat
  | .hbm => 26
  | .vmem => 18
  | .smem => 0
  | _ => 0

abbrev bufTy : (tb : Table) → Fin (tcTables nBuf tb) → BufTy
  | .hbm, ⟨0, _⟩ => ⟨S64x512x512, .bf16⟩
  | .hbm, ⟨1, _⟩ => ⟨S512x32768, .bf16⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S64x32x16x1024, .bf16⟩
  | .hbm, ⟨7, _⟩ => ⟨S8x4096x1024, .f32⟩
  | .hbm, ⟨8, _⟩ => ⟨S2048x1024, .bf16⟩
  | .hbm, ⟨9, _⟩ => ⟨S512x1, .f32⟩
  | .hbm, ⟨10, _⟩ => ⟨S512x1, .f32⟩
  | .hbm, ⟨11, _⟩ => ⟨S8x1024, .f32⟩
  | .hbm, ⟨12, _⟩ => ⟨S1024, .f32⟩
  | .hbm, ⟨13, _⟩ => ⟨S_, .f32⟩
  | .hbm, ⟨14, _⟩ => ⟨S4x32768, .f32⟩
  | .hbm, ⟨15, _⟩ => ⟨S1x32768, .f32⟩
  | .hbm, ⟨16, _⟩ => ⟨S1x32768, .f32⟩
  | .hbm, ⟨17, _⟩ => ⟨S64x64x8, .f32⟩
  | .hbm, ⟨18, _⟩ => ⟨S64x64x8, .f32⟩
  | .hbm, ⟨19, _⟩ => ⟨S1x32768, .f32⟩
  | .hbm, ⟨20, _⟩ => ⟨S64x64x8, .f32⟩
  | .hbm, ⟨21, _⟩ => ⟨S64x64x8, .f32⟩
  | .hbm, ⟨22, _⟩ => ⟨S1x32768, .f32⟩
  | .hbm, ⟨23, _⟩ => ⟨S8x32768, .f32⟩
  | .hbm, ⟨24, _⟩ => ⟨S1x1024, .f32⟩
  | .hbm, ⟨25, _⟩ => ⟨S8x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S512x512, .bf16⟩
  | .local _ .vmem, ⟨3, _⟩ => ⟨S512x512, .bf16⟩
  | .local _ .vmem, ⟨4, _⟩ => ⟨S8x512, .f32⟩
  | .local _ .vmem, ⟨5, _⟩ => ⟨S8x512, .f32⟩
  | .local _ .vmem, ⟨6, _⟩ => ⟨S1x32x16x1024, .bf16⟩
  | .local _ .vmem, ⟨7, _⟩ => ⟨S1x32x16x1024, .bf16⟩
  | .local _ .vmem, ⟨8, _⟩ => ⟨S8x64x1024, .f32⟩
  | .local _ .vmem, ⟨9, _⟩ => ⟨S8x64x1024, .f32⟩
  | .local _ .vmem, ⟨10, _⟩ => ⟨S512x1024, .bf16⟩
  | .local _ .vmem, ⟨11, _⟩ => ⟨S512x1, .f32⟩
  | .local _ .vmem, ⟨12, _⟩ => ⟨S512x1, .f32⟩
  | .local _ .vmem, ⟨13, _⟩ => ⟨S8x1024, .f32⟩
  | .local _ .vmem, ⟨14, _⟩ => ⟨S1x1024, .f32⟩
  | .local _ .vmem, ⟨15, _⟩ => ⟨S8x64x1024, .f32⟩
  | .local _ .vmem, ⟨16, _⟩ => ⟨S8x64x1024, .f32⟩
  | .local _ .vmem, ⟨17, _⟩ => ⟨S8x512x128, .f32⟩
  | _, _ => ⟨S64x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S64x512x512 : Shape := ⟨3, ![64, 512, 512]⟩
abbrev S512x32768 : Shape := ⟨2, ![512, 32768]⟩
abbrev S64x512 : Shape := ⟨2, ![64, 512]⟩
abbrev S64x32x16x1024 : Shape := ⟨4, ![64, 32, 16, 1024]⟩
abbrev S8x4096x1024 : Shape := ⟨3, ![8, 4096, 1024]⟩
abbrev S2048x1024 : Shape := ⟨2, ![2048, 1024]⟩
abbrev S512x1 : Shape := ⟨2, ![512, 1]⟩
abbrev S8x1024 : Shape := ⟨2, ![8, 1024]⟩
abbrev S1024 : Shape := ⟨1, ![1024]⟩
abbrev S64x1x64x8 : Shape := ⟨4, ![64, 1, 64, 8]⟩
abbrev S64x64x8 : Shape := ⟨3, ![64, 64, 8]⟩
abbrev S_ : Shape := ⟨0, ![]⟩
abbrev S64x512x64x8 : Shape := ⟨4, ![64, 512, 64, 8]⟩
abbrev S512x1x1 : Shape := ⟨3, ![512, 1, 1]⟩
abbrev S1x512x1x1 : Shape := ⟨4, ![1, 512, 1, 1]⟩
abbrev S512x64x64x8 : Shape := ⟨4, ![512, 64, 64, 8]⟩
abbrev S512x1024 : Shape := ⟨2, ![512, 1024]⟩
abbrev S1024x64x64x8 : Shape := ⟨4, ![1024, 64, 64, 8]⟩
abbrev S8x64x64x1024 : Shape := ⟨4, ![8, 64, 64, 1024]⟩
abbrev S64x64x8x1024 : Shape := ⟨4, ![64, 64, 8, 1024]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S64x512x512, .bf16⟩
  | .hbm, ⟨1, _⟩ => ⟨S512x32768, .bf16⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S64x32x16x1024, .bf16⟩
  | .hbm, ⟨7, _⟩ => ⟨S8x4096x1024, .f32⟩
  | .hbm, ⟨8, _⟩ => ⟨S2048x1024, .bf16⟩
  | .hbm, ⟨9, _⟩ => ⟨S512x1, .f32⟩
  | .hbm, ⟨10, _⟩ => ⟨S512x1, .f32⟩
  | .hbm, ⟨11, _⟩ => ⟨S8x1024, .f32⟩
  | .hbm, ⟨12, _⟩ => ⟨S1024, .f32⟩
  | .hbm, ⟨13, _⟩ => ⟨S64x1x64x8, .f32⟩
  | .hbm, ⟨14, _⟩ => ⟨S64x64x8, .f32⟩
  | .hbm, ⟨15, _⟩ => ⟨S64x64x8, .f32⟩
  | .hbm, ⟨16, _⟩ => ⟨S64x1x64x8, .f32⟩
  | .hbm, ⟨17, _⟩ => ⟨S64x1x64x8, .f32⟩
  | .hbm, ⟨18, _⟩ => ⟨S_, .f32⟩
  | .hbm, ⟨19, _⟩ => ⟨S64x1x64x8, .f32⟩
  | .hbm, ⟨20, _⟩ => ⟨S64x1x64x8, .f32⟩
  | .hbm, ⟨21, _⟩ => ⟨S64x1x64x8, .f32⟩
  | .hbm, ⟨22, _⟩ => ⟨S64x64x8, .f32⟩
  | .hbm, ⟨23, _⟩ => ⟨S64x64x8, .f32⟩
  | .hbm, ⟨24, _⟩ => ⟨S64x1x64x8, .f32⟩
  | .hbm, ⟨25, _⟩ => ⟨S64x1x64x8, .f32⟩
  | .hbm, ⟨26, _⟩ => ⟨S_, .f32⟩
  | .hbm, ⟨27, _⟩ => ⟨S64x1x64x8, .f32⟩
  | .hbm, ⟨28, _⟩ => ⟨S64x1x64x8, .f32⟩
  | .hbm, ⟨29, _⟩ => ⟨S64x1x64x8, .f32⟩
  | .hbm, ⟨30, _⟩ => ⟨S64x1x64x8, .f32⟩
  | .hbm, ⟨31, _⟩ => ⟨S64x512x512, .f32⟩
  | .hbm, ⟨32, _⟩ => ⟨S64x512x64x8, .f32⟩
  | .hbm, ⟨33, _⟩ => ⟨S64x512x64x8, .f32⟩
  | .hbm, ⟨34, _⟩ => ⟨S64x512x64x8, .f32⟩
  | .hbm, ⟨35, _⟩ => ⟨S_, .f32⟩
  | .hbm, ⟨36, _⟩ => ⟨S64x1x64x8, .f32⟩
  | .hbm, ⟨37, _⟩ => ⟨S64x1x64x8, .f32⟩
  | .hbm, ⟨38, _⟩ => ⟨S64x1x64x8, .f32⟩
  | .hbm, ⟨39, _⟩ => ⟨S64x512x64x8, .f32⟩
  | .hbm, ⟨40, _⟩ => ⟨S64x512x64x8, .f32⟩
  | .hbm, ⟨41, _⟩ => ⟨S512x1x1, .f32⟩
  | .hbm, ⟨42, _⟩ => ⟨S1x512x1x1, .f32⟩
  | .hbm, ⟨43, _⟩ => ⟨S64x512x64x8, .f32⟩
  | .hbm, ⟨44, _⟩ => ⟨S64x512x64x8, .f32⟩
  | .hbm, ⟨45, _⟩ => ⟨S512x1x1, .f32⟩
  | .hbm, ⟨46, _⟩ => ⟨S1x512x1x1, .f32⟩
  | .hbm, ⟨47, _⟩ => ⟨S64x512x64x8, .f32⟩
  | .hbm, ⟨48, _⟩ => ⟨S64x512x64x8, .f32⟩
  | .hbm, ⟨49, _⟩ => ⟨S64x512x64x8, .f32⟩
  | .hbm, ⟨50, _⟩ => ⟨S64x512x64x8, .f32⟩
  | .hbm, ⟨51, _⟩ => ⟨S_, .f32⟩
  | .hbm, ⟨52, _⟩ => ⟨S64x512x64x8, .f32⟩
  | .hbm, ⟨53, _⟩ => ⟨S64x512x64x8, .f32⟩
  | .hbm, ⟨54, _⟩ => ⟨S_, .f32⟩
  | .hbm, ⟨55, _⟩ => ⟨S64x512x64x8, .f32⟩
  | .hbm, ⟨56, _⟩ => ⟨S64x512x64x8, .f32⟩
  | .hbm, ⟨57, _⟩ => ⟨S64x512x64x8, .f32⟩
  | .hbm, ⟨58, _⟩ => ⟨S512x32768, .f32⟩
  | .hbm, ⟨59, _⟩ => ⟨S512x64x64x8, .f32⟩
  | .hbm, ⟨60, _⟩ => ⟨S64x512x64x8, .f32⟩
  | .hbm, ⟨61, _⟩ => ⟨S64x512x64x8, .f32⟩
  | .hbm, ⟨62, _⟩ => ⟨S2048x1024, .f32⟩
  | .hbm, ⟨63, _⟩ => ⟨S512x1024, .f32⟩
  | .hbm, ⟨64, _⟩ => ⟨S1024x64x64x8, .f32⟩
  | .hbm, ⟨65, _⟩ => ⟨S8x64x64x1024, .f32⟩
  | .hbm, ⟨66, _⟩ => ⟨S64x32x16x1024, .f32⟩
  | .hbm, ⟨67, _⟩ => ⟨S64x64x8x1024, .f32⟩
  | .hbm, ⟨68, _⟩ => ⟨S8x64x64x1024, .f32⟩
  | .hbm, ⟨69, _⟩ => ⟨S8x64x64x1024, .f32⟩
  | .hbm, ⟨70, _⟩ => ⟨S8x1x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S_, .f32⟩
  | .hbm, ⟨77, _⟩ => ⟨S8x4096, .f32⟩
  | .hbm, ⟨78, _⟩ => ⟨S8x4096x1, .f32⟩
  | .hbm, ⟨79, _⟩ => ⟨S_, .f32⟩
  | .hbm, ⟨80, _⟩ => ⟨S8x4096x1, .f32⟩
  | .hbm, ⟨81, _⟩ => ⟨S8x4096x1, .f32⟩
  | .hbm, ⟨82, _⟩ => ⟨S_, .f32⟩
  | .hbm, ⟨83, _⟩ => ⟨S8x4096x1, .f32⟩
  | .hbm, ⟨84, _⟩ => ⟨S8x4096x1, .f32⟩
  | .hbm, ⟨85, _⟩ => ⟨S8x4096x1, .f32⟩
  | .hbm, ⟨86, _⟩ => ⟨S8x4096x1024, .f32⟩
  | .hbm, ⟨87, _⟩ => ⟨S8x4096x1024, .f32⟩
  | .hbm, ⟨88, _⟩ => ⟨S1x1x1024, .f32⟩
  | .hbm, ⟨89, _⟩ => ⟨S8x4096x1024, .f32⟩
  | .hbm, ⟨90, _⟩ => ⟨S8x4096x1024, .f32⟩
  | _, _ => ⟨S64x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_2 : Ref sig .tc := ⟨.hbm, 76, rfl⟩
abbrev main_v52 : Ref sig .tc := ⟨.hbm, 77, rfl⟩
abbrev main_v53 : Ref sig .tc := ⟨.hbm, 78, rfl⟩
abbrev main_cst_3 : Ref sig .tc := ⟨.hbm, 79, rfl⟩
abbrev main_v54 : Ref sig .tc := ⟨.hbm, 80, rfl⟩
abbrev main_v55 : Ref sig .tc := ⟨.hbm, 81, rfl⟩
abbrev main_cst_4 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== Kernel6.lean ====
abbrev S8x256x1024 : Shape := ⟨3, ![8, 256, 1024]⟩
abbrev S1x1024 : Shape := ⟨2, ![1, 1024]⟩
abbrev S1024 : Shape := ⟨1, ![1024]⟩
abbrev S2048x1024 : Shape := ⟨2, ![2048, 1024]⟩
abbrev S_ : Shape := ⟨0, ![]⟩
abbrev S8x1024 : Shape := ⟨2, ![8, 1024]⟩
abbrev S256x8x1024 : Shape := ⟨3, ![256, 8, 1024]⟩
abbrev S16x8x16x1024 : Shape := ⟨4, ![16, 8, 16, 1024]⟩
abbrev S16x1024x128 : Shape := ⟨3, ![16, 1024, 128]⟩
abbrev S16x1x16x1024 : Shape := ⟨4, ![16, 1, 16, 1024]⟩
abbrev S1024x1024 : Shape := ⟨2, ![1024, 1024]⟩
abbrev S2x1024x128 : Shape := ⟨3, ![2, 1024, 128]⟩
abbrev S16x16x1024 : Shape := ⟨3, ![16, 16, 1024]⟩
abbrev S32x8x1024 : Shape := ⟨3, ![32, 8, 1024]⟩
abbrev S32x8 : Shape := ⟨2, ![32, 8]⟩
abbrev S32x8x1 : Shape := ⟨3, ![32, 8, 1]⟩
abbrev S1x8x1024 : Shape := ⟨3, ![1, 8, 1024]⟩
abbrev S16x8x1024 : Shape := ⟨3, ![16, 8, 1024]⟩
abbrev S128x1024 : Shape := ⟨2, ![128, 1024]⟩
abbrev S1024x128 : Shape := ⟨2, ![1024, 128]⟩
abbrev S1x1024x128 : Shape := ⟨3, ![1, 1024, 128]⟩

abbrev nBuf : Space → Nat
  | .hbm => 15
  | .vmem => 7
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1024, .f32⟩
  | .hbm, ⟨3, _⟩ => ⟨S1024, .f32⟩
  | .hbm, ⟨4, _⟩ => ⟨S2048x1024, .bf16⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S8x1024, .f32⟩
  | .hbm, ⟨11, _⟩ => ⟨S8x1024, .f32⟩
  | .hbm, ⟨12, _⟩ => ⟨S256x8x1024, .f32⟩
  | .hbm, ⟨13, _⟩ => ⟨S16x8x16x1024, .f32⟩
  | .hbm, ⟨14, _⟩ => ⟨S16x1024x128, .bf16⟩
  | .local _ .vmem, ⟨0, _⟩ => ⟨S16x1x16x1024, .f32⟩
  | .local _ .vmem, ⟨1, _⟩ => ⟨S16x1x16x1024, .f32⟩
  | .local _ .vmem, ⟨2, _⟩ => ⟨S8x1024, .f32⟩
  | .local _ .vmem, ⟨3, _⟩ => ⟨S8x1024, .f32⟩
  | .local _ .vmem, ⟨4, _⟩ => ⟨S1024x1024, .bf16⟩
  | .local _ .vmem, ⟨5, _⟩ => ⟨S2x1024x128, .bf16⟩
  | .local _ .vmem, ⟨6, _⟩ => ⟨S2x1024x128, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8x256x1024 : Shape := ⟨3, ![8, 256, 1024]⟩
abbrev S1x1024 : Shape := ⟨2, ![1, 1024]⟩
abbrev S1024 : Shape := ⟨1, ![1024]⟩
abbrev S2048x1024 : Shape := ⟨2, ![2048, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x16x16x1024 : Shape := ⟨4, ![8, 16, 16, 1024]⟩
abbrev S1024x1024 : Shape := ⟨2, ![1024, 1024]⟩
abbrev S1024x8x16x16 : Shape := ⟨4, ![1024, 8, 16, 16]⟩
abbrev S16x1024x16x8 : Shape := ⟨4, ![16, 1024, 16, 8]⟩
abbrev S16x1024x128 : Shape := ⟨3, ![16, 1024, 128]⟩

abbrev nBuf : Space → Nat
  | .hbm => 38
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1024, .f32⟩
  | .hbm, ⟨3, _⟩ => ⟨S1024, .f32⟩
  | .hbm, ⟨4, _⟩ => ⟨S2048x1024, .bf16⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1024, .f32⟩
  | .hbm, ⟨19, _⟩ => ⟨S1x1x1024, .f32⟩
  | .hbm, ⟨20, _⟩ => ⟨S8x256x1024, .f32⟩
  | .hbm, ⟨21, _⟩ => ⟨S8x256x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1x1024, .f32⟩
  | .hbm, ⟨26, _⟩ => ⟨S8x256x1024, .f32⟩
  | .hbm, ⟨27, _⟩ => ⟨S8x256x1024, .f32⟩
  | .hbm, ⟨28, _⟩ => ⟨S1x1x1024, .f32⟩
  | .hbm, ⟨29, _⟩ => ⟨S8x256x1024, .f32⟩
  | .hbm, ⟨30, _⟩ => ⟨S8x256x1024, .f32⟩
  | .hbm, ⟨31, _⟩ => ⟨S8x16x16x1024, .f32⟩
  | .hbm, ⟨32, _⟩ => ⟨S1024x1024, .bf16⟩
  | .hbm, ⟨33, _⟩ => ⟨S1024x1024, .f32⟩
  | .hbm, ⟨34, _⟩ => ⟨S1024x8x16x16, .f32⟩
  | .hbm, ⟨35, _⟩ => ⟨S16x1024x16x8, .f32⟩
  | .hbm, ⟨36, _⟩ => ⟨S16x1024x128, .f32⟩
  | .hbm, ⟨37, _⟩ => ⟨S16x1024x128, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel7.lean ====
abbrev S16x1024 : Shape := ⟨2, ![16, 1024]⟩
abbrev S1x1024x3072 : Shape := ⟨3, ![1, 1024, 3072]⟩
abbrev S1x3072 : Shape := ⟨2, ![1, 3072]⟩
abbrev S1024x3072 : Shape := ⟨2, ![1024, 3072]⟩
abbrev S3072 : Shape := ⟨1, ![3072]⟩
abbrev S16x3072 : Shape := ⟨2, ![16, 3072]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1x1024x3072, .f32⟩
  | .hbm, ⟨2, _⟩ => ⟨S1x3072, .f32⟩
  | .hbm, ⟨3, _⟩ => ⟨S1024x3072, .f32⟩
  | .hbm, ⟨4, _⟩ => ⟨S3072, .f32⟩
  | .hbm, ⟨5, _⟩ => ⟨S1x3072, .f32⟩
  | .hbm, ⟨6, _⟩ => ⟨S16x3072, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16x1024 : Shape := ⟨2, ![16, 1024]⟩
abbrev S1x1024x3072 : Shape := ⟨3, ![1, 1024, 3072]⟩
abbrev S1x3072 : Shape := ⟨2, ![1, 3072]⟩
abbrev S_ : Shape := ⟨0, ![]⟩
abbrev S1024x3072 : Shape := ⟨2, ![1024, 3072]⟩
abbrev S16x3072 : Shape := ⟨2, ![16, 3072]⟩
abbrev S3072 : Shape := ⟨1, ![3072]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x3072, .f32⟩
  | .hbm, ⟨2, _⟩ => ⟨S1x3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x3072, .f32⟩
  | .hbm, ⟨13, _⟩ => ⟨S16x3072, .f32⟩
  | .hbm, ⟨14, _⟩ => ⟨S3072, .f32⟩
  | .hbm, ⟨15, _⟩ => ⟨S1x3072, .f32⟩
  | .hbm, ⟨16, _⟩ => ⟨S16x3072, .f32⟩
  | .hbm, ⟨17, _⟩ => ⟨S16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel8.lean ====
abbrev S1x1024x5120 : Shape := ⟨3, ![1, 1024, 5120]⟩
abbrev S1024x5120 : Shape := ⟨2, ![1024, 5120]⟩
abbrev S3072x1024 : Shape := ⟨2, ![3072, 1024]⟩
abbrev S1024x512 : Shape := ⟨2, ![1024, 512]⟩
abbrev S512x1024 : Shape := ⟨2, ![512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1x1024x5120, .f32⟩
  | .hbm, ⟨1, _⟩ => ⟨S1024x5120, .f32⟩
  | .hbm, ⟨2, _⟩ => ⟨S3072x1024, .bf16⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | _, _ => ⟨S1x1024x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference8Ideal.lean ====
abbrev S1x1024x5120 : Shape := ⟨3, ![1, 1024, 5120]⟩
abbrev S1x1024x3072 : Shape := ⟨3, ![1, 1024, 3072]⟩
abbrev S1024x3072 : Shape := ⟨2, ![1024, 3072]⟩
abbrev S3072x1024 : Shape := ⟨2, ![3072, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1x1024x5120, .f32⟩
  | .hbm, ⟨1, _⟩ => ⟨S1x1024x3072, .f32⟩
  | .hbm, ⟨2, _⟩ => ⟨S1024x3072, .f32⟩
  | .hbm, ⟨3, _⟩ => ⟨S3072x1024, .f32⟩
  | .hbm, ⟨4, _⟩ => ⟨S3072x1024, .bf16⟩
  | _, _ => ⟨S1x1024x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Kernel9.lean ====
abbrev S1x1024x5120 : Shape := ⟨3, ![1, 1024, 5120]⟩
abbrev S1024x5120 : Shape := ⟨2, ![1024, 5120]⟩
abbrev S2048x1024 : Shape := ⟨2, ![2048, 1024]⟩
abbrev S1024x512 : Shape := ⟨2, ![1024, 512]⟩
abbrev S512x1024 : Shape := ⟨2, ![512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1x1024x5120, .f32⟩
  | .hbm, ⟨1, _⟩ => ⟨S1024x5120, .f32⟩
  | .hbm, ⟨2, _⟩ => ⟨S2048x1024, .bf16⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | _, _ => ⟨S1x1024x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference9Ideal.lean ====
abbrev S1x1024x5120 : Shape := ⟨3, ![1, 1024, 5120]⟩
abbrev S1x1024x2048 : Shape := ⟨3, ![1, 1024, 2048]⟩
abbrev S1024x2048 : Shape := ⟨2, ![1024, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1x1024x5120, .f32⟩
  | .hbm, ⟨1, _⟩ => ⟨S1x1024x2048, .f32⟩
  | .hbm, ⟨2, _⟩ => ⟨S1024x2048, .f32⟩
  | .hbm, ⟨3, _⟩ => ⟨S2048x1024, .f32⟩
  | .hbm, ⟨4, _⟩ => ⟨S2048x1024, .bf16⟩
  | _, _ => ⟨S1x1024x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Kernel10.lean ====
abbrev S1x1024x1024 : Shape := ⟨3, ![1, 1024, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024x1024, .bf16⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference10Ideal.lean ====
abbrev S1x1024x1024 : Shape := ⟨3, ![1, 1024, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel11.lean ====
abbrev S1x2048x1024 : Shape := ⟨3, ![1, 2048, 1024]⟩
abbrev S2048x1024 : Shape := ⟨2, ![2048, 1024]⟩
abbrev S512x1024 : Shape := ⟨2, ![512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1x2048x1024, .f32⟩
  | .hbm, ⟨1, _⟩ => ⟨S2048x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference11Ideal.lean ====
abbrev S1x2048x1024 : Shape := ⟨3, ![1, 2048, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S2048x1024, .f32⟩
  | .hbm, ⟨2, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel12.lean ====
abbrev S2x64x64 : Shape := ⟨3, ![2, 64, 64]⟩
abbrev S2x64 : Shape := ⟨2, ![2, 64]⟩
abbrev S2x64x64x16 : Shape := ⟨4, ![2, 64, 64, 16]⟩
abbrev S2x64x16x64 : Shape := ⟨4, ![2, 64, 16, 64]⟩
abbrev S2x64x128 : Shape := ⟨3, ![2, 64, 128]⟩
abbrev S2x64x1 : Shape := ⟨3, ![2, 64, 1]⟩
abbrev S2x64x1x128 : Shape := ⟨4, ![2, 64, 1, 128]⟩
abbrev S2x64x3x128 : Shape := ⟨4, ![2, 64, 3, 128]⟩
abbrev S_ : Shape := ⟨0, ![]⟩
abbrev S2x64x8x128 : Shape := ⟨4, ![2, 64, 8, 128]⟩
abbrev S64x2x8x128 : Shape := ⟨4, ![64, 2, 8, 128]⟩
abbrev S2x64x16x128 : Shape := ⟨4, ![2, 64, 16, 128]⟩
abbrev S2x64x1x16x128 : Shape := ⟨5, ![2, 64, 1, 16, 128]⟩
abbrev S2x64x2x16x128 : Shape := ⟨5, ![2, 64, 2, 16, 128]⟩
abbrev S64x2x2x16x128 : Shape := ⟨5, ![64, 2, 2, 16, 128]⟩
abbrev S64x512x256 : Shape := ⟨3, ![64, 512, 256]⟩
abbrev S64x256x256 : Shape := ⟨3, ![64, 256, 256]⟩
abbrev S64x2x2x8x128 : Shape := ⟨5, ![64, 2, 2, 8, 128]⟩
abbrev S1x2x8x128 : Shape := ⟨4, ![1, 2, 8, 128]⟩
abbrev S1x2x2x16x128 : Shape := ⟨5, ![1, 2, 2, 16, 128]⟩
abbrev S1x512x256 : Shape := ⟨3, ![1, 512, 256]⟩
abbrev S1x256x256 : Shape := ⟨3, ![1, 256, 256]⟩
abbrev S1x2x2x8x128 : Shape := ⟨5, ![1, 2, 2, 8, 128]⟩
abbrev S2x24x128 : Shape := ⟨3, ![2, 24, 128]⟩
abbrev S512x256 : Shape := ⟨2, ![512, 256]⟩
abbrev S1x128 : Shape := ⟨2, ![1, 128]⟩
abbrev S1x256 : Shape := ⟨2, ![1, 256]⟩
abbrev S24x1 : Shape := ⟨2, ![24, 1]⟩
abbrev S256x256 : Shape := ⟨2, ![256, 256]⟩
abbrev S1x1x1x128 : Shape := ⟨4, ![1, 1, 1, 128]⟩
abbrev S24x128 : Shape := ⟨2, ![24, 128]⟩
abbrev S1x24x128 : Shape := ⟨3, ![1, 24, 128]⟩
abbrev S1x8x128 : Shape := ⟨3, ![1, 8, 128]⟩
abbrev S8x128 : Shape := ⟨2, ![8, 128]⟩
abbrev S1x1x1x8x128 : Shape := ⟨5, ![1, 1, 1, 8, 128]⟩
abbrev S1x1x128 : Shape := ⟨3, ![1, 1, 128]⟩
abbrev S1x1x1x16x128 : Shape := ⟨5, ![1, 1, 1, 16, 128]⟩
abbrev S16x128 : Shape := ⟨2, ![16, 128]⟩
abbrev S256x128 : Shape := ⟨2, ![256, 128]⟩
abbrev S1x256x128 : Shape := ⟨3, ![1, 256, 128]⟩
abbrev S128x256 : Shape := ⟨2, ![128, 256]⟩
abbrev S1x128x256 : Shape := ⟨3, ![1, 128, 256]⟩

abbrev nBuf : Space → Nat
  | .hbm => 36
  | .vmem => 14
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64, .f32⟩
  | .hbm, ⟨3, _⟩ => ⟨S2x64x64x16, .f32⟩
  | .hbm, ⟨4, _⟩ => ⟨S2x64x64x16, .f32⟩
  | .hbm, ⟨5, _⟩ => ⟨S2x64x16x64, .f32⟩
  | .hbm, ⟨6, _⟩ => ⟨S2x64x16x64, .f32⟩
  | .hbm, ⟨7, _⟩ => ⟨S2x64x128, .f32⟩
  | .hbm, ⟨8, _⟩ => ⟨S2x64x128, .f32⟩
  | .hbm, ⟨9, _⟩ => ⟨S2x64x1, .f32⟩
  | .hbm, ⟨10, _⟩ => ⟨S2x64x128, .f32⟩
  | .hbm, ⟨11, _⟩ => ⟨S2x64x1x128, .f32⟩
  | .hbm, ⟨12, _⟩ => ⟨S2x64x1x128, .f32⟩
  | .hbm, ⟨13, _⟩ => ⟨S2x64x1x128, .f32⟩
  | .hbm, ⟨14, _⟩ => ⟨S2x64x3x128, .f32⟩
  | .hbm, ⟨15, _⟩ => ⟨S_, .i32⟩
  | .hbm, ⟨16, _⟩ => ⟨S_, .f32⟩
  | .hbm, ⟨17, _⟩ => ⟨S2x64x8x128, .f32⟩
  | .hbm, ⟨18, _⟩ => ⟨S64x2x8x128, .f32⟩
  | .hbm, ⟨19, _⟩ => ⟨S2x64x16x64, .f32⟩
  | .hbm, ⟨20, _⟩ => ⟨S2x64x16x128, .f32⟩
  | .hbm, ⟨21, _⟩ => ⟨S2x64x16x64, .f32⟩
  | .hbm, ⟨22, _⟩ => ⟨S2x64x16x128, .f32⟩
  | .hbm, ⟨23, _⟩ => ⟨S2x64x1x16x128, .f32⟩
  | .hbm, ⟨24, _⟩ => ⟨S2x64x1x16x128, .f32⟩
  | .hbm, ⟨25, _⟩ => ⟨S2x64x2x16x128, .f32⟩
  | .hbm, ⟨26, _⟩ => ⟨S2x64x16x128, .f32⟩
  | .hbm, ⟨27, _⟩ => ⟨S2x64x16x128, .f32⟩
  | .hbm, ⟨28, _⟩ => ⟨S2x64x1x16x128, .f32⟩
  | .hbm, ⟨29, _⟩ => ⟨S2x64x1x16x128, .f32⟩
  | .hbm, ⟨30, _⟩ => ⟨S2x64x2x16x128, .f32⟩
  | .hbm, ⟨31, _⟩ => ⟨S64x2x2x16x128, .f32⟩
  | .hbm, ⟨32, _⟩ => ⟨S64x2x2x16x128, .f32⟩
  | .hbm, ⟨33, _⟩ => ⟨S64x512x256, .bf16⟩
  | .hbm, ⟨34, _⟩ => ⟨S64x256x256, .bf16⟩
  | .hbm, ⟨35, _⟩ => ⟨S64x2x2x8x128, .f32⟩
  | .local _ .vmem, ⟨0, _⟩ => ⟨S1x2x8x128, .f32⟩
  | .local _ .vmem, ⟨1, _⟩ => ⟨S1x2x8x128, .f32⟩
  | .local _ .vmem, ⟨2, _⟩ => ⟨S1x2x2x16x128, .f32⟩
  | .local _ .vmem, ⟨3, _⟩ => ⟨S1x2x2x16x128, .f32⟩
  | .local _ .vmem, ⟨4, _⟩ => ⟨S1x2x2x16x128, .f32⟩
  | .local _ .vmem, ⟨5, _⟩ => ⟨S1x2x2x16x128, .f32⟩
  | .local _ .vmem, ⟨6, _⟩ => ⟨S1x512x256, .bf16⟩
  | .local _ .vmem, ⟨7, _⟩ => ⟨S1x512x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x2x2x8x128, .f32⟩
  | .local _ .vmem, ⟨11, _⟩ => ⟨S1x2x2x8x128, .f32⟩
  | .local _ .vmem, ⟨12, _⟩ => ⟨S2x24x128, .f32⟩
  | .local _ .vmem, ⟨13, _⟩ => ⟨S512x256, .f32⟩
  | _, _ => ⟨S2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x2x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x2x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x2x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x2x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S2x64x64 : Shape := ⟨3, ![2, 64, 64]⟩
abbrev S2x64 : Shape := ⟨2, ![2, 64]⟩
abbrev S2x64x64x16 : Shape := ⟨4, ![2, 64, 64, 16]⟩
abbrev S2x64x16x64 : Shape := ⟨4, ![2, 64, 16, 64]⟩
abbrev S2x64x1 : Shape := ⟨3, ![2, 64, 1]⟩
abbrev S16 : Shape := ⟨1, ![16]⟩
abbrev S_ : Shape := ⟨0, ![]⟩
abbrev S1x16 : Shape := ⟨2, ![1, 16]⟩
abbrev S2x16 : Shape := ⟨2, ![2, 16]⟩
abbrev S2x1x16x1 : Shape := ⟨4, ![2, 1, 16, 1]⟩
abbrev S2x64x1x64 : Shape := ⟨4, ![2, 64, 1, 64]⟩
abbrev S2x64x16x1x64 : Shape := ⟨5, ![2, 64, 16, 1, 64]⟩
abbrev S2x64x1x16x64 : Shape := ⟨5, ![2, 64, 1, 16, 64]⟩
abbrev S2x64x16x16x64 : Shape := ⟨5, ![2, 64, 16, 16, 64]⟩
abbrev S2x64x16x16x128 : Shape := ⟨5, ![2, 64, 16, 16, 128]⟩
abbrev S64x16x16x2x128 : Shape := ⟨5, ![64, 16, 16, 2, 128]⟩
abbrev S64x256x256 : Shape := ⟨3, ![64, 256, 256]⟩
abbrev S8 : Shape := ⟨1, ![8]⟩
abbrev S8x1 : Shape := ⟨2, ![8, 1]⟩
abbrev S1x1x8x1 : Shape := ⟨4, ![1, 1, 8, 1]⟩
abbrev S2x64x8x64 : Shape := ⟨4, ![2, 64, 8, 64]⟩
abbrev S2x64x1x8x64 : Shape := ⟨5, ![2, 64, 1, 8, 64]⟩
abbrev S2x64x2x8x64 : Shape := ⟨5, ![2, 64, 2, 8, 64]⟩
abbrev S2x64x2x8x128 : Shape := ⟨5, ![2, 64, 2, 8, 128]⟩
abbrev S64x2x2x8x128 : Shape := ⟨5, ![64, 2, 2, 8, 128]⟩

abbrev nBuf : Space → Nat
  | .hbm => 91
  | .vmem => 0
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64, .f32⟩
  | .hbm, ⟨3, _⟩ => ⟨S2x64x64x16, .f32⟩
  | .hbm, ⟨4, _⟩ => ⟨S2x64x64x16, .f32⟩
  | .hbm, ⟨5, _⟩ => ⟨S2x64x16x64, .f32⟩
  | .hbm, ⟨6, _⟩ => ⟨S2x64x16x64, .f32⟩
  | .hbm, ⟨7, _⟩ => ⟨S2x64, .f32⟩
  | .hbm, ⟨8, _⟩ => ⟨S2x64x1, .f32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S1x16, .i32⟩
  | .hbm, ⟨17, _⟩ => ⟨S1x16, .i32⟩
  | .hbm, ⟨18, _⟩ => ⟨S2x16, .i32⟩
  | .hbm, ⟨19, _⟩ => ⟨S2x16, .f32⟩
  | .hbm, ⟨20, _⟩ => ⟨S2x1x16x1, .f32⟩
  | .hbm, ⟨21, _⟩ => ⟨S2x64x64, .f32⟩
  | .hbm, ⟨22, _⟩ => ⟨S2x64x64, .f32⟩
  | .hbm, ⟨23, _⟩ => ⟨S2x64x1x64, .f32⟩
  | .hbm, ⟨24, _⟩ => ⟨S2x64x16x64, .f32⟩
  | .hbm, ⟨25, _⟩ => ⟨S2x64x16x64, .f32⟩
  | .hbm, ⟨26, _⟩ => ⟨S2x64x16x64, .f32⟩
  | .hbm, ⟨27, _⟩ => ⟨S2x64x16x64, .f32⟩
  | .hbm, ⟨28, _⟩ => ⟨S2x64x64, .f32⟩
  | .hbm, ⟨29, _⟩ => ⟨S2x64x64, .f32⟩
  | .hbm, ⟨30, _⟩ => ⟨S2x64x1x64, .f32⟩
  | .hbm, ⟨31, _⟩ => ⟨S2x64x16x64, .f32⟩
  | .hbm, ⟨32, _⟩ => ⟨S2x64x16x64, .f32⟩
  | .hbm, ⟨33, _⟩ => ⟨S2x64x16x64, .f32⟩
  | .hbm, ⟨34, _⟩ => ⟨S2x64x16x64, .f32⟩
  | .hbm, ⟨35, _⟩ => ⟨S2x64x16x64, .f32⟩
  | .hbm, ⟨36, _⟩ => ⟨S2x64x16x1x64, .f32⟩
  | .hbm, ⟨37, _⟩ => ⟨S2x64x16x64, .f32⟩
  | .hbm, ⟨38, _⟩ => ⟨S2x64x16x64, .f32⟩
  | .hbm, ⟨39, _⟩ => ⟨S2x64x16x1x64, .f32⟩
  | .hbm, ⟨40, _⟩ => ⟨S2x64x1x16x64, .f32⟩
  | .hbm, ⟨41, _⟩ => ⟨S2x64x1x16x64, .f32⟩
  | .hbm, ⟨42, _⟩ => ⟨S2x64x16x16x64, .f32⟩
  | .hbm, ⟨43, _⟩ => ⟨S2x64x16x16x64, .f32⟩
  | .hbm, ⟨44, _⟩ => ⟨S2x64x16x16x64, .f32⟩
  | .hbm, ⟨45, _⟩ => ⟨S2x64x16x16x64, .f32⟩
  | .hbm, ⟨46, _⟩ => ⟨S2x64x16x16x64, .f32⟩
  | .hbm, ⟨47, _⟩ => ⟨S2x64x16x16x64, .f32⟩
  | .hbm, ⟨48, _⟩ => ⟨S2x64x16x16x64, .f32⟩
  | .hbm, ⟨49, _⟩ => ⟨S2x64x16x16x64, .f32⟩
  | .hbm, ⟨50, _⟩ => ⟨S2x64x16x16x64, .f32⟩
  | .hbm, ⟨51, _⟩ => ⟨S2x64x16x16x64, .f32⟩
  | .hbm, ⟨52, _⟩ => ⟨S2x64x16x16x64, .f32⟩
  | .hbm, ⟨53, _⟩ => ⟨S2x64x16x16x64, .f32⟩
  | .hbm, ⟨54, _⟩ => ⟨S2x64x16x16x64, .f32⟩
  | .hbm, ⟨55, _⟩ => ⟨S2x64x16x16x64, .f32⟩
  | .hbm, ⟨56, _⟩ => ⟨S2x64x16x16x64, .f32⟩
  | .hbm, ⟨57, _⟩ => ⟨S2x64x16x16x128, .f32⟩
  | .hbm, ⟨58, _⟩ => ⟨S64x16x16x2x128, .f32⟩
  | .hbm, ⟨59, _⟩ => ⟨S64x256x256, .f32⟩
  | .hbm, ⟨60, _⟩ => ⟨S64x256x256, .bf16⟩
  | .hbm, ⟨61, _⟩ => ⟨S8, .i32⟩
  | .hbm, ⟨62, _⟩ => ⟨S_, .i32⟩
  | .hbm, ⟨63, _⟩ => ⟨S8, .i32⟩
  | .hbm, ⟨64, _⟩ => ⟨S8, .i32⟩
  | .hbm, ⟨65, _⟩ => ⟨S8, .f32⟩
  | .hbm, ⟨66, _⟩ => ⟨S8x1, .f32⟩
  | .hbm, ⟨67, _⟩ => ⟨S2x64x64, .f32⟩
  | .hbm, ⟨68, _⟩ => ⟨S2x64x64, .f32⟩
  | .hbm, ⟨69, _⟩ => ⟨S2x64x1x64, .f32⟩
  | .hbm, ⟨70, _⟩ => ⟨S1x1x8x1, .f32⟩
  | .hbm, ⟨71, _⟩ => ⟨S2x64x8x64, .f32⟩
  | .hbm, ⟨72, _⟩ => ⟨S2x64x8x64, .f32⟩
  | .hbm, ⟨73, _⟩ => ⟨S2x64x8x64, .f32⟩
  | .hbm, ⟨74, _⟩ => ⟨S2x64x8x64, .f32⟩
  | .hbm, ⟨75, _⟩ => ⟨S2x64x64, .f32⟩
  | .hbm, ⟨76, _⟩ => ⟨S2x64x64, .f32⟩
  | .hbm, ⟨77, _⟩ => ⟨S2x64x1x64, .f32⟩
  | .hbm, ⟨78, _⟩ => ⟨S1x1x8x1, .f32⟩
  | .hbm, ⟨79, _⟩ => ⟨S2x64x8x64, .f32⟩
  | .hbm, ⟨80, _⟩ => ⟨S2x64x8x64, .f32⟩
  | .hbm, ⟨81, _⟩ => ⟨S2x64x8x64, .f32⟩
  | .hbm, ⟨82, _⟩ => ⟨S2x64x8x64, .f32⟩
  | .hbm, ⟨83, _⟩ => ⟨S2x64x8x64, .f32⟩
  | .hbm, ⟨84, _⟩ => ⟨S2x64x8x64, .f32⟩
  | .hbm, ⟨85, _⟩ => ⟨S2x64x8x64, .f32⟩
  | .hbm, ⟨86, _⟩ => ⟨S2x64x1x8x64, .f32⟩
  | .hbm, ⟨87, _⟩ => ⟨S2x64x1x8x64, .f32⟩
  | .hbm, ⟨88, _⟩ => ⟨S2x64x2x8x64, .f32⟩
  | .hbm, ⟨89, _⟩ => ⟨S2x64x2x8x128, .f32⟩
  | .hbm, ⟨90, _⟩ => ⟨S64x2x2x8x128, .f32⟩
  | _, _ => ⟨S2x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_c_1 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩

abbrev nD : Nat := 1
abbrev τ : Topo := Topo.v7x

variable {F : FTy → Type} [FloatOps F]
-- ==== Proof.KernelLoops.lean ====
module

public import proofs.«01_k».proof.Proof.Gen.Kernel.Loops

@[expose] public section

set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Row (in the lanes' order) of a chunk: chunk `n` of the sequence stands at `(n mod 4) * 64 + n / 4`, eight rows each. -/
abbrev laneRow (n : ℕ) : ℕ := ((n % 4) * 64 + n / 4) * 8

/-! The offsets that a step of the latent scan computes from its counter by masks and shifts, in closed form. -/

theorem k0_off5_closed : ∀ k : Fin k0_t2_loop.trips, k0_off5 k = ![0, 0, ((k.val % 4) * 64 + k.val / 4) * 8, 0] := by decide +kernel
instance closedOff_k0_off5 (k : Fin k0_t2_loop.trips) : ClosedOff (k0_off5 k) := ⟨![0, 0, ((k.val % 4) * 64 + k.val / 4) * 8, 0], k0_off5_closed k⟩

theorem k0_off6_closed : ∀ k : Fin k0_t2_loop.trips, k0_off6 k = ![0, 1, ((k.val % 4) * 64 + k.val / 4) * 8, 0] := by decide +kernel
instance closedOff_k0_off6 (k : Fin k0_t2_loop.trips) : ClosedOff (k0_off6 k) := ⟨![0, 1, ((k.val % 4) * 64 + k.val / 4) * 8, 0], k0_off6_closed k⟩

theorem k0_off7_closed : ∀ k : Fin k0_t2_loop.trips, k0_off7 k = ![1, 0, (((255 - k.val) % 4) * 64 + (255 - k.val) / 4) * 8, 0] := by decide +kernel
instance closedOff_k0_off7 (k : Fin k0_t2_loop.trips) : ClosedOff (k0_off7 k) := ⟨![1, 0, (((255 - k.val) % 4) * 64 + (255 - k.val) / 4) * 8, 0], k0_off7_closed k⟩

theorem k0_off8_closed : ∀ k : Fin k0_t2_loop.trips, k0_off8 k = ![1, 1, (((255 - k.val) % 4) * 64 + (255 - k.val) / 4) * 8, 0] := by decide +kernel
instance closedOff_k0_off8 (k : Fin k0_t2_loop.trips) : ClosedOff (k0_off8 k) := ⟨![1, 1, (((255 - k.val) % 4) * 64 + (255 - k.val) / 4) * 8, 0], k0_off8_closed k⟩

theorem k0_off9_closed : ∀ k : Fin k0_t2_loop.trips, k0_off9 k = ![0, 0, 128 + ((k.val % 4) * 64 + k.val / 4) * 8, 0] := by decide +kernel
instance closedOff_k0_off9 (k : Fin k0_t2_loop.trips) : ClosedOff (k0_off9 k) := ⟨![0, 0, 128 + ((k.val % 4) * 64 + k.val / 4) * 8, 0], k0_off9_closed k⟩

theorem k0_off10_closed : ∀ k : Fin k0_t2_loop.trips, k0_off10 k = ![0, 1, 128 + ((k.val % 4) * 64 + k.val / 4) * 8, 0] := by decide +kernel
instance closedOff_k0_off10 (k : Fin k0_t2_loop.trips) : ClosedOff (k0_off10 k) := ⟨![0, 1, 128 + ((k.val % 4) * 64 + k.val / 4) * 8, 0], k0_off10_closed k⟩

theorem k0_off11_closed : ∀ k : Fin k0_t2_loop.trips, k0_off11 k = ![1, 0, 128 + (((255 - k.val) % 4) * 64 + (255 - k.val) / 4) * 8, 0] := by decide +kernel
instance closedOff_k0_off11 (k : Fin k0_t2_loop.trips) : ClosedOff (k0_off11 k) := ⟨![1, 0, 128 + (((255 - k.val) % 4) * 64 + (255 - k.val) / 4) * 8, 0], k0_off11_closed k⟩

theorem k0_off12_closed : ∀ k : Fin k0_t2_loop.trips, k0_off12 k = ![1, 1, 128 + (((255 - k.val) % 4) * 64 + (255 - k.val) / 4) * 8, 0] := by decide +kernel
instance closedOff_k0_off12 (k : Fin k0_t2_loop.trips) : ClosedOff (k0_off12 k) := ⟨![1, 1, 128 + (((255 - k.val) % 4) * 64 + (255 - k.val) / 4) * 8, 0], k0_off12_closed k⟩

variable {F : FTy → Type} [FloatOps F]

local notation "𝕄G" => MT nD τ sig Unit (Elt F) ℕ (UR sig nD τ) ℕ

set_option warn.classDefReducibility false in
/-- The latent scan keeps the chunks' contributions as they are and the buffer of stored states at some contents. -/
@[sl_loop] def loopInv_k0_t2 (𝒱 : Variants) (c : Dev nD) (bd : Option 𝒱.V) (E : Set ℕ) (i : grid0.Coords) (arg1 : Memref sig .tc .vmem S16x32x2048 .bf16) (harg1 : arg1.IsWhole) (arg2 : Memref sig .tc .vmem S16x32x128 .bf16) (harg2 : arg2.IsWhole) (arg3 : Memref sig .tc .vmem S2x512x256 .bf16) (harg3 : arg3.IsWhole) (arg4 : Memref sig .tc .vmem S2x256x256 .bf16) (harg4 : arg4.IsWhole) (arg5 : Memref sig .tc .vmem S2x1x2x128 .f32) (harg5 : arg5.IsWhole) (arg6 : Memref sig .tc .vmem S2x256x1 .f32) (harg6 : arg6.IsWhole) (arg7 : Memref sig .tc .vmem S16x32x2048 .bf16) (harg7 : arg7.IsWhole) (arg8 : Memref sig .tc .vmem S2x2x2176x128 .f32) (harg8 : arg8.IsWhole) (arg9 : Memref sig .tc .vmem S2x2x2048x128 .f32) (harg9 : arg9.IsWhole) (arg10 : Memref sig .tc .vmem S2x256x2048 .f32) (harg10 : arg10.IsWhole) (v89 : FVec F S8x128 .f32) (v93 : FVec F S8x128 .f32) (v94 : Vec F S1x1x1x128 .f32) (v98 : Vec F S1x1x1x128 .f32) (init : FVec F S8x128 .f32 × FVec F S8x128 .f32 × FVec F S8x128 .f32 × FVec F S8x128 .f32) (X_arg8 : BufTy.Contents (Elt F) arg8.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 v89 v93 v94 v98 init where
  inv k acc := iprop((arg8.view.loc (c : Thread nD τ) ↦[arg8.view.set]{fullShare} X_arg8) ∗ (∃ f, arg9.view.loc (c : Thread nD τ) ↦[arg9.view.set]{fullShare} f))
  step k acc := by
    have hk : k.val < 256 := Nat.lt_of_lt_of_le k.isLt k0_t2_abs.2.1
    iintro ⟨HR_arg8, ⟨%f_arg9, HW_arg9⟩⟩
    unfold k0_t2_body
    sl_exec
    sl_step
    isplitl [HR_arg8]; · iexact HR_arg8
    iexists _; iexact HW_arg9

end Cert.Kernel.Gen

end
-- ==== Proof.KernelRuns.lean ====
module

public import proofs.«01_k».proof.Proof.Gen.Kernel.Launch
public import proofs.«01_k».proof.Proof.Gen.Kernel.Skeleton
public import proofs.«01_k».proof.Proof.KernelLoops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S16x32x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x32x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1x2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x32x2048 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2x2x2176x128 .f32 := Memref.whole cc0_scratch0
abbrev scM0_1 : Memref sig .tc .vmem S2x2x2048x128 .f32 := Memref.whole cc0_scratch1
abbrev scM0_2 : Memref sig .tc .vmem S2x256x2048 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KernelRun.lean ====
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S16x32x2048 .bf16) (harg1 : arg1.IsWhole) (arg2 : Memref sig .tc .vmem S16x32x128 .bf16) (harg2 : arg2.IsWhole) (arg3 : Memref sig .tc .vmem S2x512x256 .bf16) (harg3 : arg3.IsWhole) (arg4 : Memref sig .tc .vmem S2x256x256 .bf16) (harg4 : arg4.IsWhole) (arg5 : Memref sig .tc .vmem S2x1x2x128 .f32) (harg5 : arg5.IsWhole) (arg6 : Memref sig .tc .vmem S2x256x1 .f32) (harg6 : arg6.IsWhole) (arg7 : Memref sig .tc .vmem S16x32x2048 .bf16) (harg7 : arg7.IsWhole) (arg8 : Memref sig .tc .vmem S2x2x2176x128 .f32) (harg8 : arg8.IsWhole) (arg9 : Memref sig .tc .vmem S2x2x2048x128 .f32) (harg9 : arg9.IsWhole) (arg10 : Memref sig .tc .vmem S2x256x2048 .f32) (harg10 : arg10.IsWhole)
    (x0 : Vec F S16x32x2048 .bf16) (x1 : Vec F S16x32x128 .bf16) (x2 : Vec F S2x512x256 .bf16) (x3 : Vec F S2x256x256 .bf16) (x4 : Vec F S2x1x2x128 .f32) (x5 : Vec F S2x256x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_s5 i arg1 harg1 arg2 harg2 arg3 harg3 arg4 harg4 arg5 harg5 arg6 harg6 arg7 harg7 arg8 harg8 arg9 harg9 arg10 harg10) K := by
    intro E K
    simp only [cc0_s5_eq_skeleton]; unfold cc0_s5_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.KernelFrame.lean ====
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.IdealLoops.lean ====
module

public import proofs.«01_k».proof.Proof.Gen.KernelIdeal.Loops
public import Idealize.ShloMosaic.Lib.VecWindow
public import Idealize.ShloMosaic.Lib.WritesUnit
public import Idealize.ShloMosaic.Lib.Pointwise
public import Idealize.ShloMosaic.Lib.Tactic.CleanTypes

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Row (in the lanes' order) of a chunk: chunk `n` of the sequence stands at `(n mod 4) * 64 + n / 4`, eight rows each. -/
abbrev laneRow (n : ℕ) : ℕ := ((n % 4) * 64 + n / 4) * 8

/-! The offsets that a step of the latent scan computes from its counter by masks and shifts, in closed form. -/

theorem k0_off5_closed : ∀ k : Fin k0_t2_loop.trips, k0_off5 k = ![0, 0, ((k.val % 4) * 64 + k.val / 4) * 8, 0] := by decide +kernel
instance closedOff_k0_off5 (k : Fin k0_t2_loop.trips) : ClosedOff (k0_off5 k) := ⟨![0, 0, ((k.val % 4) * 64 + k.val / 4) * 8, 0], k0_off5_closed k⟩

theorem k0_off6_closed : ∀ k : Fin k0_t2_loop.trips, k0_off6 k = ![0, 1, ((k.val % 4) * 64 + k.val / 4) * 8, 0] := by decide +kernel
instance closedOff_k0_off6 (k : Fin k0_t2_loop.trips) : ClosedOff (k0_off6 k) := ⟨![0, 1, ((k.val % 4) * 64 + k.val / 4) * 8, 0], k0_off6_closed k⟩

theorem k0_off7_closed : ∀ k : Fin k0_t2_loop.trips, k0_off7 k = ![1, 0, (((255 - k.val) % 4) * 64 + (255 - k.val) / 4) * 8, 0] := by decide +kernel
instance closedOff_k0_off7 (k : Fin k0_t2_loop.trips) : ClosedOff (k0_off7 k) := ⟨![1, 0, (((255 - k.val) % 4) * 64 + (255 - k.val) / 4) * 8, 0], k0_off7_closed k⟩

theorem k0_off8_closed : ∀ k : Fin k0_t2_loop.trips, k0_off8 k = ![1, 1, (((255 - k.val) % 4) * 64 + (255 - k.val) / 4) * 8, 0] := by decide +kernel
instance closedOff_k0_off8 (k : Fin k0_t2_loop.trips) : ClosedOff (k0_off8 k) := ⟨![1, 1, (((255 - k.val) % 4) * 64 + (255 - k.val) / 4) * 8, 0], k0_off8_closed k⟩

theorem k0_off9_closed : ∀ k : Fin k0_t2_loop.trips, k0_off9 k = ![0, 0, 128 + ((k.val % 4) * 64 + k.val / 4) * 8, 0] := by decide +kernel
instance closedOff_k0_off9 (k : Fin k0_t2_loop.trips) : ClosedOff (k0_off9 k) := ⟨![0, 0, 128 + ((k.val % 4) * 64 + k.val / 4) * 8, 0], k0_off9_closed k⟩

theorem k0_off10_closed : ∀ k : Fin k0_t2_loop.trips, k0_off10 k = ![0, 1, 128 + ((k.val % 4) * 64 + k.val / 4) * 8, 0] := by decide +kernel
instance closedOff_k0_off10 (k : Fin k0_t2_loop.trips) : ClosedOff (k0_off10 k) := ⟨![0, 1, 128 + ((k.val % 4) * 64 + k.val / 4) * 8, 0], k0_off10_closed k⟩

theorem k0_off11_closed : ∀ k : Fin k0_t2_loop.trips, k0_off11 k = ![1, 0, 128 + (((255 - k.val) % 4) * 64 + (255 - k.val) / 4) * 8, 0] := by decide +kernel
instance closedOff_k0_off11 (k : Fin k0_t2_loop.trips) : ClosedOff (k0_off11 k) := ⟨![1, 0, 128 + (((255 - k.val) % 4) * 64 + (255 - k.val) / 4) * 8, 0], k0_off11_closed k⟩

theorem k0_off12_closed : ∀ k : Fin k0_t2_loop.trips, k0_off12 k = ![1, 1, 128 + (((255 - k.val) % 4) * 64 + (255 - k.val) / 4) * 8, 0] := by decide +kernel
instance closedOff_k0_off12 (k : Fin k0_t2_loop.trips) : ClosedOff (k0_off12 k) := ⟨![1, 1, 128 + (((255 - k.val) % 4) * 64 + (255 - k.val) / 4) * 8, 0], k0_off12_closed k⟩

variable {F : FTy → Type} [FloatOps F]

local notation "𝕄G" => MT nD τ sig Unit (Elt F) ℕ (UR sig nD τ) ℕ

/-- The two directions' states (real and imaginary parts) of two groups, eight batch elements by 128 states. -/
abbrev Carry (F : FTy → Type) : Type := FVec F S8x128 .f32 × FVec F S8x128 .f32 × FVec F S8x128 .f32 × FVec F S8x128 .f32

/-- One step of the latent scan: what the states become, given what the two chunks add. -/
def latStep (v89 v93 : FVec F S8x128 .f32) (v94 v98 : Vec F S1x1x1x128 .f32) (arg8 : Memref sig .tc .vmem S2x2x2176x128 .f32) (X_arg8 : BufTy.Contents (Elt F) arg8.view.ty)
    (k : Fin k0_t2_loop.trips) (acc : Carry F) : Carry F :=
  (k0_pay33 v89 v93 acc.1 acc.2.1 (View.readAt (Elt F) arg8.view (Rect.unit (s := S2x2x2176x128) (k0_off9 k) S1x1x8x128.size (k0_off9_inb k)).toLoadRect X_arg8),
    k0_pay34 v89 v93 acc.1 acc.2.1 (View.readAt (Elt F) arg8.view (Rect.unit (s := S2x2x2176x128) (k0_off10 k) S1x1x8x128.size (k0_off10_inb k)).toLoadRect X_arg8),
    k0_pay35 v94 v98 acc.2.2.1 acc.2.2.2 (View.readAt (Elt F) arg8.view (Rect.unit (s := S2x2x2176x128) (k0_off11 k) S1x1x8x128.size (k0_off11_inb k)).toLoadRect X_arg8),
    k0_pay36 v94 v98 acc.2.2.1 acc.2.2.2 (View.readAt (Elt F) arg8.view (Rect.unit (s := S2x2x2176x128) (k0_off12 k) S1x1x8x128.size (k0_off12_inb k)).toLoadRect X_arg8))

/-- The states before a step of the latent scan. -/
def latSt (v89 v93 : FVec F S8x128 .f32) (v94 v98 : Vec F S1x1x1x128 .f32) (arg8 : Memref sig .tc .vmem S2x2x2176x128 .f32) (X_arg8 : BufTy.Contents (Elt F) arg8.view.ty) (init : Carry F) : ℕ → Carry F
  | 0 => init
  | k + 1 => if h : k < k0_t2_loop.trips then latStep v89 v93 v94 v98 arg8 X_arg8 ⟨k, h⟩ (latSt v89 v93 v94 v98 arg8 X_arg8 init k) else latSt v89 v93 v94 v98 arg8 X_arg8 init k

theorem latSt_succ (v89 v93 : FVec F S8x128 .f32) (v94 v98 : Vec F S1x1x1x128 .f32) (arg8 : Memref sig .tc .vmem S2x2x2176x128 .f32) (X_arg8 : BufTy.Contents (Elt F) arg8.view.ty) (init : Carry F) (k : Fin k0_t2_loop.trips) :
    latSt v89 v93 v94 v98 arg8 X_arg8 init (k.val + 1) = latStep v89 v93 v94 v98 arg8 X_arg8 k (latSt v89 v93 v94 v98 arg8 X_arg8 init k.val) := by
  rw [latSt]; exact dif_pos k.isLt

/-- The stored states before step `k`: each earlier step has stored the states it met, in the rows of its two chunks. -/
def Stored (H : S2x2x2048x128.Idx → Elt F .f32) (st : ℕ → Carry F) (k : ℕ) : Prop :=
  ∀ n : Fin 256, n.val < k → ∀ (b : Fin 8) (p : Fin 128),
    H (ix4 0 0 ⟨laneRow n.val + b, by dsimp only [laneRow]; omega⟩ p) = ((st n.val).1) (ix2 b p)
    ∧ H (ix4 0 1 ⟨laneRow n.val + b, by dsimp only [laneRow]; omega⟩ p) = ((st n.val).2.1) (ix2 b p)
    ∧ H (ix4 1 0 ⟨laneRow (255 - n.val) + b, by dsimp only [laneRow]; omega⟩ p) = ((st n.val).2.2.1) (ix2 b p)
    ∧ H (ix4 1 1 ⟨laneRow (255 - n.val) + b, by dsimp only [laneRow]; omega⟩ p) = ((st n.val).2.2.2) (ix2 b p)

theorem pay2_apply (x : FVec F S8x128 .f32) (b : Fin 8) (p : Fin 128) : k0_pay2 x (ix4 0 0 b p) = x (ix2 b p) := by
  unfold k0_pay2; clean_types; pointwise
theorem pay3_apply (x : FVec F S8x128 .f32) (b : Fin 8) (p : Fin 128) : k0_pay3 x (ix4 0 0 b p) = x (ix2 b p) := by
  unfold k0_pay3; clean_types; pointwise
theorem pay4_apply (x : FVec F S8x128 .f32) (b : Fin 8) (p : Fin 128) : k0_pay4 x (ix4 0 0 b p) = x (ix2 b p) := by
  unfold k0_pay4; clean_types; pointwise
theorem pay5_apply (x : FVec F S8x128 .f32) (b : Fin 8) (p : Fin 128) : k0_pay5 x (ix4 0 0 b p) = x (ix2 b p) := by
  unfold k0_pay5; clean_types; pointwise

/-- Putting eight rows at `r` of plane `(d, ri)` leaves the rows put there, and every other element as it was. -/
theorem put_at (V : S2x2x2048x128.Idx → Elt F .f32) (w : S1x1x8x128.Idx → Elt F .f32) (d ri : Fin 2) (r : ℕ) (hr : r + 8 ≤ 2048) (b : Fin 8) (p : Fin 128) :
    VecWindow.put V ![d.val, ri.val, r, 0] S1x1x8x128.size w (ix4 d ri ⟨r + b, by omega⟩ p) = w (ix4 0 0 b p) := by
  unfold VecWindow.put
  rw [dif_pos (by intro a; fin_cases a <;> (simp [ix4]; try omega))]
  refine congrArg w ?_
  funext a; apply Fin.ext; fin_cases a <;> simp [Rect.unitLocal, ix4]

theorem put_off (V : S2x2x2048x128.Idx → Elt F .f32) (w : S1x1x8x128.Idx → Elt F .f32) (d ri d' ri' : Fin 2) (r : ℕ) (x : Fin 2048) (p : Fin 128)
    (h : d ≠ d' ∨ ri ≠ ri' ∨ x.val < r ∨ r + 8 ≤ x.val) :
    VecWindow.put V ![d.val, ri.val, r, 0] S1x1x8x128.size w (ix4 d' ri' x p) = V (ix4 d' ri' x p) := by
  unfold VecWindow.put
  rw [dif_neg]
  intro hall
  have h0 := hall 0; have h1 := hall 1; have h2 := hall 2
  simp [ix4] at h0 h1 h2
  omega

/-- One step's four stores keep what earlier steps stored and add what this step met. -/
theorem stored_succ (H : S2x2x2048x128.Idx → Elt F .f32) (st : ℕ → Carry F) (k : Fin 256) (h : k.val = 0 ∨ Stored H st k.val) :
    Stored (VecWindow.put (VecWindow.put (VecWindow.put (VecWindow.put (H) ![0, 0, ((k.val % 4) * 64 + k.val / 4) * 8, 0] S1x1x8x128.size (k0_pay2 (st k.val).1)) ![0, 1, ((k.val % 4) * 64 + k.val / 4) * 8, 0] S1x1x8x128.size (k0_pay3 (st k.val).2.1)) ![1, 0, (((255 - k.val) % 4) * 64 + (255 - k.val) / 4) * 8, 0] S1x1x8x128.size (k0_pay4 (st k.val).2.2.1)) ![1, 1, (((255 - k.val) % 4) * 64 + (255 - k.val) / 4) * 8, 0] S1x1x8x128.size (k0_pay5 (st k.val).2.2.2)) st (k.val + 1) := by
  intro n hn b p
  have hk := k.isLt
  have hnl := n.isLt
  by_cases e : n.val = k.val
  · obtain rfl : n = k := Fin.ext e
    refine ⟨?_, ?_, ?_, ?_⟩
    · refine (put_off _ _ 1 1 0 0 _ _ p (by simp)).trans ?_
      refine (put_off _ _ 1 0 0 0 _ _ p (by simp)).trans ?_
      refine (put_off _ _ 0 1 0 0 _ _ p (by simp)).trans ?_
      exact (put_at _ _ 0 0 _ (by omega) b p).trans (pay2_apply _ b p)
    · refine (put_off _ _ 1 1 0 1 _ _ p (by simp)).trans ?_
      refine (put_off _ _ 1 0 0 1 _ _ p (by simp)).trans ?_
      exact (put_at _ _ 0 1 _ (by omega) b p).trans (pay3_apply _ b p)
    · refine (put_off _ _ 1 1 1 0 _ _ p (by simp)).trans ?_
      exact (put_at _ _ 1 0 _ (by omega) b p).trans (pay4_apply _ b p)
    · exact (put_at _ _ 1 1 _ (by omega) b p).trans (pay5_apply _ b p)
  · obtain h | h := h
    · omega
    · obtain ⟨h1, h2, h3, h4⟩ := h n (by omega) b p
      refine ⟨?_, ?_, ?_, ?_⟩
      · refine (put_off _ _ 1 1 0 0 _ _ p (by simp)).trans ?_
        refine (put_off _ _ 1 0 0 0 _ _ p (by simp)).trans ?_
        refine (put_off _ _ 0 1 0 0 _ _ p (by simp)).trans ?_
        refine (put_off _ _ 0 0 0 0 _ _ p (Or.inr (Or.inr (by dsimp only [laneRow]; omega)))).trans ?_
        exact h1
      · refine (put_off _ _ 1 1 0 1 _ _ p (by simp)).trans ?_
        refine (put_off _ _ 1 0 0 1 _ _ p (by simp)).trans ?_
        refine (put_off _ _ 0 1 0 1 _ _ p (Or.inr (Or.inr (by dsimp only [laneRow]; omega)))).trans ?_
        refine (put_off _ _ 0 0 0 1 _ _ p (by simp)).trans ?_
        exact h2
      · refine (put_off _ _ 1 1 1 0 _ _ p (by simp)).trans ?_
        refine (put_off _ _ 1 0 1 0 _ _ p (Or.inr (Or.inr (by dsimp only [laneRow]; omega)))).trans ?_
        refine (put_off _ _ 0 1 1 0 _ _ p (by simp)).trans ?_
        refine (put_off _ _ 0 0 1 0 _ _ p (by simp)).trans ?_
        exact h3
      · refine (put_off _ _ 1 1 1 1 _ _ p (Or.inr (Or.inr (by dsimp only [laneRow]; omega)))).trans ?_
        refine (put_off _ _ 1 0 1 1 _ _ p (by simp)).trans ?_
        refine (put_off _ _ 0 1 1 1 _ _ p (by simp)).trans ?_
        refine (put_off _ _ 0 0 1 1 _ _ p (by simp)).trans ?_
        exact h4

set_option warn.classDefReducibility false in
/-- The latent scan: the states before a step are the recurrence's, and each step has stored the states it met. -/
@[sl_loop] def loopInv_k0_t2 (𝒱 : Variants) (c : Dev nD) (bd : Option 𝒱.V) (E : Set ℕ) (i : grid0.Coords) (arg1 : Memref sig .tc .vmem S16x32x2048 .bf16) (harg1 : arg1.IsWhole) (arg2 : Memref sig .tc .vmem S16x32x128 .bf16) (harg2 : arg2.IsWhole) (arg3 : Memref sig .tc .vmem S2x512x256 .bf16) (harg3 : arg3.IsWhole) (arg4 : Memref sig .tc .vmem S2x256x256 .bf16) (harg4 : arg4.IsWhole) (arg5 : Memref sig .tc .vmem S2x1x2x128 .f32) (harg5 : arg5.IsWhole) (arg6 : Memref sig .tc .vmem S2x256x1 .f32) (harg6 : arg6.IsWhole) (arg7 : Memref sig .tc .vmem S16x32x2048 .bf16) (harg7 : arg7.IsWhole) (arg8 : Memref sig .tc .vmem S2x2x2176x128 .f32) (harg8 : arg8.IsWhole) (arg9 : Memref sig .tc .vmem S2x2x2048x128 .f32) (harg9 : arg9.IsWhole) (arg10 : Memref sig .tc .vmem S2x256x2048 .f32) (harg10 : arg10.IsWhole) (v89 : FVec F S8x128 .f32) (v93 : FVec F S8x128 .f32) (v94 : Vec F S1x1x1x128 .f32) (v98 : Vec F S1x1x1x128 .f32) (init : FVec F S8x128 .f32 × FVec F S8x128 .f32 × FVec F S8x128 .f32 × FVec F S8x128 .f32) (X_arg8 : BufTy.Contents (Elt F) arg8.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 v89 v93 v94 v98 init where
  inv k acc := iprop((arg8.view.loc (c : Thread nD τ) ↦[arg8.view.set]{fullShare} X_arg8)
    ∗ (∃ f, (arg9.view.loc (c : Thread nD τ) ↦[arg9.view.set]{fullShare} f) ∗ ⌜k = 0 ∨ Stored (arg9.view.read (Elt F) f) (latSt v89 v93 v94 v98 arg8 X_arg8 init) k⌝)
    ∗ ⌜acc = latSt v89 v93 v94 v98 arg8 X_arg8 init k⌝)
  step k acc := by
    have hk : k.val < 256 := Nat.lt_of_lt_of_le k.isLt k0_t2_abs.2.1
    iintro ⟨HR_arg8, ⟨%f_arg9, HW_arg9, %hst⟩, %hacc⟩
    subst hacc
    unfold k0_t2_body
    sl_exec
    sl_step
    isplitl [HR_arg8]; · iexact HR_arg8
    isplitl [HW_arg9]
    · iexists _; isplitl; · iexact HW_arg9
      ipureintro
      refine Or.inr ?_
      have hs := stored_succ (arg9.view.read (Elt F) f_arg9) (latSt v89 v93 v94 v98 arg8 X_arg8 init) ⟨k.val, hk⟩ hst
      refine Eq.mp (congrArg (fun H => Stored H (latSt v89 v93 v94 v98 arg8 X_arg8 init) (k.val + 1)) ?_) hs
      refine Eq.symm ?_
      refine (View.read_writes_cons_put arg9.view f_arg9 _ _ _ (k0_off8_closed k)).trans ?_
      refine congrArg (fun H => VecWindow.put H _ _ _) ?_
      refine (View.read_writes_cons_put arg9.view f_arg9 _ _ _ (k0_off7_closed k)).trans ?_
      refine congrArg (fun H => VecWindow.put H _ _ _) ?_
      refine (View.read_writes_cons_put arg9.view f_arg9 _ _ _ (k0_off6_closed k)).trans ?_
      refine congrArg (fun H => VecWindow.put H _ _ _) ?_
      exact View.read_writes_cons_put arg9.view f_arg9 _ _ _ (k0_off5_closed k)
    · ipureintro
      exact (latSt_succ v89 v93 v94 v98 arg8 X_arg8 init k).symm

end Cert.KernelIdeal.Gen

end
-- ==== Proof.IdealRuns.lean ====
module

public import proofs.«01_k».proof.Proof.Gen.KernelIdeal.Launch
public import proofs.«01_k».proof.Proof.Gen.KernelIdeal.Skeleton
public import proofs.«01_k».proof.Proof.IdealLoops
public import proofs.«01_k».proof.Proof.Gen.KernelIdeal.Frame
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- Each window's current staging memref at point `t`, spelled as the pipeline passes it (`bodyAt0`), and its wholeness. -/
abbrev ms0_0 (t : Fin cfg0.N) : Memref sig .tc .vmem S16x32x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x32x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1x2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x32x2048 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2x2x2176x128 .f32 := Memref.whole cc0_scratch0
abbrev scM0_1 : Memref sig .tc .vmem S2x2x2048x128 .f32 := Memref.whole cc0_scratch1
abbrev scM0_2 : Memref sig .tc .vmem S2x256x2048 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Spec.lean ====
/- The state-space layer as functions of its arguments' entries: what the inputs add to a state, the states, the outputs. -/
module

public import Idealize.ShloMosaic.Lib.Pointwise
public import Idealize.ShloMosaic.PureOps

@[expose] public section

noncomputable section

namespace Cert.Proof.S5

open Idealize.ShloMosaic

/-- The states of one complex recurrence `h ↦ a · h + s`, real and imaginary parts, from zero. -/
def states (ar ai : EReal) (sr si : ℕ → EReal) : ℕ → EReal × EReal
  | 0 => (0, 0)
  | n + 1 => (ar * (states ar ai sr si n).1 - ai * (states ar ai sr si n).2 + sr n,
      ar * (states ar ai sr si n).2 + ai * (states ar ai sr si n).1 + si n)

/-- A part of a complex number: 0 the real, 1 the imaginary. -/
def part (z : EReal × EReal) (ri : Fin 2) : EReal := if (ri : ℕ) < 1 then z.1 else z.2

theorem states_congr (ar ai : EReal) (sr si sr' si' : ℕ → EReal) (N : ℕ) (hr : ∀ n < N, sr n = sr' n) (hi : ∀ n < N, si n = si' n) :
    ∀ n ≤ N, states ar ai sr si n = states ar ai sr' si' n
  | 0, _ => rfl
  | n + 1, h => by
    simp only [states, states_congr ar ai sr si sr' si' N hr hi n (Nat.le_of_succ_le h), hr n h, hi n h]

/-- The lane of batch element `b` of latent chunk `q`: chunks are laid out (position in the row of 4, row, batch). -/
def lane (q : ℕ) (b : Fin 8) : Fin 2048 := ⟨((q % 4) * 64 + (q / 4) % 64) * 8 + b, by omega⟩

/-- The lane of batch element `b` of context chunk `q`. -/
def laneC (q : ℕ) (b : Fin 8) : Fin 128 := ⟨(q % 16) * 8 + b, by omega⟩

/-- The latent chunk of a lane. -/
def chunkOf (l : Fin 2048) : ℕ := (((l : ℕ) / 8) % 64) * 4 + (l : ℕ) / 512

/-- Position `n` of a direction's walk over `N` chunks. -/
def walk (N : ℕ) (d : Fin 2) (n : ℕ) : ℕ := if (d : ℕ) < 1 then n else N - 1 - n

/-- Row of the chunk matrices for direction `d`, part `ri`, state `p`: the first 256 rows are the chunk's own outputs. -/
def row (d ri : Fin 2) (p : Fin 64) : Fin 512 := ⟨256 + (((d : ℕ) * 2 + ri) * 64 + p), by omega⟩

/-- Entry `k` (token, channel) of group `g` of a chunked input at a lane. -/
def X {N : ℕ} (A : (⟨3, ![16, 1024, N]⟩ : Shape).Idx → EReal) (g : Fin 64) (k : Fin 256) (l : Fin N) : EReal :=
  A (ix3 ⟨(k : ℕ) / 16, by omega⟩ ⟨(g : ℕ) * 16 + (k : ℕ) % 16, by omega⟩ l)

/-- The activation, with the two float constants the layer uses. -/
def gelu (y : EReal) : EReal :=
  Ideal.ofBits .f32 0x3F000000#32 * y + Ideal.ofBits .f32 0x3F000000#32 * y
    * Ideal.tanh (Ideal.ofBits .f32 1061962282#32 * y + Ideal.ofBits .f32 1024598649#32 * (y * y * y))

/-! ## One group: its inputs `u` and `uc`, chunk matrices `w`, output map `ct`, decays `lam`, skip weights `D` -/

section
variable (u : Fin 256 → Fin 2048 → EReal) (uc : Fin 256 → Fin 128 → EReal) (w : Fin 512 → Fin 256 → EReal) (ct : Fin 256 → Fin 256 → EReal)
  (lam : Fin 2 → Fin 2 → Fin 64 → EReal) (D : Fin 256 → EReal)

/-- What step `n` of direction `d` adds: first the 16 context chunks, then the 256 latent ones. -/
def added (d ri : Fin 2) (p : Fin 64) (b : Fin 8) (n : ℕ) : EReal :=
  if n < 16 then ∑ k : Fin 256, w (row d ri p) k * uc k (laneC (walk 16 d n) b)
  else ∑ k : Fin 256, w (row d ri p) k * u k (lane (walk 256 d (n - 16)) b)

/-- The state of direction `d` before step `n`. -/
def state (d : Fin 2) (p : Fin 64) (b : Fin 8) (n : ℕ) : EReal × EReal :=
  states (lam d 0 p) (lam d 1 p) (added u uc w d 0 p b) (added u uc w d 1 p b) n

/-- The state that enters the chunk of lane `l`. -/
def entering (d ri : Fin 2) (p : Fin 64) (l : Fin 2048) : EReal :=
  part (state u uc w lam d p ⟨(l : ℕ) % 8, by omega⟩ (16 + walk 256 d (chunkOf l))) ri

/-- What the entering states put into entry `k` of the chunk at lane `l`. -/
def fromStates (k : Fin 256) (l : Fin 2048) : EReal :=
  ∑ c : Fin 256, ct k c * entering u uc w lam ⟨(c : ℕ) / 128, by omega⟩ ⟨(c : ℕ) / 64 % 2, by omega⟩ ⟨(c : ℕ) % 64, by omega⟩ l

/-- The output: skip, the chunk's own inputs, the entering states, then the activation. -/
def out (k : Fin 256) (l : Fin 2048) : EReal :=
  gelu (D k * u k l + ∑ c : Fin 256, w ⟨(k : ℕ), by omega⟩ c * u c l + fromStates u uc w ct lam k l)

end

/-! ## The arrays' parts of a group -/

/-- A group's matrix out of a stack of them. -/
def mat {N K : ℕ} (W : (⟨3, ![64, N, K]⟩ : Shape).Idx → EReal) (g : Fin 64) (r : Fin N) (c : Fin K) : EReal := W (ix3 g r c)

/-- A group's decays over one chunk. -/
def decay (lam : (⟨4, ![2, 32, 2, 128]⟩ : Shape).Idx → EReal) (g : Fin 64) (d ri : Fin 2) (p : Fin 64) : EReal :=
  lam (ix4 d ⟨(g : ℕ) / 2, by omega⟩ ri ⟨((g : ℕ) % 2) * 64 + p, by omega⟩)

/-- The layer's output at token `t`, channel `ch`, lane `l`. -/
def layer (A0 : (⟨3, ![16, 1024, 2048]⟩ : Shape).Idx → EReal) (A1 : (⟨3, ![16, 1024, 128]⟩ : Shape).Idx → EReal)
    (W : (⟨3, ![64, 512, 256]⟩ : Shape).Idx → EReal) (C : (⟨3, ![64, 256, 256]⟩ : Shape).Idx → EReal)
    (lam : (⟨4, ![2, 32, 2, 128]⟩ : Shape).Idx → EReal) (D : (⟨3, ![64, 256, 1]⟩ : Shape).Idx → EReal)
    (t : Fin 16) (ch : Fin 1024) (l : Fin 2048) : EReal :=
  let g : Fin 64 := ⟨(ch : ℕ) / 16, by omega⟩
  out (X A0 g) (X A1 g) (mat W g) (mat C g) (decay lam g) (fun k => D (ix3 g k 0)) ⟨(t : ℕ) * 16 + (ch : ℕ) % 16, by omega⟩ l

end Cert.Proof.S5

end
-- ==== Proof.IdealPay.lean ====
module

public import proofs.«01_k».proof.Proof.Spec
public import proofs.«01_k».proof.Proof.Gen.KernelIdeal.Skeleton
public import Idealize.ShloMosaic.Lib.Pointwise
public import Idealize.ShloMosaic.Lib.Tactic.CleanTypes

@[expose] public section

set_option maxRecDepth 16384

noncomputable section

namespace Cert.KernelIdeal.Gen

open Idealize.ShloMosaic Idealize.ShloMosaic.TcCoe Idealize.SL.Sem
open Cert.Proof.S5

/-! What each payload of the kernel is at an index, over the extended reals. -/

theorem ix3_val {n₀ n₁ n₂ : ℕ} {a a' : Fin n₀} {b b' : Fin n₁} {c c' : Fin n₂} (ha : a.val = a'.val) (hb : b.val = b'.val) (hc : c.val = c'.val) :
    ix3 a b c = ix3 a' b' c' := by
  obtain rfl := Fin.ext ha; obtain rfl := Fin.ext hb; obtain rfl := Fin.ext hc; rfl

theorem ix4_val {n₀ n₁ n₂ n₃ : ℕ} {a a' : Fin n₀} {b b' : Fin n₁} {c c' : Fin n₂} {e e' : Fin n₃} (ha : a.val = a'.val) (hb : b.val = b'.val) (hc : c.val = c'.val)
    (he : e.val = e'.val) : ix4 a b c e = ix4 a' b' c' e' := by
  obtain rfl := Fin.ext ha; obtain rfl := Fin.ext hb; obtain rfl := Fin.ext hc; obtain rfl := Fin.ext he; rfl

theorem prod_congr {s₁ s₂ : Shape} (W : s₁.Idx → EReal) (A : s₂.Idx → EReal) {i i' : s₁.Idx} {j j' : s₂.Idx} (hi : i = i') (hj : j = j') :
    W i * A j = W i' * A j' := by rw [hi, hj]

/-- The activation as the kernel computes it: `x + x · tanh(y (c₁ + c₂ y²))` with `x` half of `y`. -/
def kgelu (y : EReal) : EReal :=
  Ideal.ofBits .f32 0x3F000000#32 * y + Ideal.ofBits .f32 0x3F000000#32 * y
    * Ideal.tanh (y * (Ideal.ofBits .f32 1061962282#32 + Ideal.ofBits .f32 1024598649#32 * (y * y)))

theorem hh_congr (hh : Fin 2 → Fin 2 → Vec Ideal S1x1x512x128 .f32) (l : Fin 512) {d d' ri ri' : Fin 2} {p p' : Fin 128} (hd : d = d') (hr : ri = ri') (hp : p.val = p'.val) :
    hh d ri (ix4 0 0 l p) = hh d' ri' (ix4 0 0 l p') := by subst hd hr; obtain rfl := Fin.ext hp; rfl

abbrev half2 (q : Fin 128) : Fin 2 := ⟨(q : ℕ) / 64, by omega⟩

theorem ctx_00 (w : Fin 2 → Vec Ideal S1x256x256 .bf16) (u : Fin 2 → Vec Ideal S16x16x128 .bf16) (r q : Fin 128) :
    k0_pay15 (k0_pay6 (w 0) (u 0)) (k0_pay7 (w 1) (u 1)) (ix4 0 0 r q)
      = ∑ k : Fin 256, (w (half2 q) (ix3 0 ⟨(0 * 2 + 0) * 64 + (q : ℕ) % 64, by omega⟩ k) : EReal) * u (half2 q) (ix3 ⟨(k : ℕ) / 16, by omega⟩ ⟨(k : ℕ) % 16, by omega⟩ r) := by
  unfold k0_pay15 k0_pay6 k0_pay7
  clean_types
  pointwise
  by_cases h : (q : ℕ) < 64
  · have e : half2 q = 0 := Fin.ext (by simp; omega)
    simp only [h, dif_pos, e]
    refine Finset.sum_congr rfl fun x _ => prod_congr (s₁ := S1x256x256) (s₂ := S16x16x128) _ _ ?_ ?_
    · refine ix3_val ?_ ?_ ?_ <;> simp <;> omega
    · refine ix3_val ?_ ?_ ?_ <;> simp <;> omega
  · have e : half2 q = 1 := Fin.ext (by simp; omega)
    simp only [h, dif_neg, not_false_eq_true, e]
    refine Finset.sum_congr rfl fun x _ => prod_congr (s₁ := S1x256x256) (s₂ := S16x16x128) _ _ ?_ ?_
    · refine ix3_val ?_ ?_ ?_ <;> simp <;> omega
    · refine ix3_val ?_ ?_ ?_ <;> simp <;> omega

theorem ctx_01 (w : Fin 2 → Vec Ideal S1x256x256 .bf16) (u : Fin 2 → Vec Ideal S16x16x128 .bf16) (r q : Fin 128) :
    k0_pay16 (k0_pay6 (w 0) (u 0)) (k0_pay7 (w 1) (u 1)) (ix4 0 0 r q)
      = ∑ k : Fin 256, (w (half2 q) (ix3 0 ⟨(0 * 2 + 1) * 64 + (q : ℕ) % 64, by omega⟩ k) : EReal) * u (half2 q) (ix3 ⟨(k : ℕ) / 16, by omega⟩ ⟨(k : ℕ) % 16, by omega⟩ r) := by
  unfold k0_pay16 k0_pay6 k0_pay7
  clean_types
  pointwise
  by_cases h : (q : ℕ) < 64
  · have e : half2 q = 0 := Fin.ext (by simp; omega)
    simp only [h, dif_pos, e]
    refine Finset.sum_congr rfl fun x _ => prod_congr (s₁ := S1x256x256) (s₂ := S16x16x128) _ _ ?_ ?_
    · refine ix3_val ?_ ?_ ?_ <;> simp <;> omega
    · refine ix3_val ?_ ?_ ?_ <;> simp <;> omega
  · have e : half2 q = 1 := Fin.ext (by simp; omega)
    simp only [h, dif_neg, not_false_eq_true, e]
    refine Finset.sum_congr rfl fun x _ => prod_congr (s₁ := S1x256x256) (s₂ := S16x16x128) _ _ ?_ ?_
    · refine ix3_val ?_ ?_ ?_ <;> simp <;> omega
    · refine ix3_val ?_ ?_ ?_ <;> simp <;> omega

theorem ctx_10 (w : Fin 2 → Vec Ideal S1x256x256 .bf16) (u : Fin 2 → Vec Ideal S16x16x128 .bf16) (r q : Fin 128) :
    k0_pay20 (k0_pay19 (k0_pay6 (w 0) (u 0)) (k0_pay7 (w 1) (u 1))) (ix4 0 0 r q)
      = ∑ k : Fin 256, (w (half2 q) (ix3 0 ⟨(1 * 2 + 0) * 64 + (q : ℕ) % 64, by omega⟩ k) : EReal) * u (half2 q) (ix3 ⟨(k : ℕ) / 16, by omega⟩ ⟨(k : ℕ) % 16, by omega⟩ r) := by
  unfold k0_pay20 k0_pay19 k0_pay6 k0_pay7
  clean_types
  pointwise
  by_cases h : (q : ℕ) < 64
  · have e : half2 q = 0 := Fin.ext (by simp; omega)
    simp only [h, dif_pos, e]
    refine Finset.sum_congr rfl fun x _ => prod_congr (s₁ := S1x256x256) (s₂ := S16x16x128) _ _ ?_ ?_
    · refine ix3_val ?_ ?_ ?_ <;> simp <;> omega
    · refine ix3_val ?_ ?_ ?_ <;> simp <;> omega
  · have e : half2 q = 1 := Fin.ext (by simp; omega)
    simp only [h, dif_neg, not_false_eq_true, e]
    refine Finset.sum_congr rfl fun x _ => prod_congr (s₁ := S1x256x256) (s₂ := S16x16x128) _ _ ?_ ?_
    · refine ix3_val ?_ ?_ ?_ <;> simp <;> omega
    · refine ix3_val ?_ ?_ ?_ <;> simp <;> omega

theorem ctx_11 (w : Fin 2 → Vec Ideal S1x256x256 .bf16) (u : Fin 2 → Vec Ideal S16x16x128 .bf16) (r q : Fin 128) :
    k0_pay21 (k0_pay6 (w 0) (u 0)) (k0_pay7 (w 1) (u 1)) (ix4 0 0 r q)
      = ∑ k : Fin 256, (w (half2 q) (ix3 0 ⟨(1 * 2 + 1) * 64 + (q : ℕ) % 64, by omega⟩ k) : EReal) * u (half2 q) (ix3 ⟨(k : ℕ) / 16, by omega⟩ ⟨(k : ℕ) % 16, by omega⟩ r) := by
  unfold k0_pay21 k0_pay6 k0_pay7
  clean_types
  pointwise
  by_cases h : (q : ℕ) < 64
  · have e : half2 q = 0 := Fin.ext (by simp; omega)
    simp only [h, dif_pos, e]
    refine Finset.sum_congr rfl fun x _ => prod_congr (s₁ := S1x256x256) (s₂ := S16x16x128) _ _ ?_ ?_
    · refine ix3_val ?_ ?_ ?_ <;> simp <;> omega
    · refine ix3_val ?_ ?_ ?_ <;> simp <;> omega
  · have e : half2 q = 1 := Fin.ext (by simp; omega)
    simp only [h, dif_neg, not_false_eq_true, e]
    refine Finset.sum_congr rfl fun x _ => prod_congr (s₁ := S1x256x256) (s₂ := S16x16x128) _ _ ?_ ?_
    · refine ix3_val ?_ ?_ ?_ <;> simp <;> omega
    · refine ix3_val ?_ ?_ ?_ <;> simp <;> omega

theorem lat_00 (w : Fin 2 → Vec Ideal S1x512x256 .bf16) (u : Fin 2 → Vec Ideal S16x16x2048 .bf16) (r : Fin 2048) (q : Fin 128) :
    k0_pay17 (k0_pay10 (w 0) (u 0)) (k0_pay11 (w 1) (u 1)) (ix4 0 0 r q)
      = ∑ k : Fin 256, (w (half2 q) (ix3 0 ⟨256 + ((0 * 2 + 0) * 64 + (q : ℕ) % 64), by omega⟩ k) : EReal) * u (half2 q) (ix3 ⟨(k : ℕ) / 16, by omega⟩ ⟨(k : ℕ) % 16, by omega⟩ r) := by
  unfold k0_pay17 k0_pay14 k0_pay10 k0_pay8 k0_pay11
  clean_types
  pointwise
  by_cases h : (q : ℕ) < 64
  · have e : half2 q = 0 := Fin.ext (by simp; omega)
    simp only [h, dif_pos, e]
    refine Finset.sum_congr rfl fun x _ => prod_congr (s₁ := S1x512x256) (s₂ := S16x16x2048) _ _ ?_ ?_
    · refine ix3_val ?_ ?_ ?_ <;> simp <;> omega
    · refine ix3_val ?_ ?_ ?_ <;> simp <;> omega
  · have e : half2 q = 1 := Fin.ext (by simp; omega)
    simp only [h, dif_neg, not_false_eq_true, e]
    refine Finset.sum_congr rfl fun x _ => prod_congr (s₁ := S1x512x256) (s₂ := S16x16x2048) _ _ ?_ ?_
    · refine ix3_val ?_ ?_ ?_ <;> simp <;> omega
    · refine ix3_val ?_ ?_ ?_ <;> simp <;> omega

theorem lat_01 (w : Fin 2 → Vec Ideal S1x512x256 .bf16) (u : Fin 2 → Vec Ideal S16x16x2048 .bf16) (r : Fin 2048) (q : Fin 128) :
    k0_pay18 (k0_pay10 (w 0) (u 0)) (k0_pay11 (w 1) (u 1)) (ix4 0 0 r q)
      = ∑ k : Fin 256, (w (half2 q) (ix3 0 ⟨256 + ((0 * 2 + 1) * 64 + (q : ℕ) % 64), by omega⟩ k) : EReal) * u (half2 q) (ix3 ⟨(k : ℕ) / 16, by omega⟩ ⟨(k : ℕ) % 16, by omega⟩ r) := by
  unfold k0_pay18 k0_pay14 k0_pay10 k0_pay8 k0_pay11
  clean_types
  pointwise
  by_cases h : (q : ℕ) < 64
  · have e : half2 q = 0 := Fin.ext (by simp; omega)
    simp only [h, dif_pos, e]
    refine Finset.sum_congr rfl fun x _ => prod_congr (s₁ := S1x512x256) (s₂ := S16x16x2048) _ _ ?_ ?_
    · refine ix3_val ?_ ?_ ?_ <;> simp <;> omega
    · refine ix3_val ?_ ?_ ?_ <;> simp <;> omega
  · have e : half2 q = 1 := Fin.ext (by simp; omega)
    simp only [h, dif_neg, not_false_eq_true, e]
    refine Finset.sum_congr rfl fun x _ => prod_congr (s₁ := S1x512x256) (s₂ := S16x16x2048) _ _ ?_ ?_
    · refine ix3_val ?_ ?_ ?_ <;> simp <;> omega
    · refine ix3_val ?_ ?_ ?_ <;> simp <;> omega

theorem lat_10 (w : Fin 2 → Vec Ideal S1x512x256 .bf16) (u : Fin 2 → Vec Ideal S16x16x2048 .bf16) (r : Fin 2048) (q : Fin 128) :
    k0_pay22 (k0_pay10 (w 0) (u 0)) (k0_pay14 (k0_pay11 (w 1) (u 1))) (ix4 0 0 r q)
      = ∑ k : Fin 256, (w (half2 q) (ix3 0 ⟨256 + ((1 * 2 + 0) * 64 + (q : ℕ) % 64), by omega⟩ k) : EReal) * u (half2 q) (ix3 ⟨(k : ℕ) / 16, by omega⟩ ⟨(k : ℕ) % 16, by omega⟩ r) := by
  unfold k0_pay22 k0_pay14 k0_pay10 k0_pay8 k0_pay11
  clean_types
  pointwise
  by_cases h : (q : ℕ) < 64
  · have e : half2 q = 0 := Fin.ext (by simp; omega)
    simp only [h, dif_pos, e]
    refine Finset.sum_congr rfl fun x _ => prod_congr (s₁ := S1x512x256) (s₂ := S16x16x2048) _ _ ?_ ?_
    · refine ix3_val ?_ ?_ ?_ <;> simp <;> omega
    · refine ix3_val ?_ ?_ ?_ <;> simp <;> omega
  · have e : half2 q = 1 := Fin.ext (by simp; omega)
    simp only [h, dif_neg, not_false_eq_true, e]
    refine Finset.sum_congr rfl fun x _ => prod_congr (s₁ := S1x512x256) (s₂ := S16x16x2048) _ _ ?_ ?_
    · refine ix3_val ?_ ?_ ?_ <;> simp <;> omega
    · refine ix3_val ?_ ?_ ?_ <;> simp <;> omega

theorem lat_11 (w : Fin 2 → Vec Ideal S1x512x256 .bf16) (u : Fin 2 → Vec Ideal S16x16x2048 .bf16) (r : Fin 2048) (q : Fin 128) :
    k0_pay23 (k0_pay10 (w 0) (u 0)) (k0_pay14 (k0_pay11 (w 1) (u 1))) (ix4 0 0 r q)
      = ∑ k : Fin 256, (w (half2 q) (ix3 0 ⟨256 + ((1 * 2 + 1) * 64 + (q : ℕ) % 64), by omega⟩ k) : EReal) * u (half2 q) (ix3 ⟨(k : ℕ) / 16, by omega⟩ ⟨(k : ℕ) % 16, by omega⟩ r) := by
  unfold k0_pay23 k0_pay14 k0_pay10 k0_pay8 k0_pay11
  clean_types
  pointwise
  by_cases h : (q : ℕ) < 64
  · have e : half2 q = 0 := Fin.ext (by simp; omega)
    simp only [h, dif_pos, e]
    refine Finset.sum_congr rfl fun x _ => prod_congr (s₁ := S1x512x256) (s₂ := S16x16x2048) _ _ ?_ ?_
    · refine ix3_val ?_ ?_ ?_ <;> simp <;> omega
    · refine ix3_val ?_ ?_ ?_ <;> simp <;> omega
  · have e : half2 q = 1 := Fin.ext (by simp; omega)
    simp only [h, dif_neg, not_false_eq_true, e]
    refine Finset.sum_congr rfl fun x _ => prod_congr (s₁ := S1x512x256) (s₂ := S16x16x2048) _ _ ?_ ?_
    · refine ix3_val ?_ ?_ ?_ <;> simp <;> omega
    · refine ix3_val ?_ ?_ ?_ <;> simp <;> omega

theorem own_0 (w : Vec Ideal S1x512x256 .bf16) (u : Vec Ideal S16x16x2048 .bf16) (k : Fin 256) (l : Fin 2048) :
    k0_pay9 w u (ix3 0 k l) = ∑ c : Fin 256, (w (ix3 0 ⟨(k : ℕ), by omega⟩ c) : EReal) * u (ix3 ⟨(c : ℕ) / 16, by omega⟩ ⟨(c : ℕ) % 16, by omega⟩ l) := by
  unfold k0_pay9 k0_pay8
  clean_types
  pointwise

theorem own_1 (w : Vec Ideal S1x512x256 .bf16) (u : Vec Ideal S16x16x2048 .bf16) (k : Fin 256) (l : Fin 2048) :
    k0_pay13 (k0_pay12 w u) (ix3 0 k l) = ∑ c : Fin 256, (w (ix3 0 ⟨(k : ℕ), by omega⟩ c) : EReal) * u (ix3 ⟨(c : ℕ) / 16, by omega⟩ ⟨(c : ℕ) % 16, by omega⟩ l) := by
  unfold k0_pay13 k0_pay12 k0_pay11
  clean_types
  pointwise

set_option maxHeartbeats 1000000 in
/-- A tile of the output of group 0 of the pair, from the entering states' tiles, the inputs, the chunk's own part, the skip weights and the output map. -/
theorem tile_0 (hh : Fin 2 → Fin 2 → Vec Ideal S1x1x512x128 .f32) (x : Vec Ideal S16x16x512 .bf16) (yi : Vec Ideal S1x256x512 .f32) (D : Vec Ideal S1x256x1 .f32)
    (C : Vec Ideal S1x256x256 .bf16) (t h : Fin 16) (l : Fin 512) :
    k0_pay41 (k0_pay37 (hh 0 0)) (k0_pay38 (hh 0 1)) (k0_pay39 (hh 1 0)) (k0_pay40 (hh 1 1)) x yi D C (ix3 t h l)
      = kgelu ((yi (ix3 0 ⟨(t : ℕ) * 16 + h, by omega⟩ l) : EReal) + D (ix3 0 ⟨(t : ℕ) * 16 + h, by omega⟩ 0) * x (ix3 t h l)
        + ∑ c : Fin 256, (C (ix3 0 ⟨(t : ℕ) * 16 + h, by omega⟩ c) : EReal)
            * hh ⟨(c : ℕ) / 128, by omega⟩ ⟨(c : ℕ) / 64 % 2, by omega⟩ (ix4 0 0 l ⟨(c : ℕ) % 64, by omega⟩)) := by
  unfold k0_pay41 k0_pay37 k0_pay38 k0_pay39 k0_pay40
  clean_types
  pointwise
  refine (congrArg kgelu ?_ : kgelu _ = kgelu _)
  refine congrArg₂ (· + ·) ?_ (Finset.sum_congr rfl fun c _ => congrArg₂ (· * ·) rfl ?_)
  · refine congrArg₂ (· + ·) rfl (congrArg₂ (· * ·) rfl ?_)
    refine congrArg x (ix3_val ?_ ?_ ?_) <;> simp <;> omega
  · split_ifs
    all_goals
      refine hh_congr hh l (Fin.ext ?_) (Fin.ext ?_) ?_ <;> simp <;> omega

set_option maxHeartbeats 1000000 in
/-- A tile of the output of group 1 of the pair, from the entering states' tiles, the inputs, the chunk's own part, the skip weights and the output map. -/
theorem tile_1 (hh : Fin 2 → Fin 2 → Vec Ideal S1x1x512x128 .f32) (x : Vec Ideal S16x16x512 .bf16) (yi : Vec Ideal S1x256x512 .f32) (D : Vec Ideal S1x256x1 .f32)
    (C : Vec Ideal S1x256x256 .bf16) (t h : Fin 16) (l : Fin 512) :
    k0_pay47 (k0_pay42 x) (k0_pay43 (k0_pay37 (hh 0 0))) (k0_pay44 (k0_pay38 (hh 0 1))) (k0_pay45 (k0_pay39 (hh 1 0))) (k0_pay46 (k0_pay40 (hh 1 1))) yi D C (ix3 t h l)
      = kgelu ((yi (ix3 0 ⟨(t : ℕ) * 16 + h, by omega⟩ l) : EReal) + D (ix3 0 ⟨(t : ℕ) * 16 + h, by omega⟩ 0) * x (ix3 t h l)
        + ∑ c : Fin 256, (C (ix3 0 ⟨(t : ℕ) * 16 + h, by omega⟩ c) : EReal)
            * hh ⟨(c : ℕ) / 128, by omega⟩ ⟨(c : ℕ) / 64 % 2, by omega⟩ (ix4 0 0 l ⟨64 + (c : ℕ) % 64, by omega⟩)) := by
  unfold k0_pay47 k0_pay42 k0_pay43 k0_pay44 k0_pay45 k0_pay46 k0_pay37 k0_pay38 k0_pay39 k0_pay40
  clean_types
  pointwise
  refine (congrArg kgelu ?_ : kgelu _ = kgelu _)
  refine congrArg₂ (· + ·) ?_ (Finset.sum_congr rfl fun c _ => congrArg₂ (· * ·) rfl ?_)
  · refine congrArg₂ (· + ·) rfl (congrArg₂ (· * ·) rfl ?_)
    refine congrArg x (ix3_val ?_ ?_ ?_) <;> simp <;> omega
  · split_ifs
    all_goals
      refine hh_congr hh l (Fin.ext ?_) (Fin.ext ?_) ?_ <;> simp <;> omega

end Cert.KernelIdeal.Gen

end
-- ==== Proof.IdealState.lean ====
module

public import proofs.«01_k».proof.Proof.IdealLoops
public import proofs.«01_k».proof.Proof.IdealPay

@[expose] public section

set_option maxRecDepth 16384

noncomputable section

namespace Cert.KernelIdeal.Gen

open Idealize.ShloMosaic Idealize.ShloMosaic.TcCoe Idealize.SL.Sem
open Cert.Proof.S5

/-! The two scans of the kernel carry the states of the recurrence. -/

theorem pay29_apply (v w : FVec Ideal S8x128 .f32) (x y : FVec Ideal S8x128 .f32) (s : Vec Ideal S1x1x8x128 .f32) (b : Fin 8) (q : Fin 128) :
    k0_pay29 v w x y s (ix2 b q) = (v (ix2 b q) : EReal) * x (ix2 b q) - w (ix2 b q) * y (ix2 b q) + s (ix4 0 0 b q) := by
  unfold k0_pay29; clean_types; pointwise

theorem pay33_apply (v w : FVec Ideal S8x128 .f32) (x y : FVec Ideal S8x128 .f32) (s : Vec Ideal S1x1x8x128 .f32) (b : Fin 8) (q : Fin 128) :
    k0_pay33 v w x y s (ix2 b q) = (v (ix2 b q) : EReal) * x (ix2 b q) - w (ix2 b q) * y (ix2 b q) + s (ix4 0 0 b q) := by
  unfold k0_pay33; clean_types; pointwise

theorem pay30_apply (v w : FVec Ideal S8x128 .f32) (x y : FVec Ideal S8x128 .f32) (s : Vec Ideal S1x1x8x128 .f32) (b : Fin 8) (q : Fin 128) :
    k0_pay30 v w x y s (ix2 b q) = (v (ix2 b q) : EReal) * y (ix2 b q) + w (ix2 b q) * x (ix2 b q) + s (ix4 0 0 b q) := by
  unfold k0_pay30; clean_types; pointwise

theorem pay34_apply (v w : FVec Ideal S8x128 .f32) (x y : FVec Ideal S8x128 .f32) (s : Vec Ideal S1x1x8x128 .f32) (b : Fin 8) (q : Fin 128) :
    k0_pay34 v w x y s (ix2 b q) = (v (ix2 b q) : EReal) * y (ix2 b q) + w (ix2 b q) * x (ix2 b q) + s (ix4 0 0 b q) := by
  unfold k0_pay34; clean_types; pointwise

theorem pay31_apply (v w : Vec Ideal S1x1x1x128 .f32) (x y : FVec Ideal S8x128 .f32) (s : Vec Ideal S1x1x8x128 .f32) (b : Fin 8) (q : Fin 128) :
    k0_pay31 v w x y s (ix2 b q) = (v (ix4 0 0 0 q) : EReal) * x (ix2 b q) - w (ix4 0 0 0 q) * y (ix2 b q) + s (ix4 0 0 b q) := by
  unfold k0_pay31 k0_pay26 k0_pay27; clean_types; pointwise

theorem pay35_apply (v w : Vec Ideal S1x1x1x128 .f32) (x y : FVec Ideal S8x128 .f32) (s : Vec Ideal S1x1x8x128 .f32) (b : Fin 8) (q : Fin 128) :
    k0_pay35 v w x y s (ix2 b q) = (v (ix4 0 0 0 q) : EReal) * x (ix2 b q) - w (ix4 0 0 0 q) * y (ix2 b q) + s (ix4 0 0 b q) := by
  unfold k0_pay35 k0_pay26 k0_pay27; clean_types; pointwise

theorem pay32_apply (v w : Vec Ideal S1x1x1x128 .f32) (x y : FVec Ideal S8x128 .f32) (s : Vec Ideal S1x1x8x128 .f32) (b : Fin 8) (q : Fin 128) :
    k0_pay32 v w x y s (ix2 b q) = (v (ix4 0 0 0 q) : EReal) * y (ix2 b q) + w (ix4 0 0 0 q) * x (ix2 b q) + s (ix4 0 0 b q) := by
  unfold k0_pay32 k0_pay26 k0_pay27; clean_types; pointwise

theorem pay36_apply (v w : Vec Ideal S1x1x1x128 .f32) (x y : FVec Ideal S8x128 .f32) (s : Vec Ideal S1x1x8x128 .f32) (b : Fin 8) (q : Fin 128) :
    k0_pay36 v w x y s (ix2 b q) = (v (ix4 0 0 0 q) : EReal) * y (ix2 b q) + w (ix4 0 0 0 q) * x (ix2 b q) + s (ix4 0 0 b q) := by
  unfold k0_pay36 k0_pay26 k0_pay27; clean_types; pointwise

theorem k0_off1_at : ∀ k : Fin k0_t1_loop.trips, k0_off1 k = ![0, 0, 8 * k.val, 0] := by decide +kernel
theorem k0_off2_at : ∀ k : Fin k0_t1_loop.trips, k0_off2 k = ![0, 1, 8 * k.val, 0] := by decide +kernel
theorem k0_off3_at : ∀ k : Fin k0_t1_loop.trips, k0_off3 k = ![1, 0, 8 * (15 - k.val), 0] := by decide +kernel
theorem k0_off4_at : ∀ k : Fin k0_t1_loop.trips, k0_off4 k = ![1, 1, 8 * (15 - k.val), 0] := by decide +kernel

/-- A load of eight rows of one plane, entry by entry. -/
theorem readAt_rows (v : Memref sig .tc .vmem S2x2x2176x128 .f32) (f : BufTy.Contents (Elt Ideal) v.view.ty) {off : Fin 4 → ℕ} (inb : ∀ a, off a + S1x1x8x128.size a ≤ S2x2x2176x128.size a)
    (d ri : Fin 2) (r : ℕ) (h : off = ![d.val, ri.val, r, 0]) (b : Fin 8) (q : Fin 128) (x : Fin 2176) (hx : x.val = r + b) :
    View.readAt (Elt Ideal) v.view (Rect.unit (s := S2x2x2176x128) off S1x1x8x128.size inb).toLoadRect f (ix4 0 0 b q) = v.view.read (Elt Ideal) f (ix4 d ri x q) := by
  subst h
  refine congrArg (v.view.read (Elt Ideal) f) ?_
  funext a
  apply Fin.ext
  fin_cases a
  · exact Nat.add_zero _
  · exact Nat.add_zero _
  · show r + 1 * b.val = x.val
    omega
  · show 0 + 1 * q.val = q.val
    omega

/-- The row that step `n` of direction `d` adds for batch element `b`: the context's rows, then the latent's. -/
def rowOf (d : Fin 2) (n : ℕ) (b : Fin 8) : Fin 2176 :=
  if n < 16 then ⟨(laneC (walk 16 d n) b).val, by have := (laneC (walk 16 d n) b).isLt; omega⟩
  else ⟨128 + (lane (walk 256 d (n - 16)) b).val, by have := (lane (walk 256 d (n - 16)) b).isLt; omega⟩

section
variable (S : S2x2x2176x128.Idx → EReal) (lam : Fin 2 → Fin 2 → Fin 128 → EReal)

/-- The recurrence over the rows of `S`. -/
def rowState (d : Fin 2) (q : Fin 128) (b : Fin 8) (n : ℕ) : EReal × EReal :=
  states (lam d 0 q) (lam d 1 q) (fun n => S (ix4 d 0 (rowOf d n b) q)) (fun n => S (ix4 d 1 (rowOf d n b) q)) n

/-- The carried vectors hold the recurrence's states before step `n`. -/
def Holds (z : Carry Ideal) (n : ℕ) : Prop :=
  ∀ (b : Fin 8) (q : Fin 128), z.1 (ix2 b q) = (rowState S lam 0 q b n).1 ∧ z.2.1 (ix2 b q) = (rowState S lam 0 q b n).2
    ∧ z.2.2.1 (ix2 b q) = (rowState S lam 1 q b n).1 ∧ z.2.2.2 (ix2 b q) = (rowState S lam 1 q b n).2

theorem holds_zero : Holds S lam (k0_pay28 (F := Ideal), k0_pay28 (F := Ideal), k0_pay28 (F := Ideal), k0_pay28 (F := Ideal)) 0 := by
  have e : ∀ (b : Fin 8) (q : Fin 128), k0_pay28 (F := Ideal) (ix2 b q) = (0 : EReal) := by
    intro b q; unfold k0_pay28; clean_types; pointwise
  intro b q
  exact ⟨e b q, e b q, e b q, e b q⟩

variable (v89 v93 : FVec Ideal S8x128 .f32) (v94 v98 : Vec Ideal S1x1x1x128 .f32)
  (h89 : ∀ b q, v89 (ix2 b q) = lam 0 0 q) (h93 : ∀ b q, v93 (ix2 b q) = lam 0 1 q)
  (h94 : ∀ q, v94 (ix4 0 0 0 q) = lam 1 0 q) (h98 : ∀ q, v98 (ix4 0 0 0 q) = lam 1 1 q)
include h89 h93 h94 h98

theorem holds_step1 (z : Carry Ideal) (n : ℕ) (hz : Holds S lam z n) (s1 s2 s3 s4 : Vec Ideal S1x1x8x128 .f32)
    (e1 : ∀ b q, s1 (ix4 0 0 b q) = S (ix4 0 0 (rowOf 0 n b) q)) (e2 : ∀ b q, s2 (ix4 0 0 b q) = S (ix4 0 1 (rowOf 0 n b) q))
    (e3 : ∀ b q, s3 (ix4 0 0 b q) = S (ix4 1 0 (rowOf 1 n b) q)) (e4 : ∀ b q, s4 (ix4 0 0 b q) = S (ix4 1 1 (rowOf 1 n b) q)) :
    Holds S lam (k0_pay29 v89 v93 z.1 z.2.1 s1, k0_pay30 v89 v93 z.1 z.2.1 s2, k0_pay31 v94 v98 z.2.2.1 z.2.2.2 s3, k0_pay32 v94 v98 z.2.2.1 z.2.2.2 s4) (n + 1) := by
  intro b q
  obtain ⟨i1, i2, i3, i4⟩ := hz b q
  refine ⟨?_, ?_, ?_, ?_⟩
  · exact (pay29_apply _ _ _ _ _ b q).trans (by rw [h89, h93, i1, i2, e1]; rfl)
  · exact (pay30_apply _ _ _ _ _ b q).trans (by rw [h89, h93, i1, i2, e2]; rfl)
  · exact (pay31_apply _ _ _ _ _ b q).trans (by rw [h94, h98, i3, i4, e3]; rfl)
  · exact (pay32_apply _ _ _ _ _ b q).trans (by rw [h94, h98, i3, i4, e4]; rfl)

theorem holds_step2 (z : Carry Ideal) (n : ℕ) (hz : Holds S lam z n) (s1 s2 s3 s4 : Vec Ideal S1x1x8x128 .f32)
    (e1 : ∀ b q, s1 (ix4 0 0 b q) = S (ix4 0 0 (rowOf 0 n b) q)) (e2 : ∀ b q, s2 (ix4 0 0 b q) = S (ix4 0 1 (rowOf 0 n b) q))
    (e3 : ∀ b q, s3 (ix4 0 0 b q) = S (ix4 1 0 (rowOf 1 n b) q)) (e4 : ∀ b q, s4 (ix4 0 0 b q) = S (ix4 1 1 (rowOf 1 n b) q)) :
    Holds S lam (k0_pay33 v89 v93 z.1 z.2.1 s1, k0_pay34 v89 v93 z.1 z.2.1 s2, k0_pay35 v94 v98 z.2.2.1 z.2.2.2 s3, k0_pay36 v94 v98 z.2.2.1 z.2.2.2 s4) (n + 1) := by
  intro b q
  obtain ⟨i1, i2, i3, i4⟩ := hz b q
  refine ⟨?_, ?_, ?_, ?_⟩
  · exact (pay33_apply _ _ _ _ _ b q).trans (by rw [h89, h93, i1, i2, e1]; rfl)
  · exact (pay34_apply _ _ _ _ _ b q).trans (by rw [h89, h93, i1, i2, e2]; rfl)
  · exact (pay35_apply _ _ _ _ _ b q).trans (by rw [h94, h98, i3, i4, e3]; rfl)
  · exact (pay36_apply _ _ _ _ _ b q).trans (by rw [h94, h98, i3, i4, e4]; rfl)

end

theorem tripR_eq (𝒱 : Variants) (c : Dev nD) (bd : Option 𝒱.V) (i : grid0.Coords) (arg1 : Memref sig .tc .vmem S16x32x2048 .bf16) (harg1 : arg1.IsWhole) (arg2 : Memref sig .tc .vmem S16x32x128 .bf16) (harg2 : arg2.IsWhole) (arg3 : Memref sig .tc .vmem S2x512x256 .bf16) (harg3 : arg3.IsWhole) (arg4 : Memref sig .tc .vmem S2x256x256 .bf16) (harg4 : arg4.IsWhole) (arg5 : Memref sig .tc .vmem S2x1x2x128 .f32) (harg5 : arg5.IsWhole) (arg6 : Memref sig .tc .vmem S2x256x1 .f32) (harg6 : arg6.IsWhole) (arg7 : Memref sig .tc .vmem S16x32x2048 .bf16) (harg7 : arg7.IsWhole) (arg8 : Memref sig .tc .vmem S2x2x2176x128 .f32) (harg8 : arg8.IsWhole) (arg9 : Memref sig .tc .vmem S2x2x2048x128 .f32) (harg9 : arg9.IsWhole) (arg10 : Memref sig .tc .vmem S2x256x2048 .f32) (harg10 : arg10.IsWhole) (v89 : FVec Ideal S8x128 .f32) (v93 : FVec Ideal S8x128 .f32) (v94 : Vec Ideal S1x1x1x128 .f32) (v98 : Vec Ideal S1x1x1x128 .f32) (X_arg8 : BufTy.Contents (Elt Ideal) arg8.view.ty)
    (k : Fin k0_t1_loop.trips) (acc : Carry Ideal) :
    tripR_k0_t1 (F := Ideal) 𝒱 c bd i arg1 harg1 arg2 harg2 arg3 harg3 arg4 harg4 arg5 harg5 arg6 harg6 arg7 harg7 arg8 harg8 arg9 harg9 arg10 harg10 v89 v93 v94 v98 X_arg8 k acc
      = (k0_pay29 v89 v93 acc.1 acc.2.1 (View.readAt (Elt Ideal) arg8.view (Rect.unit (s := S2x2x2176x128) (k0_off1 k) S1x1x8x128.size (k0_off1_inb k)).toLoadRect X_arg8),
        k0_pay30 v89 v93 acc.1 acc.2.1 (View.readAt (Elt Ideal) arg8.view (Rect.unit (s := S2x2x2176x128) (k0_off2 k) S1x1x8x128.size (k0_off2_inb k)).toLoadRect X_arg8),
        k0_pay31 v94 v98 acc.2.2.1 acc.2.2.2 (View.readAt (Elt Ideal) arg8.view (Rect.unit (s := S2x2x2176x128) (k0_off3 k) S1x1x8x128.size (k0_off3_inb k)).toLoadRect X_arg8),
        k0_pay32 v94 v98 acc.2.2.1 acc.2.2.2 (View.readAt (Elt Ideal) arg8.view (Rect.unit (s := S2x2x2176x128) (k0_off4 k) S1x1x8x128.size (k0_off4_inb k)).toLoadRect X_arg8)) := by
  unfold tripR_k0_t1 trip_k0_t1
  rfl

/-- Before context step `k` the carried vectors are the recurrence's states. -/
theorem ctx_holds (𝒱 : Variants) (c : Dev nD) (bd : Option 𝒱.V) (i : grid0.Coords) (arg1 : Memref sig .tc .vmem S16x32x2048 .bf16) (harg1 : arg1.IsWhole) (arg2 : Memref sig .tc .vmem S16x32x128 .bf16) (harg2 : arg2.IsWhole) (arg3 : Memref sig .tc .vmem S2x512x256 .bf16) (harg3 : arg3.IsWhole) (arg4 : Memref sig .tc .vmem S2x256x256 .bf16) (harg4 : arg4.IsWhole) (arg5 : Memref sig .tc .vmem S2x1x2x128 .f32) (harg5 : arg5.IsWhole) (arg6 : Memref sig .tc .vmem S2x256x1 .f32) (harg6 : arg6.IsWhole) (arg7 : Memref sig .tc .vmem S16x32x2048 .bf16) (harg7 : arg7.IsWhole) (arg8 : Memref sig .tc .vmem S2x2x2176x128 .f32) (harg8 : arg8.IsWhole) (arg9 : Memref sig .tc .vmem S2x2x2048x128 .f32) (harg9 : arg9.IsWhole) (arg10 : Memref sig .tc .vmem S2x256x2048 .f32) (harg10 : arg10.IsWhole) (v89 : FVec Ideal S8x128 .f32) (v93 : FVec Ideal S8x128 .f32) (v94 : Vec Ideal S1x1x1x128 .f32) (v98 : Vec Ideal S1x1x1x128 .f32) (X_arg8 : BufTy.Contents (Elt Ideal) arg8.view.ty)
    (lam : Fin 2 → Fin 2 → Fin 128 → EReal) (h89 : ∀ b q, v89 (ix2 b q) = lam 0 0 q) (h93 : ∀ b q, v93 (ix2 b q) = lam 0 1 q)
    (h94 : ∀ q, v94 (ix4 0 0 0 q) = lam 1 0 q) (h98 : ∀ q, v98 (ix4 0 0 0 q) = lam 1 1 q) : ∀ k : ℕ, k ≤ 16 →
    Holds (arg8.view.read (Elt Ideal) X_arg8) lam (st_k0_t1 (F := Ideal) 𝒱 c bd i arg1 harg1 arg2 harg2 arg3 harg3 arg4 harg4 arg5 harg5 arg6 harg6 arg7 harg7 arg8 harg8 arg9 harg9 arg10 harg10 v89 v93 v94 v98 X_arg8 (k0_pay28, k0_pay28, k0_pay28, k0_pay28) k) k
  | 0, _ => holds_zero _ _
  | k + 1, hk => by
    have hk' : k < k0_t1_loop.trips := by have : k0_t1_loop.trips = 16 := by decide
                                          omega
    have ih := ctx_holds 𝒱 c bd i arg1 harg1 arg2 harg2 arg3 harg3 arg4 harg4 arg5 harg5 arg6 harg6 arg7 harg7 arg8 harg8 arg9 harg9 arg10 harg10 v89 v93 v94 v98 X_arg8 lam h89 h93 h94 h98 k (by omega)
    have e := st_k0_t1_succ (F := Ideal) 𝒱 c bd i arg1 harg1 arg2 harg2 arg3 harg3 arg4 harg4 arg5 harg5 arg6 harg6 arg7 harg7 arg8 harg8 arg9 harg9 arg10 harg10 v89 v93 v94 v98 X_arg8 (k0_pay28, k0_pay28, k0_pay28, k0_pay28) ⟨k, hk'⟩
    rw [show k + 1 = (⟨k, hk'⟩ : Fin k0_t1_loop.trips).val + 1 from rfl, e, tripR_eq]
    refine holds_step1 _ lam v89 v93 v94 v98 h89 h93 h94 h98 _ k ih _ _ _ _ ?_ ?_ ?_ ?_ <;> intro b q
    · exact readAt_rows arg8 X_arg8 _ 0 0 _ (k0_off1_at ⟨k, hk'⟩) b q _ (by have := b.isLt; simp [rowOf, walk, laneC, show k < 16 by omega]; omega)
    · exact readAt_rows arg8 X_arg8 _ 0 1 _ (k0_off2_at ⟨k, hk'⟩) b q _ (by have := b.isLt; simp [rowOf, walk, laneC, show k < 16 by omega]; omega)
    · exact readAt_rows arg8 X_arg8 _ 1 0 _ (k0_off3_at ⟨k, hk'⟩) b q _ (by have := b.isLt; simp [rowOf, walk, laneC, show k < 16 by omega]; omega)
    · exact readAt_rows arg8 X_arg8 _ 1 1 _ (k0_off4_at ⟨k, hk'⟩) b q _ (by have := b.isLt; simp [rowOf, walk, laneC, show k < 16 by omega]; omega)

/-- Before latent step `k` too, from a carry that holds them after the context. -/
theorem lat_holds (v89 v93 : FVec Ideal S8x128 .f32) (v94 v98 : Vec Ideal S1x1x1x128 .f32) (arg8 : Memref sig .tc .vmem S2x2x2176x128 .f32)
    (X_arg8 : BufTy.Contents (Elt Ideal) arg8.view.ty) (init : Carry Ideal)
    (lam : Fin 2 → Fin 2 → Fin 128 → EReal) (h89 : ∀ b q, v89 (ix2 b q) = lam 0 0 q) (h93 : ∀ b q, v93 (ix2 b q) = lam 0 1 q)
    (h94 : ∀ q, v94 (ix4 0 0 0 q) = lam 1 0 q) (h98 : ∀ q, v98 (ix4 0 0 0 q) = lam 1 1 q)
    (h0 : Holds (arg8.view.read (Elt Ideal) X_arg8) lam init 16) : ∀ k : ℕ, k ≤ 256 →
    Holds (arg8.view.read (Elt Ideal) X_arg8) lam (latSt v89 v93 v94 v98 arg8 X_arg8 init k) (16 + k)
  | 0, _ => h0
  | k + 1, hk => by
    have hk' : k < k0_t2_loop.trips := by have : k0_t2_loop.trips = 256 := by decide
                                          omega
    have ih := lat_holds v89 v93 v94 v98 arg8 X_arg8 init lam h89 h93 h94 h98 h0 k (by omega)
    have e := latSt_succ v89 v93 v94 v98 arg8 X_arg8 init ⟨k, hk'⟩
    rw [show k + 1 = (⟨k, hk'⟩ : Fin k0_t2_loop.trips).val + 1 from rfl, e]
    refine holds_step2 _ lam v89 v93 v94 v98 h89 h93 h94 h98 _ (16 + k) ih _ _ _ _ ?_ ?_ ?_ ?_ <;> intro b q
    · exact readAt_rows arg8 X_arg8 _ 0 0 _ (k0_off9_closed ⟨k, hk'⟩) b q _ (by have := b.isLt; simp [rowOf, walk, lane]; omega)
    · exact readAt_rows arg8 X_arg8 _ 0 1 _ (k0_off10_closed ⟨k, hk'⟩) b q _ (by have := b.isLt; simp [rowOf, walk, lane]; omega)
    · exact readAt_rows arg8 X_arg8 _ 1 0 _ (k0_off11_closed ⟨k, hk'⟩) b q _ (by have := b.isLt; simp [rowOf, walk, lane]; omega)
    · exact readAt_rows arg8 X_arg8 _ 1 1 _ (k0_off12_closed ⟨k, hk'⟩) b q _ (by have := b.isLt; simp [rowOf, walk, lane]; omega)

theorem row_eq (l : Fin 2048) : (l : ℕ) = laneRow (chunkOf l) + (l : ℕ) % 8 := by
  have := l.isLt
  have h1 : chunkOf l = ((l : ℕ) / 8 % 64) * 4 + (l : ℕ) / 512 := by unfold chunkOf; omega
  have h2 : chunkOf l % 4 = (l : ℕ) / 512 := by omega
  have h3 : chunkOf l / 4 = (l : ℕ) / 8 % 64 := by omega
  unfold laneRow
  rw [h2, h3]; omega

/-- After the latent scan the stored states are, at every lane, the states that enter its chunk. -/
theorem stored_at (H : S2x2x2048x128.Idx → EReal) (S : S2x2x2176x128.Idx → EReal) (lam : Fin 2 → Fin 2 → Fin 128 → EReal) (st : ℕ → Carry Ideal)
    (hs : Stored (F := Ideal) H st 256) (hst : ∀ k, k ≤ 256 → Holds S lam (st k) (16 + k)) (d ri : Fin 2) (l : Fin 2048) (q : Fin 128) :
    H (ix4 d ri l q) = part (rowState S lam d q ⟨(l : ℕ) % 8, by omega⟩ (16 + walk 256 d (chunkOf l))) ri := by
  have hc : chunkOf l < 256 := by unfold chunkOf; omega
  by_cases hd : d.val < 1
  · obtain rfl : d = 0 := Fin.ext (by simp; omega)
    obtain ⟨h1, h2, -, -⟩ := hs ⟨chunkOf l, hc⟩ hc ⟨(l : ℕ) % 8, by omega⟩ q
    obtain ⟨g1, g2, -, -⟩ := hst (chunkOf l) (by omega) ⟨(l : ℕ) % 8, by omega⟩ q
    have el : ∀ ri : Fin 2, ix4 (0 : Fin 2) ri l q = ix4 (0 : Fin 2) ri ⟨laneRow (chunkOf l) + (l : ℕ) % 8, by dsimp only [laneRow]; omega⟩ q :=
      fun ri => ix4_val rfl rfl (row_eq l) rfl
    have ew : walk 256 0 (chunkOf l) = chunkOf l := by simp [walk]
    rw [ew, el]
    by_cases hr : ri.val < 1
    · obtain rfl : ri = 0 := Fin.ext (by simp; omega)
      exact h1.trans g1
    · obtain rfl : ri = 1 := Fin.ext (by simp; omega)
      exact h2.trans g2
  · obtain rfl : d = 1 := Fin.ext (by simp; omega)
    obtain ⟨-, -, h1, h2⟩ := hs ⟨255 - chunkOf l, by omega⟩ (by simp; omega) ⟨(l : ℕ) % 8, by omega⟩ q
    obtain ⟨-, -, g1, g2⟩ := hst (255 - chunkOf l) (by omega) ⟨(l : ℕ) % 8, by omega⟩ q
    have el : ∀ ri : Fin 2, ix4 (1 : Fin 2) ri l q = ix4 (1 : Fin 2) ri ⟨laneRow (255 - (255 - chunkOf l)) + (l : ℕ) % 8, by dsimp only [laneRow]; omega⟩ q :=
      fun ri => ix4_val rfl rfl (by
        have : 255 - (255 - chunkOf l) = chunkOf l := by omega
        show (l : ℕ) = laneRow (255 - (255 - chunkOf l)) + (l : ℕ) % 8
        rw [this]
        exact row_eq l) rfl
    have ew : walk 256 1 (chunkOf l) = 255 - chunkOf l := by simp [walk]
    rw [ew, el]
    by_cases hr : ri.val < 1
    · obtain rfl : ri = 0 := Fin.ext (by simp; omega)
      exact h1.trans g1
    · obtain rfl : ri = 1 := Fin.ext (by simp; omega)
      exact h2.trans g2

end Cert.KernelIdeal.Gen

end
-- ==== Proof.IdealOut.lean ====
module

public import proofs.«01_k».proof.Proof.IdealState
public import Idealize.ShloMosaic.Lib.WritesUnit
public import Idealize.ShloMosaic.Lib.VecWindow

@[expose] public section

set_option maxRecDepth 16384

noncomputable section

namespace Cert.KernelIdeal.Gen

open Idealize.ShloMosaic Idealize.ShloMosaic.TcCoe Idealize.SL.Sem
open Cert.Proof.S5

/-! The values of the kernel's block, from the values of its inputs' blocks. -/

/-! ## The activation in the kernel's order -/

theorem c1_pos : ∃ r : ℝ, 0 < r ∧ Ideal.ofBits .f32 1061962282#32 = (r : EReal) := by
  refine ⟨_, ?_, by simp only [Ideal.ofBits, Ideal.ieee]; rw [if_neg (by decide), if_neg (by decide)]⟩
  rw [if_neg (by decide)]
  positivity

theorem c2_pos : ∃ r : ℝ, 0 < r ∧ Ideal.ofBits .f32 1024598649#32 = (r : EReal) := by
  refine ⟨_, ?_, by simp only [Ideal.ofBits, Ideal.ieee]; rw [if_neg (by decide), if_neg (by decide)]⟩
  rw [if_neg (by decide)]
  positivity

/-- The polynomial under the hyperbolic tangent, multiplied out. -/
theorem poly_eq (y : EReal) : y * (Ideal.ofBits .f32 1061962282#32 + Ideal.ofBits .f32 1024598649#32 * (y * y))
    = Ideal.ofBits .f32 1061962282#32 * y + Ideal.ofBits .f32 1024598649#32 * (y * y * y) := by
  obtain ⟨a, ha, ea⟩ := c1_pos
  obtain ⟨b, hb, eb⟩ := c2_pos
  rw [ea, eb]
  induction y using EReal.rec with
  | bot => simp [EReal.coe_mul_bot_of_pos ha, EReal.coe_mul_bot_of_pos hb, EReal.coe_mul_top_of_pos hb]
  | coe r => norm_cast; ring
  | top => simp [EReal.coe_mul_top_of_pos ha, EReal.coe_mul_top_of_pos hb]

theorem kgelu_eq (y : EReal) : kgelu y = gelu y := by unfold kgelu gelu; rw [poly_eq]

/-! ## Reading what the stores left -/

theorem read_own (v : Memref sig .tc .vmem S2x256x2048 .f32) (f : BufTy.Contents (Elt Ideal) v.view.ty) (o : Fin 2 → Vec Ideal S1x256x2048 .f32)
    (h1 : ∀ a, (![1, 0, 0] : Fin 3 → ℕ) a + S1x256x2048.size a ≤ S2x256x2048.size a) (h0 : ∀ a, (![0, 0, 0] : Fin 3 → ℕ) a + S1x256x2048.size a ≤ S2x256x2048.size a)
    (j : Fin 2) (k : Fin 256) (l : Fin 2048) :
    v.view.read (Elt Ideal) (v.view.writes (Elt Ideal) f [⟨Rect.unit (s := S2x256x2048) ![1, 0, 0] S1x256x2048.size h1, o 1⟩, ⟨Rect.unit (s := S2x256x2048) ![0, 0, 0] S1x256x2048.size h0, o 0⟩]) (ix3 j k l)
      = o j (ix3 0 k l) := by
  fin_cases j
  · refine (View.read_writes_cons_unit_of_not_mem v.view f h1 _ _ _ rfl 0 (by simp)).trans ?_
    exact View.read_writes_cons_unit_of_mem v.view f h0 _ _ _ (ix3 0 k l) rfl (by intro a; fin_cases a <;> simp)
  · exact View.read_writes_cons_unit_of_mem v.view f h1 _ _ _ (ix3 0 k l) rfl (by intro a; fin_cases a <;> simp)

set_option maxHeartbeats 2000000 in
/-- The pieces of the scan's inputs: the context's rows and the latent's, by direction and part. -/
theorem read_parts (v : Memref sig .tc .vmem S2x2x2176x128 .f32) (f : BufTy.Contents (Elt Ideal) v.view.ty) (cs : Fin 2 → Fin 2 → Vec Ideal S1x1x128x128 .f32) (ls : Fin 2 → Fin 2 → Vec Ideal S1x1x2048x128 .f32)
    (h11128 : ∀ a, (![1, 1, 128, 0] : Fin 4 → ℕ) a + S1x1x2048x128.size a ≤ S2x2x2176x128.size a) (h10128 : ∀ a, (![1, 0, 128, 0] : Fin 4 → ℕ) a + S1x1x2048x128.size a ≤ S2x2x2176x128.size a) (h110 : ∀ a, (![1, 1, 0, 0] : Fin 4 → ℕ) a + S1x1x128x128.size a ≤ S2x2x2176x128.size a) (h100 : ∀ a, (![1, 0, 0, 0] : Fin 4 → ℕ) a + S1x1x128x128.size a ≤ S2x2x2176x128.size a) (h01128 : ∀ a, (![0, 1, 128, 0] : Fin 4 → ℕ) a + S1x1x2048x128.size a ≤ S2x2x2176x128.size a) (h00128 : ∀ a, (![0, 0, 128, 0] : Fin 4 → ℕ) a + S1x1x2048x128.size a ≤ S2x2x2176x128.size a) (h010 : ∀ a, (![0, 1, 0, 0] : Fin 4 → ℕ) a + S1x1x128x128.size a ≤ S2x2x2176x128.size a) (h000 : ∀ a, (![0, 0, 0, 0] : Fin 4 → ℕ) a + S1x1x128x128.size a ≤ S2x2x2176x128.size a)
    (d ri : Fin 2) (r : Fin 2176) (q : Fin 128) :
    v.view.read (Elt Ideal) (v.view.writes (Elt Ideal) f [
      ⟨Rect.unit (s := S2x2x2176x128) ![1, 1, 128, 0] S1x1x2048x128.size h11128, ls 1 1⟩,
      ⟨Rect.unit (s := S2x2x2176x128) ![1, 0, 128, 0] S1x1x2048x128.size h10128, ls 1 0⟩,
      ⟨Rect.unit (s := S2x2x2176x128) ![1, 1, 0, 0] S1x1x128x128.size h110, cs 1 1⟩,
      ⟨Rect.unit (s := S2x2x2176x128) ![1, 0, 0, 0] S1x1x128x128.size h100, cs 1 0⟩,
      ⟨Rect.unit (s := S2x2x2176x128) ![0, 1, 128, 0] S1x1x2048x128.size h01128, ls 0 1⟩,
      ⟨Rect.unit (s := S2x2x2176x128) ![0, 0, 128, 0] S1x1x2048x128.size h00128, ls 0 0⟩,
      ⟨Rect.unit (s := S2x2x2176x128) ![0, 1, 0, 0] S1x1x128x128.size h010, cs 0 1⟩,
      ⟨Rect.unit (s := S2x2x2176x128) ![0, 0, 0, 0] S1x1x128x128.size h000, cs 0 0⟩]) (ix4 d ri r q)
      = if h : (r : ℕ) < 128 then cs d ri (ix4 0 0 ⟨r, h⟩ q) else ls d ri (ix4 0 0 ⟨(r : ℕ) - 128, by omega⟩ q) := by
  by_cases h : (r : ℕ) < 128
  · rw [dif_pos h]
    fin_cases d <;> fin_cases ri <;>
    repeat first
      | (refine (View.read_writes_cons_unit_of_not_mem v.view f _ _ _ _ rfl 0 ?_).trans ?_; · (simp; done))
      | (refine (View.read_writes_cons_unit_of_not_mem v.view f _ _ _ _ rfl 1 ?_).trans ?_; · (simp; done))
      | (refine (View.read_writes_cons_unit_of_not_mem v.view f _ _ _ _ rfl 2 ?_).trans ?_; · (simp; omega))
      | (refine View.read_writes_cons_unit_of_mem v.view f _ _ _ _ (ix4 0 0 ⟨r, h⟩ q) rfl ?_; · (intro a; fin_cases a <;> simp))
  · rw [dif_neg h]
    fin_cases d <;> fin_cases ri <;>
    repeat first
      | (refine (View.read_writes_cons_unit_of_not_mem v.view f _ _ _ _ rfl 0 ?_).trans ?_; · (simp; done))
      | (refine (View.read_writes_cons_unit_of_not_mem v.view f _ _ _ _ rfl 1 ?_).trans ?_; · (simp; done))
      | (refine (View.read_writes_cons_unit_of_not_mem v.view f _ _ _ _ rfl 2 ?_).trans ?_; · (simp; omega))
      | (refine View.read_writes_cons_unit_of_mem v.view f _ _ _ _ (ix4 0 0 ⟨(r : ℕ) - 128, by omega⟩ q) rfl ?_; · (intro a; fin_cases a <;> simp <;> omega))

/-- The eight tiles of the output block: group `j` of the pair, lanes from `512 q`. -/
theorem read_tiles (v : Memref sig .tc .vmem S16x32x2048 .bf16) (f : BufTy.Contents (Elt Ideal) v.view.ty) (w : Fin 2 → Fin 4 → Vec Ideal S16x16x512 .bf16)
    (h13 : ∀ a, (![0, 16, 1536] : Fin 3 → ℕ) a + S16x16x512.size a ≤ S16x32x2048.size a) (h03 : ∀ a, (![0, 0, 1536] : Fin 3 → ℕ) a + S16x16x512.size a ≤ S16x32x2048.size a) (h12 : ∀ a, (![0, 16, 1024] : Fin 3 → ℕ) a + S16x16x512.size a ≤ S16x32x2048.size a) (h02 : ∀ a, (![0, 0, 1024] : Fin 3 → ℕ) a + S16x16x512.size a ≤ S16x32x2048.size a) (h11 : ∀ a, (![0, 16, 512] : Fin 3 → ℕ) a + S16x16x512.size a ≤ S16x32x2048.size a) (h01 : ∀ a, (![0, 0, 512] : Fin 3 → ℕ) a + S16x16x512.size a ≤ S16x32x2048.size a) (h10 : ∀ a, (![0, 16, 0] : Fin 3 → ℕ) a + S16x16x512.size a ≤ S16x32x2048.size a) (h00 : ∀ a, (![0, 0, 0] : Fin 3 → ℕ) a + S16x16x512.size a ≤ S16x32x2048.size a)
    (t : Fin 16) (ch : Fin 32) (l : Fin 2048) :
    v.view.read (Elt Ideal) (v.view.writes (Elt Ideal) f [
      ⟨Rect.unit (s := S16x32x2048) ![0, 16, 1536] S16x16x512.size h13, w 1 3⟩,
      ⟨Rect.unit (s := S16x32x2048) ![0, 0, 1536] S16x16x512.size h03, w 0 3⟩,
      ⟨Rect.unit (s := S16x32x2048) ![0, 16, 1024] S16x16x512.size h12, w 1 2⟩,
      ⟨Rect.unit (s := S16x32x2048) ![0, 0, 1024] S16x16x512.size h02, w 0 2⟩,
      ⟨Rect.unit (s := S16x32x2048) ![0, 16, 512] S16x16x512.size h11, w 1 1⟩,
      ⟨Rect.unit (s := S16x32x2048) ![0, 0, 512] S16x16x512.size h01, w 0 1⟩,
      ⟨Rect.unit (s := S16x32x2048) ![0, 16, 0] S16x16x512.size h10, w 1 0⟩,
      ⟨Rect.unit (s := S16x32x2048) ![0, 0, 0] S16x16x512.size h00, w 0 0⟩]) (ix3 t ch l)
      = w ⟨(ch : ℕ) / 16, by omega⟩ ⟨(l : ℕ) / 512, by omega⟩ (ix3 t ⟨(ch : ℕ) % 16, by omega⟩ ⟨(l : ℕ) % 512, by omega⟩) := by
  generalize hj : (⟨(ch : ℕ) / 16, by omega⟩ : Fin 2) = j
  generalize hq : (⟨(l : ℕ) / 512, by omega⟩ : Fin 4) = q
  have hj' := congrArg Fin.val hj
  have hq' := congrArg Fin.val hq
  clear hj hq
  fin_cases j <;> fin_cases q <;> simp only at hj' hq' <;>
  repeat first
    | exact View.read_writes_cons_unit_of_mem v.view f _ _ _ _ (ix3 t ⟨(ch : ℕ) % 16, by omega⟩ ⟨(l : ℕ) % 512, by omega⟩) rfl (by intro a; fin_cases a <;> simp <;> omega)
    | refine (View.read_writes_cons_unit_of_not_mem v.view f _ _ _ _ rfl 2 (by simp; omega)).trans ?_
    | refine (View.read_writes_cons_unit_of_not_mem v.view f _ _ _ _ rfl 1 (by simp; omega)).trans ?_

/-! ## The block of a pair of groups -/

section
variable (x0 : Vec Ideal S16x32x2048 .bf16) (x1 : Vec Ideal S16x32x128 .bf16) (x2 : Vec Ideal S2x512x256 .bf16) (x3 : Vec Ideal S2x256x256 .bf16) (x4 : Vec Ideal S2x1x2x128 .f32) (x5 : Vec Ideal S2x256x1 .f32)

/-- The latent input of group `j` of the pair. -/
def gU (j : Fin 2) (k : Fin 256) (l : Fin 2048) : EReal := x0 (ix3 ⟨(k : ℕ) / 16, by omega⟩ ⟨(j : ℕ) * 16 + (k : ℕ) % 16, by omega⟩ l)

/-- The context input of group `j` of the pair. -/
def gC (j : Fin 2) (k : Fin 256) (l : Fin 128) : EReal := x1 (ix3 ⟨(k : ℕ) / 16, by omega⟩ ⟨(j : ℕ) * 16 + (k : ℕ) % 16, by omega⟩ l)

/-- The chunk matrices of group `j`. -/
def gW (j : Fin 2) (r : Fin 512) (c : Fin 256) : EReal := x2 (ix3 j r c)

/-- The output map of group `j`. -/
def gT (j : Fin 2) (k c : Fin 256) : EReal := x3 (ix3 j k c)

/-- The decays of group `j`. -/
def gL (j : Fin 2) (d ri : Fin 2) (p : Fin 64) : EReal := x4 (ix4 d 0 ri ⟨(j : ℕ) * 64 + p, by omega⟩)

/-- The skip weights of group `j`. -/
def gD (j : Fin 2) (k : Fin 256) : EReal := x5 (ix3 j k 0)

/-- The block the kernel leaves. -/
def blockOut : Vec Ideal S16x32x2048 .bf16 := fun y =>
  let t : Fin 16 := y 0
  let ch : Fin 32 := y 1
  let l : Fin 2048 := y 2
  let j : Fin 2 := ⟨(ch : ℕ) / 16, by omega⟩
  out (gU x0 j) (gC x1 j) (gW x2 j) (gT x3 j) (gL x4 j) (gD x5 j) ⟨(t : ℕ) * 16 + (ch : ℕ) % 16, by omega⟩ l

/-- What the scan adds, row by row, both groups' states side by side. -/
def rows (d ri : Fin 2) (r : Fin 2176) (q : Fin 128) : EReal :=
  if h : (r : ℕ) < 128 then ∑ k : Fin 256, gW x2 (half2 q) (row d ri ⟨(q : ℕ) % 64, by omega⟩) k * gC x1 (half2 q) k ⟨r, h⟩
  else ∑ k : Fin 256, gW x2 (half2 q) (row d ri ⟨(q : ℕ) % 64, by omega⟩) k * gU x0 (half2 q) k ⟨(r : ℕ) - 128, by omega⟩

theorem rows_added (S : S2x2x2176x128.Idx → EReal) (hS : ∀ d ri r q, S (ix4 d ri r q) = rows x0 x1 x2 d ri r q) (d ri : Fin 2) (q : Fin 128) (b : Fin 8) (n : ℕ) :
    S (ix4 d ri (rowOf d n b) q) = added (gU x0 (half2 q)) (gC x1 (half2 q)) (gW x2 (half2 q)) d ri ⟨(q : ℕ) % 64, by omega⟩ b n := by
  rw [hS]
  unfold rows added rowOf
  by_cases h : n < 16
  · simp only [h, if_true]
    rw [dif_pos (by have := (laneC (walk 16 d n) b).isLt; omega)]
  · simp only [h, if_false]
    rw [dif_neg (by simp)]
    refine Finset.sum_congr rfl fun k _ => congrArg₂ (· * ·) rfl (congrArg (gU x0 (half2 q) k) (Fin.ext ?_))
    simp

theorem rowState_eq (S : S2x2x2176x128.Idx → EReal) (hS : ∀ d ri r q, S (ix4 d ri r q) = rows x0 x1 x2 d ri r q) (d : Fin 2) (q : Fin 128) (b : Fin 8) (n : ℕ) :
    rowState S (fun d ri q => x4 (ix4 d 0 ri q)) d q b n
      = state (gU x0 (half2 q)) (gC x1 (half2 q)) (gW x2 (half2 q)) (gL x4 (half2 q)) d ⟨(q : ℕ) % 64, by omega⟩ b n := by
  unfold rowState state
  have e : ∀ ri : Fin 2, gL x4 (half2 q) d ri ⟨(q : ℕ) % 64, by omega⟩ = x4 (ix4 d 0 ri q) := fun ri => by
    unfold gL
    exact congrArg x4 (ix4_val rfl rfl rfl (by simp; omega))
  rw [e 0, e 1, funext fun n => rows_added x0 x1 x2 S hS d 0 q b n, funext fun n => rows_added x0 x1 x2 S hS d 1 q b n]

/-- A tile's entry is the block's, its ingredients being the group's. -/
theorem tile_out (t : Fin 16) (ch : Fin 32) (l : Fin 2048) (H : S2x2x2048x128.Idx → EReal) (S : S2x2x2176x128.Idx → EReal)
    (hS : ∀ d ri r q, S (ix4 d ri r q) = rows x0 x1 x2 d ri r q)
    (hH : ∀ (d ri : Fin 2) (l : Fin 2048) (q : Fin 128), H (ix4 d ri l q)
      = part (rowState S (fun d ri q => x4 (ix4 d 0 ri q)) d q ⟨(l : ℕ) % 8, by omega⟩ (16 + walk 256 d (chunkOf l))) ri)
    (a D x : EReal) (C hh : Fin 256 → EReal)
    (ha : a = ∑ c : Fin 256, gW x2 ⟨(ch : ℕ) / 16, by omega⟩ ⟨(t : ℕ) * 16 + (ch : ℕ) % 16, by omega⟩ c * gU x0 ⟨(ch : ℕ) / 16, by omega⟩ c l)
    (hD : D = gD x5 ⟨(ch : ℕ) / 16, by omega⟩ ⟨(t : ℕ) * 16 + (ch : ℕ) % 16, by omega⟩)
    (hx : x = gU x0 ⟨(ch : ℕ) / 16, by omega⟩ ⟨(t : ℕ) * 16 + (ch : ℕ) % 16, by omega⟩ l)
    (hC : ∀ c, C c = gT x3 ⟨(ch : ℕ) / 16, by omega⟩ ⟨(t : ℕ) * 16 + (ch : ℕ) % 16, by omega⟩ c)
    (hhh : ∀ c : Fin 256, hh c = H (ix4 ⟨(c : ℕ) / 128, by omega⟩ ⟨(c : ℕ) / 64 % 2, by omega⟩ l ⟨(ch : ℕ) / 16 * 64 + (c : ℕ) % 64, by omega⟩)) :
    kgelu ((a + D * x) + ∑ c : Fin 256, C c * hh c) = blockOut x0 x1 x2 x3 x4 x5 (ix3 t ch l) := by
  rw [kgelu_eq]
  unfold blockOut out fromStates
  refine (congrArg gelu ?_ : gelu _ = gelu _)
  subst ha hD hx
  refine congrArg₂ (· + ·) (add_comm _ _) (Finset.sum_congr rfl fun c _ => congrArg₂ (· * ·) (hC c) ?_)
  rw [hhh, hH, rowState_eq x0 x1 x2 x4 S hS]
  unfold entering
  have e1 : half2 ⟨(ch : ℕ) / 16 * 64 + (c : ℕ) % 64, by omega⟩ = ⟨(ch : ℕ) / 16, by omega⟩ := Fin.ext (by simp; omega)
  have e2 : (⟨((⟨(ch : ℕ) / 16 * 64 + (c : ℕ) % 64, by omega⟩ : Fin 128) : ℕ) % 64, by omega⟩ : Fin 64) = ⟨(c : ℕ) % 64, by omega⟩ := Fin.ext (by simp)
  rw [e1, e2]
  rfl

end

end Cert.KernelIdeal.Gen

end
-- ==== Proof.IdealTiles.lean ====
module

public import proofs.«01_k».proof.Proof.IdealOut

@[expose] public section

set_option maxRecDepth 16384

noncomputable section

namespace Cert.KernelIdeal.Gen

open Idealize.ShloMosaic Idealize.ShloMosaic.TcCoe Idealize.SL.Sem
open Cert.Proof.S5

/-! The kernel's loads, stores and tiles over any contents of its buffers. -/

/-- A load at a unit-stride rectangle, entry by entry. -/
theorem readAt_ix {sp : Space} {s : Shape} {e : EltTy} (v : Memref sig .tc sp s e) (f : BufTy.Contents (Elt Ideal) v.view.ty) {off size : Fin s.rank → ℕ}
    (inb : ∀ a, off a + size a ≤ s.size a) (x : (Rect.unit off size inb).shape.Idx) (y : s.Idx) (h : ∀ a, (y a).val = off a + (x a).val) :
    View.readAt (Elt Ideal) v.view (Rect.unit off size inb).toLoadRect f x = v.view.read (Elt Ideal) f y := by
  refine congrArg (v.view.read (Elt Ideal) f) ?_
  funext a
  apply Fin.ext
  show off a + 1 * (x a).val = (y a).val
  rw [h a, Nat.one_mul]

section
variable (arg1 : Memref sig .tc .vmem S16x32x2048 .bf16) (arg2 : Memref sig .tc .vmem S16x32x128 .bf16) (arg3 : Memref sig .tc .vmem S2x512x256 .bf16)
  (arg4 : Memref sig .tc .vmem S2x256x256 .bf16) (arg6 : Memref sig .tc .vmem S2x256x1 .f32) (arg9 : Memref sig .tc .vmem S2x2x2048x128 .f32) (arg10 : Memref sig .tc .vmem S2x256x2048 .f32)
  (f1 : BufTy.Contents (Elt Ideal) arg1.view.ty) (f2 : BufTy.Contents (Elt Ideal) arg2.view.ty) (f3 : BufTy.Contents (Elt Ideal) arg3.view.ty)
  (f4 : BufTy.Contents (Elt Ideal) arg4.view.ty) (f6 : BufTy.Contents (Elt Ideal) arg6.view.ty) (f9 : BufTy.Contents (Elt Ideal) arg9.view.ty)

/-- The latent inputs of group `j` of the pair. -/
abbrev rdU (j : Fin 2) : Vec Ideal S16x16x2048 .bf16 :=
  View.readAt (Elt Ideal) arg1.view (Rect.unit (s := S16x32x2048) ![0, 16 * j.val, 0] S16x16x2048.size (by intro a; fin_cases a <;> simp <;> omega)).toLoadRect f1

/-- The context inputs of group `j`. -/
abbrev rdC (j : Fin 2) : Vec Ideal S16x16x128 .bf16 :=
  View.readAt (Elt Ideal) arg2.view (Rect.unit (s := S16x32x128) ![0, 16 * j.val, 0] S16x16x128.size (by intro a; fin_cases a <;> simp <;> omega)).toLoadRect f2

/-- The chunk matrices of group `j`. -/
abbrev rdW (j : Fin 2) : Vec Ideal S1x512x256 .bf16 :=
  View.readAt (Elt Ideal) arg3.view (Rect.unit (s := S2x512x256) ![j.val, 0, 0] S1x512x256.size (by intro a; fin_cases a <;> simp <;> omega)).toLoadRect f3

/-- The rows of the chunk matrices of group `j` that go into the states. -/
abbrev rdWs (j : Fin 2) : Vec Ideal S1x256x256 .bf16 :=
  View.readAt (Elt Ideal) arg3.view (Rect.unit (s := S2x512x256) ![j.val, 256, 0] S1x256x256.size (by intro a; fin_cases a <;> simp <;> omega)).toLoadRect f3

/-- The output map of group `j`. -/
abbrev rdT (j : Fin 2) : Vec Ideal S1x256x256 .bf16 :=
  View.readAt (Elt Ideal) arg4.view (Rect.unit (s := S2x256x256) ![j.val, 0, 0] S1x256x256.size (by intro a; fin_cases a <;> simp <;> omega)).toLoadRect f4

/-- The skip weights of group `j`. -/
abbrev rdD (j : Fin 2) : Vec Ideal S1x256x1 .f32 :=
  View.readAt (Elt Ideal) arg6.view (Rect.unit (s := S2x256x1) ![j.val, 0, 0] S1x256x1.size (by intro a; fin_cases a <;> simp <;> omega)).toLoadRect f6

/-- Quarter `q` of the latent inputs of group `j`. -/
abbrev rdX (j : Fin 2) (q : Fin 4) : Vec Ideal S16x16x512 .bf16 :=
  View.readAt (Elt Ideal) arg1.view (Rect.unit (s := S16x32x2048) ![0, 16 * j.val, 512 * q.val] S16x16x512.size (by intro a; fin_cases a <;> simp <;> omega)).toLoadRect f1

/-- Quarter `q` of the stored states of direction `d`, part `ri`. -/
abbrev rdH (q : Fin 4) (d ri : Fin 2) : Vec Ideal S1x1x512x128 .f32 :=
  View.readAt (Elt Ideal) arg9.view (Rect.unit (s := S2x2x2048x128) ![d.val, ri.val, 512 * q.val, 0] S1x1x512x128.size (by intro a; fin_cases a <;> simp <;> omega)).toLoadRect f9

/-- The stores of the chunks' own parts, the later first. -/
abbrev ownL : List (View.Piece (Elt Ideal) S2x256x2048 .f32) :=
  [⟨Rect.unit (s := S2x256x2048) ![1, 0, 0] S1x256x2048.size inb_S2x256x2048_S1x256x2048_1_0_0, k0_pay13 (k0_pay12 (rdW arg3 f3 1) (rdU arg1 f1 1))⟩,
    ⟨Rect.unit (s := S2x256x2048) ![0, 0, 0] S1x256x2048.size inb_S2x256x2048_S1x256x2048_0_0_0, k0_pay9 (rdW arg3 f3 0) (rdU arg1 f1 0)⟩]

/-- Quarter `q` of the chunks' own parts of group `j`. -/
abbrev rdY (j : Fin 2) (q : Fin 4) : Vec Ideal S1x256x512 .f32 :=
  arg10.view.readCov (ownL arg1 arg3 f1 f3) (Rect.unit (s := S2x256x2048) ![j.val, 0, 512 * q.val] S1x256x512.size (by intro a; fin_cases a <;> simp <;> omega)).toLoadRect

/-- What the context adds to the states, by direction and part. -/
abbrev ctxP (d ri : Fin 2) : Vec Ideal S1x1x128x128 .f32 :=
  (![![k0_pay15 (k0_pay6 (rdWs arg3 f3 0) (rdC arg2 f2 0)) (k0_pay7 (rdWs arg3 f3 1) (rdC arg2 f2 1)), k0_pay16 (k0_pay6 (rdWs arg3 f3 0) (rdC arg2 f2 0)) (k0_pay7 (rdWs arg3 f3 1) (rdC arg2 f2 1))],
    ![k0_pay20 (k0_pay19 (k0_pay6 (rdWs arg3 f3 0) (rdC arg2 f2 0)) (k0_pay7 (rdWs arg3 f3 1) (rdC arg2 f2 1))), k0_pay21 (k0_pay6 (rdWs arg3 f3 0) (rdC arg2 f2 0)) (k0_pay7 (rdWs arg3 f3 1) (rdC arg2 f2 1))]] : Fin 2 → Fin 2 → Vec Ideal S1x1x128x128 .f32) d ri

/-- What the latent adds to the states, by direction and part. -/
abbrev latP (d ri : Fin 2) : Vec Ideal S1x1x2048x128 .f32 :=
  (![![k0_pay17 (k0_pay10 (rdW arg3 f3 0) (rdU arg1 f1 0)) (k0_pay11 (rdW arg3 f3 1) (rdU arg1 f1 1)), k0_pay18 (k0_pay10 (rdW arg3 f3 0) (rdU arg1 f1 0)) (k0_pay11 (rdW arg3 f3 1) (rdU arg1 f1 1))],
    ![k0_pay22 (k0_pay10 (rdW arg3 f3 0) (rdU arg1 f1 0)) (k0_pay14 (k0_pay11 (rdW arg3 f3 1) (rdU arg1 f1 1))), k0_pay23 (k0_pay10 (rdW arg3 f3 0) (rdU arg1 f1 0)) (k0_pay14 (k0_pay11 (rdW arg3 f3 1) (rdU arg1 f1 1)))]] : Fin 2 → Fin 2 → Vec Ideal S1x1x2048x128 .f32) d ri

/-- The tile of group `j`, quarter `q`. -/
abbrev tileR (j : Fin 2) (q : Fin 4) : Vec Ideal S16x16x512 .bf16 :=
  (![k0_pay41 (k0_pay37 (rdH arg9 f9 q 0 0)) (k0_pay38 (rdH arg9 f9 q 0 1)) (k0_pay39 (rdH arg9 f9 q 1 0)) (k0_pay40 (rdH arg9 f9 q 1 1)) (rdX arg1 f1 0 q) (rdY arg1 arg3 arg10 f1 f3 0 q) (rdD arg6 f6 0) (rdT arg4 f4 0),
    k0_pay47 (k0_pay42 (rdX arg1 f1 1 q)) (k0_pay43 (k0_pay37 (rdH arg9 f9 q 0 0))) (k0_pay44 (k0_pay38 (rdH arg9 f9 q 0 1))) (k0_pay45 (k0_pay39 (rdH arg9 f9 q 1 0))) (k0_pay46 (k0_pay40 (rdH arg9 f9 q 1 1))) (rdY arg1 arg3 arg10 f1 f3 1 q) (rdD arg6 f6 1) (rdT arg4 f4 1)] : Fin 2 → Vec Ideal S16x16x512 .bf16) j

variable (x0 : Vec Ideal S16x32x2048 .bf16) (x1 : Vec Ideal S16x32x128 .bf16) (x2 : Vec Ideal S2x512x256 .bf16) (x3 : Vec Ideal S2x256x256 .bf16) (x4 : Vec Ideal S2x1x2x128 .f32) (x5 : Vec Ideal S2x256x1 .f32)
  (h1 : arg1.view.read (Elt Ideal) f1 = x0) (h2 : arg2.view.read (Elt Ideal) f2 = x1) (h3 : arg3.view.read (Elt Ideal) f3 = x2) (h4 : arg4.view.read (Elt Ideal) f4 = x3) (h6 : arg6.view.read (Elt Ideal) f6 = x5)

include h1 in
theorem rdU_apply (j : Fin 2) (k : Fin 256) (l : Fin 2048) : rdU arg1 f1 j (ix3 ⟨(k : ℕ) / 16, by omega⟩ ⟨(k : ℕ) % 16, by omega⟩ l) = gU x0 j k l := by
  subst h1
  exact readAt_ix arg1 f1 _ _ _ (by intro a; fin_cases a <;> simp <;> omega)

include h1 in
theorem rdX_apply (j : Fin 2) (q : Fin 4) (t h : Fin 16) (l : Fin 512) :
    rdX arg1 f1 j q (ix3 t h l) = gU x0 j ⟨(t : ℕ) * 16 + h, by omega⟩ ⟨512 * (q : ℕ) + l, by omega⟩ := by
  subst h1
  exact readAt_ix arg1 f1 _ _ _ (by intro a; fin_cases a <;> simp <;> omega)

include h2 in
theorem rdC_apply (j : Fin 2) (k : Fin 256) (l : Fin 128) : rdC arg2 f2 j (ix3 ⟨(k : ℕ) / 16, by omega⟩ ⟨(k : ℕ) % 16, by omega⟩ l) = gC x1 j k l := by
  subst h2
  exact readAt_ix arg2 f2 _ _ _ (by intro a; fin_cases a <;> simp <;> omega)

include h3 in
theorem rdW_apply (j : Fin 2) (r : Fin 512) (c : Fin 256) : rdW arg3 f3 j (ix3 0 r c) = gW x2 j r c := by
  subst h3
  exact readAt_ix arg3 f3 _ _ _ (by intro a; fin_cases a <;> simp)

include h3 in
theorem rdWs_apply (j : Fin 2) (r c : Fin 256) : rdWs arg3 f3 j (ix3 0 r c) = gW x2 j ⟨256 + r, by omega⟩ c := by
  subst h3
  exact readAt_ix arg3 f3 _ _ _ (by intro a; fin_cases a <;> simp)

include h4 in
theorem rdT_apply (j : Fin 2) (k c : Fin 256) : rdT arg4 f4 j (ix3 0 k c) = gT x3 j k c := by
  subst h4
  exact readAt_ix arg4 f4 _ _ _ (by intro a; fin_cases a <;> simp)

include h6 in
theorem rdD_apply (j : Fin 2) (k : Fin 256) : rdD arg6 f6 j (ix3 0 k 0) = gD x5 j k := by
  subst h6
  exact readAt_ix arg6 f6 _ _ _ (by intro a; fin_cases a <;> simp)

theorem rdH_apply (q : Fin 4) (d ri : Fin 2) (l : Fin 512) (p : Fin 128) :
    rdH arg9 f9 q d ri (ix4 0 0 l p) = arg9.view.read (Elt Ideal) f9 (ix4 d ri ⟨512 * (q : ℕ) + l, by omega⟩ p) :=
  readAt_ix arg9 f9 _ _ _ (by intro a; fin_cases a <;> simp)

include h1 h3 in
theorem rdY_apply (j : Fin 2) (q : Fin 4) (k : Fin 256) (l : Fin 512) :
    rdY arg1 arg3 arg10 f1 f3 j q (ix3 0 k l) = ∑ c : Fin 256, gW x2 j ⟨(k : ℕ), by omega⟩ c * gU x0 j c ⟨512 * (q : ℕ) + l, by omega⟩ := by
  refine (readAt_ix arg10 _ _ _ (ix3 j k ⟨512 * (q : ℕ) + l, by omega⟩) (by intro a; fin_cases a <;> simp)).trans ?_
  refine (read_own arg10 _ (![k0_pay9 (rdW arg3 f3 0) (rdU arg1 f1 0), k0_pay13 (k0_pay12 (rdW arg3 f3 1) (rdU arg1 f1 1))] : Fin 2 → Vec Ideal S1x256x2048 .f32) _ _ j k _).trans ?_
  fin_cases j
  · exact (own_0 _ _ _ _).trans (Finset.sum_congr rfl fun c _ => congrArg₂ (· * ·) (rdW_apply arg3 f3 x2 h3 0 _ c) (rdU_apply arg1 f1 x0 h1 0 c _))
  · exact (own_1 _ _ _ _).trans (Finset.sum_congr rfl fun c _ => congrArg₂ (· * ·) (rdW_apply arg3 f3 x2 h3 1 _ c) (rdU_apply arg1 f1 x0 h1 1 c _))

include h2 h3 in
theorem ctxP_apply (d ri : Fin 2) (r q : Fin 128) :
    ctxP arg2 arg3 f2 f3 d ri (ix4 0 0 r q) = ∑ k : Fin 256, gW x2 (half2 q) (row d ri ⟨(q : ℕ) % 64, by omega⟩) k * gC x1 (half2 q) k r := by
  have fin : ∀ (n : ℕ) (hn : n < 256) (hr : 256 + n = (row d ri ⟨(q : ℕ) % 64, by omega⟩).val),
      (∑ k : Fin 256, (rdWs arg3 f3 (half2 q) (ix3 0 ⟨n, hn⟩ k) : EReal) * rdC arg2 f2 (half2 q) (ix3 ⟨(k : ℕ) / 16, by omega⟩ ⟨(k : ℕ) % 16, by omega⟩ r))
        = ∑ k : Fin 256, gW x2 (half2 q) (row d ri ⟨(q : ℕ) % 64, by omega⟩) k * gC x1 (half2 q) k r := fun n hn hr =>
    Finset.sum_congr rfl fun k _ => congrArg₂ (· * ·)
      ((rdWs_apply arg3 f3 x2 h3 (half2 q) ⟨n, hn⟩ k).trans (congrArg (fun r => gW x2 (half2 q) r k) (Fin.ext hr))) (rdC_apply arg2 f2 x1 h2 (half2 q) k r)
  by_cases hd : d.val < 1 <;> by_cases hr : ri.val < 1
  · obtain rfl : d = 0 := Fin.ext (by simp; omega)
    obtain rfl : ri = 0 := Fin.ext (by simp; omega)
    exact (ctx_00 (rdWs arg3 f3) (rdC arg2 f2) r q).trans (fin _ _ rfl)
  · obtain rfl : d = 0 := Fin.ext (by simp; omega)
    obtain rfl : ri = 1 := Fin.ext (by simp; omega)
    exact (ctx_01 (rdWs arg3 f3) (rdC arg2 f2) r q).trans (fin _ _ rfl)
  · obtain rfl : d = 1 := Fin.ext (by simp; omega)
    obtain rfl : ri = 0 := Fin.ext (by simp; omega)
    exact (ctx_10 (rdWs arg3 f3) (rdC arg2 f2) r q).trans (fin _ _ rfl)
  · obtain rfl : d = 1 := Fin.ext (by simp; omega)
    obtain rfl : ri = 1 := Fin.ext (by simp; omega)
    exact (ctx_11 (rdWs arg3 f3) (rdC arg2 f2) r q).trans (fin _ _ rfl)

include h1 h3 in
theorem latP_apply (d ri : Fin 2) (r : Fin 2048) (q : Fin 128) :
    latP arg1 arg3 f1 f3 d ri (ix4 0 0 r q) = ∑ k : Fin 256, gW x2 (half2 q) (row d ri ⟨(q : ℕ) % 64, by omega⟩) k * gU x0 (half2 q) k r := by
  have fin : ∀ (n : ℕ) (hn : n < 512) (hr : n = (row d ri ⟨(q : ℕ) % 64, by omega⟩).val),
      (∑ k : Fin 256, (rdW arg3 f3 (half2 q) (ix3 0 ⟨n, hn⟩ k) : EReal) * rdU arg1 f1 (half2 q) (ix3 ⟨(k : ℕ) / 16, by omega⟩ ⟨(k : ℕ) % 16, by omega⟩ r))
        = ∑ k : Fin 256, gW x2 (half2 q) (row d ri ⟨(q : ℕ) % 64, by omega⟩) k * gU x0 (half2 q) k r := fun n hn hr =>
    Finset.sum_congr rfl fun k _ => congrArg₂ (· * ·)
      ((rdW_apply arg3 f3 x2 h3 (half2 q) ⟨n, hn⟩ k).trans (congrArg (fun r => gW x2 (half2 q) r k) (Fin.ext hr))) (rdU_apply arg1 f1 x0 h1 (half2 q) k r)
  by_cases hd : d.val < 1 <;> by_cases hr : ri.val < 1
  · obtain rfl : d = 0 := Fin.ext (by simp; omega)
    obtain rfl : ri = 0 := Fin.ext (by simp; omega)
    exact (lat_00 (rdW arg3 f3) (rdU arg1 f1) r q).trans (fin _ _ rfl)
  · obtain rfl : d = 0 := Fin.ext (by simp; omega)
    obtain rfl : ri = 1 := Fin.ext (by simp; omega)
    exact (lat_01 (rdW arg3 f3) (rdU arg1 f1) r q).trans (fin _ _ rfl)
  · obtain rfl : d = 1 := Fin.ext (by simp; omega)
    obtain rfl : ri = 0 := Fin.ext (by simp; omega)
    exact (lat_10 (rdW arg3 f3) (rdU arg1 f1) r q).trans (fin _ _ rfl)
  · obtain rfl : d = 1 := Fin.ext (by simp; omega)
    obtain rfl : ri = 1 := Fin.ext (by simp; omega)
    exact (lat_11 (rdW arg3 f3) (rdU arg1 f1) r q).trans (fin _ _ rfl)

include h1 h2 h3 in
/-- What the scan's inputs hold, once the eight parts are stored. -/
theorem parts_rows (d ri : Fin 2) (r : Fin 2176) (q : Fin 128) :
    (if h : (r : ℕ) < 128 then ctxP arg2 arg3 f2 f3 d ri (ix4 0 0 ⟨r, h⟩ q) else latP arg1 arg3 f1 f3 d ri (ix4 0 0 ⟨(r : ℕ) - 128, by omega⟩ q))
      = rows x0 x1 x2 d ri r q := by
  unfold rows
  by_cases h : (r : ℕ) < 128
  · rw [dif_pos h, dif_pos h, ctxP_apply arg2 arg3 f2 f3 x1 x2 h2 h3]
  · rw [dif_neg h, dif_neg h, latP_apply arg1 arg3 f1 f3 x0 x2 h1 h3]

include h1 h3 h4 h6 in
/-- A tile holds the block's entries. -/
theorem tileR_apply (S : S2x2x2176x128.Idx → EReal) (hS : ∀ d ri r q, S (ix4 d ri r q) = rows x0 x1 x2 d ri r q)
    (hH : ∀ (d ri : Fin 2) (l : Fin 2048) (q : Fin 128), arg9.view.read (Elt Ideal) f9 (ix4 d ri l q)
      = part (rowState S (fun d ri q => x4 (ix4 d 0 ri q)) d q ⟨(l : ℕ) % 8, by omega⟩ (16 + walk 256 d (chunkOf l))) ri)
    (t : Fin 16) (ch : Fin 32) (l : Fin 2048) :
    tileR arg1 arg3 arg4 arg6 arg9 arg10 f1 f3 f4 f6 f9 ⟨(ch : ℕ) / 16, by omega⟩ ⟨(l : ℕ) / 512, by omega⟩ (ix3 t ⟨(ch : ℕ) % 16, by omega⟩ ⟨(l : ℕ) % 512, by omega⟩)
      = blockOut x0 x1 x2 x3 x4 x5 (ix3 t ch l) := by
  have hl : ∀ q : Fin 4, q = ⟨(l : ℕ) / 512, by omega⟩ → (⟨512 * (q : ℕ) + (⟨(l : ℕ) % 512, by omega⟩ : Fin 512), by have := q.isLt; simp; omega⟩ : Fin 2048) = l := by
    intro q hq; subst hq; exact Fin.ext (by simp; omega)
  have key := tile_out x0 x1 x2 x3 x4 x5 t ch l (arg9.view.read (Elt Ideal) f9) S hS hH
  generalize hj : (⟨(ch : ℕ) / 16, by omega⟩ : Fin 2) = j at key ⊢
  generalize hq : (⟨(l : ℕ) / 512, by omega⟩ : Fin 4) = q at hl ⊢
  have hl' := hl q rfl
  have hj' : (ch : ℕ) / 16 = j := congrArg Fin.val hj
  clear hj
  by_cases hj0 : j.val < 1
  · obtain rfl : j = 0 := Fin.ext (by simp; omega)
    refine (tile_0 (rdH arg9 f9 q) _ _ _ _ t _ _).trans (key _ _ _ _ _ ?_ ?_ ?_ ?_ ?_)
    · refine (rdY_apply arg1 arg3 arg10 f1 f3 x0 x2 h1 h3 0 q _ _).trans ?_
      rw [hl']
    · exact rdD_apply arg6 f6 x5 h6 0 _
    · refine (rdX_apply arg1 f1 x0 h1 0 q t _ _).trans ?_
      rw [hl']
    · exact fun c => rdT_apply arg4 f4 x3 h4 0 _ c
    · intro c
      refine (rdH_apply arg9 f9 q _ _ _ _).trans (congrArg (arg9.view.read (Elt Ideal) f9) (ix4_val rfl rfl (congrArg Fin.val hl') ?_))
      simp [hj']
  · obtain rfl : j = 1 := Fin.ext (by simp; omega)
    refine (tile_1 (rdH arg9 f9 q) _ _ _ _ t _ _).trans (key _ _ _ _ _ ?_ ?_ ?_ ?_ ?_)
    · refine (rdY_apply arg1 arg3 arg10 f1 f3 x0 x2 h1 h3 1 q _ _).trans ?_
      rw [hl']
    · exact rdD_apply arg6 f6 x5 h6 1 _
    · refine (rdX_apply arg1 f1 x0 h1 1 q t _ _).trans ?_
      rw [hl']
    · exact fun c => rdT_apply arg4 f4 x3 h4 1 _ c
    · intro c
      refine (rdH_apply arg9 f9 q _ _ _ _).trans (congrArg (arg9.view.read (Elt Ideal) f9) (ix4_val rfl rfl (congrArg Fin.val hl') ?_))
      simp [hj']

end

end Cert.KernelIdeal.Gen

end
-- ==== Proof.IdealRun.lean ====
module

public import proofs.«01_k».proof.Proof.IdealRuns
public import proofs.«01_k».proof.Proof.IdealTiles

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.S5
open Idealize.ShloMosaic.Pipeline (Dat Cfg Window BodyObligation cellOf)

local notation "𝕄" => MT nD τ sig Unit (Elt Ideal) ℕ (UR sig nD τ) ℕ

theorem pay24_apply (v : Vec Ideal S1x1x1x128 .f32) (b : Fin 8) (q : Fin 128) : k0_pay24 v (ix2 b q) = v (ix4 0 0 0 q) := by
  unfold k0_pay24; clean_types; pointwise

theorem pay25_apply (v : Vec Ideal S1x1x1x128 .f32) (b : Fin 8) (q : Fin 128) : k0_pay25 v (ix2 b q) = v (ix4 0 0 0 q) := by
  unfold k0_pay25; clean_types; pointwise

/-- A load of one row of the decays. -/
theorem rdL (v : Memref sig .tc .vmem S2x1x2x128 .f32) (hv : v.IsWhole) (x4 : Vec Ideal S2x1x2x128 .f32) (d ri : Fin 2)
    (inb : ∀ a, (![d.val, 0, ri.val, 0] : Fin 4 → ℕ) a + S1x1x1x128.size a ≤ S2x1x2x128.size a) (q : Fin 128) :
    View.readAt (Elt Ideal) v.view (Rect.unit (s := S2x1x2x128) ![d.val, 0, ri.val, 0] S1x1x1x128.size inb).toLoadRect (hv.unread x4) (ix4 0 0 0 q) = x4 (ix4 d 0 ri q) :=
  (readAt_ix v _ inb _ (ix4 d 0 ri q) (by intro a; fin_cases a <;> simp)).trans (congrFun (hv.read_unread x4) _)

-- (the run's proof term is large: checking it walks past the default budget)
set_option maxHeartbeats 4000000 in
/-- The body's triple: on whole staging memrefs, the inputs' at their contents and the output's at anything, the body runs to
    the continuation that holds the inputs' as they were, the output's at `blockOut` of them and the scratch at some contents. -/
theorem kernelRun0_A (c : Dev nD) (i : grid0.Coords) (arg1 : Memref sig .tc .vmem S16x32x2048 .bf16) (harg1 : arg1.IsWhole) (arg2 : Memref sig .tc .vmem S16x32x128 .bf16) (harg2 : arg2.IsWhole) (arg3 : Memref sig .tc .vmem S2x512x256 .bf16) (harg3 : arg3.IsWhole) (arg4 : Memref sig .tc .vmem S2x256x256 .bf16) (harg4 : arg4.IsWhole) (arg5 : Memref sig .tc .vmem S2x1x2x128 .f32) (harg5 : arg5.IsWhole) (arg6 : Memref sig .tc .vmem S2x256x1 .f32) (harg6 : arg6.IsWhole) (arg7 : Memref sig .tc .vmem S16x32x2048 .bf16) (harg7 : arg7.IsWhole) (arg8 : Memref sig .tc .vmem S2x2x2176x128 .f32) (harg8 : arg8.IsWhole) (arg9 : Memref sig .tc .vmem S2x2x2048x128 .f32) (harg9 : arg9.IsWhole) (arg10 : Memref sig .tc .vmem S2x256x2048 .f32) (harg10 : arg10.IsWhole)
    (x0 : Vec Ideal S16x32x2048 .bf16) (x1 : Vec Ideal S16x32x128 .bf16) (x2 : Vec Ideal S2x512x256 .bf16) (x3 : Vec Ideal S2x256x256 .bf16) (x4 : Vec Ideal S2x1x2x128 .f32) (x5 : Vec Ideal S2x256x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (blockOut x0 x1 x2 x3 x4 x5) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := Ideal)) Variants.none c none) E (cc0_s5 i arg1 harg1 arg2 harg2 arg3 harg3 arg4 harg4 arg5 harg5 arg6 harg6 arg7 harg7 arg8 harg8 arg9 harg9 arg10 harg10) K := by
    intro E K
    simp only [cc0_s5_eq_skeleton]; unfold cc0_s5_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    have hS : ∀ (d ri : Fin 2) (r : Fin 2176) (q : Fin 128),
        arg8.view.read (Elt Ideal) (arg8.view.writes (Elt Ideal) arg8.view.junk (kernelRun0_A.sl.HS0_8 c arg1 harg1 arg2 harg2 arg3 harg3 x0 x1 x2)) (ix4 d ri r q)
          = rows x0 x1 x2 d ri r q := fun d ri r q =>
      (read_parts arg8 _ (ctxP arg2 arg3 (harg2.unread x1) (harg3.unread x2)) (latP arg1 arg3 (harg1.unread x0) (harg3.unread x2)) _ _ _ _ _ _ _ _ d ri r q).trans
        (parts_rows arg1 arg2 arg3 _ _ _ x0 x1 x2 (harg1.read_unread x0) (harg2.read_unread x1) (harg3.read_unread x2) d ri r q)
    have h89 : ∀ (b : Fin 8) (q : Fin 128), k0_pay24 (View.readAt (Elt Ideal) arg5.view (Rect.unit (s := S2x1x2x128) ![0, 0, 0, 0] S1x1x1x128.size inb_S2x1x2x128_S1x1x1x128_0_0_0_0).toLoadRect (harg5.unread x4)) (ix2 b q) = x4 (ix4 0 0 0 q) :=
      fun b q => (pay24_apply _ b q).trans (rdL arg5 harg5 x4 0 0 _ q)
    have h93 : ∀ (b : Fin 8) (q : Fin 128), k0_pay25 (View.readAt (Elt Ideal) arg5.view (Rect.unit (s := S2x1x2x128) ![0, 0, 1, 0] S1x1x1x128.size inb_S2x1x2x128_S1x1x1x128_0_0_1_0).toLoadRect (harg5.unread x4)) (ix2 b q) = x4 (ix4 0 0 1 q) :=
      fun b q => (pay25_apply _ b q).trans (rdL arg5 harg5 x4 0 1 _ q)
    have hst := lat_holds _ _ _ _ arg8 (arg8.view.writes (Elt Ideal) arg8.view.junk (kernelRun0_A.sl.HS0_8 c arg1 harg1 arg2 harg2 arg3 harg3 x0 x1 x2)) _ (fun d ri q => x4 (ix4 d 0 ri q))
      h89 h93 (fun q => rdL arg5 harg5 x4 1 0 inb_S2x1x2x128_S1x1x1x128_1_0_0_0 q) (fun q => rdL arg5 harg5 x4 1 1 inb_S2x1x2x128_S1x1x1x128_1_0_1_0 q)
      (ctx_holds Variants.none c none i arg1 harg1 arg2 harg2 arg3 harg3 arg4 harg4 arg5 harg5 arg6 harg6 arg7 harg7 arg8 harg8 arg9 harg9 arg10 harg10 _ _ _ _ _ (fun d ri q => x4 (ix4 d 0 ri q)) h89 h93 (fun q => rdL arg5 harg5 x4 1 0 inb_S2x1x2x128_S1x1x1x128_1_0_0_0 q) (fun q => rdL arg5 harg5 x4 1 1 inb_S2x1x2x128_S1x1x1x128_1_0_1_0 q) 16 (Nat.le_refl _))
    have hL := ‹_ = 0 ∨ Stored _ _ _›
    have hH := stored_at _ _ _ _ (hL.resolve_left (by decide)) hst
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      funext y
      have ey : y = ix3 (y 0) (y 1) (y 2) := by funext a; fin_cases a <;> rfl
      rw [ey]
      refine Eq.trans ?_ (tileR_apply arg1 arg3 arg4 arg6 arg9 arg10 (harg1.unread x0) (harg3.unread x2) (harg4.unread x3) (harg6.unread x5) _ x0 x2 x3 x4 x5
        (harg1.read_unread x0) (harg3.read_unread x2) (harg4.read_unread x3) (harg6.read_unread x5) (x1 := x1) _ hS hH (y 0) (y 1) (y 2))
      exact read_tiles arg7 f6 (tileR arg1 arg3 arg4 arg6 arg9 arg10 (harg1.unread x0) (harg3.unread x2) (harg4.unread x3) (harg6.unread x5) _) _ _ _ _ _ _ _ _ (y 0) (y 1) (y 2)
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Gen

end
-- ==== Proof.IdealFrame.lean ====
module

public import proofs.«01_k».proof.Proof.IdealRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- The proof data of the one pipeline on core `c`: the arrays as the region finds them (`V`); after the body at
    point `t` each input's buffer at its block and the output's at `blockOut` of them; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockOut (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem after0_6 (c : Dev nD) (t : Fin cfg0.N) : (dats m 0 c).after 6 t = blockOut (iblk m c 0 t) (iblk m c 1 t) (iblk m c 2 t) (iblk m c 3 t) (iblk m c 4 t) (iblk m c 5 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer at its region-entry contents. -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every run ends with the argument arrays unchanged and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.IdealValue.lean ====
module

public import proofs.«01_k».proof.Proof.IdealFrame
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Cert.Proof.S5

/-! The output array after the run: the layer of the argument arrays. -/

variable (m : (ℓ : Loc nD τ sig) → Buf (Elt Ideal) ℓ) (ρ : Dev nD → PrngReg)

/-- The argument arrays. -/
abbrev a0 (c : Dev nD) : S16x1024x2048.Idx → EReal := m (c.tc.loc main_arg0)
abbrev a1 (c : Dev nD) : S16x1024x128.Idx → EReal := m (c.tc.loc main_arg1)
abbrev a2 (c : Dev nD) : S64x512x256.Idx → EReal := m (c.tc.loc main_arg2)
abbrev a3 (c : Dev nD) : S64x256x256.Idx → EReal := m (c.tc.loc main_arg3)
abbrev a4 (c : Dev nD) : S2x32x2x128.Idx → EReal := m (c.tc.loc main_arg4)
abbrev a5 (c : Dev nD) : S64x256x1.Idx → EReal := m (c.tc.loc main_arg5)

/-- Where each window's block sits at a point. -/
theorem idx_at : ∀ t : Fin cfg0.N, (cfg0.win 0).index t = ![0, t.val, 0] ∧ (cfg0.win 1).index t = ![0, t.val, 0] ∧ (cfg0.win 2).index t = ![t.val, 0, 0]
    ∧ (cfg0.win 3).index t = ![t.val, 0, 0] ∧ (cfg0.win 4).index t = ![0, t.val, 0, 0] ∧ (cfg0.win 5).index t = ![t.val, 0, 0] ∧ (cfg0.win 6).index t = ![0, t.val, 0] := by
  decide +kernel

theorem out_congr {u u' : Fin 256 → Fin 2048 → EReal} {uc uc' : Fin 256 → Fin 128 → EReal} {w w' : Fin 512 → Fin 256 → EReal} {ct ct' : Fin 256 → Fin 256 → EReal}
    {lam lam' : Fin 2 → Fin 2 → Fin 64 → EReal} {D D' : Fin 256 → EReal} {k k' : Fin 256} {l l' : Fin 2048}
    (h0 : u = u') (h1 : uc = uc') (h2 : w = w') (h3 : ct = ct') (h4 : lam = lam') (h5 : D = D') (hk : k = k') (hl : l = l') :
    out u uc w ct lam D k l = out u' uc' w' ct' lam' D' k' l' := by
  subst h0 h1 h2 h3 h4 h5 hk hl; rfl

/-- The result as an array. -/
def result (c : Dev nD) : S16x1024x2048.Idx → EReal := fun y => layer (a0 m c) (a1 m c) (a2 m c) (a3 m c) (a4 m c) (a5 m c) (y 0) (y 1) (y 2)

section
variable (c : Dev nD) (t : Fin cfg0.N) (j : Fin 2) (g : Fin 64) (hg : g.val = 2 * t.val + j.val)
include hg

theorem link_u (k : Fin 256) (l : Fin 2048) : gU (iblk m c 0 t) j k l = X (a0 m c) g k l := by
  obtain ⟨i0, -⟩ := idx_at t
  unfold gU X
  blk_ext [iblk, V, i0]

theorem link_c (k : Fin 256) (l : Fin 128) : gC (iblk m c 1 t) j k l = X (a1 m c) g k l := by
  obtain ⟨-, i1, -⟩ := idx_at t
  unfold gC X
  blk_ext [iblk, V, i1]

theorem link_w (r : Fin 512) (k : Fin 256) : gW (iblk m c 2 t) j r k = mat (a2 m c) g r k := by
  obtain ⟨-, -, i2, -⟩ := idx_at t
  unfold gW mat
  blk_ext [iblk, V, i2]

theorem link_t (r k : Fin 256) : gT (iblk m c 3 t) j r k = mat (a3 m c) g r k := by
  obtain ⟨-, -, -, i3, -⟩ := idx_at t
  unfold gT mat
  blk_ext [iblk, V, i3]

theorem link_l (d ri : Fin 2) (p : Fin 64) : gL (iblk m c 4 t) j d ri p = decay (a4 m c) g d ri p := by
  obtain ⟨-, -, -, -, i4, -⟩ := idx_at t
  unfold gL decay
  blk_ext [iblk, V, i4]

theorem link_d (k : Fin 256) : gD (iblk m c 5 t) j k = a5 m c (ix3 g k 0) := by
  obtain ⟨-, -, -, -, -, i5, -⟩ := idx_at t
  unfold gD
  blk_ext [iblk, V, i5]

end

/-- A block's entry is the layer's at the block's place. -/
theorem block_eq (c : Dev nD) (t : Fin cfg0.N) (y : S16x32x2048.Idx) (z : S16x1024x2048.Idx) (e0 : (z 0).val = (y 0).val) (e1 : (z 1).val = t.val * 32 + (y 1).val)
    (e2 : (z 2).val = (y 2).val) :
    blockOut (iblk m c 0 t) (iblk m c 1 t) (iblk m c 2 t) (iblk m c 3 t) (iblk m c 4 t) (iblk m c 5 t) y = result m c z := by
  have hg : (z 1).val / 16 = 2 * t.val + (y 1).val / 16 := by omega
  exact out_congr (funext fun k => funext fun l => link_u m c t _ _ hg k l) (funext fun k => funext fun l => link_c m c t _ _ hg k l)
    (funext fun r => funext fun k => link_w m c t _ _ hg r k) (funext fun r => funext fun k => link_t m c t _ _ hg r k)
    (funext fun d => funext fun ri => funext fun p => link_l m c t _ _ hg d ri p) (funext fun k => link_d m c t _ _ hg k)
    (Fin.ext (by show (y 0).val * 16 + (y 1).val % 16 = (z 0).val * 16 + (z 1).val % 16; omega)) (Fin.ext e2.symm)

/-- The output array after the run is the layer. -/
theorem arr_out (c : Dev nD) : (dats m 0 c).arrAt 6 (cfgs 0).N = result m c := by
  refine (dats m 0 c).arrAt_eq_of_covers 6 _ (by decide +kernel) fun t hf y => ?_
  have i6 := (idx_at t).2.2.2.2.2.2
  blk_simp
  rw [after0_6]
  exact block_eq m c t y _ (by blk_simp [i6]) (by blk_simp [i6]) (by blk_simp [i6])

end Cert.KernelIdeal.Gen

end
-- ==== Proof.Ref.lean ====
module

public import proofs.«01_k».proof.Proof.Spec
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Proof.S5

variable (m : (ℓ : Loc nD τ sig) → Buf (Elt Ideal) ℓ)

theorem ix3_val {n₀ n₁ n₂ : ℕ} {a a' : Fin n₀} {b b' : Fin n₁} {c c' : Fin n₂} (ha : a.val = a'.val) (hb : b.val = b'.val) (hc : c.val = c'.val) :
    ix3 a b c = ix3 a' b' c' := by
  obtain rfl := Fin.ext ha; obtain rfl := Fin.ext hb; obtain rfl := Fin.ext hc; rfl

theorem prod_congr {s₁ s₂ : Shape} (W : s₁.Idx → EReal) (A : s₂.Idx → EReal) {i i' : s₁.Idx} {j j' : s₂.Idx} (hi : i = i') (hj : j = j') :
    W i * A j = W i' * A j' := by rw [hi, hj]

set_option maxHeartbeats 1000000 in
theorem entry_seq (c : Dev nD) (n : Fin 272) (d ri : Fin 2) (g p : Fin 64) (b : Fin 8) :
    entryContents preI m c (Proc.devRef .tc main_v39_0) (ix6 n d ri g p b)
      = added (X (m ((c.tc : Thread nD τ).loc main_arg0) : S16x1024x2048.Idx → EReal) g) (X (m ((c.tc : Thread nD τ).loc main_arg1) : S16x1024x128.Idx → EReal) g) (mat (m ((c.tc : Thread nD τ).loc main_arg2) : S64x512x256.Idx → EReal) g) d ri p b n := by
  simp only [entryContents, afterL_cons, afterL_nil]
  after_reads_simp
  simp only [id]
  clean_types
  pointwise
  unfold added
  by_cases h : (n : ℕ) < 16
  · rw [dif_pos h, if_pos h]
    after_reads_simp
    clean_types
    pointwise
    by_cases hd : (d : ℕ) < 1
    · simp only [hd, dif_pos, row, walk, laneC, X, mat, if_pos]
      refine Finset.sum_congr rfl fun x _ => prod_congr (s₁ := S64x512x256) (s₂ := S16x1024x128) _ _ ?_ ?_
      · refine ix3_val ?_ ?_ ?_ <;> simp <;> omega
      · refine ix3_val ?_ ?_ ?_ <;> simp <;> omega
    · simp only [hd, dif_neg, not_false_eq_true, row, walk, laneC, X, mat, if_neg]
      simp only [List.mem_singleton, Fin.reduceEq, if_false, if_true]
      refine Finset.sum_congr rfl fun x _ => prod_congr (s₁ := S64x512x256) (s₂ := S16x1024x128) _ _ ?_ ?_
      · refine ix3_val ?_ ?_ ?_ <;> simp <;> omega
      · refine ix3_val ?_ ?_ ?_ <;> simp <;> omega
  · rw [dif_neg h, if_neg h]
    after_reads_simp
    clean_types
    pointwise
    by_cases hd : (d : ℕ) < 1
    · simp only [hd, dif_pos, row, walk, lane, X, mat, if_pos]
      refine Finset.sum_congr rfl fun x _ => prod_congr (s₁ := S64x512x256) (s₂ := S16x1024x2048) _ _ ?_ ?_
      · refine ix3_val ?_ ?_ ?_ <;> simp <;> omega
      · refine ix3_val ?_ ?_ ?_ <;> simp <;> omega
    · simp only [hd, dif_neg, not_false_eq_true, row, walk, lane, X, mat, if_neg]
      simp only [List.mem_singleton, Fin.reduceEq, if_false, if_true]
      refine Finset.sum_congr rfl fun x _ => prod_congr (s₁ := S64x512x256) (s₂ := S16x1024x2048) _ _ ?_ ?_
      · refine ix3_val ?_ ?_ ?_ <;> simp <;> omega
      · refine ix3_val ?_ ?_ ?_ <;> simp <;> omega

theorem entry_lam (c : Dev nD) (d ri : Fin 2) (g p : Fin 64) :
    entryContents preI m c (Proc.devRef .tc main_v39_1) (ix5 ri d g p 0) = decay (m ((c.tc : Thread nD τ).loc main_arg4) : S2x32x2x128.Idx → EReal) g d ri p := by
  simp only [entryContents, afterL_cons, afterL_nil]
  after_reads_simp
  simp only [id]
  clean_types
  pointwise
  rfl

theorem entry_re (c : Dev nD) (d : Fin 2) (g p : Fin 64) (b : Fin 8) :
    entryContents preI m c (Proc.devRef .tc main_v39_3) (ix4 d g p b) = (0 : EReal) := by
  simp only [entryContents, afterL_cons, afterL_nil]
  after_reads_simp
  simp only [id]
  clean_types
  pointwise

theorem entry_im (c : Dev nD) (d : Fin 2) (g p : Fin 64) (b : Fin 8) :
    entryContents preI m c (Proc.devRef .tc main_v39_4) (ix4 d g p b) = (0 : EReal) := by
  simp only [entryContents, afterL_cons, afterL_nil]
  after_reads_simp
  simp only [id]
  clean_types
  pointwise

theorem toInt_row (n : Fin 272) : (BitVec.ofNat 32 n.val).toInt = (n.val : Int) := by
  have := n.isLt
  rw [BitVec.toInt_eq_toNat_of_lt (by simp only [BitVec.toNat_ofNat]; omega), BitVec.toNat_ofNat]; omega

theorem clamp_row (n : Fin 272) (h : (min ((n : ℕ) : Int) 271).toNat < 272) : (⟨(min ((n : ℕ) : Int) 271).toNat, h⟩ : Fin 272) = n := by
  have := n.isLt; ext; simp only; omega

/-- The loop's carried arrays as functions of their indices: what each chunk adds, the decays, the two parts of the state
    and the states stored so far. -/
abbrev seqOf (V : Valuation τ sig (Elt Ideal)) : S272x2x2x64x64x8.Idx → EReal := V (Proc.devRef .tc main_v39_0)
abbrev lamOf (V : Valuation τ sig (Elt Ideal)) : S2x2x64x64x1.Idx → EReal := V (Proc.devRef .tc main_v39_1)
abbrev reOf (V : Valuation τ sig (Elt Ideal)) : S2x64x64x8.Idx → EReal := V (Proc.devRef .tc main_v39_3)
abbrev imOf (V : Valuation τ sig (Elt Ideal)) : S2x64x64x8.Idx → EReal := V (Proc.devRef .tc main_v39_4)
abbrev outOf (V : Valuation τ sig (Elt Ideal)) : S272x2x2x64x64x8.Idx → EReal := V (Proc.devRef .tc main_v39_5)

theorem step_re (V : Valuation τ sig (Elt Ideal)) (n : Fin 272) (hn : V (Proc.devRef .tc main_v39_2) = fun _ => (BitVec.ofNat 32 n : BitVec 32))
    (d : Fin 2) (g p : Fin 64) (b : Fin 8) :
    step_main_v39_3 V (ix4 d g p b)
      = lamOf V (ix5 0 d g p 0) * reOf V (ix4 d g p b) - lamOf V (ix5 1 d g p 0) * imOf V (ix4 d g p b) + seqOf V (ix6 n d 0 g p b) := by
  unfold step_main_v39_3 res_main_while0b_v83
  simp only [id]
  clean_types
  pointwise [hn]
  simp only [Host.clampedStart, constantI]
  simp [toInt_row]
  rw [clamp_row]

theorem step_im (V : Valuation τ sig (Elt Ideal)) (n : Fin 272) (hn : V (Proc.devRef .tc main_v39_2) = fun _ => (BitVec.ofNat 32 n : BitVec 32))
    (d : Fin 2) (g p : Fin 64) (b : Fin 8) :
    step_main_v39_4 V (ix4 d g p b)
      = lamOf V (ix5 0 d g p 0) * imOf V (ix4 d g p b) + lamOf V (ix5 1 d g p 0) * reOf V (ix4 d g p b) + seqOf V (ix6 n d 1 g p b) := by
  unfold step_main_v39_4
  try unfold res_main_while0b_v83
  simp only [id]
  clean_types
  pointwise [hn]
  simp only [Host.clampedStart, constantI]
  simp [toInt_row]
  rw [clamp_row]

/-- Where an update of one row of the stored states falls. -/
theorem clamp_start (n : Fin 272) (h : S1x2x2x64x64x8.rank = S272x2x2x64x64x8.rank) (f : Fin 6 → Int) (h0 : f 0 = (n.val : Int)) (hf : ∀ a, a ≠ 0 → f a = 0) (a : Fin 6) :
    Host.clampedStart S272x2x2x64x64x8 S1x2x2x64x64x8 h f a = if a = 0 then n.val else 0 := by
  have := n.isLt
  by_cases ha : a = 0
  · subst ha
    rw [if_pos rfl]
    exact Host.clampedStart_of_le h f 0 n.val h0 (show n.val + 1 ≤ 272 by omega)
  · rw [if_neg ha]
    refine Host.clampedStart_of_le h f a 0 (hf a ha) ?_
    fin_cases a
    · exact absurd rfl ha
    all_goals first | decide | exact (by decide : (_ : ℕ) ≤ _) | (simp only [Nat.zero_add]; exact Nat.le_of_ble_eq_true rfl)

theorem update_row (x : S272x2x2x64x64x8.Idx → EReal) (upd : S1x2x2x64x64x8.Idx → EReal) (f : Fin 6 → Int) (h : S272x2x2x64x64x8.Slices (fun _ => 0) S1x2x2x64x64x8)
    (n : Fin 272) (h0 : f 0 = (n.val : Int)) (hf : ∀ a, a ≠ 0 → f a = 0) (k : Fin 272) (d ri : Fin 2) (g p : Fin 64) (b : Fin 8) :
    Host.dynamicUpdateSlice x upd f h (ix6 k d ri g p b) = if k = n then upd (ix6 0 d ri g p b) else x (ix6 k d ri g p b) := by
  rw [Host.dynamicUpdateSlice_apply]
  have hc := clamp_start n h.1 f h0 hf
  by_cases hk : k = n
  · subst hk
    rw [if_pos rfl, dif_pos (by
      intro a; rw [hc]
      fin_cases a
      · exact ⟨le_refl _, Nat.lt_succ_self _⟩
      · exact ⟨Nat.zero_le _, by simpa using d.isLt⟩
      · exact ⟨Nat.zero_le _, by simpa using ri.isLt⟩
      · exact ⟨Nat.zero_le _, by simpa using g.isLt⟩
      · exact ⟨Nat.zero_le _, by simpa using p.isLt⟩
      · exact ⟨Nat.zero_le _, by simpa using b.isLt⟩)]
    refine congrArg upd ?_
    funext a
    apply Fin.ext
    simp only [Shape.Idx.norm]
    rw [hc]
    fin_cases a
    · exact Nat.sub_self _
    all_goals rfl
  · rw [if_neg hk, dif_neg]
    intro hin
    have := hin 0
    rw [hc] at this
    apply hk
    apply Fin.ext
    have h1 : n.val ≤ k.val := this.1
    have h2 : k.val < n.val + 1 := this.2
    omega

theorem step_out (V : Valuation τ sig (Elt Ideal)) (n : Fin 272) (hn : V (Proc.devRef .tc main_v39_2) = fun _ => (BitVec.ofNat 32 n : BitVec 32))
    (k : Fin 272) (d ri : Fin 2) (g p : Fin 64) (b : Fin 8) :
    step_main_v39_5 V (ix6 k d ri g p b)
      = if k = n then (if ri.val < 1 then reOf V (ix4 d g p b) else imOf V (ix4 d g p b)) else outOf V (ix6 k d ri g p b) := by
  unfold step_main_v39_5
  simp only [id]
  clean_types
  refine (update_row _ _ _ _ n ?_ ?_ k d ri g p b).trans ?_
  · rw [← toInt_row]; simp [hn]
  · intro a ha; fin_cases a <;> first | exact absurd rfl ha | rfl
  · pointwise
    rfl

end Cert.ReferenceIdeal.Value

end
-- ==== Proof.RefOut.lean ====
module

public import proofs.«01_k».proof.Proof.Ref

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Proof.S5

variable (m : (ℓ : Loc nD τ sig) → Buf (Elt Ideal) ℓ)

/-- The arguments at the ideal instance, as functions of their indices. -/
abbrev in0 (c : Dev nD) : S16x1024x2048.Idx → EReal := m ((c.tc : Thread nD τ).loc main_arg0)
abbrev in1 (c : Dev nD) : S16x1024x128.Idx → EReal := m ((c.tc : Thread nD τ).loc main_arg1)
abbrev in2 (c : Dev nD) : S64x512x256.Idx → EReal := m ((c.tc : Thread nD τ).loc main_arg2)
abbrev in3 (c : Dev nD) : S64x256x256.Idx → EReal := m ((c.tc : Thread nD τ).loc main_arg3)
abbrev in4 (c : Dev nD) : S2x32x2x128.Idx → EReal := m ((c.tc : Thread nD τ).loc main_arg4)
abbrev in5 (c : Dev nD) : S64x256x1.Idx → EReal := m ((c.tc : Thread nD τ).loc main_arg5)

/-- The scan's carried arrays after `k` steps. -/
abbrev after (c : Dev nD) (k : ℕ) : Valuation τ sig (Elt Ideal) := STEP^[k] (entryContents preI m c)

theorem after_succ (c : Dev nD) (k : ℕ) : after m c (k + 1) = STEP (after m c k) := Function.iterate_succ_apply' _ _ _

theorem seq_after (c : Dev nD) : ∀ k, seqOf (after m c k) = seqOf (entryContents preI m c)
  | 0 => rfl
  | k + 1 => by rw [after_succ, ← seq_after c k]; exact STEP_main_v39_0 _

theorem lam_after (c : Dev nD) : ∀ k, lamOf (after m c k) = lamOf (entryContents preI m c)
  | 0 => rfl
  | k + 1 => by rw [after_succ, ← lam_after c k]; exact STEP_main_v39_1 _

theorem ctr_after (c : Dev nD) : ∀ k, after m c k (Proc.devRef .tc main_v39_2) = fun _ => (BitVec.ofNat 32 k : BitVec 32)
  | 0 => ctr_entry m c
  | k + 1 => by
    rw [after_succ, STEP_main_v39_2]
    unfold step_main_v39_2
    rw [ctr_after c k]
    funext i
    show BitVec.ofNat 32 k + 1#32 = BitVec.ofNat 32 (k + 1)
    rw [BitVec.ofNat_add]

/-- After `k` steps the carried state is the recurrence's. -/
theorem state_after (c : Dev nD) : ∀ k, k ≤ 272 → ∀ (d : Fin 2) (g p : Fin 64) (b : Fin 8),
    reOf (after m c k) (ix4 d g p b) = (state (X (in0 m c) g) (X (in1 m c) g) (mat (in2 m c) g) (decay (in4 m c) g) d p b k).1
      ∧ imOf (after m c k) (ix4 d g p b) = (state (X (in0 m c) g) (X (in1 m c) g) (mat (in2 m c) g) (decay (in4 m c) g) d p b k).2
  | 0, _, d, g, p, b => ⟨entry_re m c d g p b, entry_im m c d g p b⟩
  | k + 1, hk, d, g, p, b => by
    have ih := state_after c k (Nat.le_of_succ_le hk) d g p b
    have hc : after m c k (Proc.devRef .tc main_v39_2) = fun _ => (BitVec.ofNat 32 (⟨k, hk⟩ : Fin 272) : BitVec 32) := ctr_after m c k
    have l0 : lamOf (after m c k) (ix5 0 d g p 0) = decay (in4 m c) g d 0 p := by rw [lam_after]; exact entry_lam m c d 0 g p
    have l1 : lamOf (after m c k) (ix5 1 d g p 0) = decay (in4 m c) g d 1 p := by rw [lam_after]; exact entry_lam m c d 1 g p
    have s0 : seqOf (after m c k) (ix6 ⟨k, hk⟩ d 0 g p b) = added (X (in0 m c) g) (X (in1 m c) g) (mat (in2 m c) g) d 0 p b k := by rw [seq_after]; exact entry_seq m c ⟨k, hk⟩ d 0 g p b
    have s1 : seqOf (after m c k) (ix6 ⟨k, hk⟩ d 1 g p b) = added (X (in0 m c) g) (X (in1 m c) g) (mat (in2 m c) g) d 1 p b k := by rw [seq_after]; exact entry_seq m c ⟨k, hk⟩ d 1 g p b
    constructor
    · have h : reOf (after m c (k + 1)) = step_main_v39_3 (after m c k) := by rw [after_succ]; exact STEP_main_v39_3 _
      rw [h, step_re _ ⟨k, hk⟩ hc, l0, l1, s0, ih.1, ih.2]; rfl
    · have h : imOf (after m c (k + 1)) = step_main_v39_4 (after m c k) := by rw [after_succ]; exact STEP_main_v39_4 _
      rw [h, step_im _ ⟨k, hk⟩ hc, l0, l1, s1, ih.1, ih.2]; rfl

/-- After `k` steps row `n` of the stored states is the state before step `n`. -/
theorem out_after (c : Dev nD) : ∀ k, k ≤ 272 → ∀ (n : Fin 272) (d ri : Fin 2) (g p : Fin 64) (b : Fin 8), n.val < k →
    outOf (after m c k) (ix6 n d ri g p b) = part (state (X (in0 m c) g) (X (in1 m c) g) (mat (in2 m c) g) (decay (in4 m c) g) d p b n) ri
  | 0, _, _, _, _, _, _, _, h => absurd h (Nat.not_lt_zero _)
  | k + 1, hk, n, d, ri, g, p, b, hn => by
    have ih := state_after m c k (Nat.le_of_succ_le hk) d g p b
    have hc : after m c k (Proc.devRef .tc main_v39_2) = fun _ => (BitVec.ofNat 32 (⟨k, hk⟩ : Fin 272) : BitVec 32) := ctr_after m c k
    have h : outOf (after m c (k + 1)) = step_main_v39_5 (after m c k) := by rw [after_succ]; exact STEP_main_v39_5 _
    rw [h, step_out _ ⟨k, hk⟩ hc]
    by_cases e : n = ⟨k, hk⟩
    · rw [if_pos e, ih.1, ih.2, e]; rfl
    · rw [if_neg e]
      exact out_after c k (Nat.le_of_succ_le hk) n d ri g p b (by
        have : n.val ≠ k := fun h => e (Fin.ext h)
        omega)

theorem part_congr (u : Fin 256 → Fin 2048 → EReal) (uc : Fin 256 → Fin 128 → EReal) (w : Fin 512 → Fin 256 → EReal) (lam : Fin 2 → Fin 2 → Fin 64 → EReal)
    {d d' ri ri' : Fin 2} {p p' : Fin 64} {b b' : Fin 8} {n n' : ℕ} (hd : d = d') (hr : ri = ri') (hp : p = p') (hb : b = b') (hn : n = n') :
    part (state u uc w lam d p b n) ri = part (state u uc w lam d' p' b' n') ri' := by subst hd hr hp hb hn; rfl

set_option maxHeartbeats 2000000 in
/-- The reference's result, entry by entry, from the arrays the scan leaves. -/
theorem out_ref (V : Valuation τ sig (Elt Ideal)) (A0 : S16x1024x2048.Idx → EReal) (A1 : S16x1024x128.Idx → EReal) (W : S64x512x256.Idx → EReal)
    (C : S64x256x256.Idx → EReal) (lam : S2x32x2x128.Idx → EReal) (D : S64x256x1.Idx → EReal)
    (h0 : V (Proc.devRef .tc main_arg0) = A0) (h2 : V (Proc.devRef .tc main_arg2) = W) (h3 : V (Proc.devRef .tc main_arg3) = C) (h5 : V (Proc.devRef .tc main_arg5) = D)
    (hV : ∀ (n : Fin 272) (d ri : Fin 2) (g p : Fin 64) (b : Fin 8), outOf V (ix6 n d ri g p b) = part (state (X A0 g) (X A1 g) (mat W g) (decay lam g) d p b n) ri)
    (t : Fin 16) (ch : Fin 1024) (l : Fin 2048) :
    out_main_v82 V (ix3 t ch l) = layer A0 A1 W C lam D t ch l := by
  subst h0 h2 h3 h5
  unfold out_main_v82
  simp only [id]
  clean_types
  pointwise
  unfold layer out fromStates
  refine (congrArg gelu ?_ : gelu _ = gelu _)
  refine congrArg₂ (· + ·) (congrArg₂ (· + ·) (congrArg₂ (· * ·) rfl ?_) ?_) ?_
  · refine congrArg (V (Proc.devRef .tc main_arg0) : S16x1024x2048.Idx → EReal) (ix3_val ?_ ?_ ?_) <;> simp <;> omega
  · refine Finset.sum_congr rfl fun x _ => prod_congr (s₁ := S64x512x256) (s₂ := S16x1024x2048) _ _ ?_ ?_
    · refine ix3_val ?_ ?_ ?_ <;> simp
    · refine ix3_val ?_ ?_ ?_ <;> simp
  · refine Finset.sum_congr rfl fun x _ => congrArg₂ (· * ·) rfl ?_
    unfold entering
    by_cases h : (x : ℕ) / 128 < 1
    · rw [dif_pos h]
      refine (hV _ _ _ _ _ _).trans (part_congr _ _ _ _ ?_ rfl rfl rfl ?_)
      · ext; simp; omega
      · simp [walk, h, chunkOf]
    · rw [dif_neg h]
      simp only [List.mem_singleton, Fin.reduceEq, if_false, if_true]
      refine (hV _ _ _ _ _ _).trans (part_congr _ _ _ _ ?_ rfl rfl rfl ?_)
      · ext; simp; omega
      · simp [walk, h, chunkOf, Fin.rev]

/-- The reference's result is the layer of its arguments. -/
theorem run_out (c : Dev nD) (t : Fin 16) (ch : Fin 1024) (l : Fin 2048) :
    out_main_v82 (after m c 272) (ix3 t ch l) = layer (in0 m c) (in1 m c) (in2 m c) (in3 m c) (in4 m c) (in5 m c) t ch l :=
  out_ref (after m c 272) (in0 m c) (in1 m c) (in2 m c) (in3 m c) (in4 m c) (in5 m c) (iter_main_arg0 m c 272) (iter_main_arg2 m c 272)
    (iter_main_arg3 m c 272) (iter_main_arg5 m c 272) (fun n d ri g p b => out_after m c 272 (Nat.le_refl _) n d ri g p b n.isLt) t ch l

end Cert.ReferenceIdeal.Value

end
-- ==== Proof.ProjSpec.lean ====
/- The modulated norm of a token and its input projection, entry by entry. -/
module

public import Idealize.ShloMosaic.Lib.Pointwise
public import Idealize.ShloMosaic.PureOps

@[expose] public section

noncomputable section

namespace Cert.Proof.Proj

open Idealize.ShloMosaic

/-- A token over its root mean square, times the amplitude, plus the shift. -/
def normed (x a s : Fin 1024 → EReal) (k : Fin 1024) : EReal :=
  x k * Ideal.rsqrt (Ideal.div (∑ i : Fin 1024, x i * x i) (Ideal.ofBits .f32 0x44800000#32) + Ideal.ofBits .f32 0x358637BD#32) * a k + s k

/-- One channel of the projection. -/
def channel (w h : Fin 1024 → EReal) : EReal := ∑ k : Fin 1024, w k * h k

/-- The SiLU gate. -/
def silu (y : EReal) : EReal := y * Ideal.logistic y

/-- A value gated by the sigmoid of another channel. -/
def gated (y g : EReal) : EReal := y * Ideal.logistic g

theorem normed_congr {x x' a a' s s' : Fin 1024 → EReal} {k k' : Fin 1024} (hx : x = x') (ha : a = a') (hs : s = s') (hk : k = k') : normed x a s k = normed x' a' s' k' := by
  subst hx ha hs hk; rfl

theorem chan_eq {w w' h h' : Fin 1024 → EReal} (hw : ∀ k, w k = w' k) (hh : h = h') : channel w h = channel w' h' := by
  rw [show w = w' from funext hw, hh]

theorem gated_eq {a a' b b' : EReal} (ha : a = a') (hb : b = b') : gated a b = gated a' b' := by rw [ha, hb]

/-! ## The arguments' parts -/

/-- The token at a row, a column and a batch element. -/
def tok (A : (⟨3, ![8, 4096, 1024]⟩ : Shape).Idx → EReal) (row col : Fin 64) (b : Fin 8) (k : Fin 1024) : EReal :=
  A (ix3 b ⟨(row : ℕ) * 64 + col, by omega⟩ k)

/-- The norm's weights times one plus the scale. -/
def amp (g : (⟨2, ![1, 1024]⟩ : Shape).Idx → EReal) (sc : (⟨2, ![8, 1024]⟩ : Shape).Idx → EReal) (b : Fin 8) (k : Fin 1024) : EReal :=
  g (ix2 0 k) * (1 + sc (ix2 b k))

/-- The normed token. -/
def hid (A : (⟨3, ![8, 4096, 1024]⟩ : Shape).Idx → EReal) (g : (⟨2, ![1, 1024]⟩ : Shape).Idx → EReal) (sh sc : (⟨2, ![8, 1024]⟩ : Shape).Idx → EReal)
    (row col : Fin 64) (b : Fin 8) : Fin 1024 → EReal :=
  normed (tok A row col b) (amp g sc b) (fun k => sh (ix2 b k))

/-- A row of a matrix. -/
def mrow {N K : ℕ} (W : (⟨2, ![N, K]⟩ : Shape).Idx → EReal) (r : Fin N) (k : Fin K) : EReal := W (ix2 r k)

section
variable (A : (⟨3, ![8, 4096, 1024]⟩ : Shape).Idx → EReal) (g : (⟨2, ![1, 1024]⟩ : Shape).Idx → EReal) (sh sc : (⟨2, ![8, 1024]⟩ : Shape).Idx → EReal)
  (Ws : (⟨2, ![2048, 1024]⟩ : Shape).Idx → EReal) (Wc : (⟨2, ![3072, 1024]⟩ : Shape).Idx → EReal)

/-- The normed token of chunk position `t`, lane `l`: lanes run over (position of the chunk in its row, row, batch). -/
def hidS (t : Fin 16) (l : Fin 2048) : Fin 1024 → EReal :=
  hid A g sh sc ⟨(l : ℕ) / 8 % 64, by omega⟩ ⟨(l : ℕ) / 512 * 16 + t, by omega⟩ ⟨(l : ℕ) % 8, by omega⟩

/-- The state-space branch's input. -/
def ssmIn (t : Fin 16) (ch : Fin 1024) (l : Fin 2048) : EReal := channel (mrow Ws ⟨(ch : ℕ), by omega⟩) (hidS A g sh sc t l)

/-- The state-space branch's gate. -/
def ssmGate (t : Fin 16) (ch : Fin 1024) (l : Fin 2048) : EReal := silu (channel (mrow Ws ⟨1024 + (ch : ℕ), by omega⟩) (hidS A g sh sc t l))

/-- The convolution's input by column: channel `ch` at row and batch element `l`. -/
def convIn (col : Fin 64) (ch l : Fin 512) : EReal :=
  gated (channel (mrow Wc ⟨(ch : ℕ), by omega⟩) (hid A g sh sc ⟨(l : ℕ) / 8, by omega⟩ col ⟨(l : ℕ) % 8, by omega⟩))
    (channel (mrow Wc ⟨1024 + (ch : ℕ), by omega⟩) (hid A g sh sc ⟨(l : ℕ) / 8, by omega⟩ col ⟨(l : ℕ) % 8, by omega⟩))

/-- The convolution branch's gate by column. -/
def convGate (col : Fin 64) (ch l : Fin 512) : EReal :=
  silu (channel (mrow Wc ⟨2048 + (ch : ℕ), by omega⟩) (hid A g sh sc ⟨(l : ℕ) / 8, by omega⟩ col ⟨(l : ℕ) % 8, by omega⟩))

/-- The convolution's input by row: channel `512 + ch` at column and batch element `l`. -/
def convInR (row : Fin 64) (ch l : Fin 512) : EReal :=
  gated (channel (mrow Wc ⟨512 + (ch : ℕ), by omega⟩) (hid A g sh sc row ⟨(l : ℕ) / 8, by omega⟩ ⟨(l : ℕ) % 8, by omega⟩))
    (channel (mrow Wc ⟨1536 + (ch : ℕ), by omega⟩) (hid A g sh sc row ⟨(l : ℕ) / 8, by omega⟩ ⟨(l : ℕ) % 8, by omega⟩))

/-- The convolution branch's gate by row. -/
def convGateR (row : Fin 64) (ch l : Fin 512) : EReal :=
  silu (channel (mrow Wc ⟨2560 + (ch : ℕ), by omega⟩) (hid A g sh sc row ⟨(l : ℕ) / 8, by omega⟩ ⟨(l : ℕ) % 8, by omega⟩))

end

/-! ## The context -/

section
variable (A : (⟨3, ![8, 256, 1024]⟩ : Shape).Idx → EReal) (g : (⟨2, ![1, 1024]⟩ : Shape).Idx → EReal) (sh sc : (⟨1, ![1024]⟩ : Shape).Idx → EReal) (Ws : (⟨2, ![2048, 1024]⟩ : Shape).Idx → EReal)

/-- The normed context token at a place and a batch element. -/
def ctxHid (p : Fin 256) (b : Fin 8) : Fin 1024 → EReal :=
  normed (fun k => A (ix3 b p k)) (fun k => g (ix2 0 k) * (1 + sc (ix1 k))) (fun k => sh (ix1 k))

/-- The state-space branch's input from the context: chunk position `t`, channel `ch`, lane (chunk, batch element). -/
def ctxIn (t : Fin 16) (ch : Fin 1024) (l : Fin 128) : EReal :=
  channel (mrow Ws ⟨(ch : ℕ), by omega⟩) (ctxHid A g sh sc ⟨(l : ℕ) / 8 * 16 + t, by omega⟩ ⟨(l : ℕ) % 8, by omega⟩)

end

/-! ## The modulation -/

/-- A modulation entry: a conditioning vector through SiLU, a column of the weights, the bias. -/
def modulation {R : ℕ} (C : (⟨2, ![R, 1024]⟩ : Shape).Idx → EReal) (W : (⟨3, ![1, 1024, 3072]⟩ : Shape).Idx → EReal) (B : (⟨2, ![1, 3072]⟩ : Shape).Idx → EReal)
    (r : Fin R) (k : Fin 3072) : EReal :=
  channel (fun i => silu (C (ix2 r i))) (fun i => W (ix3 0 i k)) + B (ix2 0 k)

end Cert.Proof.Proj

end
-- ==== Proof.ProjPay.lean ====
module

public import proofs.«01_k».proof.Proof.ProjSpec
public import proofs.«01_k».proof.Proof.Gen.Kernel2Ideal.Skeleton
public import Idealize.ShloMosaic.Lib.Pointwise
public import Idealize.ShloMosaic.Lib.Tactic.CleanTypes

@[expose] public section

set_option maxRecDepth 16384

noncomputable section

namespace Cert.Kernel2Ideal.Gen

open Idealize.ShloMosaic Idealize.ShloMosaic.TcCoe Idealize.SL.Sem
open Cert.Proof.Proj

/-! What each payload of the projection is at an index. -/

/-- The normed token of lane `l` of half a block. -/
def bhid (x : FVec Ideal S32x1x8x1024 .f32) (a s : FVec Ideal S8x1024 .f32) (l : Fin 256) : Fin 1024 → EReal :=
  normed (fun i => x (ix4 ⟨(l : ℕ) / 8, by omega⟩ 0 ⟨(l : ℕ) % 8, by omega⟩ i)) (fun i => a (ix2 ⟨(l : ℕ) % 8, by omega⟩ i)) (fun i => s (ix2 ⟨(l : ℕ) % 8, by omega⟩ i))

theorem pay6_apply (x : FVec Ideal S32x1x8x1024 .f32) (a s : FVec Ideal S8x1024 .f32) (l : Fin 256) (k : Fin 1024) :
    k0_pay6 (F := Ideal) x a s (ix2 l k) = bhid x a s l k := by
  unfold k0_pay6
  clean_types
  pointwise
  rfl

theorem pay17_eq (x : FVec Ideal S32x1x8x1024 .f32) (a s : FVec Ideal S8x1024 .f32) : k0_pay17 (F := Ideal) (k0_pay15 x) (k0_pay16 a) s = k0_pay6 x a s := rfl

theorem pay7_apply (x : FVec Ideal S32x1x8x1024 .f32) (a s : FVec Ideal S8x1024 .f32) (w : FVec Ideal S2048x1024 .bf16) (r : Fin 2048) (l : Fin 256) :
    k0_pay7 (F := Ideal) x a s w (ix2 r l) = channel (fun k => w (ix2 r k)) (bhid x a s l) := by
  unfold k0_pay7
  clean_types
  pointwise [pay6_apply]
  rfl

theorem pay8_apply (x : FVec Ideal S32x1x8x1024 .f32) (a s : FVec Ideal S8x1024 .f32) (w : FVec Ideal S2048x1024 .bf16) (r : Fin 1024) (l : Fin 256) :
    k0_pay8 (F := Ideal) x a s w (ix3 0 r l) = channel (fun k => w (ix2 ⟨(r : ℕ), by omega⟩ k)) (bhid x a s l) := by
  unfold k0_pay8
  clean_types
  pointwise [pay7_apply]

theorem pay9_apply (x : FVec Ideal S32x1x8x1024 .f32) (a s : FVec Ideal S8x1024 .f32) (w : FVec Ideal S2048x1024 .bf16) (r : Fin 1024) (l : Fin 256) :
    k0_pay9 (F := Ideal) x a s w (ix3 0 r l) = silu (channel (fun k => w (ix2 ⟨1024 + (r : ℕ), by omega⟩ k)) (bhid x a s l)) := by
  unfold k0_pay9
  clean_types
  pointwise [pay7_apply]
  rfl

section
variable (x : FVec Ideal S32x1x8x1024 .f32) (a s : FVec Ideal S8x1024 .f32) (w0 w1 w2 : FVec Ideal S512x1024 .bf16)

theorem pay11_apply (r : Fin 512) (l : Fin 256) :
    k0_pay11 (F := Ideal) (k0_pay6 x a s) w0 w1 w2 (ix2 r l)
      = gated (channel (fun k => w0 (ix2 r k)) (bhid x a s l)) (channel (fun k => w1 (ix2 r k)) (bhid x a s l)) := by
  unfold k0_pay11 k0_pay10
  clean_types
  pointwise [pay6_apply]
  rfl

theorem pay12_apply (r : Fin 512) (l : Fin 128) :
    k0_pay12 (F := Ideal) (k0_pay6 x a s) w0 w1 w2 (ix4 0 0 r l)
      = gated (channel (fun k => w0 (ix2 r k)) (bhid x a s ⟨(l : ℕ), by omega⟩)) (channel (fun k => w1 (ix2 r k)) (bhid x a s ⟨(l : ℕ), by omega⟩)) := by
  unfold k0_pay12
  clean_types
  pointwise [pay11_apply]

theorem pay13_apply (r : Fin 512) (l : Fin 128) :
    k0_pay13 (F := Ideal) (k0_pay6 x a s) w0 w1 w2 (ix4 0 0 r l)
      = gated (channel (fun k => w0 (ix2 r k)) (bhid x a s ⟨128 + (l : ℕ), by omega⟩)) (channel (fun k => w1 (ix2 r k)) (bhid x a s ⟨128 + (l : ℕ), by omega⟩)) := by
  unfold k0_pay13
  clean_types
  pointwise [pay11_apply]

theorem pay14_apply (r : Fin 512) (l : Fin 256) :
    k0_pay14 (F := Ideal) (k0_pay6 x a s) w0 w1 w2 (ix2 r l) = silu (channel (fun k => w2 (ix2 r k)) (bhid x a s l)) := by
  unfold k0_pay14 k0_pay10
  clean_types
  pointwise [pay6_apply]
  have h0 : ¬ 1024 + (r : ℕ) < 512 := by omega
  have h1 : ¬ 1024 + (r : ℕ) - 512 < 512 := by omega
  have h2 : (⟨1024 + (r : ℕ) - 512 - 512, by omega⟩ : Fin 512) = r := Fin.ext (by show 1024 + (r : ℕ) - 512 - 512 = r; omega)
  rw [dif_neg h0, dif_neg h1, h2]
  rfl

theorem pay19_eq (w : FVec Ideal S2048x1024 .bf16) : k0_pay19 (F := Ideal) (k0_pay15 x) (k0_pay16 a) s w = k0_pay8 x a s w := rfl
theorem pay20_eq (w : FVec Ideal S2048x1024 .bf16) : k0_pay20 (F := Ideal) (k0_pay15 x) (k0_pay16 a) s w = k0_pay9 x a s w := rfl

abbrev zero512 : FVec Ideal S512x256 .f32 := constant S512x256 .f32 0x00000000#32

theorem pay3_eq : k0_pay3 (F := Ideal) (k0_pay17 (k0_pay15 x) (k0_pay16 a) s) (k0_pay21 (k0_pay15 x) (k0_pay16 a) s w0) (k0_pay22 (k0_pay15 x) (k0_pay16 a) s w1) w2 zero512
    = k0_pay12 (k0_pay6 x a s) w0 w1 w2 := rfl
theorem pay4_eq : k0_pay4 (F := Ideal) (k0_pay17 (k0_pay15 x) (k0_pay16 a) s) (k0_pay21 (k0_pay15 x) (k0_pay16 a) s w0) (k0_pay22 (k0_pay15 x) (k0_pay16 a) s w1) w2 zero512
    = k0_pay13 (k0_pay6 x a s) w0 w1 w2 := rfl
theorem pay5_eq : k0_pay5 (F := Ideal) (k0_pay17 (k0_pay15 x) (k0_pay16 a) s) (k0_pay21 (k0_pay15 x) (k0_pay16 a) s w0) (k0_pay22 (k0_pay15 x) (k0_pay16 a) s w1) w2 zero512
    = k0_pay14 (k0_pay6 x a s) w0 w1 w2 := rfl

end

/-! The same at any index of the payload. -/

theorem pay8_at (x : FVec Ideal S32x1x8x1024 .f32) (a s : FVec Ideal S8x1024 .f32) (w : FVec Ideal S2048x1024 .bf16) (y : S1x1024x256.Idx) :
    k0_pay8 (F := Ideal) x a s w y = channel (fun k => w (ix2 ⟨(y 1 : ℕ), Nat.lt_of_lt_of_le (y 1).isLt (by decide)⟩ k)) (bhid x a s (y 2)) := by
  have ey : y = ix3 0 (y 1) (y 2) := by funext e; fin_cases e; exacts [Subsingleton.elim (α := Fin 1) _ _, rfl, rfl]
  exact (congrArg _ ey).trans (pay8_apply x a s w (y 1) (y 2))

theorem pay9_at (x : FVec Ideal S32x1x8x1024 .f32) (a s : FVec Ideal S8x1024 .f32) (w : FVec Ideal S2048x1024 .bf16) (y : S1x1024x256.Idx) :
    k0_pay9 (F := Ideal) x a s w y = silu (channel (fun k => w (ix2 ⟨1024 + (y 1 : ℕ), Nat.add_lt_add_left (y 1).isLt 1024⟩ k)) (bhid x a s (y 2))) := by
  have ey : y = ix3 0 (y 1) (y 2) := by funext e; fin_cases e; exacts [Subsingleton.elim (α := Fin 1) _ _, rfl, rfl]
  exact (congrArg _ ey).trans (pay9_apply x a s w (y 1) (y 2))

section
variable (x : FVec Ideal S32x1x8x1024 .f32) (a s : FVec Ideal S8x1024 .f32) (w0 w1 w2 : FVec Ideal S512x1024 .bf16)

theorem pay12_at (y : S1x1x512x128.Idx) : k0_pay12 (F := Ideal) (k0_pay6 x a s) w0 w1 w2 y
    = gated (channel (fun k => w0 (ix2 (y 2) k)) (bhid x a s ⟨(y 3 : ℕ), Nat.lt_of_lt_of_le (y 3).isLt (by decide)⟩))
      (channel (fun k => w1 (ix2 (y 2) k)) (bhid x a s ⟨(y 3 : ℕ), Nat.lt_of_lt_of_le (y 3).isLt (by decide)⟩)) := by
  have ey : y = ix4 0 0 (y 2) (y 3) := by funext e; fin_cases e; exacts [Subsingleton.elim (α := Fin 1) _ _, Subsingleton.elim (α := Fin 1) _ _, rfl, rfl]
  exact (congrArg _ ey).trans (pay12_apply x a s w0 w1 w2 (y 2) (y 3))

theorem pay13_at (y : S1x1x512x128.Idx) : k0_pay13 (F := Ideal) (k0_pay6 x a s) w0 w1 w2 y
    = gated (channel (fun k => w0 (ix2 (y 2) k)) (bhid x a s ⟨128 + (y 3 : ℕ), Nat.add_lt_add_left (y 3).isLt 128⟩))
      (channel (fun k => w1 (ix2 (y 2) k)) (bhid x a s ⟨128 + (y 3 : ℕ), Nat.add_lt_add_left (y 3).isLt 128⟩)) := by
  have ey : y = ix4 0 0 (y 2) (y 3) := by funext e; fin_cases e; exacts [Subsingleton.elim (α := Fin 1) _ _, Subsingleton.elim (α := Fin 1) _ _, rfl, rfl]
  exact (congrArg _ ey).trans (pay13_apply x a s w0 w1 w2 (y 2) (y 3))

theorem pay14_at (y : S512x256.Idx) : k0_pay14 (F := Ideal) (k0_pay6 x a s) w0 w1 w2 y = silu (channel (fun k => w2 (ix2 (y 0) k)) (bhid x a s (y 1))) := by
  have ey : y = ix2 (y 0) (y 1) := by funext e; fin_cases e; exacts [rfl, rfl]
  exact (congrArg _ ey).trans (pay14_apply x a s w0 w1 w2 (y 0) (y 1))

end

end Cert.Kernel2Ideal.Gen

end
-- ==== Proof.ProjBlock.lean ====
module

public import proofs.«01_k».proof.Proof.ProjPay
public import proofs.«01_k».proof.Proof.Gen.Kernel2Ideal.Frame
public import Idealize.ShloMosaic.Lib.Pipeline.ValueKit

@[expose] public section

set_option maxRecDepth 16384

noncomputable section

namespace Cert.Kernel2Ideal.Gen

open Idealize.ShloMosaic Idealize.ShloMosaic.TcCoe Idealize.SL.Sem
open Cert.Proof.Proj

/-! What the body leaves in each output block, from the input blocks. -/

/-- The normed token of lane `l` of a block. -/
def blkHid (x : S64x1x8x1024.Idx → EReal) (a s : S8x1024.Idx → EReal) (l : Fin 512) : Fin 1024 → EReal :=
  normed (fun i => x (ix4 ⟨(l : ℕ) / 8, by omega⟩ 0 ⟨(l : ℕ) % 8, by omega⟩ i)) (fun i => a (ix2 ⟨(l : ℕ) % 8, by omega⟩ i)) (fun i => s (ix2 ⟨(l : ℕ) % 8, by omega⟩ i))

variable (x0 : Vec Ideal S64x1x8x1024 .f32) (x1 x2 : Vec Ideal S8x1024 .f32) (x3 : Vec Ideal S2048x1024 .bf16) (x4 x5 x6 : Vec Ideal S512x1024 .bf16)

theorem half0 (l : Fin 256) (l' : Fin 512) (e : (l' : ℕ) = l) :
    bhid (View.ld x0 r0_0) (View.ld x1 r0_1) (View.ld x2 r0_1) l = blkHid x0 x1 x2 l' := by
  funext k
  refine normed_congr (funext fun i => ?_) (funext fun i => ?_) (funext fun i => ?_) rfl
  · exact View.ld_unit_apply_of x0 _ _ _ _ _ (Fin.forall_fin_succ.2 ⟨(by show (l' : ℕ) / 8 = 0 + (l : ℕ) / 8; omega), Fin.forall_fin_succ.2 ⟨rfl, Fin.forall_fin_succ.2
      ⟨(by show (l' : ℕ) % 8 = 0 + (l : ℕ) % 8; omega), Fin.forall_fin_succ.2 ⟨(Nat.zero_add _).symm, fun a => a.elim0⟩⟩⟩⟩)
  all_goals exact View.ld_unit_apply_of _ _ _ _ _ _ (Fin.forall_fin_succ.2 ⟨(by show (l' : ℕ) % 8 = 0 + (l : ℕ) % 8; omega), Fin.forall_fin_succ.2 ⟨(Nat.zero_add _).symm, fun a => a.elim0⟩⟩)

theorem half1 (l : Fin 256) (l' : Fin 512) (e : (l' : ℕ) = 256 + l) :
    bhid (View.ld x0 r0_8) (View.ld x1 r0_1) (View.ld x2 r0_1) l = blkHid x0 x1 x2 l' := by
  funext k
  refine normed_congr (funext fun i => ?_) (funext fun i => ?_) (funext fun i => ?_) rfl
  · exact View.ld_unit_apply_of x0 _ _ _ _ _ (Fin.forall_fin_succ.2 ⟨(by show (l' : ℕ) / 8 = 32 + (l : ℕ) / 8; omega), Fin.forall_fin_succ.2 ⟨rfl, Fin.forall_fin_succ.2
      ⟨(by show (l' : ℕ) % 8 = 0 + (l : ℕ) % 8; omega), Fin.forall_fin_succ.2 ⟨(Nat.zero_add _).symm, fun a => a.elim0⟩⟩⟩⟩)
  all_goals exact View.ld_unit_apply_of _ _ _ _ _ _ (Fin.forall_fin_succ.2 ⟨(by show (l' : ℕ) % 8 = 0 + (l : ℕ) % 8; omega), Fin.forall_fin_succ.2 ⟨(Nat.zero_add _).symm, fun a => a.elim0⟩⟩)

theorem wld3 (r r' : Fin 2048) (e : r' = r) (k : Fin 1024) : View.ld x3 r0_2 (ix2 r k) = x3 (ix2 r' k) := by
  subst e; exact View.ld_unit_apply_of _ _ _ _ _ _ (Fin.forall_fin_succ.2 ⟨(Nat.zero_add _).symm, Fin.forall_fin_succ.2 ⟨(Nat.zero_add _).symm, fun a => a.elim0⟩⟩)

theorem wld (x : Vec Ideal S512x1024 .bf16) (r r' : Fin 512) (e : (r' : ℕ) = r) (k : Fin 1024) : View.ld x r0_4 (ix2 r k) = x (ix2 r' k) := by
  exact View.ld_unit_apply_of _ _ _ _ _ _ (Fin.forall_fin_succ.2 ⟨e.trans (Nat.zero_add _).symm, Fin.forall_fin_succ.2 ⟨(Nat.zero_add _).symm, fun a => a.elim0⟩⟩)

theorem out7_at (y : S1x1024x512.Idx) :
    out0_7 x0 x1 x2 x3 x4 x5 x6 y = channel (fun k => x3 (ix2 ⟨(y 1 : ℕ), Nat.lt_of_lt_of_le (y 1).isLt (by decide)⟩ k)) (blkHid x0 x1 x2 (y 2)) := by
  unfold_out out0_7
  canon_tiles x h
  · refine (congrFun (pay19_eq _ _ _ _) x).trans ((pay8_at _ _ _ _ x).trans (chan_eq (wld3 _ _ _ (Fin.ext h1)) (half1 _ _ _ _ _ h2)))
  · exact (pay8_at _ _ _ _ x).trans (chan_eq (wld3 _ _ _ (Fin.ext h1)) (half0 _ _ _ _ _ h2))

theorem out8_at (y : S1x1024x512.Idx) :
    out0_8 x0 x1 x2 x3 x4 x5 x6 y = silu (channel (fun k => x3 (ix2 ⟨1024 + (y 1 : ℕ), Nat.add_lt_add_left (y 1).isLt 1024⟩ k)) (blkHid x0 x1 x2 (y 2))) := by
  unfold_out out0_8
  canon_tiles x h
  · exact (congrFun (pay20_eq _ _ _ _) x).trans ((pay9_at _ _ _ _ x).trans (congrArg silu (chan_eq (wld3 _ _ _ (Fin.ext (congrArg (1024 + ·) h1))) (half1 _ _ _ _ _ h2))))
  · exact (pay9_at _ _ _ _ x).trans (congrArg silu (chan_eq (wld3 _ _ _ (Fin.ext (congrArg (1024 + ·) h1))) (half0 _ _ _ _ _ h2)))

/-- What lane `l`, channel `r` of the convolution's input holds. -/
def blkConv (r l : Fin 512) : EReal := gated (channel (fun k => x4 (ix2 r k)) (blkHid x0 x1 x2 l)) (channel (fun k => x5 (ix2 r k)) (blkHid x0 x1 x2 l))

theorem out9_at (y : S1x4x512x128.Idx) (l : Fin 512) (hl : (l : ℕ) = (y 1 : ℕ) * 128 + y 3) :
    out0_9 x0 x1 x2 x3 x4 x5 x6 y = blkConv x0 x1 x2 x4 x5 (y 2) l := by
  unfold_out out0_9
  canon_tiles x h
  · exact (congrFun (pay4_eq _ _ _ _ _ _) x).trans ((pay13_at _ _ _ _ _ _ x).trans
      (gated_eq (chan_eq (wld _ _ _ h2) (half1 _ _ _ _ _ (by show (l : ℕ) = 256 + (128 + (x 3 : ℕ)); omega))) (chan_eq (wld _ _ _ h2) (half1 _ _ _ _ _ (by show (l : ℕ) = 256 + (128 + (x 3 : ℕ)); omega)))))
  · exact (congrFun (pay3_eq _ _ _ _ _ _) x).trans ((pay12_at _ _ _ _ _ _ x).trans
      (gated_eq (chan_eq (wld _ _ _ h2) (half1 _ _ _ _ _ (by show (l : ℕ) = 256 + (x 3 : ℕ); omega))) (chan_eq (wld _ _ _ h2) (half1 _ _ _ _ _ (by show (l : ℕ) = 256 + (x 3 : ℕ); omega)))))
  · exact (pay13_at _ _ _ _ _ _ x).trans
      (gated_eq (chan_eq (wld _ _ _ h2) (half0 _ _ _ _ _ (by show (l : ℕ) = 128 + (x 3 : ℕ); omega))) (chan_eq (wld _ _ _ h2) (half0 _ _ _ _ _ (by show (l : ℕ) = 128 + (x 3 : ℕ); omega))))
  · exact (pay12_at _ _ _ _ _ _ x).trans
      (gated_eq (chan_eq (wld _ _ _ h2) (half0 _ _ _ _ _ (by show (l : ℕ) = (x 3 : ℕ); omega))) (chan_eq (wld _ _ _ h2) (half0 _ _ _ _ _ (by show (l : ℕ) = (x 3 : ℕ); omega))))

theorem out10_at (y : S512x512.Idx) :
    out0_10 x0 x1 x2 x3 x4 x5 x6 y = silu (channel (fun k => x6 (ix2 (y 0) k)) (blkHid x0 x1 x2 (y 1))) := by
  unfold_out out0_10
  canon_tiles x h
  · exact (congrFun (pay5_eq _ _ _ _ _ _) x).trans ((pay14_at _ _ _ _ _ _ x).trans (congrArg silu (chan_eq (wld _ _ _ h0) (half1 _ _ _ _ _ h1))))
  · exact (pay14_at _ _ _ _ _ _ x).trans (congrArg silu (chan_eq (wld _ _ _ h0) (half0 _ _ _ _ _ h1)))

end Cert.Kernel2Ideal.Gen

end
-- ==== Proof.ProjValue.lean ====
module

public import proofs.«01_k».proof.Proof.ProjBlock
public import Idealize.ShloMosaic.Lib.Pipeline.ValueKit

@[expose] public section

set_option maxRecDepth 16384

noncomputable section

namespace Cert.Kernel2Ideal.Gen

open Idealize.ShloMosaic Idealize.ShloMosaic.TcCoe Idealize.SL.Sem
open Cert.Proof.Proj

/-! The output arrays after the run, from the argument arrays. -/

variable (m : (ℓ : Loc nD τ sig) → Buf (Elt Ideal) ℓ) (ρ : Dev nD → PrngReg)

/-- The argument arrays. -/
abbrev b0 (c : Dev nD) : S8x4096x1024.Idx → EReal := m (c.tc.loc main_arg0)
abbrev b1 (c : Dev nD) : S1x1024.Idx → EReal := m (c.tc.loc main_arg1)
abbrev b2 (c : Dev nD) : S8x1024.Idx → EReal := m (c.tc.loc main_arg2)
abbrev b3 (c : Dev nD) : S8x1024.Idx → EReal := m (c.tc.loc main_arg3)
abbrev b4 (c : Dev nD) : S2048x1024.Idx → EReal := m (c.tc.loc main_arg4)
abbrev b5 (c : Dev nD) : S3072x1024.Idx → EReal := m (c.tc.loc main_arg5)

/-- Where each window's block sits at a point. -/
theorem idx_at : ∀ t : Fin cfg0.N, (cfg0.win 0).index t = ![0, t.val, 0, 0] ∧ (cfg0.win 1).index t = ![0, 0] ∧ (cfg0.win 2).index t = ![0, 0]
    ∧ (cfg0.win 3).index t = ![0, 0] ∧ (cfg0.win 4).index t = ![0, 0] ∧ (cfg0.win 5).index t = ![2, 0] ∧ (cfg0.win 6).index t = ![4, 0]
    ∧ (cfg0.win 7).index t = ![t.val % 16, 0, t.val / 16] ∧ (cfg0.win 8).index t = ![t.val % 16, 0, t.val / 16] ∧ (cfg0.win 9).index t = ![t.val, 0, 0, 0]
    ∧ (cfg0.win 10).index t = ![0, t.val] := by
  decide +kernel

theorem N_eq : cfg0.N = 64 := by decide +kernel

/-- The laid-out input where the region finds it. -/
theorem V_x (c : Dev nD) (r col : Fin 64) (b : Fin 8) (k : Fin 1024) : (V m c main_v7 : S64x64x8x1024.Idx → EReal) (ix4 r col b k) = tok (b0 m c) r col b k := by
  have e : V m c main_v7 = shapeCast S64x64x8x1024 (transpose S4096x8x1024 [1, 0, 2] (b0 m c) transposes_S8x4096x1024_S4096x8x1024_1_0_2) shapeCasts_S4096x8x1024_S64x64x8x1024 := by
    unfold V
    after_results
    try rfl
  rw [e]
  unfold tok
  pointwise

/-- The amplitude where the region finds it. -/
theorem V_amp (c : Dev nD) (b : Fin 8) (k : Fin 1024) : (V m c main_v5 : S8x1024.Idx → EReal) (ix2 b k) = amp (b1 m c) (b3 m c) b k := by
  have e : V m c main_v5 = mulf (F := Ideal) (φ := .f32) (broadcastInDim S8x1024 ![0, 1] bcast_S1x1024_S8x1024_0_1 (broadcastInDim S1x1024 ![1] bcast_S1024_S1x1024_1 (shapeCast S1024 (b1 m c) shapeCasts_S1x1024_S1024)))
      (addf (F := Ideal) (φ := .f32) (broadcastInDim S8x1024 ![] bcast_S_S8x1024 (constant S_ .f32 0x3F800000#32)) (b3 m c)) := by
    unfold V
    after_results
    try rfl
  rw [e]
  unfold amp
  pointwise

section
variable (c : Dev nD) (t : Fin cfg0.N)

theorem link_x (col r : Fin 64) (hc : col.val = t.val) (b : Fin 8) (k : Fin 1024) : (iblk m c 0 t : S64x1x8x1024.Idx → EReal) (ix4 r 0 b k) = tok (b0 m c) r col b k := by
  obtain ⟨i0, -⟩ := idx_at t
  refine Eq.trans ?_ (V_x m c r col b k)
  blk_ext [iblk, i0]

theorem link_a (b : Fin 8) (k : Fin 1024) : (iblk m c 1 t : S8x1024.Idx → EReal) (ix2 b k) = amp (b1 m c) (b3 m c) b k := by
  obtain ⟨-, i1, -⟩ := idx_at t
  refine Eq.trans ?_ (V_amp m c b k)
  blk_ext [iblk, i1]

theorem link_s (b : Fin 8) (k : Fin 1024) : (iblk m c 2 t : S8x1024.Idx → EReal) (ix2 b k) = b2 m c (ix2 b k) := by
  obtain ⟨-, -, i2, -⟩ := idx_at t
  refine Eq.trans ?_ (congrFun (V_main_arg2 m c) (ix2 b k))
  blk_ext [iblk, i2]

theorem link_ws (r : Fin 2048) (k : Fin 1024) : (iblk m c 3 t : S2048x1024.Idx → EReal) (ix2 r k) = mrow (b4 m c) r k := by
  obtain ⟨-, -, -, i3, -⟩ := idx_at t
  refine Eq.trans ?_ (congrFun (V_main_arg4 m c) (ix2 r k))
  blk_ext [iblk, i3]

theorem link_w4 (r : Fin 512) (R : Fin 3072) (e : (R : ℕ) = r) (k : Fin 1024) : (iblk m c 4 t : S512x1024.Idx → EReal) (ix2 r k) = mrow (b5 m c) R k := by
  obtain ⟨-, -, -, -, i4, -⟩ := idx_at t
  refine Eq.trans ?_ (congrFun (V_main_arg5 m c) (ix2 R k))
  blk_ext [iblk, i4]

theorem link_w5 (r : Fin 512) (R : Fin 3072) (e : (R : ℕ) = 1024 + r) (k : Fin 1024) : (iblk m c 5 t : S512x1024.Idx → EReal) (ix2 r k) = mrow (b5 m c) R k := by
  obtain ⟨-, -, -, -, -, i5, -⟩ := idx_at t
  refine Eq.trans ?_ (congrFun (V_main_arg5 m c) (ix2 R k))
  blk_ext [iblk, i5]

theorem link_w6 (r : Fin 512) (R : Fin 3072) (e : (R : ℕ) = 2048 + r) (k : Fin 1024) : (iblk m c 6 t : S512x1024.Idx → EReal) (ix2 r k) = mrow (b5 m c) R k := by
  obtain ⟨-, -, -, -, -, -, i6, -⟩ := idx_at t
  refine Eq.trans ?_ (congrFun (V_main_arg5 m c) (ix2 R k))
  blk_ext [iblk, i6]

/-- A block's normed token is the argument's. -/
theorem link_h (l : Fin 512) (r col : Fin 64) (b : Fin 8) (hc : col.val = t.val) (hr : r.val = (l : ℕ) / 8) (hb : b.val = (l : ℕ) % 8) :
    blkHid (iblk m c 0 t) (iblk m c 1 t) (iblk m c 2 t) l = hid (b0 m c) (b1 m c) (b2 m c) (b3 m c) r col b := by
  have er : r = ⟨(l : ℕ) / 8, by omega⟩ := Fin.ext hr
  have eb : b = ⟨(l : ℕ) % 8, by omega⟩ := Fin.ext hb
  rw [er, eb]
  funext k
  exact normed_congr (funext fun i => link_x m c t col _ hc _ i) (funext fun i => link_a m c t _ i) (funext fun i => link_s m c t _ i) rfl

end

/-- The results as arrays. -/
def resIn (c : Dev nD) : S16x1024x2048.Idx → EReal := fun y => ssmIn (b0 m c) (b1 m c) (b2 m c) (b3 m c) (b4 m c) (y 0) (y 1) (y 2)
def resGate (c : Dev nD) : S16x1024x2048.Idx → EReal := fun y => ssmGate (b0 m c) (b1 m c) (b2 m c) (b3 m c) (b4 m c) (y 0) (y 1) (y 2)
def resConv (c : Dev nD) : S64x4x512x128.Idx → EReal := fun y => convIn (b0 m c) (b1 m c) (b2 m c) (b3 m c) (b5 m c) (y 0) (y 2)
  ⟨(y 1 : ℕ) * 128 + (y 3 : ℕ), by have h1 : (y 1 : ℕ) < 4 := (y 1).isLt; have h3 : (y 3 : ℕ) < 128 := (y 3).isLt; omega⟩
def resConvGate (c : Dev nD) : S512x32768.Idx → EReal := fun y => convGate (b0 m c) (b1 m c) (b2 m c) (b3 m c) (b5 m c)
  ⟨(y 1 : ℕ) / 512, by have h : (y 1 : ℕ) < 32768 := (y 1).isLt; omega⟩ (y 0) ⟨(y 1 : ℕ) % 512, by omega⟩

section
variable (c : Dev nD) (t : Fin cfg0.N)

theorem block7 (y : S1x1024x512.Idx) (z : S16x1024x2048.Idx) (e0 : (z 0).val = t.val % 16 + (y 0).val) (e1 : (z 1).val = (y 1).val) (e2 : (z 2).val = t.val / 16 * 512 + (y 2).val) :
    out0_7 (F := Ideal) (iblk m c 0 t) (iblk m c 1 t) (iblk m c 2 t) (iblk m c 3 t) (iblk m c 4 t) (iblk m c 5 t) (iblk m c 6 t) y = resIn m c z := by
  have ht : t.val < 64 := lt_of_lt_of_eq t.isLt N_eq
  have hy0 : (y 0).val < 1 := (y 0).isLt
  have hy2 : (y 2).val < 512 := (y 2).isLt
  refine (out7_at _ _ _ _ _ _ _ y).trans (chan_eq (fun k => ?_) (link_h m c t _ _ _ _ ?_ ?_ ?_))
  · refine (link_ws m c t _ k).trans (congrArg (fun r => mrow (b4 m c) r k) (Fin.ext e1.symm))
  · show (z 2).val / 512 * 16 + (z 0).val = t.val; omega
  · show (z 2).val / 8 % 64 = (y 2).val / 8; omega
  · show (z 2).val % 8 = (y 2).val % 8; omega

theorem block8 (y : S1x1024x512.Idx) (z : S16x1024x2048.Idx) (e0 : (z 0).val = t.val % 16 + (y 0).val) (e1 : (z 1).val = (y 1).val) (e2 : (z 2).val = t.val / 16 * 512 + (y 2).val) :
    out0_8 (F := Ideal) (iblk m c 0 t) (iblk m c 1 t) (iblk m c 2 t) (iblk m c 3 t) (iblk m c 4 t) (iblk m c 5 t) (iblk m c 6 t) y = resGate m c z := by
  have ht : t.val < 64 := lt_of_lt_of_eq t.isLt N_eq
  have hy0 : (y 0).val < 1 := (y 0).isLt
  have hy2 : (y 2).val < 512 := (y 2).isLt
  refine (out8_at _ _ _ _ _ _ _ y).trans (congrArg silu (chan_eq (fun k => ?_) (link_h m c t _ _ _ _ ?_ ?_ ?_)))
  · refine (link_ws m c t _ k).trans (congrArg (fun r => mrow (b4 m c) r k) (Fin.ext (congrArg (1024 + ·) e1.symm)))
  · show (z 2).val / 512 * 16 + (z 0).val = t.val; omega
  · show (z 2).val / 8 % 64 = (y 2).val / 8; omega
  · show (z 2).val % 8 = (y 2).val % 8; omega

theorem block9 (y : S1x4x512x128.Idx) (z : S64x4x512x128.Idx) (e0 : (z 0).val = t.val + (y 0).val) (e1 : (z 1).val = (y 1).val) (e2 : (z 2).val = (y 2).val) (e3 : (z 3).val = (y 3).val) :
    out0_9 (F := Ideal) (iblk m c 0 t) (iblk m c 1 t) (iblk m c 2 t) (iblk m c 3 t) (iblk m c 4 t) (iblk m c 5 t) (iblk m c 6 t) y = resConv m c z := by
  have hy0 : (y 0).val < 1 := (y 0).isLt
  have hy1 : (y 1).val < 4 := (y 1).isLt
  have hy3 : (y 3).val < 128 := (y 3).isLt
  have hh := link_h m c t ⟨(y 1).val * 128 + (y 3).val, by omega⟩ ⟨((z 1).val * 128 + (z 3).val) / 8, by omega⟩ (z 0) ⟨((z 1).val * 128 + (z 3).val) % 8, by omega⟩
    (by omega) (by show ((z 1).val * 128 + (z 3).val) / 8 = ((y 1).val * 128 + (y 3).val) / 8; rw [e1, e3])
    (by show ((z 1).val * 128 + (z 3).val) % 8 = ((y 1).val * 128 + (y 3).val) % 8; rw [e1, e3])
  exact (out9_at _ _ _ _ _ _ _ y ⟨(y 1).val * 128 + (y 3).val, by omega⟩ rfl).trans
    (gated_eq (chan_eq (fun k => link_w4 m c t _ _ e2 k) hh) (chan_eq (fun k => link_w5 m c t _ _ (congrArg (1024 + ·) e2) k) hh))

theorem block10 (y : S512x512.Idx) (z : S512x32768.Idx) (e0 : (z 0).val = (y 0).val) (e1 : (z 1).val = t.val * 512 + (y 1).val) :
    out0_10 (F := Ideal) (iblk m c 0 t) (iblk m c 1 t) (iblk m c 2 t) (iblk m c 3 t) (iblk m c 4 t) (iblk m c 5 t) (iblk m c 6 t) y = resConvGate m c z := by
  have hy1 : (y 1).val < 512 := (y 1).isLt
  refine (out10_at _ _ _ _ _ _ _ y).trans (congrArg silu (chan_eq (fun k => link_w6 m c t _ _ (congrArg (2048 + ·) e0) k) (link_h m c t _ _ _ _ ?_ ?_ ?_)))
  · show (z 1).val / 512 = t.val; omega
  · show (z 1).val % 512 / 8 = (y 1).val / 8; omega
  · show (z 1).val % 512 % 8 = (y 1).val % 8; omega

end

theorem arr7 (c : Dev nD) : (dats m 0 c).arrAt 7 (cfgs 0).N = resIn m c := by
  refine (dats m 0 c).arrAt_eq_of_covers 7 _ (by decide +kernel) fun t hf y => ?_
  obtain ⟨-, -, -, -, -, -, -, i7, -⟩ := idx_at t
  blk_simp
  rw [after0_7]
  exact block7 m c t y _ (by blk_simp [i7]) (by blk_simp [i7]) (by blk_simp [i7])

theorem arr8 (c : Dev nD) : (dats m 0 c).arrAt 8 (cfgs 0).N = resGate m c := by
  refine (dats m 0 c).arrAt_eq_of_covers 8 _ (by decide +kernel) fun t hf y => ?_
  obtain ⟨-, -, -, -, -, -, -, -, i8, -⟩ := idx_at t
  blk_simp
  rw [after0_8]
  exact block8 m c t y _ (by blk_simp [i8]) (by blk_simp [i8]) (by blk_simp [i8])

theorem arr9 (c : Dev nD) : (dats m 0 c).arrAt 9 (cfgs 0).N = resConv m c := by
  refine (dats m 0 c).arrAt_eq_of_covers 9 _ (by decide +kernel) fun t hf y => ?_
  obtain ⟨-, -, -, -, -, -, -, -, -, i9, -⟩ := idx_at t
  blk_simp
  rw [after0_9]
  exact block9 m c t y _ (by blk_simp [i9]) (by blk_simp [i9]) (by blk_simp [i9]) (by blk_simp [i9])

theorem arr10 (c : Dev nD) : (dats m 0 c).arrAt 10 (cfgs 0).N = resConvGate m c := by
  refine (dats m 0 c).arrAt_eq_of_covers 10 _ (by decide +kernel) fun t hf y => ?_
  obtain ⟨-, -, -, -, -, -, -, -, -, -, i10⟩ := idx_at t
  blk_simp
  rw [after0_10]
  exact block10 m c t y _ (by blk_simp [i10]) (by blk_simp [i10])

end Cert.Kernel2Ideal.Gen

end
-- ==== Proof.ProjRef.lean ====
module

public import proofs.«01_k».proof.Proof.ProjSpec
public import proofs.«01_k».proof.Proof.Gen.Reference2Ideal.Run
public import Idealize.ShloMosaic.Lib.Pointwise
public import Idealize.ShloMosaic.Lib.Tactic.CleanTypes

@[expose] public section

set_option maxRecDepth 16384

noncomputable section

namespace Cert.Reference2Ideal.Value

open Cert.Reference2Ideal Cert.Reference2Ideal.Gen Idealize.ShloMosaic Idealize.ShloMosaic.TcCoe Idealize.SL.Sem
open Cert.Proof.Proj

/-! The reference's results entry by entry. -/

variable (A : FVec Ideal S8x4096x1024 .f32) (g : FVec Ideal S1x1024 .f32) (sh sc : FVec Ideal S8x1024 .f32) (Ws : FVec Ideal S2048x1024 .bf16) (Wc : FVec Ideal S3072x1024 .bf16)

/-- The normed tokens by batch element, row and column. -/
def rHid : FVec Ideal S8x64x64x1024 .f32 :=
  shapeCast _ (addf (mulf (mulf (mulf A (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf A A) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast _ g shapeCasts_S1x1024_S1024))))
    (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 sc))))
    (broadcastInDim S8x4096x1024 ![0, 1, 2] bcast_S8x1x1024_S8x4096x1024_0_1_2 (broadcastInDim S8x1x1024 ![0, 2] bcast_S8x1024_S8x1x1024_0_2 sh))) shapeCasts_S8x4096x1024_S8x64x64x1024

theorem rHid_apply (b : Fin 8) (row col : Fin 64) (k : Fin 1024) : rHid A g sh sc (ix4 b row col k) = hid A g sh sc row col b k := by
  unfold rHid
  pointwise
  unfold hid normed tok amp
  rw [← mul_assoc]

/-- A projection onto 1024 channels, by column, channel, row and batch element. -/
def rProjS (H : FVec Ideal S8x64x64x1024 .f32) (w : FVec Ideal S1024x1024 .f32) : FVec Ideal S64x1024x64x8 .f32 :=
  transpose S64x1024x64x8 [3, 0, 2, 1] (Host.dotGeneral dot_S1024x1024_S8x64x64x1024_S1024x8x64x64_1_3_0_012_n_n none w H) transposes_S1024x8x64x64_S64x1024x64x8_3_0_2_1

theorem rProjS_apply (H : FVec Ideal S8x64x64x1024 .f32) (w : FVec Ideal S1024x1024 .f32) (col : Fin 64) (ch : Fin 1024) (row : Fin 64) (b : Fin 8) :
    rProjS H w (ix4 col ch row b) = channel (fun k => w (ix2 ch k)) (fun k => H (ix4 b row col k)) := by
  unfold rProjS
  pointwise
  rfl

/-- A projection onto 512 channels, by column, channel, row and batch element. -/
def rProjC (H : FVec Ideal S8x64x64x1024 .f32) (w : FVec Ideal S512x1024 .f32) : FVec Ideal S64x512x64x8 .f32 :=
  transpose S64x512x64x8 [3, 0, 2, 1] (Host.dotGeneral dot_S512x1024_S8x64x64x1024_S512x8x64x64_1_3_0_012_n_n none w H) transposes_S512x8x64x64_S64x512x64x8_3_0_2_1

theorem rProjC_apply (H : FVec Ideal S8x64x64x1024 .f32) (w : FVec Ideal S512x1024 .f32) (col : Fin 64) (ch : Fin 512) (row : Fin 64) (b : Fin 8) :
    rProjC H w (ix4 col ch row b) = channel (fun k => w (ix2 ch k)) (fun k => H (ix4 b row col k)) := by
  unfold rProjC
  pointwise
  rfl

/-- SiLU as the host writes it. -/
theorem silu_host (y : EReal) : y * Ideal.div 1 (1 + Ideal.exp (-y)) = silu y := rfl

section
variable (H : FVec Ideal S8x64x64x1024 .f32)

/-- The four results from the normed tokens. -/
def rIn : FVec Ideal S16x1024x2048 .bf16 :=
  truncf .bf16 (shapeCast _ (transpose S16x1024x4x512 [1, 2, 0, 3] (shapeCast _ (rProjS H (extractStridedSlice S1024x1024 ![0, 0] (extf .f32 Ws bitsLt_bf16_f32) slices_S2048x1024_S1024x1024_0_0)) shapeCasts_S64x1024x64x8_S4x16x1024x512) transposes_S4x16x1024x512_S16x1024x4x512_1_2_0_3) shapeCasts_S16x1024x4x512_S16x1024x2048) bitsLt_bf16_f32

def rSiluS (y : FVec Ideal S64x1024x64x8 .f32) : FVec Ideal S64x1024x64x8 .f32 :=
  mulf y (Host.divf (broadcastInDim S64x1024x64x8 ![] bcast_S_S64x1024x64x8 (constant S_ .f32 0x3F800000#32)) (addf (broadcastInDim S64x1024x64x8 ![] bcast_S_S64x1024x64x8 (constant S_ .f32 0x3F800000#32)) (Host.exp (Host.negf y))))

def rGateC (v y : FVec Ideal S64x512x64x8 .f32) : FVec Ideal S64x512x64x8 .f32 :=
  mulf v (Host.divf (broadcastInDim S64x512x64x8 ![] bcast_S_S64x512x64x8 (constant S_ .f32 0x3F800000#32)) (addf (broadcastInDim S64x512x64x8 ![] bcast_S_S64x512x64x8 (constant S_ .f32 0x3F800000#32)) (Host.exp (Host.negf y))))

def rGate : FVec Ideal S16x1024x2048 .bf16 :=
  truncf .bf16 (shapeCast _ (transpose S16x1024x4x512 [1, 2, 0, 3] (shapeCast _ (rSiluS (rProjS H (extractStridedSlice S1024x1024 ![1024, 0] (extf .f32 Ws bitsLt_bf16_f32) slices_S2048x1024_S1024x1024_1024_0))) shapeCasts_S64x1024x64x8_S4x16x1024x512) transposes_S4x16x1024x512_S16x1024x4x512_1_2_0_3) shapeCasts_S16x1024x4x512_S16x1024x2048) bitsLt_bf16_f32

def rConv : FVec Ideal S64x4x512x128 .bf16 :=
  truncf .bf16 (transpose S64x4x512x128 [0, 2, 1, 3] (shapeCast _ (rGateC (rProjC H (extractStridedSlice S512x1024 ![0, 0] (extf .f32 Wc bitsLt_bf16_f32) slices_S3072x1024_S512x1024_0_0)) (rProjC H (extractStridedSlice S512x1024 ![1024, 0] (extf .f32 Wc bitsLt_bf16_f32) slices_S3072x1024_S512x1024_1024_0))) shapeCasts_S64x512x64x8_S64x512x4x128) transposes_S64x512x4x128_S64x4x512x128_0_2_1_3) bitsLt_bf16_f32

def rConvGate : FVec Ideal S512x32768 .bf16 :=
  truncf .bf16 (shapeCast _ (transpose S512x64x512 [1, 0, 2] (shapeCast _ (rGateC (rProjC H (extractStridedSlice S512x1024 ![2048, 0] (extf .f32 Wc bitsLt_bf16_f32) slices_S3072x1024_S512x1024_2048_0)) (rProjC H (extractStridedSlice S512x1024 ![2048, 0] (extf .f32 Wc bitsLt_bf16_f32) slices_S3072x1024_S512x1024_2048_0))) shapeCasts_S64x512x64x8_S64x512x512) transposes_S64x512x512_S512x64x512_1_0_2) shapeCasts_S512x64x512_S512x32768) bitsLt_bf16_f32

theorem rSiluS_apply (y : FVec Ideal S64x1024x64x8 .f32) (i : S64x1024x64x8.Idx) : rSiluS y i = silu (y i) := by
  unfold rSiluS
  pointwise
  rfl

theorem rGateC_apply (v y : FVec Ideal S64x512x64x8 .f32) (i : S64x512x64x8.Idx) : rGateC v y i = gated (v i) (y i) := by
  unfold rGateC
  pointwise
  rfl

theorem rIn_apply (t : Fin 16) (ch : Fin 1024) (l : Fin 2048) : rIn Ws (rHid A g sh sc) (ix3 t ch l) = ssmIn A g sh sc Ws t ch l := by
  unfold rIn
  pointwise [rProjS_apply, rHid_apply]
  have er : (⟨(l : ℕ) % 512 / 8, by omega⟩ : Fin 64) = ⟨(l : ℕ) / 8 % 64, by omega⟩ := Fin.ext (by show (l : ℕ) % 512 / 8 = (l : ℕ) / 8 % 64; omega)
  have eb : (⟨(l : ℕ) % 512 % 8, by omega⟩ : Fin 8) = ⟨(l : ℕ) % 8, by omega⟩ := Fin.ext (by show (l : ℕ) % 512 % 8 = (l : ℕ) % 8; omega)
  rw [er, eb]
  rfl

theorem rGate_apply (t : Fin 16) (ch : Fin 1024) (l : Fin 2048) : rGate Ws (rHid A g sh sc) (ix3 t ch l) = ssmGate A g sh sc Ws t ch l := by
  unfold rGate
  pointwise [rSiluS_apply, rProjS_apply, rHid_apply]
  have er : (⟨(l : ℕ) % 512 / 8, by omega⟩ : Fin 64) = ⟨(l : ℕ) / 8 % 64, by omega⟩ := Fin.ext (by show (l : ℕ) % 512 / 8 = (l : ℕ) / 8 % 64; omega)
  have eb : (⟨(l : ℕ) % 512 % 8, by omega⟩ : Fin 8) = ⟨(l : ℕ) % 8, by omega⟩ := Fin.ext (by show (l : ℕ) % 512 % 8 = (l : ℕ) % 8; omega)
  rw [er, eb]
  rfl

theorem rConv_apply (col : Fin 64) (q : Fin 4) (ch : Fin 512) (j : Fin 128) (l : Fin 512) (hl : (l : ℕ) = q * 128 + j) :
    rConv Wc (rHid A g sh sc) (ix4 col q ch j) = convIn A g sh sc Wc col ch l := by
  unfold rConv
  pointwise [rGateC_apply, rProjC_apply, rHid_apply]
  have er : (⟨(q : ℕ) * 16 + (j : ℕ) / 8, by omega⟩ : Fin 64) = ⟨(l : ℕ) / 8, by omega⟩ := Fin.ext (by show (q : ℕ) * 16 + (j : ℕ) / 8 = (l : ℕ) / 8; omega)
  have eb : (⟨(j : ℕ) % 8, by omega⟩ : Fin 8) = ⟨(l : ℕ) % 8, by omega⟩ := Fin.ext (by show (j : ℕ) % 8 = (l : ℕ) % 8; omega)
  rw [er, eb]
  rfl

theorem rConvGate_apply (ch : Fin 512) (L : Fin 32768) :
    rConvGate Wc (rHid A g sh sc) (ix2 ch L) = convGate A g sh sc Wc ⟨(L : ℕ) / 512, by omega⟩ ch ⟨(L : ℕ) % 512, by omega⟩ := by
  unfold rConvGate
  pointwise [rGateC_apply, rProjC_apply, rHid_apply]
  rfl

end

end Cert.Reference2Ideal.Value

end
-- ==== Proof.RowBlock.lean ====
module

public import proofs.«01_k».proof.Proof.ProjSpec
public import proofs.«01_k».proof.Proof.Gen.Kernel3Ideal.Frame
public import Idealize.ShloMosaic.Lib.Pointwise
public import Idealize.ShloMosaic.Lib.Tactic.CleanTypes
public import Idealize.ShloMosaic.Lib.Pipeline.ValueKit

@[expose] public section

set_option maxRecDepth 16384

noncomputable section

namespace Cert.Kernel3Ideal.Gen

open Idealize.ShloMosaic Idealize.ShloMosaic.TcCoe Idealize.SL.Sem
open Cert.Proof.Proj

/-! The projection by row: what each payload is at an index, and what the body leaves in each output block. -/

/-- The normed token of lane `l` of half a block. -/
def bhid (x : FVec Ideal S1x32x8x1024 .f32) (a s : FVec Ideal S8x1024 .f32) (l : Fin 256) : Fin 1024 → EReal :=
  normed (fun i => x (ix4 0 ⟨(l : ℕ) / 8, by omega⟩ ⟨(l : ℕ) % 8, by omega⟩ i)) (fun i => a (ix2 ⟨(l : ℕ) % 8, by omega⟩ i)) (fun i => s (ix2 ⟨(l : ℕ) % 8, by omega⟩ i))

theorem pay12_apply (x : FVec Ideal S1x32x8x1024 .f32) (a s : FVec Ideal S8x1024 .f32) (l : Fin 256) (k : Fin 1024) :
    k0_pay12 (F := Ideal) x a s (ix2 l k) = bhid x a s l k := by
  unfold k0_pay12
  clean_types
  pointwise
  rfl

abbrev zero512 : FVec Ideal S512x256 .f32 := constant S512x256 .f32 0x00000000#32

section
variable (x : FVec Ideal S1x32x8x1024 .f32) (a s : FVec Ideal S8x1024 .f32) (w0 w1 w2 : FVec Ideal S512x1024 .bf16)

theorem pay2_apply (r : Fin 512) (l : Fin 256) :
    k0_pay2 (F := Ideal) (k0_pay12 x a s) w0 zero512 w1 w2 (ix2 r l)
      = gated (channel (fun k => w0 (ix2 r k)) (bhid x a s l)) (channel (fun k => w1 (ix2 r k)) (bhid x a s l)) := by
  unfold k0_pay2 k0_pay1
  clean_types
  pointwise [pay12_apply]
  rfl

theorem pay3_apply (r : Fin 512) (l : Fin 128) :
    k0_pay3 (F := Ideal) (k0_pay12 x a s) w0 zero512 w1 w2 (ix4 0 0 r l)
      = gated (channel (fun k => w0 (ix2 r k)) (bhid x a s ⟨(l : ℕ), by omega⟩)) (channel (fun k => w1 (ix2 r k)) (bhid x a s ⟨(l : ℕ), by omega⟩)) := by
  unfold k0_pay3
  clean_types
  pointwise [pay2_apply]

theorem pay4_apply (r : Fin 512) (l : Fin 128) :
    k0_pay4 (F := Ideal) (k0_pay12 x a s) w0 zero512 w1 w2 (ix4 0 0 r l)
      = gated (channel (fun k => w0 (ix2 r k)) (bhid x a s ⟨128 + (l : ℕ), by omega⟩)) (channel (fun k => w1 (ix2 r k)) (bhid x a s ⟨128 + (l : ℕ), by omega⟩)) := by
  unfold k0_pay4
  clean_types
  pointwise [pay2_apply]

theorem pay5_apply (r : Fin 512) (l : Fin 256) :
    k0_pay5 (F := Ideal) (k0_pay12 x a s) w0 zero512 w1 w2 (ix2 r l) = silu (channel (fun k => w2 (ix2 r k)) (bhid x a s l)) := by
  unfold k0_pay5 k0_pay1
  clean_types
  pointwise [pay12_apply]
  have h0 : ¬ 1024 + (r : ℕ) < 512 := by omega
  have h1 : ¬ 1024 + (r : ℕ) - 512 < 512 := by omega
  have h2 : (⟨1024 + (r : ℕ) - 512 - 512, by omega⟩ : Fin 512) = r := Fin.ext (by show 1024 + (r : ℕ) - 512 - 512 = r; omega)
  rw [dif_neg h0, dif_neg h1, h2]
  rfl

theorem pay9_eq : k0_pay9 (F := Ideal) (k0_pay8 x a s w0 w1 w2) = k0_pay3 (k0_pay12 x a s) w0 zero512 w1 w2 := rfl
theorem pay10_eq : k0_pay10 (F := Ideal) (k0_pay7 x a s w0 w1 w2) = k0_pay4 (k0_pay12 x a s) w0 zero512 w1 w2 := rfl
theorem pay11_eq : k0_pay11 (F := Ideal) (k0_pay6 x a s w0 w1 w2) = k0_pay5 (k0_pay12 x a s) w0 zero512 w1 w2 := rfl

/-! The same at any index of the payload. -/

theorem pay3_at (y : S1x1x512x128.Idx) : k0_pay3 (F := Ideal) (k0_pay12 x a s) w0 zero512 w1 w2 y
    = gated (channel (fun k => w0 (ix2 (y 2) k)) (bhid x a s ⟨(y 3 : ℕ), Nat.lt_of_lt_of_le (y 3).isLt (by decide)⟩))
      (channel (fun k => w1 (ix2 (y 2) k)) (bhid x a s ⟨(y 3 : ℕ), Nat.lt_of_lt_of_le (y 3).isLt (by decide)⟩)) := by
  have ey : y = ix4 0 0 (y 2) (y 3) := by funext e; fin_cases e; exacts [Subsingleton.elim (α := Fin 1) _ _, Subsingleton.elim (α := Fin 1) _ _, rfl, rfl]
  exact (congrArg _ ey).trans (pay3_apply x a s w0 w1 w2 (y 2) (y 3))

theorem pay4_at (y : S1x1x512x128.Idx) : k0_pay4 (F := Ideal) (k0_pay12 x a s) w0 zero512 w1 w2 y
    = gated (channel (fun k => w0 (ix2 (y 2) k)) (bhid x a s ⟨128 + (y 3 : ℕ), Nat.add_lt_add_left (y 3).isLt 128⟩))
      (channel (fun k => w1 (ix2 (y 2) k)) (bhid x a s ⟨128 + (y 3 : ℕ), Nat.add_lt_add_left (y 3).isLt 128⟩)) := by
  have ey : y = ix4 0 0 (y 2) (y 3) := by funext e; fin_cases e; exacts [Subsingleton.elim (α := Fin 1) _ _, Subsingleton.elim (α := Fin 1) _ _, rfl, rfl]
  exact (congrArg _ ey).trans (pay4_apply x a s w0 w1 w2 (y 2) (y 3))

theorem pay5_at (y : S512x256.Idx) : k0_pay5 (F := Ideal) (k0_pay12 x a s) w0 zero512 w1 w2 y = silu (channel (fun k => w2 (ix2 (y 0) k)) (bhid x a s (y 1))) := by
  have ey : y = ix2 (y 0) (y 1) := by funext e; fin_cases e; exacts [rfl, rfl]
  exact (congrArg _ ey).trans (pay5_apply x a s w0 w1 w2 (y 0) (y 1))

end

/-- The normed token of lane `l` of a block. -/
def blkHid (x : S1x64x8x1024.Idx → EReal) (a s : S8x1024.Idx → EReal) (l : Fin 512) : Fin 1024 → EReal :=
  normed (fun i => x (ix4 0 ⟨(l : ℕ) / 8, by omega⟩ ⟨(l : ℕ) % 8, by omega⟩ i)) (fun i => a (ix2 ⟨(l : ℕ) % 8, by omega⟩ i)) (fun i => s (ix2 ⟨(l : ℕ) % 8, by omega⟩ i))

variable (x0 : Vec Ideal S1x64x8x1024 .f32) (x1 x2 : Vec Ideal S8x1024 .f32) (x3 x4 x5 : Vec Ideal S512x1024 .bf16)

theorem half0 (l : Fin 256) (l' : Fin 512) (e : (l' : ℕ) = l) :
    bhid (View.ld x0 r0_0) (View.ld x1 r0_1) (View.ld x2 r0_1) l = blkHid x0 x1 x2 l' := by
  funext k
  refine normed_congr (funext fun i => ?_) (funext fun i => ?_) (funext fun i => ?_) rfl
  · exact View.ld_unit_apply_of x0 _ _ _ _ _ (Fin.forall_fin_succ.2 ⟨rfl, Fin.forall_fin_succ.2 ⟨(by show (l' : ℕ) / 8 = 0 + (l : ℕ) / 8; omega), Fin.forall_fin_succ.2
      ⟨(by show (l' : ℕ) % 8 = 0 + (l : ℕ) % 8; omega), Fin.forall_fin_succ.2 ⟨(Nat.zero_add _).symm, fun a => a.elim0⟩⟩⟩⟩)
  all_goals exact View.ld_unit_apply_of _ _ _ _ _ _ (Fin.forall_fin_succ.2 ⟨(by show (l' : ℕ) % 8 = 0 + (l : ℕ) % 8; omega), Fin.forall_fin_succ.2 ⟨(Nat.zero_add _).symm, fun a => a.elim0⟩⟩)

theorem half1 (l : Fin 256) (l' : Fin 512) (e : (l' : ℕ) = 256 + l) :
    bhid (View.ld x0 r0_6) (View.ld x1 r0_1) (View.ld x2 r0_1) l = blkHid x0 x1 x2 l' := by
  funext k
  refine normed_congr (funext fun i => ?_) (funext fun i => ?_) (funext fun i => ?_) rfl
  · exact View.ld_unit_apply_of x0 _ _ _ _ _ (Fin.forall_fin_succ.2 ⟨rfl, Fin.forall_fin_succ.2 ⟨(by show (l' : ℕ) / 8 = 32 + (l : ℕ) / 8; omega), Fin.forall_fin_succ.2
      ⟨(by show (l' : ℕ) % 8 = 0 + (l : ℕ) % 8; omega), Fin.forall_fin_succ.2 ⟨(Nat.zero_add _).symm, fun a => a.elim0⟩⟩⟩⟩)
  all_goals exact View.ld_unit_apply_of _ _ _ _ _ _ (Fin.forall_fin_succ.2 ⟨(by show (l' : ℕ) % 8 = 0 + (l : ℕ) % 8; omega), Fin.forall_fin_succ.2 ⟨(Nat.zero_add _).symm, fun a => a.elim0⟩⟩)

theorem wld (x : Vec Ideal S512x1024 .bf16) (r r' : Fin 512) (e : (r' : ℕ) = r) (k : Fin 1024) : View.ld x r0_2 (ix2 r k) = x (ix2 r' k) :=
  View.ld_unit_apply_of _ _ _ _ _ _ (Fin.forall_fin_succ.2 ⟨e.trans (Nat.zero_add _).symm, Fin.forall_fin_succ.2 ⟨(Nat.zero_add _).symm, fun a => a.elim0⟩⟩)

/-- What lane `l`, channel `r` of the convolution's input holds. -/
def blkConv (r l : Fin 512) : EReal := gated (channel (fun k => x3 (ix2 r k)) (blkHid x0 x1 x2 l)) (channel (fun k => x4 (ix2 r k)) (blkHid x0 x1 x2 l))

theorem out6_at (y : S1x4x512x128.Idx) (l : Fin 512) (hl : (l : ℕ) = (y 1 : ℕ) * 128 + y 3) :
    out0_6 x0 x1 x2 x3 x4 x5 y = blkConv x0 x1 x2 x3 x4 (y 2) l := by
  unfold_out out0_6
  canon_tiles x h
  · exact (pay4_at _ _ _ _ _ _ x).trans
      (gated_eq (chan_eq (wld _ _ _ h2) (half1 _ _ _ _ _ (by show (l : ℕ) = 256 + (128 + (x 3 : ℕ)); omega))) (chan_eq (wld _ _ _ h2) (half1 _ _ _ _ _ (by show (l : ℕ) = 256 + (128 + (x 3 : ℕ)); omega))))
  · exact (pay3_at _ _ _ _ _ _ x).trans
      (gated_eq (chan_eq (wld _ _ _ h2) (half1 _ _ _ _ _ (by show (l : ℕ) = 256 + (x 3 : ℕ); omega))) (chan_eq (wld _ _ _ h2) (half1 _ _ _ _ _ (by show (l : ℕ) = 256 + (x 3 : ℕ); omega))))
  · exact (congrFun (pay10_eq _ _ _ _ _ _) x).trans ((pay4_at _ _ _ _ _ _ x).trans
      (gated_eq (chan_eq (wld _ _ _ h2) (half0 _ _ _ _ _ (by show (l : ℕ) = 128 + (x 3 : ℕ); omega))) (chan_eq (wld _ _ _ h2) (half0 _ _ _ _ _ (by show (l : ℕ) = 128 + (x 3 : ℕ); omega)))))
  · exact (congrFun (pay9_eq _ _ _ _ _ _) x).trans ((pay3_at _ _ _ _ _ _ x).trans
      (gated_eq (chan_eq (wld _ _ _ h2) (half0 _ _ _ _ _ (by show (l : ℕ) = (x 3 : ℕ); omega))) (chan_eq (wld _ _ _ h2) (half0 _ _ _ _ _ (by show (l : ℕ) = (x 3 : ℕ); omega)))))

theorem out7_at (y : S512x512.Idx) :
    out0_7 x0 x1 x2 x3 x4 x5 y = silu (channel (fun k => x5 (ix2 (y 0) k)) (blkHid x0 x1 x2 (y 1))) := by
  unfold_out out0_7
  canon_tiles x h
  · exact (pay5_at _ _ _ _ _ _ x).trans (congrArg silu (chan_eq (wld _ _ _ h0) (half1 _ _ _ _ _ h1)))
  · exact (congrFun (pay11_eq _ _ _ _ _ _) x).trans ((pay5_at _ _ _ _ _ _ x).trans (congrArg silu (chan_eq (wld _ _ _ h0) (half0 _ _ _ _ _ h1))))

end Cert.Kernel3Ideal.Gen

end
-- ==== Proof.RowValue.lean ====
module

public import proofs.«01_k».proof.Proof.RowBlock
public import Idealize.ShloMosaic.Lib.Pipeline.ValueKit

@[expose] public section

set_option maxRecDepth 16384

noncomputable section

namespace Cert.Kernel3Ideal.Gen

open Idealize.ShloMosaic Idealize.ShloMosaic.TcCoe Idealize.SL.Sem
open Cert.Proof.Proj

/-! The projection by row: the output arrays after the run, from the argument arrays. -/

variable (m : (ℓ : Loc nD τ sig) → Buf (Elt Ideal) ℓ) (ρ : Dev nD → PrngReg)

/-- The argument arrays. -/
abbrev b0 (c : Dev nD) : S8x4096x1024.Idx → EReal := m (c.tc.loc main_arg0)
abbrev b1 (c : Dev nD) : S1x1024.Idx → EReal := m (c.tc.loc main_arg1)
abbrev b2 (c : Dev nD) : S8x1024.Idx → EReal := m (c.tc.loc main_arg2)
abbrev b3 (c : Dev nD) : S8x1024.Idx → EReal := m (c.tc.loc main_arg3)
abbrev b4 (c : Dev nD) : S3072x1024.Idx → EReal := m (c.tc.loc main_arg4)

/-- Where each window's block sits at a point. -/
theorem idx_at : ∀ t : Fin cfg0.N, (cfg0.win 0).index t = ![t.val, 0, 0, 0] ∧ (cfg0.win 1).index t = ![0, 0] ∧ (cfg0.win 2).index t = ![0, 0]
    ∧ (cfg0.win 3).index t = ![1, 0] ∧ (cfg0.win 4).index t = ![3, 0] ∧ (cfg0.win 5).index t = ![5, 0] ∧ (cfg0.win 6).index t = ![t.val, 0, 0, 0]
    ∧ (cfg0.win 7).index t = ![0, t.val] := by
  decide +kernel

theorem N_eq : cfg0.N = 64 := by decide +kernel

/-- The laid-out input where the region finds it. -/
theorem V_x (c : Dev nD) (r col : Fin 64) (b : Fin 8) (k : Fin 1024) : (V m c main_v7 : S64x64x8x1024.Idx → EReal) (ix4 r col b k) = tok (b0 m c) r col b k := by
  have e : V m c main_v7 = shapeCast S64x64x8x1024 (transpose S4096x8x1024 [1, 0, 2] (b0 m c) transposes_S8x4096x1024_S4096x8x1024_1_0_2) shapeCasts_S4096x8x1024_S64x64x8x1024 := by
    unfold V
    after_results
    try rfl
  rw [e]
  unfold tok
  pointwise

/-- The amplitude where the region finds it. -/
theorem V_amp (c : Dev nD) (b : Fin 8) (k : Fin 1024) : (V m c main_v5 : S8x1024.Idx → EReal) (ix2 b k) = amp (b1 m c) (b3 m c) b k := by
  have e : V m c main_v5 = mulf (F := Ideal) (φ := .f32) (broadcastInDim S8x1024 ![0, 1] bcast_S1x1024_S8x1024_0_1 (broadcastInDim S1x1024 ![1] bcast_S1024_S1x1024_1 (shapeCast S1024 (b1 m c) shapeCasts_S1x1024_S1024)))
      (addf (F := Ideal) (φ := .f32) (broadcastInDim S8x1024 ![] bcast_S_S8x1024 (constant S_ .f32 0x3F800000#32)) (b3 m c)) := by
    unfold V
    after_results
    try rfl
  rw [e]
  unfold amp
  pointwise

section
variable (c : Dev nD) (t : Fin cfg0.N)

theorem link_x (col r : Fin 64) (hr : r.val = t.val) (b : Fin 8) (k : Fin 1024) : (iblk m c 0 t : S1x64x8x1024.Idx → EReal) (ix4 0 col b k) = tok (b0 m c) r col b k := by
  obtain ⟨i0, -⟩ := idx_at t
  refine Eq.trans ?_ (V_x m c r col b k)
  blk_ext [iblk, i0]

theorem link_a (b : Fin 8) (k : Fin 1024) : (iblk m c 1 t : S8x1024.Idx → EReal) (ix2 b k) = amp (b1 m c) (b3 m c) b k := by
  obtain ⟨-, i1, -⟩ := idx_at t
  refine Eq.trans ?_ (V_amp m c b k)
  blk_ext [iblk, i1]

theorem link_s (b : Fin 8) (k : Fin 1024) : (iblk m c 2 t : S8x1024.Idx → EReal) (ix2 b k) = b2 m c (ix2 b k) := by
  obtain ⟨-, -, i2, -⟩ := idx_at t
  refine Eq.trans ?_ (congrFun (V_main_arg2 m c) (ix2 b k))
  blk_ext [iblk, i2]

theorem link_w3 (r : Fin 512) (R : Fin 3072) (e : (R : ℕ) = 512 + r) (k : Fin 1024) : (iblk m c 3 t : S512x1024.Idx → EReal) (ix2 r k) = mrow (b4 m c) R k := by
  obtain ⟨-, -, -, i3, -⟩ := idx_at t
  refine Eq.trans ?_ (congrFun (V_main_arg4 m c) (ix2 R k))
  blk_ext [iblk, i3]

theorem link_w4 (r : Fin 512) (R : Fin 3072) (e : (R : ℕ) = 1536 + r) (k : Fin 1024) : (iblk m c 4 t : S512x1024.Idx → EReal) (ix2 r k) = mrow (b4 m c) R k := by
  obtain ⟨-, -, -, -, i4, -⟩ := idx_at t
  refine Eq.trans ?_ (congrFun (V_main_arg4 m c) (ix2 R k))
  blk_ext [iblk, i4]

theorem link_w5 (r : Fin 512) (R : Fin 3072) (e : (R : ℕ) = 2560 + r) (k : Fin 1024) : (iblk m c 5 t : S512x1024.Idx → EReal) (ix2 r k) = mrow (b4 m c) R k := by
  obtain ⟨-, -, -, -, -, i5, -⟩ := idx_at t
  refine Eq.trans ?_ (congrFun (V_main_arg4 m c) (ix2 R k))
  blk_ext [iblk, i5]

/-- A block's normed token is the argument's. -/
theorem link_h (l : Fin 512) (r col : Fin 64) (b : Fin 8) (hr : r.val = t.val) (hc : col.val = (l : ℕ) / 8) (hb : b.val = (l : ℕ) % 8) :
    blkHid (iblk m c 0 t) (iblk m c 1 t) (iblk m c 2 t) l = hid (b0 m c) (b1 m c) (b2 m c) (b3 m c) r col b := by
  have ec : col = ⟨(l : ℕ) / 8, by omega⟩ := Fin.ext hc
  have eb : b = ⟨(l : ℕ) % 8, by omega⟩ := Fin.ext hb
  rw [ec, eb]
  funext k
  exact normed_congr (funext fun i => link_x m c t _ r hr _ i) (funext fun i => link_a m c t _ i) (funext fun i => link_s m c t _ i) rfl

end

/-- The results as arrays. -/
def resConv (c : Dev nD) : S64x4x512x128.Idx → EReal := fun y => convInR (b0 m c) (b1 m c) (b2 m c) (b3 m c) (b4 m c) (y 0) (y 2)
  ⟨(y 1 : ℕ) * 128 + (y 3 : ℕ), by have h1 : (y 1 : ℕ) < 4 := (y 1).isLt; have h3 : (y 3 : ℕ) < 128 := (y 3).isLt; omega⟩
def resConvGate (c : Dev nD) : S512x32768.Idx → EReal := fun y => convGateR (b0 m c) (b1 m c) (b2 m c) (b3 m c) (b4 m c)
  ⟨(y 1 : ℕ) / 512, by have h : (y 1 : ℕ) < 32768 := (y 1).isLt; omega⟩ (y 0) ⟨(y 1 : ℕ) % 512, by omega⟩

section
variable (c : Dev nD) (t : Fin cfg0.N)

theorem block6 (y : S1x4x512x128.Idx) (z : S64x4x512x128.Idx) (e0 : (z 0).val = t.val + (y 0).val) (e1 : (z 1).val = (y 1).val) (e2 : (z 2).val = (y 2).val) (e3 : (z 3).val = (y 3).val) :
    out0_6 (F := Ideal) (iblk m c 0 t) (iblk m c 1 t) (iblk m c 2 t) (iblk m c 3 t) (iblk m c 4 t) (iblk m c 5 t) y = resConv m c z := by
  have hy0 : (y 0).val < 1 := (y 0).isLt
  have hy1 : (y 1).val < 4 := (y 1).isLt
  have hy3 : (y 3).val < 128 := (y 3).isLt
  have hh := link_h m c t ⟨(y 1).val * 128 + (y 3).val, by omega⟩ (z 0) ⟨((z 1).val * 128 + (z 3).val) / 8, by omega⟩ ⟨((z 1).val * 128 + (z 3).val) % 8, by omega⟩
    (by omega) (by show ((z 1).val * 128 + (z 3).val) / 8 = ((y 1).val * 128 + (y 3).val) / 8; rw [e1, e3])
    (by show ((z 1).val * 128 + (z 3).val) % 8 = ((y 1).val * 128 + (y 3).val) % 8; rw [e1, e3])
  exact (out6_at _ _ _ _ _ _ y ⟨(y 1).val * 128 + (y 3).val, by omega⟩ rfl).trans
    (gated_eq (chan_eq (fun k => link_w3 m c t _ _ (congrArg (512 + ·) e2) k) hh) (chan_eq (fun k => link_w4 m c t _ _ (congrArg (1536 + ·) e2) k) hh))

theorem block7 (y : S512x512.Idx) (z : S512x32768.Idx) (e0 : (z 0).val = (y 0).val) (e1 : (z 1).val = t.val * 512 + (y 1).val) :
    out0_7 (F := Ideal) (iblk m c 0 t) (iblk m c 1 t) (iblk m c 2 t) (iblk m c 3 t) (iblk m c 4 t) (iblk m c 5 t) y = resConvGate m c z := by
  have hy1 : (y 1).val < 512 := (y 1).isLt
  refine (out7_at _ _ _ _ _ _ y).trans (congrArg silu (chan_eq (fun k => link_w5 m c t _ _ (congrArg (2560 + ·) e0) k) (link_h m c t _ _ _ _ ?_ ?_ ?_)))
  · show (z 1).val / 512 = t.val; omega
  · show (z 1).val % 512 / 8 = (y 1).val / 8; omega
  · show (z 1).val % 512 % 8 = (y 1).val % 8; omega

end

theorem arr6 (c : Dev nD) : (dats m 0 c).arrAt 6 (cfgs 0).N = resConv m c := by
  refine (dats m 0 c).arrAt_eq_of_covers 6 _ (by decide +kernel) fun t hf y => ?_
  obtain ⟨-, -, -, -, -, -, i6, -⟩ := idx_at t
  blk_simp
  rw [after0_6]
  exact block6 m c t y _ (by blk_simp [i6]) (by blk_simp [i6]) (by blk_simp [i6]) (by blk_simp [i6])

theorem arr7 (c : Dev nD) : (dats m 0 c).arrAt 7 (cfgs 0).N = resConvGate m c := by
  refine (dats m 0 c).arrAt_eq_of_covers 7 _ (by decide +kernel) fun t hf y => ?_
  obtain ⟨-, -, -, -, -, -, -, i7⟩ := idx_at t
  blk_simp
  rw [after0_7]
  exact block7 m c t y _ (by blk_simp [i7]) (by blk_simp [i7])

end Cert.Kernel3Ideal.Gen

end
-- ==== Proof.RowRef.lean ====
module

public import proofs.«01_k».proof.Proof.ProjSpec
public import proofs.«01_k».proof.Proof.Gen.Reference3Ideal.Run
public import Idealize.ShloMosaic.Lib.Pointwise
public import Idealize.ShloMosaic.Lib.Tactic.CleanTypes

@[expose] public section

set_option maxRecDepth 16384

noncomputable section

namespace Cert.Reference3Ideal.Value

open Cert.Reference3Ideal Cert.Reference3Ideal.Gen Idealize.ShloMosaic Idealize.ShloMosaic.TcCoe Idealize.SL.Sem
open Cert.Proof.Proj

/-! The reference's results by row, entry by entry. -/

variable (A : FVec Ideal S8x4096x1024 .f32) (g : FVec Ideal S1x1024 .f32) (sh sc : FVec Ideal S8x1024 .f32) (Wc : FVec Ideal S3072x1024 .bf16)

/-- The normed tokens by batch element, row and column. -/
def rHid : FVec Ideal S8x64x64x1024 .f32 :=
  shapeCast _ (addf (mulf (mulf (mulf A (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf A A) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast _ g shapeCasts_S1x1024_S1024))))
    (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 sc))))
    (broadcastInDim S8x4096x1024 ![0, 1, 2] bcast_S8x1x1024_S8x4096x1024_0_1_2 (broadcastInDim S8x1x1024 ![0, 2] bcast_S8x1024_S8x1x1024_0_2 sh))) shapeCasts_S8x4096x1024_S8x64x64x1024

theorem rHid_apply (b : Fin 8) (row col : Fin 64) (k : Fin 1024) : rHid A g sh sc (ix4 b row col k) = hid A g sh sc row col b k := by
  unfold rHid
  pointwise
  unfold hid normed tok amp
  rw [← mul_assoc]

/-- A projection onto 512 channels, by row, channel, column and batch element. -/
def rProjC (H : FVec Ideal S8x64x64x1024 .f32) (w : FVec Ideal S512x1024 .f32) : FVec Ideal S64x512x64x8 .f32 :=
  transpose S64x512x64x8 [2, 0, 3, 1] (Host.dotGeneral dot_S512x1024_S8x64x64x1024_S512x8x64x64_1_3_0_012_n_n none w H) transposes_S512x8x64x64_S64x512x64x8_2_0_3_1

theorem rProjC_apply (H : FVec Ideal S8x64x64x1024 .f32) (w : FVec Ideal S512x1024 .f32) (row : Fin 64) (ch : Fin 512) (col : Fin 64) (b : Fin 8) :
    rProjC H w (ix4 row ch col b) = channel (fun k => w (ix2 ch k)) (fun k => H (ix4 b row col k)) := by
  unfold rProjC
  pointwise
  rfl

section
variable (H : FVec Ideal S8x64x64x1024 .f32)

def rGateC (v y : FVec Ideal S64x512x64x8 .f32) : FVec Ideal S64x512x64x8 .f32 :=
  mulf v (Host.divf (broadcastInDim S64x512x64x8 ![] bcast_S_S64x512x64x8 (constant S_ .f32 0x3F800000#32)) (addf (broadcastInDim S64x512x64x8 ![] bcast_S_S64x512x64x8 (constant S_ .f32 0x3F800000#32)) (Host.exp (Host.negf y))))

/-- The two results from the normed tokens. -/
def rConv : FVec Ideal S64x4x512x128 .bf16 :=
  truncf .bf16 (transpose S64x4x512x128 [0, 2, 1, 3] (shapeCast _ (rGateC (rProjC H (extractStridedSlice S512x1024 ![512, 0] (extf .f32 Wc bitsLt_bf16_f32) slices_S3072x1024_S512x1024_512_0)) (rProjC H (extractStridedSlice S512x1024 ![1536, 0] (extf .f32 Wc bitsLt_bf16_f32) slices_S3072x1024_S512x1024_1536_0))) shapeCasts_S64x512x64x8_S64x512x4x128) transposes_S64x512x4x128_S64x4x512x128_0_2_1_3) bitsLt_bf16_f32

def rConvGate : FVec Ideal S512x32768 .bf16 :=
  truncf .bf16 (shapeCast _ (transpose S512x64x512 [1, 0, 2] (shapeCast _ (rGateC (rProjC H (extractStridedSlice S512x1024 ![2560, 0] (extf .f32 Wc bitsLt_bf16_f32) slices_S3072x1024_S512x1024_2560_0)) (rProjC H (extractStridedSlice S512x1024 ![2560, 0] (extf .f32 Wc bitsLt_bf16_f32) slices_S3072x1024_S512x1024_2560_0))) shapeCasts_S64x512x64x8_S64x512x512) transposes_S64x512x512_S512x64x512_1_0_2) shapeCasts_S512x64x512_S512x32768) bitsLt_bf16_f32

theorem rGateC_apply (v y : FVec Ideal S64x512x64x8 .f32) (i : S64x512x64x8.Idx) : rGateC v y i = gated (v i) (y i) := by
  unfold rGateC
  pointwise
  rfl

theorem rConv_apply (row : Fin 64) (q : Fin 4) (ch : Fin 512) (j : Fin 128) (l : Fin 512) (hl : (l : ℕ) = q * 128 + j) :
    rConv Wc (rHid A g sh sc) (ix4 row q ch j) = convInR A g sh sc Wc row ch l := by
  unfold rConv
  pointwise [rGateC_apply, rProjC_apply, rHid_apply]
  have er : (⟨(q : ℕ) * 16 + (j : ℕ) / 8, by omega⟩ : Fin 64) = ⟨(l : ℕ) / 8, by omega⟩ := Fin.ext (by show (q : ℕ) * 16 + (j : ℕ) / 8 = (l : ℕ) / 8; omega)
  have eb : (⟨(j : ℕ) % 8, by omega⟩ : Fin 8) = ⟨(l : ℕ) % 8, by omega⟩ := Fin.ext (by show (j : ℕ) % 8 = (l : ℕ) % 8; omega)
  rw [er, eb]
  rfl

theorem rConvGate_apply (ch : Fin 512) (L : Fin 32768) :
    rConvGate Wc (rHid A g sh sc) (ix2 ch L) = convGateR A g sh sc Wc ⟨(L : ℕ) / 512, by omega⟩ ch ⟨(L : ℕ) % 512, by omega⟩ := by
  unfold rConvGate
  pointwise [rGateC_apply, rProjC_apply, rHid_apply]
  rfl

end

end Cert.Reference3Ideal.Value

end
-- ==== Proof.TailSpec.lean ====
/- The channel norm of the convolution branch, the half-GLU and the output projection, entry by entry. -/
module

public import Idealize.ShloMosaic.Lib.Pointwise
public import Idealize.ShloMosaic.PureOps

@[expose] public section

noncomputable section

namespace Cert.Proof.Tail

open Idealize.ShloMosaic

theorem bits_1024 : Ideal.ofBits .f32 0x44800000#32 = ((1024 : ℝ) : EReal) := by
  simp [Ideal.ofBits, Ideal.ieee, -EReal.coe_mul]; norm_num

theorem bits_inv : Ideal.ofBits .f32 0x3A800000#32 = (((1 : ℝ) / 1024 : ℝ) : EReal) := by
  simp [Ideal.ofBits, Ideal.ieee, -EReal.coe_mul]; norm_num

/-- Dividing by 1024 is multiplying by 1/1024. -/
theorem div_1024 (x : EReal) : Ideal.div x (Ideal.ofBits .f32 0x44800000#32) = x * Ideal.ofBits .f32 0x3A800000#32 := by
  rw [bits_1024, bits_inv]
  have h : ((1024 : ℝ) : EReal) ≠ 0 := by norm_num
  unfold Ideal.div
  rw [if_neg h, ← EReal.coe_inv]
  norm_num

/-- The mean over 1024 channels, from the sum over each half. -/
def avg (p q : EReal) : EReal := (p + q) * Ideal.ofBits .f32 0x3A800000#32

/-- The channel norm with its swish, gated: an entry, the sums over each half of the channels and of their squares, the weight, the bias, the gate. -/
def swishNorm (x p1 q1 p2 q2 g b u : EReal) : EReal :=
  let y := (x - avg p1 q1) * Ideal.rsqrt (avg p2 q2 - avg p1 q1 * avg p1 q1 + Ideal.ofBits .f32 0x358637BD#32) * g + b
  y * Ideal.logistic y * u

/-- The half-GLU with the branch's gate, at channel `e`. -/
def halfGlu (W : (⟨2, ![1024, 1024]⟩ : Shape).Idx → EReal) (b : (⟨2, ![1024, 1]⟩ : Shape).Idx → EReal) (y u : Fin 1024 → EReal) (e : Fin 1024) : EReal :=
  y e * Ideal.logistic ((∑ k : Fin 1024, W (ix2 e k) * y k) + b (ix2 e 0)) * u e

theorem swishNorm_congr {x p1 q1 p2 q2 g b u x' p1' q1' p2' q2' g' b' u' : EReal} (hx : x = x') (h1 : p1 = p1') (h2 : q1 = q1') (h3 : p2 = p2') (h4 : q2 = q2')
    (hg : g = g') (hb : b = b') (hu : u = u') : swishNorm x p1 q1 p2 q2 g b u = swishNorm x' p1' q1' p2' q2' g' b' u' := by
  subst hx h1 h2 h3 h4 hg hb hu; rfl

theorem halfGlu_congr {W W' : (⟨2, ![1024, 1024]⟩ : Shape).Idx → EReal} {b b' : (⟨2, ![1024, 1]⟩ : Shape).Idx → EReal} {y y' u u' : Fin 1024 → EReal} (e : Fin 1024)
    (hW : ∀ i k, W (ix2 i k) = W' (ix2 i k)) (hb : ∀ i, b (ix2 i 0) = b' (ix2 i 0)) (hy : ∀ k, y k = y' k) (hu : ∀ k, u k = u' k) :
    halfGlu W b y u e = halfGlu W' b' y' u' e := by
  unfold halfGlu
  rw [hy e, hu e, hb e]
  simp only [hW, hy]

/-- A product with a column of a matrix. -/
def column {n : ℕ} (s w : Fin n → EReal) : EReal := ∑ e : Fin n, s e * w e

theorem column_congr {n : ℕ} {s s' w w' : Fin n → EReal} (hs : ∀ e, s e = s' e) (hw : ∀ e, w e = w' e) : column s w = column s' w' := by
  unfold column
  simp only [hs, hw]

section
variable (Y G2 : (⟨3, ![16, 1024, 2048]⟩ : Shape).Idx → EReal) (C : (⟨3, ![64, 512, 512]⟩ : Shape).Idx → EReal) (G1 : (⟨2, ![512, 32768]⟩ : Shape).Idx → EReal)
  (s1 s2 r1 r2 : (⟨2, ![64, 512]⟩ : Shape).Idx → EReal) (W : (⟨2, ![1024, 1024]⟩ : Shape).Idx → EReal) (b : (⟨2, ![1024, 1]⟩ : Shape).Idx → EReal)
  (O : (⟨2, ![2048, 1024]⟩ : Shape).Idx → EReal) (lg lb : (⟨2, ![512, 1]⟩ : Shape).Idx → EReal)

/-- A state-space channel of the token at a row, a column and a batch element. -/
def ssmTok (row col : Fin 64) (bt : Fin 8) (e : Fin 1024) : EReal :=
  Y (ix3 ⟨(col : ℕ) % 16, by omega⟩ e ⟨(col : ℕ) / 16 * 512 + (row : ℕ) * 8 + bt, by omega⟩)

/-- A sum for the token at line `i`, place `j` of the line and a batch element. -/
def atTok (s : (⟨2, ![64, 512]⟩ : Shape).Idx → EReal) (i j : Fin 64) (bt : Fin 8) : EReal := s (ix2 i ⟨(j : ℕ) * 8 + bt, by omega⟩)

/-- A channel of the convolution branch at line `i`, place `j` of the line and a batch element: `s` sums along this direction's lines, `r` along the other's. -/
def convTok (i j : Fin 64) (bt : Fin 8) (e : Fin 512) : EReal :=
  swishNorm (C (ix3 i e ⟨(j : ℕ) * 8 + bt, by omega⟩)) (atTok s1 i j bt) (atTok r1 j i bt) (atTok s2 i j bt) (atTok r2 j i bt)
    (lg (ix2 e 0)) (lb (ix2 e 0)) (G1 (ix2 e ⟨(i : ℕ) * 512 + (j : ℕ) * 8 + bt, by omega⟩))

/-- The output projection of the state-space branch and of the convolution branch's first channels. -/
def mixed (row col : Fin 64) (bt : Fin 8) (d : Fin 1024) : EReal :=
  column (halfGlu W b (ssmTok Y row col bt) (ssmTok G2 row col bt)) (fun e => O (ix2 ⟨1024 + (e : ℕ), by omega⟩ d))
    + column (convTok C G1 s1 s2 r1 r2 lg lb col row bt) (fun e => O (ix2 ⟨(e : ℕ), by omega⟩ d))

end

end Cert.Proof.Tail

end
-- ==== Proof.TailPay.lean ====
module

public import proofs.«01_k».proof.Proof.TailSpec
public import proofs.«01_k».proof.Proof.Gen.Kernel4Ideal.Skeleton
public import Idealize.ShloMosaic.Lib.Pointwise
public import Idealize.ShloMosaic.Lib.Tactic.CleanTypes

@[expose] public section

set_option maxRecDepth 16384

noncomputable section

namespace Cert.Kernel4Ideal.Gen

open Idealize.ShloMosaic Idealize.ShloMosaic.TcCoe Idealize.SL.Sem
open Cert.Proof.Tail

/-! The half-GLU, the channel norm and the output projection: what each payload is at an index. -/

theorem pay3_apply (y : FVec Ideal S1x1024x512 .bf16) (W : FVec Ideal S1024x1024 .bf16) (b : FVec Ideal S1024x1 .f32) (u : FVec Ideal S1x1024x512 .bf16)
    (e : Fin 1024) (l : Fin 512) :
    k0_pay3 (F := Ideal) y W b u (ix2 e l) = halfGlu W b (fun k => y (ix3 0 k l)) (fun k => u (ix3 0 k l)) e := by
  unfold k0_pay3
  clean_types
  pointwise
  rfl

theorem pay9_eq (y : FVec Ideal S1x1024x512 .bf16) (W : FVec Ideal S1024x1024 .bf16) (b : FVec Ideal S1024x1 .f32) (u : FVec Ideal S1x1024x512 .bf16) :
    k0_pay9 (F := Ideal) y W b u = k0_pay3 y W b u := rfl

/-- A convolution channel of a block at lane `l`, the sums at lane `L`. -/
def bConv (cv : FVec Ideal S1x512x512 .bf16) (g : FVec Ideal S512x512 .bf16) (st : FVec Ideal S8x1024 .f32) (lg lb : FVec Ideal S512x1 .f32) (L : Fin 1024) (l : Fin 512) (e : Fin 512) : EReal :=
  swishNorm (cv (ix3 0 e l)) (st (ix2 0 L)) (st (ix2 2 L)) (st (ix2 1 L)) (st (ix2 3 L)) (lg (ix2 e 0)) (lb (ix2 e 0)) (g (ix2 e l))

section
variable (st : FVec Ideal S8x1024 .f32) (cv : FVec Ideal S1x512x512 .bf16) (g : FVec Ideal S512x512 .bf16) (lg lb : FVec Ideal S512x1 .f32)
  (s : FVec Ideal S1024x512 .bf16) (wos : FVec Ideal S1024x1024 .bf16) (woh : FVec Ideal S512x1024 .bf16)

theorem pay5_apply (l : Fin 512) : k0_pay5 (F := Ideal) st (ix2 0 l) = avg (st (ix2 0 ⟨(l : ℕ), by omega⟩)) (st (ix2 2 ⟨(l : ℕ), by omega⟩)) := by
  unfold k0_pay5 k0_pay4 k0_pay2
  clean_types
  pointwise
  rfl

theorem pay6_apply (e l : Fin 512) : k0_pay6 (F := Ideal) st cv (ix2 e l) = cv (ix3 0 e l) - avg (st (ix2 0 ⟨(l : ℕ), by omega⟩)) (st (ix2 2 ⟨(l : ℕ), by omega⟩)) := by
  unfold k0_pay6
  clean_types
  pointwise [pay5_apply]

theorem pay7_apply (l : Fin 512) : k0_pay7 (F := Ideal) st (ix2 0 l)
    = avg (st (ix2 1 ⟨(l : ℕ), by omega⟩)) (st (ix2 3 ⟨(l : ℕ), by omega⟩))
      - avg (st (ix2 0 ⟨(l : ℕ), by omega⟩)) (st (ix2 2 ⟨(l : ℕ), by omega⟩)) * avg (st (ix2 0 ⟨(l : ℕ), by omega⟩)) (st (ix2 2 ⟨(l : ℕ), by omega⟩))
      + Ideal.ofBits .f32 0x358637BD#32 := by
  unfold k0_pay7 k0_pay4 k0_pay2
  clean_types
  pointwise [pay5_apply]
  rfl

theorem pay8_apply (r : Fin 64) (b : Fin 8) (d : Fin 1024) :
    k0_pay8 (F := Ideal) s g (k0_pay6 st cv) (k0_pay7 st) lg lb wos woh (ix3 r b d)
      = column (fun e => s (ix2 e ⟨(r : ℕ) * 8 + b, by omega⟩)) (fun e => wos (ix2 e d))
        + column (bConv cv g st lg lb ⟨(r : ℕ) * 8 + b, by omega⟩ ⟨(r : ℕ) * 8 + b, by omega⟩) (fun e => woh (ix2 e d)) := by
  unfold k0_pay8
  clean_types
  pointwise [pay6_apply, pay7_apply]
  rfl

/-- The means of the second half of the lanes, the centred entries and the variances with the epsilon. -/
def hMean : FVec Ideal S1x512 .f32 :=
  mulf (addf (extractStridedSlice S1x512 ![0, 0] (extractStridedSlice S8x512 ![0, 512] (k0_pay2 st) slices_S8x1024_o0_512_S8x512) slices_S8x512_o0_0_S1x512)
    (extractStridedSlice S1x512 ![2, 0] (extractStridedSlice S8x512 ![0, 512] (k0_pay2 st) slices_S8x1024_o0_512_S8x512) slices_S8x512_o2_0_S1x512)) (broadcast S1x512 (Scalar.ofBits .f32 0x3A800000#32))
def hCentred : FVec Ideal S512x512 .f32 :=
  subf (extf .f32 (shapeCast S512x512 cv shapeCasts_S1x512x512_S512x512 : FVec Ideal S512x512 .bf16) bitsLt_bf16_f32) (broadcastTo S512x512 (hMean st) broadcasts_S1x512_S512x512)
def hVar : FVec Ideal S1x512 .f32 :=
  addf (subf (mulf (addf (extractStridedSlice S1x512 ![1, 0] (extractStridedSlice S8x512 ![0, 512] (k0_pay2 st) slices_S8x1024_o0_512_S8x512) slices_S8x512_o1_0_S1x512)
    (extractStridedSlice S1x512 ![3, 0] (extractStridedSlice S8x512 ![0, 512] (k0_pay2 st) slices_S8x1024_o0_512_S8x512) slices_S8x512_o3_0_S1x512)) (broadcast S1x512 (Scalar.ofBits .f32 0x3A800000#32)))
    (mulf (hMean st) (hMean st))) (broadcast S1x512 (Scalar.ofBits .f32 0x358637BD#32))

theorem hMean_apply (l : Fin 512) : hMean st (ix2 0 l) = avg (st (ix2 0 ⟨512 + (l : ℕ), by omega⟩)) (st (ix2 2 ⟨512 + (l : ℕ), by omega⟩)) := by
  unfold hMean k0_pay2
  clean_types
  pointwise
  rfl

theorem hCentred_apply (e l : Fin 512) : hCentred st cv (ix2 e l) = cv (ix3 0 e l) - avg (st (ix2 0 ⟨512 + (l : ℕ), by omega⟩)) (st (ix2 2 ⟨512 + (l : ℕ), by omega⟩)) := by
  unfold hCentred
  clean_types
  pointwise [hMean_apply]

theorem hVar_apply (l : Fin 512) : hVar st (ix2 0 l)
    = avg (st (ix2 1 ⟨512 + (l : ℕ), by omega⟩)) (st (ix2 3 ⟨512 + (l : ℕ), by omega⟩))
      - avg (st (ix2 0 ⟨512 + (l : ℕ), by omega⟩)) (st (ix2 2 ⟨512 + (l : ℕ), by omega⟩)) * avg (st (ix2 0 ⟨512 + (l : ℕ), by omega⟩)) (st (ix2 2 ⟨512 + (l : ℕ), by omega⟩))
      + Ideal.ofBits .f32 0x358637BD#32 := by
  unfold hVar k0_pay2
  clean_types
  pointwise [hMean_apply]
  rfl

theorem high_apply (r : Fin 64) (b : Fin 8) (d : Fin 1024) :
    k0_pay8 (F := Ideal) s g (hCentred st cv) (hVar st) lg lb wos woh (ix3 r b d)
      = column (fun e => s (ix2 e ⟨(r : ℕ) * 8 + b, by omega⟩)) (fun e => wos (ix2 e d))
        + column (bConv cv g st lg lb ⟨512 + ((r : ℕ) * 8 + b), by omega⟩ ⟨(r : ℕ) * 8 + b, by omega⟩) (fun e => woh (ix2 e d)) := by
  unfold k0_pay8
  clean_types
  pointwise [hCentred_apply, hVar_apply]
  rfl

/-- Both halves of the lanes laid side by side. -/
def beside (v57 v113 : FVec Ideal S64x8x1024 .f32) : FVec Ideal S64x16x1024 .bf16 :=
  truncf .bf16 (concatenate S64x16x1024 1 [⟨S64x8x1024, v57⟩, ⟨S64x8x1024, v113⟩] concatenates_S64x8x1024_S64x8x1024_S64x16x1024_d1 : FVec Ideal S64x16x1024 .f32) bitsLt_bf16_f32

theorem beside_low (v57 v113 : FVec Ideal S64x8x1024 .f32) (r : Fin 64) (j : Fin 16) (h : (j : ℕ) < 8) (d : Fin 1024) : beside v57 v113 (ix3 r j d) = v57 (ix3 r ⟨(j : ℕ), h⟩ d) := by
  unfold beside
  pointwise
  rw [dif_pos h]

theorem beside_high (v57 v113 : FVec Ideal S64x8x1024 .f32) (r : Fin 64) (j : Fin 16) (h : 8 ≤ (j : ℕ)) (d : Fin 1024) : beside v57 v113 (ix3 r j d) = v113 (ix3 r ⟨(j : ℕ) - 8, by omega⟩ d) := by
  unfold beside
  pointwise
  rw [dif_neg (by omega)]

theorem pay10_eq (v57 : FVec Ideal S64x8x1024 .f32) :
    k0_pay10 (F := Ideal) (k0_pay2 st) v57 s cv g lg lb wos woh = beside v57 (k0_pay8 s g (hCentred st cv) (hVar st) lg lb wos woh) := rfl

end

end Cert.Kernel4Ideal.Gen

end
-- ==== Proof.TailBlock.lean ====
module

public import proofs.«01_k».proof.Proof.TailPay
public import proofs.«01_k».proof.Proof.Gen.Kernel4Ideal.Frame
public import Idealize.ShloMosaic.Lib.Pipeline.ValueKit

@[expose] public section

set_option maxRecDepth 16384

noncomputable section

namespace Cert.Kernel4Ideal.Gen

open Idealize.ShloMosaic Idealize.ShloMosaic.TcCoe Idealize.SL.Sem
open Cert.Proof.Tail

/-! What the body leaves in the output block, from the input blocks. -/

variable (x0 x1 : Vec Ideal S2x1024x512 .bf16) (x2 : Vec Ideal S2x512x512 .bf16) (x3 : Vec Ideal S512x1024 .bf16) (x4 : Vec Ideal S8x1024 .f32)
  (x5 : Vec Ideal S1024x1024 .bf16) (x6 : Vec Ideal S1024x1 .f32) (x7 : Vec Ideal S1024x1024 .bf16) (x8 : Vec Ideal S512x1024 .bf16) (x9 x10 : Vec Ideal S512x1 .f32)

/-- What the block holds at lane `l` of its half `k`. -/
def blkMix (k : Fin 2) (l : Fin 512) (d : Fin 1024) : EReal :=
  column (halfGlu x5 x6 (fun e => x0 (ix3 k e l)) (fun e => x1 (ix3 k e l))) (fun e => x7 (ix2 e d))
    + column (fun e => swishNorm (x2 (ix3 k e l)) (x4 (ix2 0 ⟨(k : ℕ) * 512 + l, by omega⟩)) (x4 (ix2 2 ⟨(k : ℕ) * 512 + l, by omega⟩)) (x4 (ix2 1 ⟨(k : ℕ) * 512 + l, by omega⟩)) (x4 (ix2 3 ⟨(k : ℕ) * 512 + l, by omega⟩))
        (x9 (ix2 e 0)) (x10 (ix2 e 0)) (x3 (ix2 e ⟨(k : ℕ) * 512 + l, by omega⟩))) (fun e => x8 (ix2 e d))

section
variable (l : Fin 512) (d e : Fin 1024) (c : Fin 512)

theorem ld_st (i : Fin 8) (L : Fin 1024) : View.ld x4 r0_0 (ix2 i L) = x4 (ix2 i L) :=
  View.ld_unit_apply_of _ _ _ _ _ _ (Fin.forall_fin_succ.2 ⟨(Nat.zero_add _).symm, Fin.forall_fin_succ.2 ⟨(Nat.zero_add _).symm, fun a => a.elim0⟩⟩)
theorem ld_sq (x : Vec Ideal S1024x1024 .bf16) (i j : Fin 1024) : View.ld x r0_2 (ix2 i j) = x (ix2 i j) :=
  View.ld_unit_apply_of _ _ _ _ _ _ (Fin.forall_fin_succ.2 ⟨(Nat.zero_add _).symm, Fin.forall_fin_succ.2 ⟨(Nat.zero_add _).symm, fun a => a.elim0⟩⟩)
theorem ld_b : View.ld x6 r0_3 (ix2 e 0) = x6 (ix2 e 0) :=
  View.ld_unit_apply_of _ _ _ _ _ _ (Fin.forall_fin_succ.2 ⟨(Nat.zero_add _).symm, Fin.forall_fin_succ.2 ⟨(Nat.zero_add _).symm, fun a => a.elim0⟩⟩)
theorem ld_l (x : Vec Ideal S512x1 .f32) : View.ld x r0_6 (ix2 c 0) = x (ix2 c 0) :=
  View.ld_unit_apply_of _ _ _ _ _ _ (Fin.forall_fin_succ.2 ⟨(Nat.zero_add _).symm, Fin.forall_fin_succ.2 ⟨(Nat.zero_add _).symm, fun a => a.elim0⟩⟩)
theorem ld_wh : View.ld x8 r0_7 (ix2 c d) = x8 (ix2 c d) :=
  View.ld_unit_apply_of _ _ _ _ _ _ (Fin.forall_fin_succ.2 ⟨(Nat.zero_add _).symm, Fin.forall_fin_succ.2 ⟨(Nat.zero_add _).symm, fun a => a.elim0⟩⟩)
theorem ld_y0 (x : Vec Ideal S2x1024x512 .bf16) : View.ld x r0_1 (ix3 0 e l) = x (ix3 0 e l) :=
  View.ld_unit_apply_of _ _ _ _ _ _ (Fin.forall_fin_succ.2 ⟨rfl, Fin.forall_fin_succ.2 ⟨(Nat.zero_add _).symm, Fin.forall_fin_succ.2 ⟨(Nat.zero_add _).symm, fun a => a.elim0⟩⟩⟩)
theorem ld_y1 (x : Vec Ideal S2x1024x512 .bf16) : View.ld x r0_8 (ix3 0 e l) = x (ix3 1 e l) :=
  View.ld_unit_apply_of _ _ _ _ _ _ (Fin.forall_fin_succ.2 ⟨rfl, Fin.forall_fin_succ.2 ⟨(Nat.zero_add _).symm, Fin.forall_fin_succ.2 ⟨(Nat.zero_add _).symm, fun a => a.elim0⟩⟩⟩)
theorem ld_c0 : View.ld x2 r0_4 (ix3 0 c l) = x2 (ix3 0 c l) :=
  View.ld_unit_apply_of _ _ _ _ _ _ (Fin.forall_fin_succ.2 ⟨rfl, Fin.forall_fin_succ.2 ⟨(Nat.zero_add _).symm, Fin.forall_fin_succ.2 ⟨(Nat.zero_add _).symm, fun a => a.elim0⟩⟩⟩)
theorem ld_c1 : View.ld x2 r0_9 (ix3 0 c l) = x2 (ix3 1 c l) :=
  View.ld_unit_apply_of _ _ _ _ _ _ (Fin.forall_fin_succ.2 ⟨rfl, Fin.forall_fin_succ.2 ⟨(Nat.zero_add _).symm, Fin.forall_fin_succ.2 ⟨(Nat.zero_add _).symm, fun a => a.elim0⟩⟩⟩)
theorem ld_g0 (L : Fin 1024) (hL : (L : ℕ) = l) : View.ld x3 r0_5 (ix2 c l) = x3 (ix2 c L) :=
  View.ld_unit_apply_of _ _ _ _ _ _ (Fin.forall_fin_succ.2 ⟨(Nat.zero_add _).symm, Fin.forall_fin_succ.2 ⟨hL.trans (Nat.zero_add _).symm, fun a => a.elim0⟩⟩)
theorem ld_g1 (L : Fin 1024) (hL : (L : ℕ) = 512 + l) : View.ld x3 r0_10 (ix2 c l) = x3 (ix2 c L) :=
  View.ld_unit_apply_of _ _ _ _ _ _ (Fin.forall_fin_succ.2 ⟨(Nat.zero_add _).symm, Fin.forall_fin_succ.2 ⟨hL, fun a => a.elim0⟩⟩)

theorem lane_eq {L L' : Fin 1024} (e : (L : ℕ) = L') (i : Fin 8) : View.ld x4 r0_0 (ix2 i L) = x4 (ix2 i L') := by
  rw [ld_st, Fin.ext e]

end

/-- The first half's payload is the block's entry. -/
theorem half0 (r : Fin 64) (b : Fin 8) (d : Fin 1024) :
    k0_pay8 (F := Ideal) (k0_pay3 (View.ld x0 r0_1) (View.ld x5 r0_2) (View.ld x6 r0_3) (View.ld x1 r0_1)) (View.ld x3 r0_5) (k0_pay6 (View.ld x4 r0_0) (View.ld x2 r0_4)) (k0_pay7 (View.ld x4 r0_0))
        (View.ld x9 r0_6) (View.ld x10 r0_6) (View.ld x7 r0_2) (View.ld x8 r0_7) (ix3 r b d)
      = blkMix x0 x1 x2 x3 x4 x5 x6 x7 x8 x9 x10 0 ⟨(r : ℕ) * 8 + b, by omega⟩ d := by
  refine (pay8_apply _ _ _ _ _ _ _ _ r b d).trans (congrArg₂ (· + ·) (column_congr (fun e => ?_) (fun e => ld_sq _ _ _)) (column_congr (fun e => ?_) (fun e => ld_wh _ _ _)))
  · exact (pay3_apply _ _ _ _ e _).trans (halfGlu_congr e (fun i k => ld_sq _ _ _) (fun i => ld_b _ _) (fun k => ld_y0 _ _ _) (fun k => ld_y0 _ _ _))
  · have hl : (r : ℕ) * 8 + b = ((0 : Fin 2) : ℕ) * 512 + ((r : ℕ) * 8 + b) := by show _ = 0 * 512 + _; omega
    exact swishNorm_congr (ld_c0 _ _ _) (lane_eq _ hl _) (lane_eq _ hl _) (lane_eq _ hl _) (lane_eq _ hl _) (ld_l _ _) (ld_l _ _) (ld_g0 _ _ _ _ hl.symm)

/-- The second half's payload is the block's entry. -/
theorem half1 (r : Fin 64) (b : Fin 8) (d : Fin 1024) :
    k0_pay8 (F := Ideal) (k0_pay9 (View.ld x0 r0_8) (View.ld x5 r0_2) (View.ld x6 r0_3) (View.ld x1 r0_8)) (View.ld x3 r0_10) (hCentred (View.ld x4 r0_0) (View.ld x2 r0_9)) (hVar (View.ld x4 r0_0))
        (View.ld x9 r0_6) (View.ld x10 r0_6) (View.ld x7 r0_2) (View.ld x8 r0_7) (ix3 r b d)
      = blkMix x0 x1 x2 x3 x4 x5 x6 x7 x8 x9 x10 1 ⟨(r : ℕ) * 8 + b, by omega⟩ d := by
  refine (high_apply _ _ _ _ _ _ _ _ r b d).trans (congrArg₂ (· + ·) (column_congr (fun e => ?_) (fun e => ld_sq _ _ _)) (column_congr (fun e => ?_) (fun e => ld_wh _ _ _)))
  · exact (congrFun (pay9_eq _ _ _ _) _).trans ((pay3_apply _ _ _ _ e _).trans (halfGlu_congr e (fun i k => ld_sq _ _ _) (fun i => ld_b _ _) (fun k => ld_y1 _ _ _) (fun k => ld_y1 _ _ _)))
  · have hl : 512 + ((r : ℕ) * 8 + b) = ((1 : Fin 2) : ℕ) * 512 + ((r : ℕ) * 8 + b) := by show _ = 1 * 512 + _; omega
    exact swishNorm_congr (ld_c1 _ _ _) (lane_eq _ hl _) (lane_eq _ hl _) (lane_eq _ hl _) (lane_eq _ hl _) (ld_l _ _) (ld_l _ _) (ld_g1 _ _ _ _ hl.symm)

theorem pay1_apply (v : FVec Ideal S64x16x1024 .bf16) (y : S64x1x16x1024.Idx) : k0_pay1 (F := Ideal) v y = v (ix3 (y 0) (y 2) (y 3)) := by
  have ey : y = ix4 (y 0) 0 (y 2) (y 3) := by funext e; fin_cases e; exacts [rfl, Subsingleton.elim (α := Fin 1) _ _, rfl, rfl]
  refine (congrArg _ ey).trans ?_
  unfold k0_pay1
  pointwise

/-- Both halves side by side are the block. -/
theorem halves_apply (r : Fin 64) (j : Fin 16) (d : Fin 1024) (k : Fin 2) (l : Fin 512) (hk : (k : ℕ) = (j : ℕ) / 8) (hl : (l : ℕ) = (r : ℕ) * 8 + (j : ℕ) % 8) :
    k0_pay10 (F := Ideal) (k0_pay2 (View.ld x4 r0_0))
        (k0_pay8 (k0_pay3 (View.ld x0 r0_1) (View.ld x5 r0_2) (View.ld x6 r0_3) (View.ld x1 r0_1)) (View.ld x3 r0_5) (k0_pay6 (View.ld x4 r0_0) (View.ld x2 r0_4)) (k0_pay7 (View.ld x4 r0_0))
          (View.ld x9 r0_6) (View.ld x10 r0_6) (View.ld x7 r0_2) (View.ld x8 r0_7))
        (k0_pay9 (View.ld x0 r0_8) (View.ld x5 r0_2) (View.ld x6 r0_3) (View.ld x1 r0_8)) (View.ld x2 r0_9) (View.ld x3 r0_10) (View.ld x9 r0_6) (View.ld x10 r0_6) (View.ld x7 r0_2) (View.ld x8 r0_7) (ix3 r j d)
      = blkMix x0 x1 x2 x3 x4 x5 x6 x7 x8 x9 x10 k l d := by
  rw [pay10_eq]
  by_cases h : (j : ℕ) < 8
  · rw [beside_low _ _ _ _ h, half0]
    have e1 : k = 0 := Fin.ext (by show (k : ℕ) = 0; omega)
    have e2 : l = ⟨(r : ℕ) * 8 + (j : ℕ), by omega⟩ := Fin.ext (by show (l : ℕ) = (r : ℕ) * 8 + (j : ℕ); omega)
    exact congrArg₂ (fun k l => blkMix x0 x1 x2 x3 x4 x5 x6 x7 x8 x9 x10 k l d) e1.symm e2.symm
  · rw [beside_high _ _ _ _ (by omega), half1]
    have e1 : k = 1 := Fin.ext (by show (k : ℕ) = 1; omega)
    have e2 : l = ⟨(r : ℕ) * 8 + ((j : ℕ) - 8), by omega⟩ := Fin.ext (by show (l : ℕ) = (r : ℕ) * 8 + ((j : ℕ) - 8); omega)
    exact congrArg₂ (fun k l => blkMix x0 x1 x2 x3 x4 x5 x6 x7 x8 x9 x10 k l d) e1.symm e2.symm

/-- The body's output. -/
theorem out11_at (y : S64x1x16x1024.Idx) (k : Fin 2) (l : Fin 512) (hk : (k : ℕ) = (y 2 : ℕ) / 8) (hl : (l : ℕ) = (y 0 : ℕ) * 8 + (y 2 : ℕ) % 8) :
    out0_11 x0 x1 x2 x3 x4 x5 x6 x7 x8 x9 x10 y = blkMix x0 x1 x2 x3 x4 x5 x6 x7 x8 x9 x10 k l (y 3) := by
  unfold out0_11
  exact (congrFun (View.canon_unit_zero (by decide) _ _) y).trans ((pay1_apply _ y).trans (halves_apply _ _ _ _ _ _ _ _ _ _ _ (y 0) (y 2) (y 3) k l hk hl))

end Cert.Kernel4Ideal.Gen

end
-- ==== Proof.TailValue.lean ====
module

public import proofs.«01_k».proof.Proof.TailBlock
public import Idealize.ShloMosaic.Lib.Pipeline.ValueKit

@[expose] public section

set_option maxRecDepth 16384

noncomputable section

namespace Cert.Kernel4Ideal.Gen

open Idealize.ShloMosaic Idealize.ShloMosaic.TcCoe Idealize.SL.Sem
open Cert.Proof.Tail

/-! The output array after the run, from the argument arrays. -/

variable (m : (ℓ : Loc nD τ sig) → Buf (Elt Ideal) ℓ) (ρ : Dev nD → PrngReg)

/-- The argument arrays. -/
abbrev b0 (c : Dev nD) : S16x1024x2048.Idx → EReal := m (c.tc.loc main_arg0)
abbrev b1 (c : Dev nD) : S16x1024x2048.Idx → EReal := m (c.tc.loc main_arg1)
abbrev b2 (c : Dev nD) : S64x512x512.Idx → EReal := m (c.tc.loc main_arg2)
abbrev b3 (c : Dev nD) : S512x32768.Idx → EReal := m (c.tc.loc main_arg3)
abbrev b4 (c : Dev nD) : S64x512.Idx → EReal := m (c.tc.loc main_arg4)
abbrev b5 (c : Dev nD) : S64x512.Idx → EReal := m (c.tc.loc main_arg5)
abbrev b6 (c : Dev nD) : S64x512.Idx → EReal := m (c.tc.loc main_arg6)
abbrev b7 (c : Dev nD) : S64x512.Idx → EReal := m (c.tc.loc main_arg7)
abbrev b8 (c : Dev nD) : S1024x1024.Idx → EReal := m (c.tc.loc main_arg8)
abbrev b9 (c : Dev nD) : S1024x1.Idx → EReal := m (c.tc.loc main_arg9)
abbrev b10 (c : Dev nD) : S2048x1024.Idx → EReal := m (c.tc.loc main_arg10)
abbrev b11 (c : Dev nD) : S512x1.Idx → EReal := m (c.tc.loc main_arg11)
abbrev b12 (c : Dev nD) : S512x1.Idx → EReal := m (c.tc.loc main_arg12)

/-- Where each window's block sits at a point. -/
theorem idx_at : ∀ t : Fin cfg0.N, (cfg0.win 0).index t = ![t.val % 8, 0, t.val / 8] ∧ (cfg0.win 1).index t = ![t.val % 8, 0, t.val / 8] ∧ (cfg0.win 2).index t = ![t.val, 0, 0]
    ∧ (cfg0.win 3).index t = ![0, t.val] ∧ (cfg0.win 4).index t = ![0, t.val] ∧ (cfg0.win 5).index t = ![0, 0] ∧ (cfg0.win 6).index t = ![0, 0]
    ∧ (cfg0.win 7).index t = ![1, 0] ∧ (cfg0.win 8).index t = ![0, 0] ∧ (cfg0.win 9).index t = ![0, 0] ∧ (cfg0.win 10).index t = ![0, 0]
    ∧ (cfg0.win 11).index t = ![0, t.val, 0, 0] := by
  decide +kernel

theorem N_eq : cfg0.N = 32 := by decide +kernel

/-- The sums over the other direction's half of the channels, lane by lane. -/
def swapped (s : S64x512.Idx → EReal) : FVec Ideal S1x32768 .f32 :=
  shapeCast S1x32768 (transpose S64x64x8 [1, 0, 2] (shapeCast S64x64x8 s shapeCasts_S64x512_S64x64x8) transposes_S64x64x8_S64x64x8_1_0_2) shapeCasts_S64x64x8_S1x32768

theorem swapped_apply (s : S64x512.Idx → EReal) (L : Fin 32768) (i j : Fin 64) (bt : Fin 8) (hL : (L : ℕ) = (i : ℕ) * 512 + (j : ℕ) * 8 + bt) :
    swapped s (ix2 0 L) = atTok s j i bt := by
  unfold swapped atTok
  pointwise
  have e1 : (⟨(L : ℕ) / 8 % 64, by omega⟩ : Fin 64) = j := Fin.ext (by show (L : ℕ) / 8 % 64 = (j : ℕ); omega)
  have e2 : (⟨(L : ℕ) / 512 * 8 + (L : ℕ) % 8, by omega⟩ : Fin 512) = ⟨(i : ℕ) * 8 + bt, by omega⟩ := Fin.ext (by show (L : ℕ) / 512 * 8 + (L : ℕ) % 8 = (i : ℕ) * 8 + bt; omega)
  rw [e1, e2]

/-- The sums over this direction's half of the channels, lane by lane. -/
def laid (s : S64x512.Idx → EReal) : FVec Ideal S1x32768 .f32 := shapeCast S1x32768 s shapeCasts_S64x512_S1x32768

theorem laid_apply (s : S64x512.Idx → EReal) (L : Fin 32768) (i j : Fin 64) (bt : Fin 8) (hL : (L : ℕ) = (i : ℕ) * 512 + (j : ℕ) * 8 + bt) :
    laid s (ix2 0 L) = atTok s i j bt := by
  unfold laid atTok
  pointwise
  have e1 : (⟨(L : ℕ) / 512, by omega⟩ : Fin 64) = i := Fin.ext (by show (L : ℕ) / 512 = (i : ℕ); omega)
  have e2 : (⟨(L : ℕ) % 512, by omega⟩ : Fin 512) = ⟨(j : ℕ) * 8 + bt, by omega⟩ := Fin.ext (by show (L : ℕ) % 512 = (j : ℕ) * 8 + bt; omega)
  rw [e1, e2]

/-- The four rows of sums, over four rows of zeros. -/
def stacked (p q u v : FVec Ideal S1x32768 .f32) : FVec Ideal S8x32768 .f32 :=
  concatenate S8x32768 0 [⟨S1x32768, p⟩, ⟨S1x32768, q⟩, ⟨S1x32768, u⟩, ⟨S1x32768, v⟩, ⟨S4x32768, (broadcastInDim S4x32768 ![] bcast_S_S4x32768 (constant S_ .f32 0x00000000#32) : FVec Ideal S4x32768 .f32)⟩] concatenates_S1x32768_S1x32768_S1x32768_S1x32768_S4x32768_S8x32768_d0

theorem stacked_0 (p q u v : FVec Ideal S1x32768 .f32) (L : Fin 32768) : stacked p q u v (ix2 0 L) = p (ix2 0 L) := by
  unfold stacked; pointwise
theorem stacked_1 (p q u v : FVec Ideal S1x32768 .f32) (L : Fin 32768) : stacked p q u v (ix2 1 L) = q (ix2 0 L) := by
  unfold stacked; pointwise
theorem stacked_2 (p q u v : FVec Ideal S1x32768 .f32) (L : Fin 32768) : stacked p q u v (ix2 2 L) = u (ix2 0 L) := by
  unfold stacked; pointwise
theorem stacked_3 (p q u v : FVec Ideal S1x32768 .f32) (L : Fin 32768) : stacked p q u v (ix2 3 L) = v (ix2 0 L) := by
  unfold stacked; pointwise

/-- The sums where the region finds them. -/
theorem V_st (c : Dev nD) : (V m c main_v9 : S8x32768.Idx → EReal) = stacked (laid (b4 m c)) (laid (b5 m c)) (swapped (b6 m c)) (swapped (b7 m c)) := by
  unfold V
  after_results
  try rfl

section
variable (c : Dev nD) (t : Fin cfg0.N)

theorem link_x (k : Fin 2) (e : Fin 1024) (l : Fin 512) (y : Fin 16) (L : Fin 2048) (hy : (y : ℕ) = t.val % 8 * 2 + k) (hL : (L : ℕ) = t.val / 8 * 512 + l) :
    (iblk m c 0 t : S2x1024x512.Idx → EReal) (ix3 k e l) = b0 m c (ix3 y e L) := by
  obtain ⟨i0, -⟩ := idx_at t
  refine Eq.trans ?_ (congrFun (V_main_arg0 m c) (ix3 y e L))
  blk_ext [iblk, i0]

theorem link_u (k : Fin 2) (e : Fin 1024) (l : Fin 512) (y : Fin 16) (L : Fin 2048) (hy : (y : ℕ) = t.val % 8 * 2 + k) (hL : (L : ℕ) = t.val / 8 * 512 + l) :
    (iblk m c 1 t : S2x1024x512.Idx → EReal) (ix3 k e l) = b1 m c (ix3 y e L) := by
  obtain ⟨-, i1, -⟩ := idx_at t
  refine Eq.trans ?_ (congrFun (V_main_arg1 m c) (ix3 y e L))
  blk_ext [iblk, i1]

theorem link_cv (k : Fin 2) (e : Fin 512) (l : Fin 512) (i : Fin 64) (hi : (i : ℕ) = t.val * 2 + k) :
    (iblk m c 2 t : S2x512x512.Idx → EReal) (ix3 k e l) = b2 m c (ix3 i e l) := by
  obtain ⟨-, -, i2, -⟩ := idx_at t
  refine Eq.trans ?_ (congrFun (V_main_arg2 m c) (ix3 i e l))
  blk_ext [iblk, i2]

theorem link_g1 (e : Fin 512) (l : Fin 1024) (L : Fin 32768) (hL : (L : ℕ) = t.val * 1024 + l) :
    (iblk m c 3 t : S512x1024.Idx → EReal) (ix2 e l) = b3 m c (ix2 e L) := by
  obtain ⟨-, -, -, i3, -⟩ := idx_at t
  refine Eq.trans ?_ (congrFun (V_main_arg3 m c) (ix2 e L))
  blk_ext [iblk, i3]

theorem link_st (k : Fin 8) (l : Fin 1024) (L : Fin 32768) (hL : (L : ℕ) = t.val * 1024 + l) :
    (iblk m c 4 t : S8x1024.Idx → EReal) (ix2 k l) = stacked (laid (b4 m c)) (laid (b5 m c)) (swapped (b6 m c)) (swapped (b7 m c)) (ix2 k L) := by
  obtain ⟨-, -, -, -, i4, -⟩ := idx_at t
  refine Eq.trans ?_ (congrFun (V_st m c) (ix2 k L))
  blk_ext [iblk, i4]

theorem link_w (i k : Fin 1024) : (iblk m c 5 t : S1024x1024.Idx → EReal) (ix2 i k) = b8 m c (ix2 i k) := by
  obtain ⟨-, -, -, -, -, i5, -⟩ := idx_at t
  refine Eq.trans ?_ (congrFun (V_main_arg8 m c) (ix2 i k))
  blk_ext [iblk, i5]

theorem link_b (i : Fin 1024) : (iblk m c 6 t : S1024x1.Idx → EReal) (ix2 i 0) = b9 m c (ix2 i 0) := by
  obtain ⟨-, -, -, -, -, -, i6, -⟩ := idx_at t
  refine Eq.trans ?_ (congrFun (V_main_arg9 m c) (ix2 i 0))
  blk_ext [iblk, i6]

theorem link_os (e d : Fin 1024) (R : Fin 2048) (hR : (R : ℕ) = 1024 + e) : (iblk m c 7 t : S1024x1024.Idx → EReal) (ix2 e d) = b10 m c (ix2 R d) := by
  obtain ⟨-, -, -, -, -, -, -, i7, -⟩ := idx_at t
  refine Eq.trans ?_ (congrFun (V_main_arg10 m c) (ix2 R d))
  blk_ext [iblk, i7]

theorem link_oh (e : Fin 512) (d : Fin 1024) (R : Fin 2048) (hR : (R : ℕ) = e) : (iblk m c 8 t : S512x1024.Idx → EReal) (ix2 e d) = b10 m c (ix2 R d) := by
  obtain ⟨-, -, -, -, -, -, -, -, i8, -⟩ := idx_at t
  refine Eq.trans ?_ (congrFun (V_main_arg10 m c) (ix2 R d))
  blk_ext [iblk, i8]

theorem link_lg (e : Fin 512) : (iblk m c 9 t : S512x1.Idx → EReal) (ix2 e 0) = b11 m c (ix2 e 0) := by
  obtain ⟨-, -, -, -, -, -, -, -, -, i9, -⟩ := idx_at t
  refine Eq.trans ?_ (congrFun (V_main_arg11 m c) (ix2 e 0))
  blk_ext [iblk, i9]

theorem link_lb (e : Fin 512) : (iblk m c 10 t : S512x1.Idx → EReal) (ix2 e 0) = b12 m c (ix2 e 0) := by
  obtain ⟨-, -, -, -, -, -, -, -, -, -, i10, -⟩ := idx_at t
  refine Eq.trans ?_ (congrFun (V_main_arg12 m c) (ix2 e 0))
  blk_ext [iblk, i10]

end

/-- The result's entry at a token and an output channel. -/
abbrev mixAt (c : Dev nD) (row col : Fin 64) (bt : Fin 8) (d : Fin 1024) : EReal :=
  mixed (b0 m c) (b1 m c) (b2 m c) (b3 m c) (b4 m c) (b5 m c) (b6 m c) (b7 m c) (b8 m c) (b9 m c) (b10 m c) (b11 m c) (b12 m c) row col bt d

/-- The result as an array. -/
def resMix (c : Dev nD) : S64x32x16x1024.Idx → EReal := fun y => mixAt m c (y 0)
  ⟨(y 1 : ℕ) * 2 + (y 2 : ℕ) / 8, by have h1 : (y 1 : ℕ) < 32 := (y 1).isLt; have h2 : (y 2 : ℕ) < 16 := (y 2).isLt; omega⟩ ⟨(y 2 : ℕ) % 8, by omega⟩ (y 3)

section
variable (c : Dev nD) (t : Fin cfg0.N)

/-- The block's entry is the result's. -/
theorem blkMix_eq (k : Fin 2) (l : Fin 512) (d : Fin 1024) (row col : Fin 64) (bt : Fin 8) (hc : (col : ℕ) = t.val * 2 + k) (hl : (l : ℕ) = (row : ℕ) * 8 + bt) :
    blkMix (iblk m c 0 t) (iblk m c 1 t) (iblk m c 2 t) (iblk m c 3 t) (iblk m c 4 t) (iblk m c 5 t) (iblk m c 6 t) (iblk m c 7 t) (iblk m c 8 t) (iblk m c 9 t) (iblk m c 10 t) k l d
      = mixAt m c row col bt d := by
  have hN : t.val < 32 := lt_of_lt_of_eq t.isLt N_eq
  have hL : ((⟨(col : ℕ) * 512 + (row : ℕ) * 8 + bt, by omega⟩ : Fin 32768) : ℕ) = t.val * 1024 + ((k : ℕ) * 512 + l) := by
    show (col : ℕ) * 512 + (row : ℕ) * 8 + bt = _; omega
  have hy : ((⟨(col : ℕ) % 16, by omega⟩ : Fin 16) : ℕ) = t.val % 8 * 2 + k := by show (col : ℕ) % 16 = _; omega
  have hY : ((⟨(col : ℕ) / 16 * 512 + (row : ℕ) * 8 + bt, by omega⟩ : Fin 2048) : ℕ) = t.val / 8 * 512 + l := by
    show (col : ℕ) / 16 * 512 + (row : ℕ) * 8 + bt = _; omega
  have el : l = ⟨(row : ℕ) * 8 + bt, by omega⟩ := Fin.ext hl
  unfold blkMix mixAt mixed
  refine congrArg₂ (· + ·) (column_congr (fun e => halfGlu_congr e (link_w m c t) (link_b m c t) (fun i => link_x m c t k i l _ _ hy hY) (fun i => link_u m c t k i l _ _ hy hY)) (fun e => link_os m c t e d _ rfl))
    (column_congr (fun e => swishNorm_congr ?_ ?_ ?_ ?_ ?_ (link_lg m c t e) (link_lb m c t e) (link_g1 m c t e _ _ hL)) (fun e => link_oh m c t e d _ rfl))
  · exact (link_cv m c t k e l col hc).trans (congrArg (fun l => b2 m c (ix3 col e l)) el)
  · exact (link_st m c t 0 _ _ hL).trans ((stacked_0 _ _ _ _ _).trans (laid_apply _ _ col row bt rfl))
  · exact (link_st m c t 2 _ _ hL).trans ((stacked_2 _ _ _ _ _).trans (swapped_apply _ _ col row bt rfl))
  · exact (link_st m c t 1 _ _ hL).trans ((stacked_1 _ _ _ _ _).trans (laid_apply _ _ col row bt rfl))
  · exact (link_st m c t 3 _ _ hL).trans ((stacked_3 _ _ _ _ _).trans (swapped_apply _ _ col row bt rfl))

theorem block11 (y : S64x1x16x1024.Idx) (z : S64x32x16x1024.Idx) (e0 : (z 0).val = (y 0).val) (e1 : (z 1).val = t.val + (y 1).val) (e2 : (z 2).val = (y 2).val) (e3 : (z 3).val = (y 3).val) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) y = resMix m c z := by
  have hy0 : (y 0).val < 64 := (y 0).isLt
  have hy1 : (y 1).val < 1 := (y 1).isLt
  have hy2 : (y 2).val < 16 := (y 2).isLt
  have e3' : (y 3 : Fin 1024) = z 3 := Fin.ext e3.symm
  refine (out11_at _ _ _ _ _ _ _ _ _ _ _ y ⟨(y 2).val / 8, by omega⟩ ⟨(y 0).val * 8 + (y 2).val % 8, by omega⟩ rfl rfl).trans ?_
  rw [e3']
  refine blkMix_eq m c t _ _ _ _ _ _ ?_ ?_
  · show (z 1).val * 2 + (z 2).val / 8 = t.val * 2 + (y 2).val / 8; omega
  · show (y 0).val * 8 + (y 2).val % 8 = (z 0).val * 8 + (z 2).val % 8; omega

end

theorem arr11 (c : Dev nD) : (dats m 0 c).arrAt 11 (cfgs 0).N = resMix m c := by
  refine (dats m 0 c).arrAt_eq_of_covers 11 _ (by decide +kernel) fun t hf y => ?_
  obtain ⟨-, -, -, -, -, -, -, -, -, -, -, i11⟩ := idx_at t
  blk_simp
  rw [after0_11]
  exact block11 m c t y _ (by blk_simp [i11]) (by blk_simp [i11]) (by blk_simp [i11]) (by blk_simp [i11])

end Cert.Kernel4Ideal.Gen

end
-- ==== Proof.TailRef.lean ====
module

public import proofs.«01_k».proof.Proof.TailSpec
public import proofs.«01_k».proof.Proof.Gen.Reference4Ideal.Run
public import Idealize.ShloMosaic.Lib.Pointwise
public import Idealize.ShloMosaic.Lib.Tactic.CleanTypes

@[expose] public section

set_option maxRecDepth 16384

noncomputable section

namespace Cert.Reference4Ideal.Value

open Cert.Reference4Ideal Cert.Reference4Ideal.Gen Idealize.ShloMosaic Idealize.ShloMosaic.TcCoe Idealize.SL.Sem
open Cert.Proof.Tail

/-! The reference's mixed branches, entry by entry. -/

variable (Y G2 : FVec Ideal S16x1024x2048 .bf16) (C : FVec Ideal S64x512x512 .bf16) (G1 : FVec Ideal S512x32768 .bf16) (s1 s2 r1 r2 s r : FVec Ideal S64x512 .f32)
  (W : FVec Ideal S1024x1024 .bf16) (b : FVec Ideal S1024x1 .f32) (O : FVec Ideal S2048x1024 .bf16) (lg lb : FVec Ideal S512x1 .f32)

/-- The state-space channels by column, channel, row and batch element. -/
def toks : FVec Ideal S64x1024x64x8 .f32 :=
  shapeCast _ (transpose S4x16x1024x64x8 [2, 0, 1, 3, 4] (shapeCast _ (extf .f32 Y bitsLt_bf16_f32) shapeCasts_S16x1024x2048_S16x1024x4x64x8) transposes_S16x1024x4x64x8_S4x16x1024x64x8_2_0_1_3_4) shapeCasts_S4x16x1024x64x8_S64x1024x64x8

theorem toks_apply (col : Fin 64) (e : Fin 1024) (row : Fin 64) (bt : Fin 8) : toks Y (ix4 col e row bt) = ssmTok Y row col bt e := by
  unfold toks ssmTok
  pointwise

/-- The half-GLU with its gate, from the channels and the gate. -/
def glu (y u : FVec Ideal S64x1024x64x8 .f32) : FVec Ideal S64x1024x64x8 .f32 :=
  mulf (mulf y (Host.divf (broadcastInDim S64x1024x64x8 ![] bcast_S_S64x1024x64x8 (constant S_ .f32 0x3F800000#32)) (addf (broadcastInDim S64x1024x64x8 ![] bcast_S_S64x1024x64x8 (constant S_ .f32 0x3F800000#32)) (Host.exp (Host.negf (addf (transpose S64x1024x64x8 [0, 3, 1, 2] (Host.dotGeneral dot_S64x1024x64x8_S1024x1024_S64x64x8x1024_1_1_023_0_n_n none y (extf .f32 W bitsLt_bf16_f32)) transposes_S64x64x8x1024_S64x1024x64x8_0_3_1_2) (broadcastInDim S64x1024x64x8 ![0, 1, 2, 3] bcast_S1x1024x1x1_S64x1024x64x8_0_1_2_3 (broadcastInDim S1x1024x1x1 ![1, 2, 3] bcast_S1024x1x1_S1x1024x1x1_1_2_3 (broadcastInDim S1024x1x1 ![0, 1] bcast_S1024x1_S1024x1x1_0_1 b))))))))) u

theorem glu_apply (y u : FVec Ideal S64x1024x64x8 .f32) (col : Fin 64) (e : Fin 1024) (row : Fin 64) (bt : Fin 8) :
    glu W b y u (ix4 col e row bt) = halfGlu W b (fun k => y (ix4 col k row bt)) (fun k => u (ix4 col k row bt)) e := by
  unfold glu
  pointwise
  unfold halfGlu
  simp only [mul_comm (W _)]
  rfl

/-- A mean over the channels by column, row and batch element: the sums by column and by row, divided. -/
def meanOf : FVec Ideal S64x1x64x8 .f32 :=
  Host.divf (addf (shapeCast _ s shapeCasts_S64x512_S64x1x64x8) (broadcastInDim S64x1x64x8 ![0, 2, 3] bcast_S64x64x8_S64x1x64x8_0_2_3 (transpose S64x64x8 [1, 0, 2] (shapeCast _ r shapeCasts_S64x512_S64x64x8) transposes_S64x64x8_S64x64x8_1_0_2))) (broadcastInDim S64x1x64x8 ![] bcast_S_S64x1x64x8 (constant S_ .f32 0x44800000#32))

theorem meanOf_apply (i j : Fin 64) (bt : Fin 8) : meanOf s r (ix4 i 0 j bt) = avg (atTok s i j bt) (atTok r j i bt) := by
  unfold meanOf avg atTok
  rw [← div_1024]
  pointwise

/-- The normed channels of the convolution branch. -/
def normedC : FVec Ideal S64x512x64x8 .f32 :=
  addf (mulf (mulf (subf (shapeCast _ (extf .f32 C bitsLt_bf16_f32) shapeCasts_S64x512x512_S64x512x64x8) (broadcastInDim S64x512x64x8 ![0, 1, 2, 3] bcast_S64x1x64x8_S64x512x64x8_0_1_2_3 (meanOf s1 r1)))
    (broadcastInDim S64x512x64x8 ![0, 1, 2, 3] bcast_S64x1x64x8_S64x512x64x8_0_1_2_3 (Host.rsqrt (addf (subf (meanOf s2 r2) (mulf (meanOf s1 r1) (meanOf s1 r1))) (broadcastInDim S64x1x64x8 ![] bcast_S_S64x1x64x8 (constant S_ .f32 0x358637BD#32))))))
    (broadcastInDim S64x512x64x8 ![0, 1, 2, 3] bcast_S1x512x1x1_S64x512x64x8_0_1_2_3 (broadcastInDim S1x512x1x1 ![1, 2, 3] bcast_S512x1x1_S1x512x1x1_1_2_3 (broadcastInDim S512x1x1 ![0, 1] bcast_S512x1_S512x1x1_0_1 lg))))
    (broadcastInDim S64x512x64x8 ![0, 1, 2, 3] bcast_S1x512x1x1_S64x512x64x8_0_1_2_3 (broadcastInDim S1x512x1x1 ![1, 2, 3] bcast_S512x1x1_S1x512x1x1_1_2_3 (broadcastInDim S512x1x1 ![0, 1] bcast_S512x1_S512x1x1_0_1 lb)))

/-- A swish with the branch's gate. -/
def swishGate (v : FVec Ideal S64x512x64x8 .f32) : FVec Ideal S64x512x64x8 .f32 :=
  mulf (mulf v (Host.divf (broadcastInDim S64x512x64x8 ![] bcast_S_S64x512x64x8 (constant S_ .f32 0x3F800000#32)) (addf (broadcastInDim S64x512x64x8 ![] bcast_S_S64x512x64x8 (constant S_ .f32 0x3F800000#32)) (Host.exp (Host.negf v)))))
    (transpose S64x512x64x8 [1, 0, 2, 3] (shapeCast _ (extf .f32 G1 bitsLt_bf16_f32) shapeCasts_S512x32768_S512x64x64x8) transposes_S512x64x64x8_S64x512x64x8_1_0_2_3)

theorem swishGate_apply (i : Fin 64) (e : Fin 512) (j : Fin 64) (bt : Fin 8) :
    swishGate G1 (normedC C s1 s2 r1 r2 lg lb) (ix4 i e j bt) = convTok C G1 s1 s2 r1 r2 lg lb i j bt e := by
  unfold swishGate normedC
  pointwise [meanOf_apply]
  unfold convTok swishNorm
  rfl

/-- The two branches' projections, added. -/
def mixRef : FVec Ideal S64x32x16x1024 .bf16 :=
  truncf .bf16 (shapeCast _ (addf (transpose S64x64x8x1024 [2, 1, 3, 0] (Host.dotGeneral dot_S1024x1024_S64x1024x64x8_S1024x64x64x8_0_1_1_023_n_n none (extractStridedSlice S1024x1024 ![1024, 0] (extf .f32 O bitsLt_bf16_f32) slices_S2048x1024_S1024x1024_1024_0) (glu W b (toks Y) (toks G2))) transposes_S1024x64x64x8_S64x64x8x1024_2_1_3_0)
    (transpose S64x64x8x1024 [2, 1, 3, 0] (Host.dotGeneral dot_S512x1024_S64x512x64x8_S1024x64x64x8_0_1_1_023_n_n none (extractStridedSlice S512x1024 ![0, 0] (extf .f32 O bitsLt_bf16_f32) slices_S2048x1024_S512x1024_0_0) (swishGate G1 (normedC C s1 s2 r1 r2 lg lb))) transposes_S1024x64x64x8_S64x64x8x1024_2_1_3_0)) shapeCasts_S64x64x8x1024_S64x32x16x1024) bitsLt_bf16_f32

theorem mixRef_apply (row : Fin 64) (t : Fin 32) (j : Fin 16) (d : Fin 1024) :
    mixRef Y G2 C G1 s1 s2 r1 r2 W b O lg lb (ix4 row t j d)
      = mixed Y G2 C G1 s1 s2 r1 r2 W b O lg lb row ⟨(t : ℕ) * 2 + (j : ℕ) / 8, by omega⟩ ⟨(j : ℕ) % 8, by omega⟩ d := by
  unfold mixRef
  pointwise [glu_apply, toks_apply, swishGate_apply]
  unfold mixed column
  simp only [mul_comm (O _)]

theorem res_eq (m : (ℓ : Loc nD τ sig) → Buf (Elt Ideal) ℓ) (c : Dev nD) :
    res_main_v70 m c = mixRef (m (c.tc.loc main_arg0)) (m (c.tc.loc main_arg1)) (m (c.tc.loc main_arg2)) (m (c.tc.loc main_arg3)) (m (c.tc.loc main_arg4)) (m (c.tc.loc main_arg5))
      (m (c.tc.loc main_arg6)) (m (c.tc.loc main_arg7)) (m (c.tc.loc main_arg8)) (m (c.tc.loc main_arg9)) (m (c.tc.loc main_arg10)) (m (c.tc.loc main_arg11)) (m (c.tc.loc main_arg12)) := rfl

end Cert.Reference4Ideal.Value

end
-- ==== Proof.FinSpec.lean ====
module

public import proofs.«01_k».proof.Proof.TailSpec

@[expose] public section

set_option maxRecDepth 16384

noncomputable section

namespace Cert.Proof.Tail

open Idealize.ShloMosaic

/-! ## The layer's end: the convolution branch's other channels, the gated residual, the final norm. -/

/-- The gated residual. -/
def residual (x g mix : Fin 1024 → EReal) (k : Fin 1024) : EReal := x k + g k * mix k

/-- The root-mean-square norm with a weight. -/
def rms (x w : Fin 1024 → EReal) (d : Fin 1024) : EReal :=
  x d * Ideal.rsqrt (Ideal.div (∑ k : Fin 1024, x k * x k) (Ideal.ofBits .f32 0x44800000#32) + Ideal.ofBits .f32 0x358637BD#32) * w d

theorem rms_congr {x x' w w' : Fin 1024 → EReal} {d d' : Fin 1024} (hx : ∀ k, x k = x' k) (hw : ∀ k, w k = w' k) (hd : d = d') : rms x w d = rms x' w' d' := by
  obtain rfl : x = x' := funext hx
  obtain rfl : w = w' := funext hw
  rw [hd]

theorem residual_congr {x x' g g' y y' : Fin 1024 → EReal} (k : Fin 1024) (hx : x k = x' k) (hg : g k = g' k) (hy : y k = y' k) : residual x g y k = residual x' g' y' k := by
  unfold residual
  rw [hx, hg, hy]

section
variable (C : (⟨3, ![64, 512, 512]⟩ : Shape).Idx → EReal) (G1 : (⟨2, ![512, 32768]⟩ : Shape).Idx → EReal)
  (s1 s2 r1 r2 : (⟨2, ![64, 512]⟩ : Shape).Idx → EReal) (M : (⟨4, ![64, 32, 16, 1024]⟩ : Shape).Idx → EReal) (X : (⟨3, ![8, 4096, 1024]⟩ : Shape).Idx → EReal)
  (O : (⟨2, ![2048, 1024]⟩ : Shape).Idx → EReal) (lg lb : (⟨2, ![512, 1]⟩ : Shape).Idx → EReal) (gt : (⟨2, ![8, 1024]⟩ : Shape).Idx → EReal) (fg : (⟨1, ![1024]⟩ : Shape).Idx → EReal)

/-- The whole output projection at a token: the convolution branch's other channels on top of what the first half left. -/
def allMix (row col : Fin 64) (bt : Fin 8) (d : Fin 1024) : EReal :=
  column (convTok C G1 s1 s2 r1 r2 lg lb row col bt) (fun e => O (ix2 ⟨512 + (e : ℕ), by omega⟩ d))
    + M (ix4 row ⟨(col : ℕ) / 2, by omega⟩ ⟨(col : ℕ) % 2 * 8 + bt, by omega⟩ d)

/-- The layer's result for a batch element, a token and a channel. -/
def layerOut (bt : Fin 8) (n : Fin 4096) : Fin 1024 → EReal :=
  rms (residual (fun k => X (ix3 bt n k)) (fun k => gt (ix2 bt k)) (allMix C G1 s1 s2 r1 r2 M O lg lb ⟨(n : ℕ) / 64, by omega⟩ ⟨(n : ℕ) % 64, by omega⟩ bt)) (fun k => fg (ix1 k))

end

end Cert.Proof.Tail

end
-- ==== Proof.FinBlock.lean ====
module

public import proofs.«01_k».proof.Proof.FinSpec
public import proofs.«01_k».proof.Proof.Gen.Kernel5Ideal.Value
public import Idealize.ShloMosaic.Lib.Pointwise
public import Idealize.ShloMosaic.Lib.Tactic.CleanTypes
public import Idealize.ShloMosaic.Lib.Pipeline.ValueKit

@[expose] public section

set_option maxRecDepth 16384

noncomputable section

namespace Cert.Kernel5Ideal.Gen

open Idealize.ShloMosaic Idealize.ShloMosaic.TcCoe Idealize.SL.Sem
open Cert.Proof.Tail

/-! The layer's end: what each payload is at an index, and what the body leaves in the output block. -/

/-- A convolution channel of a block at lane `l`. -/
def bConv (cv : FVec Ideal S1x512x512 .bf16) (g : FVec Ideal S512x512 .bf16) (st : FVec Ideal S8x512 .f32) (lg lb : FVec Ideal S512x1 .f32) (l : Fin 512) (e : Fin 512) : EReal :=
  swishNorm (cv (ix3 0 e l)) (st (ix2 0 l)) (st (ix2 2 l)) (st (ix2 1 l)) (st (ix2 3 l)) (lg (ix2 e 0)) (lb (ix2 e 0)) (g (ix2 e l))

theorem pay3_apply (cv : FVec Ideal S1x512x512 .bf16) (g : FVec Ideal S512x512 .bf16) (st : FVec Ideal S8x512 .f32) (lg lb : FVec Ideal S512x1 .f32) (wo : FVec Ideal S512x1024 .bf16)
    (mh : FVec Ideal S1x32x16x1024 .bf16) (l : Fin 512) (d : Fin 1024) :
    k0_pay3 (F := Ideal) (k0_pay2 cv g st lg lb wo) mh (ix2 l d)
      = column (bConv cv g st lg lb l) (fun e => wo (ix2 e d)) + mh (ix4 0 ⟨(l : ℕ) / 16, by omega⟩ ⟨(l : ℕ) % 16, by omega⟩ d) := by
  unfold k0_pay3 k0_pay2
  clean_types
  pointwise
  rfl

section
variable (v : FVec Ideal S512x1024 .f32) (w : FVec Ideal S1x32x16x1024 .bf16)

theorem pay4_apply (r : Fin 512) (l : Fin 128) : k0_pay4 (F := Ideal) v w (ix3 0 r l) = k0_pay3 v w (ix2 r ⟨(l : ℕ), by omega⟩) := by
  unfold k0_pay4; pointwise
theorem pay5_apply (r : Fin 512) (l : Fin 128) : k0_pay5 (F := Ideal) v w (ix3 0 r l) = k0_pay3 v w (ix2 r ⟨128 + (l : ℕ), by omega⟩) := by
  unfold k0_pay5; pointwise
theorem pay6_apply (r : Fin 512) (l : Fin 128) : k0_pay6 (F := Ideal) v w (ix3 0 r l) = k0_pay3 v w (ix2 r ⟨256 + (l : ℕ), by omega⟩) := by
  unfold k0_pay6; pointwise
theorem pay7_apply (r : Fin 512) (l : Fin 128) : k0_pay7 (F := Ideal) v w (ix3 0 r l) = k0_pay3 v w (ix2 r ⟨384 + (l : ℕ), by omega⟩) := by
  unfold k0_pay7; pointwise
theorem pay8_apply (r : Fin 512) (l : Fin 128) : k0_pay8 (F := Ideal) v w (ix3 0 r l) = k0_pay3 v w (ix2 r ⟨512 + (l : ℕ), by omega⟩) := by
  unfold k0_pay8; pointwise
theorem pay9_apply (r : Fin 512) (l : Fin 128) : k0_pay9 (F := Ideal) v w (ix3 0 r l) = k0_pay3 v w (ix2 r ⟨640 + (l : ℕ), by omega⟩) := by
  unfold k0_pay9; pointwise
theorem pay10_apply (r : Fin 512) (l : Fin 128) : k0_pay10 (F := Ideal) v w (ix3 0 r l) = k0_pay3 v w (ix2 r ⟨768 + (l : ℕ), by omega⟩) := by
  unfold k0_pay10; pointwise
theorem pay11_apply (r : Fin 512) (l : Fin 128) : k0_pay11 (F := Ideal) v (ix3 0 r l) = v (ix2 r ⟨896 + (l : ℕ), by omega⟩) := by
  unfold k0_pay11; pointwise

/-- The scratch's contents: the projection by lane tile. -/
abbrev scratch : List (View.Piece (Elt Ideal) S8x512x128 .f32) :=
  [⟨Rect.unit ![7, 0, 0] ![1, 512, 128] inb_S8x512x128_S1x512x128_7_0_0, k0_pay11 (F := Ideal) (k0_pay3 v w)⟩,
    ⟨Rect.unit ![6, 0, 0] ![1, 512, 128] inb_S8x512x128_S1x512x128_6_0_0, k0_pay10 v w⟩,
    ⟨Rect.unit ![5, 0, 0] ![1, 512, 128] inb_S8x512x128_S1x512x128_5_0_0, k0_pay9 v w⟩,
    ⟨Rect.unit ![4, 0, 0] ![1, 512, 128] inb_S8x512x128_S1x512x128_4_0_0, k0_pay8 v w⟩,
    ⟨Rect.unit ![3, 0, 0] ![1, 512, 128] inb_S8x512x128_S1x512x128_3_0_0, k0_pay7 v w⟩,
    ⟨Rect.unit ![2, 0, 0] ![1, 512, 128] inb_S8x512x128_S1x512x128_2_0_0, k0_pay6 v w⟩,
    ⟨Rect.unit ![1, 0, 0] ![1, 512, 128] inb_S8x512x128_S1x512x128_1_0_0, k0_pay5 v w⟩,
    ⟨Rect.unit ![0, 0, 0] ![1, 512, 128] inb_S8x512x128_S1x512x128_0_0_0, k0_pay4 v w⟩]

/-- A stored tile at any index, from what it is at a written one. -/
theorem tile_at {P : FVec Ideal S1x512x128 .f32} {T : FVec Ideal S512x1024 .f32} {j : ℕ} (hj : j < 8) (hP : ∀ (r : Fin 512) (l : Fin 128), P (ix3 0 r l) = T (ix2 r ⟨j * 128 + (l : ℕ), by omega⟩))
    (x : S1x512x128.Idx) (r : Fin 512) (d : Fin 1024) (hr : (r : ℕ) = (x 1 : ℕ)) (hd : (d : ℕ) = j * 128 + (x 2 : ℕ)) : P x = T (ix2 r d) := by
  have ex : x = ix3 0 (x 1) (x 2) := by funext e; fin_cases e; exacts [Subsingleton.elim (α := Fin 1) _ _, rfl, rfl]
  refine (congrArg P ex).trans ((hP _ _).trans (congrArg₂ (fun a b => T (ix2 a b)) (Fin.ext hr.symm) (Fin.ext hd.symm)))

theorem scratch_at (y : S8x512x128.Idx) (r : Fin 512) (d : Fin 1024) (hr : (r : ℕ) = (y 1 : ℕ)) (hd : (d : ℕ) = (y 0 : ℕ) * 128 + (y 2 : ℕ)) :
    View.canon (scratch v w) y = k0_pay3 v w (ix2 r d) := by
  canon_tiles x h
  · exact tile_at (j := 7) (by decide) (fun r l => pay11_apply _ r l) x r d (by omega) (by omega)
  · exact tile_at (j := 6) (by decide) (fun r l => pay10_apply _ _ r l) x r d (by omega) (by omega)
  · exact tile_at (j := 5) (by decide) (fun r l => pay9_apply _ _ r l) x r d (by omega) (by omega)
  · exact tile_at (j := 4) (by decide) (fun r l => pay8_apply _ _ r l) x r d (by omega) (by omega)
  · exact tile_at (j := 3) (by decide) (fun r l => pay7_apply _ _ r l) x r d (by omega) (by omega)
  · exact tile_at (j := 2) (by decide) (fun r l => pay6_apply _ _ r l) x r d (by omega) (by omega)
  · exact tile_at (j := 1) (by decide) (fun r l => pay5_apply _ _ r l) x r d (by omega) (by omega)
  · exact tile_at (j := 0) (by decide) (fun r l => (pay4_apply _ _ r l).trans (congrArg (fun b => k0_pay3 v w (ix2 r b)) (Fin.ext (by show (l : ℕ) = 0 * 128 + (l : ℕ); omega)))) x r d (by omega) (by omega)

end

/-- Every eighth row from row `b` on, of the lane tile `j`. -/
def strip (T : FVec Ideal S512x1024 .f32) (j b : ℕ) : FVec Ideal S1x64x128 .f32 :=
  fun y => T (ix2 ⟨(b + 8 * (y 1 : ℕ)) % 512, by omega⟩ ⟨(j * 128 + (y 2 : ℕ)) % 1024, by omega⟩)

theorem strip_apply (T : FVec Ideal S512x1024 .f32) (j b : ℕ) (i : Fin 64) (l : Fin 128) :
    strip T j b (ix3 0 i l) = T (ix2 ⟨(b + 8 * (i : ℕ)) % 512, by omega⟩ ⟨(j * 128 + (l : ℕ)) % 1024, by omega⟩) := rfl

theorem strip_eq {κ : Kind} {sp : Space} (V : View sig κ sp S8x512x128 .f32) (v : FVec Ideal S512x1024 .f32) (w : FVec Ideal S1x32x16x1024 .bf16) (j b : ℕ) (inb) :
    V.readCov (Val := Elt Ideal) (scratch v w) { off := ![j, b, 0], size := ![1, 64, 128], stride := ![1, 8, 1], inb := inb } = strip (k0_pay3 v w) j b := by
  rw [View.readCov_eq_canon']
  funext y
  have y0 : (y 0 : ℕ) < 1 := (y 0).isLt
  have y1 : (y 1 : ℕ) < 64 := (y 1).isLt
  have y2 : (y 2 : ℕ) < 128 := (y 2).isLt
  have hj : j < 8 := by
    have h := inb 0
    simp at h
    exact h
  have hb : b < 8 := by
    have h := inb 1
    simp at h
    omega
  refine scratch_at v w _ _ _ ?_ ?_
  · show (b + 8 * (y 1 : ℕ)) % 512 = b + 8 * (y 1 : ℕ)
    omega
  · show (j * 128 + (y 2 : ℕ)) % 1024 = (j + 1 * (y 0 : ℕ)) * 128 + (0 + 1 * (y 2 : ℕ))
    omega

/-- The tiles of one batch element side by side. -/
theorem pay46_apply (T : FVec Ideal S512x1024 .f32) (b : ℕ) (hb : b < 8) (i : Fin 64) (d : Fin 1024) :
    k0_pay46 (F := Ideal) (strip T 0 b) (strip T 1 b) (strip T 2 b) (strip T 3 b) (strip T 4 b) (strip T 5 b) (strip T 6 b) (strip T 7 b) (ix2 i d)
      = T (ix2 ⟨b + 8 * (i : ℕ), by omega⟩ d) := by
  unfold k0_pay46
  clean_types
  pointwise [strip_apply]
  have hi : (b + 8 * (i : ℕ)) % 512 = b + 8 * (i : ℕ) := Nat.mod_eq_of_lt (by omega)
  repeat' split
  all_goals exact congrArg₂ (fun p q => T (ix2 p q)) (Fin.ext hi) (Fin.ext (by simp only []; omega))

theorem pay1_apply (M : FVec Ideal S64x1024 .f32) (x : FVec Ideal S1x64x1024 .f32) (g fg : FVec Ideal S1x1024 .f32) (i : Fin 64) (d : Fin 1024) :
    k0_pay1 (F := Ideal) M x g fg (ix3 0 i d) = rms (residual (fun k => x (ix3 0 i k)) (fun k => g (ix2 0 k)) (fun k => M (ix2 i k))) (fun k => fg (ix2 0 k)) d := by
  unfold k0_pay1
  clean_types
  pointwise
  rfl

/-- The result for one batch element of a block. -/
theorem tok_at (T : FVec Ideal S512x1024 .f32) (X : Vec Ideal S8x64x1024 .f32) (G : Vec Ideal S8x1024 .f32) (fg : FVec Ideal S1x1024 .f32) (B : ℕ) (b : Fin 8) (hb : (b : ℕ) = B) (inb inb')
    (x : S1x64x1024.Idx) (i : Fin 64) (d : Fin 1024) (hi : (i : ℕ) = (x 1 : ℕ)) (hd : (d : ℕ) = (x 2 : ℕ)) :
    k0_pay1 (F := Ideal) (k0_pay46 (strip T 0 B) (strip T 1 B) (strip T 2 B) (strip T 3 B) (strip T 4 B) (strip T 5 B) (strip T 6 B) (strip T 7 B))
        (View.ld X (Rect.unit ![B, 0, 0] ![1, 64, 1024] inb)) (View.ld G (Rect.unit ![B, 0] ![1, 1024] inb')) fg x
      = rms (residual (fun k => X (ix3 b i k)) (fun k => G (ix2 b k)) (fun k => T (ix2 ⟨(b : ℕ) + 8 * (i : ℕ), by omega⟩ k))) (fun k => fg (ix2 0 k)) d := by
  subst hb
  have ex : x = ix3 0 i d := by funext e; fin_cases e; exacts [Subsingleton.elim (α := Fin 1) _ _, Fin.ext hi.symm, Fin.ext hd.symm]
  refine (congrArg _ ex).trans ((pay1_apply _ _ _ _ i d).trans (rms_congr (fun k => residual_congr k ?_ ?_ ?_) (fun _ => rfl) rfl))
  · exact View.ld_unit_apply_of _ _ _ _ _ _ (Fin.forall_fin_succ.2 ⟨rfl, Fin.forall_fin_succ.2 ⟨(Nat.zero_add _).symm, Fin.forall_fin_succ.2 ⟨(Nat.zero_add _).symm, fun a => a.elim0⟩⟩⟩)
  · exact View.ld_unit_apply_of _ _ _ _ _ _ (Fin.forall_fin_succ.2 ⟨rfl, Fin.forall_fin_succ.2 ⟨(Nat.zero_add _).symm, fun a => a.elim0⟩⟩)
  · exact pay46_apply T _ b.isLt i k

variable (m : (ℓ : Loc nD τ sig) → Buf (Elt Ideal) ℓ) (ρ : Dev nD → PrngReg)

/-- The projection a block's body computes. -/
abbrev bMix (c : Dev nD) (t : Fin cfg0.N) : FVec Ideal S512x1024 .f32 :=
  k0_pay3 (k0_pay2 (iblk m c 0 t) (iblk m c 1 t) (iblk m c 2 t) (iblk m c 6 t) (iblk m c 7 t) (iblk m c 5 t)) (iblk m c 3 t)

theorem outs_at (c : Dev nD) (t : Fin cfg0.N) (y : S8x64x1024.Idx) (b : Fin 8) (i : Fin 64) (d : Fin 1024) (hb : (b : ℕ) = (y 0 : ℕ)) (hi : (i : ℕ) = (y 1 : ℕ)) (hd : (d : ℕ) = (y 2 : ℕ)) :
    outsAt0 m c t y = rms (residual (fun k => (iblk m c 4 t : S8x64x1024.Idx → EReal) (ix3 b i k)) (fun k => (iblk m c 8 t : S8x1024.Idx → EReal) (ix2 b k)) (fun k => bMix m c t (ix2 ⟨(b : ℕ) + 8 * (i : ℕ), by omega⟩ k)))
      (fun k => (iblk m c 9 t : S1x1024.Idx → EReal) (ix2 0 k)) d := by
  unfold outsAt0
  frame_out
  simp only [strip_eq]
  unfold bMix
  generalize k0_pay3 (k0_pay2 (iblk m c 0 t) (iblk m c 1 t) (iblk m c 2 t) (iblk m c 6 t) (iblk m c 7 t) (iblk m c 5 t)) (iblk m c 3 t) = T
  canon_tiles x h
  · exact tok_at T _ _ _ 7 b (by omega) _ _ x i d (by omega) (by omega)
  · exact tok_at T _ _ _ 6 b (by omega) _ _ x i d (by omega) (by omega)
  · exact tok_at T _ _ _ 5 b (by omega) _ _ x i d (by omega) (by omega)
  · exact tok_at T _ _ _ 4 b (by omega) _ _ x i d (by omega) (by omega)
  · exact tok_at T _ _ _ 3 b (by omega) _ _ x i d (by omega) (by omega)
  · exact tok_at T _ _ _ 2 b (by omega) _ _ x i d (by omega) (by omega)
  · exact tok_at T _ _ _ 1 b (by omega) _ _ x i d (by omega) (by omega)
  · exact tok_at T _ _ _ 0 b (by omega) _ _ x i d (by omega) (by omega)

end Cert.Kernel5Ideal.Gen

end
-- ==== Proof.FinValue.lean ====
module

public import proofs.«01_k».proof.Proof.FinBlock
public import proofs.«01_k».proof.Proof.TailValue
public import Idealize.ShloMosaic.Lib.Pipeline.ValueKit

@[expose] public section

set_option maxRecDepth 16384

noncomputable section

namespace Cert.Kernel5Ideal.Gen

open Idealize.ShloMosaic Idealize.ShloMosaic.TcCoe Idealize.SL.Sem
open Cert.Proof.Tail
open Cert.Kernel4Ideal.Gen (laid laid_apply swapped swapped_apply stacked stacked_0 stacked_1 stacked_2 stacked_3)

/-! The layer's end: the output array after the run, from the argument arrays; the rows of sums are laid out as for the mixing call. -/

variable (m : (ℓ : Loc nD τ sig) → Buf (Elt Ideal) ℓ) (ρ : Dev nD → PrngReg)

/-- The argument arrays. -/
abbrev b0 (c : Dev nD) : S64x512x512.Idx → EReal := m (c.tc.loc main_arg0)
abbrev b1 (c : Dev nD) : S512x32768.Idx → EReal := m (c.tc.loc main_arg1)
abbrev b2 (c : Dev nD) : S64x512.Idx → EReal := m (c.tc.loc main_arg2)
abbrev b3 (c : Dev nD) : S64x512.Idx → EReal := m (c.tc.loc main_arg3)
abbrev b4 (c : Dev nD) : S64x512.Idx → EReal := m (c.tc.loc main_arg4)
abbrev b5 (c : Dev nD) : S64x512.Idx → EReal := m (c.tc.loc main_arg5)
abbrev b6 (c : Dev nD) : S64x32x16x1024.Idx → EReal := m (c.tc.loc main_arg6)
abbrev b7 (c : Dev nD) : S8x4096x1024.Idx → EReal := m (c.tc.loc main_arg7)
abbrev b8 (c : Dev nD) : S2048x1024.Idx → EReal := m (c.tc.loc main_arg8)
abbrev b9 (c : Dev nD) : S512x1.Idx → EReal := m (c.tc.loc main_arg9)
abbrev b10 (c : Dev nD) : S512x1.Idx → EReal := m (c.tc.loc main_arg10)
abbrev b11 (c : Dev nD) : S8x1024.Idx → EReal := m (c.tc.loc main_arg11)
abbrev b12 (c : Dev nD) : S1024.Idx → EReal := m (c.tc.loc main_arg12)

/-- Where each window's block sits at a point. -/
theorem idx_at : ∀ t : Fin cfg0.N, (cfg0.win 0).index t = ![t.val, 0, 0] ∧ (cfg0.win 1).index t = ![0, t.val] ∧ (cfg0.win 2).index t = ![0, t.val]
    ∧ (cfg0.win 3).index t = ![t.val, 0, 0, 0] ∧ (cfg0.win 4).index t = ![0, t.val, 0] ∧ (cfg0.win 5).index t = ![1, 0] ∧ (cfg0.win 6).index t = ![0, 0]
    ∧ (cfg0.win 7).index t = ![0, 0] ∧ (cfg0.win 8).index t = ![0, 0] ∧ (cfg0.win 9).index t = ![0, 0] ∧ (cfg0.win 10).index t = ![0, t.val, 0] := by
  decide +kernel

theorem N_eq : cfg0.N = 64 := by decide +kernel

/-- The sums where the region finds them. -/
theorem V_st (c : Dev nD) : (V m c main_v9 : S8x32768.Idx → EReal) = stacked (laid (b2 m c)) (laid (b3 m c)) (swapped (b4 m c)) (swapped (b5 m c)) := by
  unfold V
  after_results
  try rfl

/-- The final norm's weight where the region finds it. -/
theorem V_fg (c : Dev nD) (k : Fin 1024) : (V m c main_v10 : S1x1024.Idx → EReal) (ix2 0 k) = b12 m c (ix1 k) := by
  have e : V m c main_v10 = shapeCast S1x1024 (b12 m c) shapeCasts_S1024_S1x1024 := by
    unfold V
    after_results
    try rfl
  rw [e]
  pointwise

section
variable (c : Dev nD) (t : Fin cfg0.N)

theorem link_cv (e l : Fin 512) (i : Fin 64) (hi : (i : ℕ) = t.val) : (iblk m c 0 t : S1x512x512.Idx → EReal) (ix3 0 e l) = b0 m c (ix3 i e l) := by
  obtain ⟨i0, -⟩ := idx_at t
  refine Eq.trans ?_ (congrFun (V_main_arg0 m c) (ix3 i e l))
  blk_ext [iblk, i0]

theorem link_g1 (e l : Fin 512) (L : Fin 32768) (hL : (L : ℕ) = t.val * 512 + l) : (iblk m c 1 t : S512x512.Idx → EReal) (ix2 e l) = b1 m c (ix2 e L) := by
  obtain ⟨-, i1, -⟩ := idx_at t
  refine Eq.trans ?_ (congrFun (V_main_arg1 m c) (ix2 e L))
  blk_ext [iblk, i1]

theorem link_st (k : Fin 8) (l : Fin 512) (L : Fin 32768) (hL : (L : ℕ) = t.val * 512 + l) :
    (iblk m c 2 t : S8x512.Idx → EReal) (ix2 k l) = stacked (laid (b2 m c)) (laid (b3 m c)) (swapped (b4 m c)) (swapped (b5 m c)) (ix2 k L) := by
  obtain ⟨-, -, i2, -⟩ := idx_at t
  refine Eq.trans ?_ (congrFun (V_st m c) (ix2 k L))
  blk_ext [iblk, i2]

theorem link_mh (p : Fin 32) (q : Fin 16) (d : Fin 1024) (i : Fin 64) (hi : (i : ℕ) = t.val) : (iblk m c 3 t : S1x32x16x1024.Idx → EReal) (ix4 0 p q d) = b6 m c (ix4 i p q d) := by
  obtain ⟨-, -, -, i3, -⟩ := idx_at t
  refine Eq.trans ?_ (congrFun (V_main_arg6 m c) (ix4 i p q d))
  blk_ext [iblk, i3]

theorem link_x (b : Fin 8) (i : Fin 64) (k : Fin 1024) (n : Fin 4096) (hn : (n : ℕ) = t.val * 64 + i) : (iblk m c 4 t : S8x64x1024.Idx → EReal) (ix3 b i k) = b7 m c (ix3 b n k) := by
  obtain ⟨-, -, -, -, i4, -⟩ := idx_at t
  refine Eq.trans ?_ (congrFun (V_main_arg7 m c) (ix3 b n k))
  blk_ext [iblk, i4]

theorem link_wo (e : Fin 512) (d : Fin 1024) (R : Fin 2048) (hR : (R : ℕ) = 512 + e) : (iblk m c 5 t : S512x1024.Idx → EReal) (ix2 e d) = b8 m c (ix2 R d) := by
  obtain ⟨-, -, -, -, -, i5, -⟩ := idx_at t
  refine Eq.trans ?_ (congrFun (V_main_arg8 m c) (ix2 R d))
  blk_ext [iblk, i5]

theorem link_lg (e : Fin 512) : (iblk m c 6 t : S512x1.Idx → EReal) (ix2 e 0) = b9 m c (ix2 e 0) := by
  obtain ⟨-, -, -, -, -, -, i6, -⟩ := idx_at t
  refine Eq.trans ?_ (congrFun (V_main_arg9 m c) (ix2 e 0))
  blk_ext [iblk, i6]

theorem link_lb (e : Fin 512) : (iblk m c 7 t : S512x1.Idx → EReal) (ix2 e 0) = b10 m c (ix2 e 0) := by
  obtain ⟨-, -, -, -, -, -, -, i7, -⟩ := idx_at t
  refine Eq.trans ?_ (congrFun (V_main_arg10 m c) (ix2 e 0))
  blk_ext [iblk, i7]

theorem link_gt (b : Fin 8) (k : Fin 1024) : (iblk m c 8 t : S8x1024.Idx → EReal) (ix2 b k) = b11 m c (ix2 b k) := by
  obtain ⟨-, -, -, -, -, -, -, -, i8, -⟩ := idx_at t
  refine Eq.trans ?_ (congrFun (V_main_arg11 m c) (ix2 b k))
  blk_ext [iblk, i8]

theorem link_fg (k : Fin 1024) : (iblk m c 9 t : S1x1024.Idx → EReal) (ix2 0 k) = b12 m c (ix1 k) := by
  obtain ⟨-, -, -, -, -, -, -, -, -, i9, -⟩ := idx_at t
  refine Eq.trans ?_ (V_fg m c k)
  blk_ext [iblk, i9]

/-- A block's projection is the whole one. -/
theorem bMix_eq (l : Fin 512) (d : Fin 1024) (row col : Fin 64) (bt : Fin 8) (hr : (row : ℕ) = t.val) (hl : (l : ℕ) = (col : ℕ) * 8 + bt) :
    bMix m c t (ix2 l d) = allMix (b0 m c) (b1 m c) (b2 m c) (b3 m c) (b4 m c) (b5 m c) (b6 m c) (b8 m c) (b9 m c) (b10 m c) row col bt d := by
  have hL : ((⟨(row : ℕ) * 512 + (col : ℕ) * 8 + bt, by omega⟩ : Fin 32768) : ℕ) = t.val * 512 + l := by
    show (row : ℕ) * 512 + (col : ℕ) * 8 + bt = _; omega
  have el : l = ⟨(col : ℕ) * 8 + bt, by omega⟩ := Fin.ext hl
  refine (pay3_apply _ _ _ _ _ _ _ l d).trans ?_
  unfold allMix
  refine congrArg₂ (· + ·) (column_congr (fun e => swishNorm_congr ?_ ?_ ?_ ?_ ?_ (link_lg m c t e) (link_lb m c t e) (link_g1 m c t e _ _ hL)) (fun e => link_wo m c t e d _ rfl)) ?_
  · exact (link_cv m c t e l row hr).trans (congrArg (fun l => b0 m c (ix3 row e l)) el)
  · exact (link_st m c t 0 _ _ hL).trans ((stacked_0 _ _ _ _ _).trans (laid_apply _ _ row col bt rfl))
  · exact (link_st m c t 2 _ _ hL).trans ((stacked_2 _ _ _ _ _).trans (swapped_apply _ _ row col bt rfl))
  · exact (link_st m c t 1 _ _ hL).trans ((stacked_1 _ _ _ _ _).trans (laid_apply _ _ row col bt rfl))
  · exact (link_st m c t 3 _ _ hL).trans ((stacked_3 _ _ _ _ _).trans (swapped_apply _ _ row col bt rfl))
  · refine (link_mh m c t _ _ d row hr).trans (congrArg₂ (fun p q => b6 m c (ix4 row p q d)) (Fin.ext ?_) (Fin.ext ?_))
    · show (l : ℕ) / 16 = (col : ℕ) / 2; omega
    · show (l : ℕ) % 16 = (col : ℕ) % 2 * 8 + bt; omega

end

/-- The result as an array. -/
def resOut (c : Dev nD) : S8x4096x1024.Idx → EReal := fun y =>
  layerOut (b0 m c) (b1 m c) (b2 m c) (b3 m c) (b4 m c) (b5 m c) (b6 m c) (b7 m c) (b8 m c) (b9 m c) (b10 m c) (b11 m c) (b12 m c) (y 0) (y 1) (y 2)

theorem block10 (c : Dev nD) (t : Fin cfg0.N) (y : S8x64x1024.Idx) (z : S8x4096x1024.Idx) (e0 : (z 0).val = (y 0).val) (e1 : (z 1).val = t.val * 64 + (y 1).val) (e2 : (z 2).val = (y 2).val) :
    outsAt0 (F := Ideal) m c t y = resOut m c z := by
  have hN : t.val < 64 := lt_of_lt_of_eq t.isLt N_eq
  have hy1 : (y 1).val < 64 := (y 1).isLt
  refine (outs_at m c t y (z 0) (y 1) (z 2) e0 rfl e2).trans (rms_congr (fun k => residual_congr k (link_x m c t _ _ k _ e1) (link_gt m c t _ k) (bMix_eq m c t _ k _ _ _ ?_ ?_)) (fun k => link_fg m c t k) rfl)
  · show (z 1).val / 64 = t.val; omega
  · show (z 0).val + 8 * (y 1).val = (z 1).val % 64 * 8 + (z 0).val; omega

theorem arr10 (c : Dev nD) : (dats m 0 c).arrAt 10 (cfgs 0).N = resOut m c := by
  refine (dats m 0 c).arrAt_eq_of_covers 10 _ (by decide +kernel) fun t hf y => ?_
  obtain ⟨-, -, -, -, -, -, -, -, -, -, i10⟩ := idx_at t
  blk_simp
  rw [after0_10]
  exact block10 m c t y _ (by blk_simp [i10]) (by blk_simp [i10]) (by blk_simp [i10])

end Cert.Kernel5Ideal.Gen

end
-- ==== Proof.FinRef.lean ====
module

public import proofs.«01_k».proof.Proof.FinSpec
public import proofs.«01_k».proof.Proof.TailRef
public import proofs.«01_k».proof.Proof.Gen.Reference5Ideal.Run
public import Idealize.ShloMosaic.Lib.Pointwise
public import Idealize.ShloMosaic.Lib.Tactic.CleanTypes

@[expose] public section

set_option maxRecDepth 16384

noncomputable section

namespace Cert.Reference5Ideal.Value

open Cert.Reference5Ideal Cert.Reference5Ideal.Gen Idealize.ShloMosaic Idealize.ShloMosaic.TcCoe Idealize.SL.Sem
open Cert.Proof.Tail
open Cert.Reference4Ideal.Value (swishGate swishGate_apply normedC)

/-! The reference's end of the layer, entry by entry; the channel norm is the one of the mixing call's reference. -/

variable (C : FVec Ideal S64x512x512 .bf16) (G1 : FVec Ideal S512x32768 .bf16) (s1 s2 r1 r2 : FVec Ideal S64x512 .f32) (M : FVec Ideal S64x32x16x1024 .bf16)
  (X : FVec Ideal S8x4096x1024 .f32) (O : FVec Ideal S2048x1024 .bf16) (lg lb : FVec Ideal S512x1 .f32) (gt : FVec Ideal S8x1024 .f32) (fg : FVec Ideal S1024 .f32)

/-- The whole output projection by batch element and token. -/
def rMix : FVec Ideal S8x4096x1024 .f32 :=
  shapeCast _ (addf (transpose S8x64x64x1024 [3, 1, 2, 0] (Host.dotGeneral dot_S512x1024_S64x512x64x8_S1024x64x64x8_0_1_1_023_n_n none (extractStridedSlice S512x1024 ![512, 0] (extf .f32 O bitsLt_bf16_f32) slices_S2048x1024_S512x1024_512_0)
      (swishGate G1 (normedC C s1 s2 r1 r2 lg lb) : FVec Ideal S64x512x64x8 .f32)) transposes_S1024x64x64x8_S8x64x64x1024_3_1_2_0)
    (transpose S8x64x64x1024 [2, 0, 1, 3] (shapeCast _ (extf .f32 M bitsLt_bf16_f32) shapeCasts_S64x32x16x1024_S64x64x8x1024) transposes_S64x64x8x1024_S8x64x64x1024_2_0_1_3)) shapeCasts_S8x64x64x1024_S8x4096x1024

theorem rMix_apply (bt : Fin 8) (n : Fin 4096) (d : Fin 1024) :
    rMix C G1 s1 s2 r1 r2 M O lg lb (ix3 bt n d) = allMix C G1 s1 s2 r1 r2 M O lg lb ⟨(n : ℕ) / 64, by omega⟩ ⟨(n : ℕ) % 64, by omega⟩ bt d := by
  unfold rMix
  pointwise [swishGate_apply]
  unfold allMix column
  simp only [mul_comm (O _)]

/-- The gated residual. -/
def rRes (y : FVec Ideal S8x4096x1024 .f32) : FVec Ideal S8x4096x1024 .f32 :=
  addf X (mulf (broadcastInDim S8x4096x1024 ![0, 1, 2] bcast_S8x1x1024_S8x4096x1024_0_1_2 (broadcastInDim S8x1x1024 ![0, 2] bcast_S8x1024_S8x1x1024_0_2 gt)) y)

theorem rRes_apply (y : FVec Ideal S8x4096x1024 .f32) (bt : Fin 8) (n : Fin 4096) (d : Fin 1024) :
    rRes X gt y (ix3 bt n d) = residual (fun k => X (ix3 bt n k)) (fun k => gt (ix2 bt k)) (fun k => y (ix3 bt n k)) d := by
  unfold rRes
  pointwise
  rfl

/-- The final norm. -/
def rOut (x : FVec Ideal S8x4096x1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 fg))

theorem rOut_apply (x : FVec Ideal S8x4096x1024 .f32) (bt : Fin 8) (n : Fin 4096) (d : Fin 1024) :
    rOut fg x (ix3 bt n d) = rms (fun k => x (ix3 bt n k)) (fun k => fg (ix1 k)) d := by
  unfold rOut
  pointwise
  rfl

theorem layer_apply (bt : Fin 8) (n : Fin 4096) (d : Fin 1024) :
    rOut fg (rRes X gt (rMix C G1 s1 s2 r1 r2 M O lg lb)) (ix3 bt n d) = layerOut C G1 s1 s2 r1 r2 M X O lg lb gt fg bt n d :=
  (rOut_apply fg _ bt n d).trans (rms_congr (fun k => (rRes_apply X gt _ bt n k).trans (residual_congr k rfl rfl (rMix_apply C G1 s1 s2 r1 r2 M O lg lb bt n k))) (fun _ => rfl) rfl)

theorem res_eq (m : (ℓ : Loc nD τ sig) → Buf (Elt Ideal) ℓ) (c : Dev nD) :
    res_main_v63 m c = rOut (m (c.tc.loc main_arg12)) (rRes (m (c.tc.loc main_arg7)) (m (c.tc.loc main_arg11)) (rMix (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg8)) (m (c.tc.loc main_arg9)) (m (c.tc.loc main_arg10)))) := rfl

end Cert.Reference5Ideal.Value

end
-- ==== Proof.CtxBlock.lean ====
module

public import proofs.«01_k».proof.Proof.ProjSpec
public import proofs.«01_k».proof.Proof.Gen.Kernel6Ideal.Frame
public import Idealize.ShloMosaic.Lib.Pointwise
public import Idealize.ShloMosaic.Lib.Tactic.CleanTypes
public import Idealize.ShloMosaic.Lib.Pipeline.ValueKit

@[expose] public section

set_option maxRecDepth 16384

noncomputable section

namespace Cert.Kernel6Ideal.Gen

open Idealize.ShloMosaic Idealize.ShloMosaic.TcCoe Idealize.SL.Sem
open Cert.Proof.Proj

/-! The context's projection: what each payload is at an index, and what the body leaves in the output block. -/

/-- The normed token of chunk `n`, place `j` of a block. -/
def bhid (x : FVec Ideal S16x1x16x1024 .f32) (a s : FVec Ideal S8x1024 .f32) (n j : Fin 16) : Fin 1024 → EReal :=
  normed (fun i => x (ix4 n 0 j i)) (fun i => a (ix2 ⟨(j : ℕ) % 8, by omega⟩ i)) (fun i => s (ix2 ⟨(j : ℕ) % 8, by omega⟩ i))

theorem pay2_apply (x : FVec Ideal S16x1x16x1024 .f32) (a s : FVec Ideal S8x1024 .f32) (n j : Fin 16) (k : Fin 1024) :
    k0_pay2 (F := Ideal) x a s (ix3 n j k) = bhid x a s n j k := by
  unfold k0_pay2
  clean_types
  pointwise
  rfl

section
variable (x : FVec Ideal S16x1x16x1024 .f32) (a s : FVec Ideal S8x1024 .f32) (w : FVec Ideal S1024x1024 .bf16)

theorem pay3_apply (r : Fin 1024) (l : Fin 128) :
    k0_pay3 (F := Ideal) x a s w (ix3 0 r l) = channel (fun k => w (ix2 r k)) (bhid x a s ⟨(l : ℕ) / 8, by omega⟩ ⟨(l : ℕ) % 8, by omega⟩) := by
  unfold k0_pay3
  clean_types
  pointwise [pay2_apply]
  rfl

theorem pay4_apply (r : Fin 1024) (l : Fin 128) :
    k0_pay1 (F := Ideal) (k0_pay4 x a s w) (ix3 0 r l) = channel (fun k => w (ix2 r k)) (bhid x a s ⟨(l : ℕ) / 8, by omega⟩ ⟨8 + (l : ℕ) % 8, by omega⟩) := by
  unfold k0_pay1 k0_pay4
  clean_types
  pointwise [pay2_apply]
  rfl

theorem pay3_at (y : S1x1024x128.Idx) (r : Fin 1024) (l : Fin 128) (hr : (r : ℕ) = (y 1 : ℕ)) (hl : (l : ℕ) = (y 2 : ℕ)) :
    k0_pay3 (F := Ideal) x a s w y = channel (fun k => w (ix2 r k)) (bhid x a s ⟨(l : ℕ) / 8, by omega⟩ ⟨(l : ℕ) % 8, by omega⟩) := by
  have ey : y = ix3 0 r l := by funext e; fin_cases e; exacts [Subsingleton.elim (α := Fin 1) _ _, Fin.ext hr.symm, Fin.ext hl.symm]
  exact (congrArg _ ey).trans (pay3_apply x a s w r l)

theorem pay4_at (y : S1x1024x128.Idx) (r : Fin 1024) (l : Fin 128) (hr : (r : ℕ) = (y 1 : ℕ)) (hl : (l : ℕ) = (y 2 : ℕ)) :
    k0_pay1 (F := Ideal) (k0_pay4 x a s w) y = channel (fun k => w (ix2 r k)) (bhid x a s ⟨(l : ℕ) / 8, by omega⟩ ⟨8 + (l : ℕ) % 8, by omega⟩) := by
  have ey : y = ix3 0 r l := by funext e; fin_cases e; exacts [Subsingleton.elim (α := Fin 1) _ _, Fin.ext hr.symm, Fin.ext hl.symm]
  exact (congrArg _ ey).trans (pay4_apply x a s w r l)

end

variable (x0 : Vec Ideal S16x1x16x1024 .f32) (x1 x2 : Vec Ideal S8x1024 .f32) (x3 : Vec Ideal S1024x1024 .bf16)

theorem ld_hid (n j : Fin 16) : bhid (View.ld x0 r0_0) (View.ld x1 r0_1) (View.ld x2 r0_1) n j = bhid x0 x1 x2 n j := by
  funext k
  refine normed_congr (funext fun i => ?_) (funext fun i => ?_) (funext fun i => ?_) rfl
  · exact View.ld_unit_apply_of _ _ _ _ _ _ (Fin.forall_fin_succ.2 ⟨(Nat.zero_add _).symm, Fin.forall_fin_succ.2 ⟨rfl, Fin.forall_fin_succ.2 ⟨(Nat.zero_add _).symm, Fin.forall_fin_succ.2 ⟨(Nat.zero_add _).symm, fun a => a.elim0⟩⟩⟩⟩)
  all_goals exact View.ld_unit_apply_of _ _ _ _ _ _ (Fin.forall_fin_succ.2 ⟨(Nat.zero_add _).symm, Fin.forall_fin_succ.2 ⟨(Nat.zero_add _).symm, fun a => a.elim0⟩⟩)

theorem ld_w (r k : Fin 1024) : View.ld x3 r0_2 (ix2 r k) = x3 (ix2 r k) :=
  View.ld_unit_apply_of _ _ _ _ _ _ (Fin.forall_fin_succ.2 ⟨(Nat.zero_add _).symm, Fin.forall_fin_succ.2 ⟨(Nat.zero_add _).symm, fun a => a.elim0⟩⟩)

theorem out4_at (y : S2x1024x128.Idx) (r : Fin 1024) (l : Fin 128) (j : Fin 16) (hr : (r : ℕ) = (y 1 : ℕ)) (hl : (l : ℕ) = (y 2 : ℕ)) (hj : (j : ℕ) = (y 0 : ℕ) * 8 + (y 2 : ℕ) % 8) :
    out0_4 x0 x1 x2 x3 y = channel (fun k => x3 (ix2 r k)) (bhid x0 x1 x2 ⟨(l : ℕ) / 8, by omega⟩ j) := by
  unfold out0_4
  canon_tiles x h
  · refine (pay4_at _ _ _ _ x r l (by omega) (by omega)).trans (chan_eq (fun k => ld_w _ _ _) ((ld_hid _ _ _ _ _).trans (congrArg _ (Fin.ext ?_))))
    show 8 + (l : ℕ) % 8 = (j : ℕ); omega
  · refine (pay3_at _ _ _ _ x r l (by omega) (by omega)).trans (chan_eq (fun k => ld_w _ _ _) ((ld_hid _ _ _ _ _).trans (congrArg _ (Fin.ext ?_))))
    show (l : ℕ) % 8 = (j : ℕ); omega

end Cert.Kernel6Ideal.Gen

end
-- ==== Proof.CtxValue.lean ====
module

public import proofs.«01_k».proof.Proof.CtxBlock
public import Idealize.ShloMosaic.Lib.Pipeline.ValueKit

@[expose] public section

set_option maxRecDepth 16384

noncomputable section

namespace Cert.Kernel6Ideal.Gen

open Idealize.ShloMosaic Idealize.ShloMosaic.TcCoe Idealize.SL.Sem
open Cert.Proof.Proj

/-! The context's projection: the output array after the run, from the argument arrays. -/

variable (m : (ℓ : Loc nD τ sig) → Buf (Elt Ideal) ℓ) (ρ : Dev nD → PrngReg)

/-- The argument arrays. -/
abbrev b0 (c : Dev nD) : S8x256x1024.Idx → EReal := m (c.tc.loc main_arg0)
abbrev b1 (c : Dev nD) : S1x1024.Idx → EReal := m (c.tc.loc main_arg1)
abbrev b2 (c : Dev nD) : S1024.Idx → EReal := m (c.tc.loc main_arg2)
abbrev b3 (c : Dev nD) : S1024.Idx → EReal := m (c.tc.loc main_arg3)
abbrev b4 (c : Dev nD) : S2048x1024.Idx → EReal := m (c.tc.loc main_arg4)

/-- Where each window's block sits at a point. -/
theorem idx_at : ∀ t : Fin cfg0.N, (cfg0.win 0).index t = ![0, t.val, 0, 0] ∧ (cfg0.win 1).index t = ![0, 0] ∧ (cfg0.win 2).index t = ![0, 0]
    ∧ (cfg0.win 3).index t = ![0, 0] ∧ (cfg0.win 4).index t = ![t.val, 0, 0] := by
  decide +kernel

/-- The laid-out context where the region finds it. -/
theorem V_x (c : Dev nD) (n : Fin 16) (q : Fin 8) (j : Fin 16) (k : Fin 1024) (p : Fin 256) (b : Fin 8) (hp : (p : ℕ) = n * 16 + q * 2 + (j : ℕ) / 8) (hb : (b : ℕ) = (j : ℕ) % 8) :
    (V m c main_v7 : S16x8x16x1024.Idx → EReal) (ix4 n q j k) = b0 m c (ix3 b p k) := by
  have e : V m c main_v7 = shapeCast S16x8x16x1024 (transpose S256x8x1024 [1, 0, 2] (b0 m c) transposes_S8x256x1024_S256x8x1024_1_0_2) shapeCasts_S256x8x1024_S16x8x16x1024 := by
    unfold V
    after_results
    try rfl
  rw [e]
  pointwise
  exact congrArg₂ (fun u v => b0 m c (ix3 u v k)) (Fin.ext hb.symm) (Fin.ext hp.symm)

/-- The amplitude where the region finds it. -/
theorem V_amp (c : Dev nD) (b : Fin 8) (k : Fin 1024) : (V m c main_v4 : S8x1024.Idx → EReal) (ix2 b k) = b1 m c (ix2 0 k) * (1 + b3 m c (ix1 k)) := by
  have e : V m c main_v4 = broadcastInDim S8x1024 ![1] bcast_S1024_S8x1024_1 (mulf (F := Ideal) (φ := .f32) (shapeCast S1024 (b1 m c) shapeCasts_S1x1024_S1024)
      (addf (F := Ideal) (φ := .f32) (broadcastInDim S1024 ![] bcast_S_S1024 (constant S_ .f32 0x3F800000#32)) (b3 m c))) := by
    unfold V
    after_results
    try rfl
  rw [e]
  pointwise

/-- The shift where the region finds it. -/
theorem V_sh (c : Dev nD) (b : Fin 8) (k : Fin 1024) : (V m c main_v5 : S8x1024.Idx → EReal) (ix2 b k) = b2 m c (ix1 k) := by
  have e : V m c main_v5 = broadcastInDim S8x1024 ![1] bcast_S1024_S8x1024_1 (b2 m c) := by
    unfold V
    after_results
    try rfl
  rw [e]
  pointwise

section
variable (c : Dev nD) (t : Fin cfg0.N)

theorem link_x (n j : Fin 16) (q : Fin 8) (hq : q.val = t.val) (k : Fin 1024) (p : Fin 256) (b : Fin 8) (hp : (p : ℕ) = n * 16 + q * 2 + (j : ℕ) / 8) (hb : (b : ℕ) = (j : ℕ) % 8) :
    (iblk m c 0 t : S16x1x16x1024.Idx → EReal) (ix4 n 0 j k) = b0 m c (ix3 b p k) := by
  obtain ⟨i0, -⟩ := idx_at t
  refine Eq.trans ?_ (V_x m c n q j k p b hp hb)
  blk_ext [iblk, i0]

theorem link_a (b : Fin 8) (k : Fin 1024) : (iblk m c 1 t : S8x1024.Idx → EReal) (ix2 b k) = b1 m c (ix2 0 k) * (1 + b3 m c (ix1 k)) := by
  obtain ⟨-, i1, -⟩ := idx_at t
  refine Eq.trans ?_ (V_amp m c b k)
  blk_ext [iblk, i1]

theorem link_s (b : Fin 8) (k : Fin 1024) : (iblk m c 2 t : S8x1024.Idx → EReal) (ix2 b k) = b2 m c (ix1 k) := by
  obtain ⟨-, -, i2, -⟩ := idx_at t
  refine Eq.trans ?_ (V_sh m c b k)
  blk_ext [iblk, i2]

theorem link_w (r : Fin 1024) (R : Fin 2048) (e : (R : ℕ) = r) (k : Fin 1024) : (iblk m c 3 t : S1024x1024.Idx → EReal) (ix2 r k) = mrow (b4 m c) R k := by
  obtain ⟨-, -, -, i3, -⟩ := idx_at t
  refine Eq.trans ?_ (congrFun (V_main_arg4 m c) (ix2 R k))
  blk_ext [iblk, i3]

end

/-- The result as an array. -/
def resCtx (c : Dev nD) : S16x1024x128.Idx → EReal := fun y => ctxIn (b0 m c) (b1 m c) (b2 m c) (b3 m c) (b4 m c) (y 0) (y 1) (y 2)

theorem block4 (c : Dev nD) (t : Fin cfg0.N) (y : S2x1024x128.Idx) (z : S16x1024x128.Idx) (e0 : (z 0).val = t.val * 2 + (y 0).val) (e1 : (z 1).val = (y 1).val) (e2 : (z 2).val = (y 2).val) :
    out0_4 (F := Ideal) (iblk m c 0 t) (iblk m c 1 t) (iblk m c 2 t) (iblk m c 3 t) y = resCtx m c z := by
  have hy0 : (y 0).val < 2 := (y 0).isLt
  have hz0 : (z 0).val < 16 := (z 0).isLt
  refine (out4_at _ _ _ _ y (z 1) (z 2) ⟨(y 0).val * 8 + (y 2).val % 8, by omega⟩ e1 e2 rfl).trans (chan_eq (fun k => link_w m c t _ _ rfl k) (funext fun k => ?_))
  refine normed_congr (funext fun i => link_x m c t _ _ ⟨t.val, by omega⟩ rfl i _ _ ?_ ?_) (funext fun i => link_a m c t _ i) (funext fun i => link_s m c t _ i) rfl
  · show (z 2).val / 8 * 16 + (z 0).val = (z 2).val / 8 * 16 + t.val * 2 + ((y 0).val * 8 + (y 2).val % 8) / 8
    omega
  · show (z 2).val % 8 = ((y 0).val * 8 + (y 2).val % 8) % 8
    omega

theorem arr4 (c : Dev nD) : (dats m 0 c).arrAt 4 (cfgs 0).N = resCtx m c := by
  refine (dats m 0 c).arrAt_eq_of_covers 4 _ (by decide +kernel) fun t hf y => ?_
  obtain ⟨-, -, -, -, i4⟩ := idx_at t
  blk_simp
  rw [after0_4]
  exact block4 m c t y _ (by blk_simp [i4]) (by blk_simp [i4]) (by blk_simp [i4])

end Cert.Kernel6Ideal.Gen

end
-- ==== Proof.CtxRef.lean ====
module

public import proofs.«01_k».proof.Proof.ProjSpec
public import proofs.«01_k».proof.Proof.Gen.Reference6Ideal.Run
public import Idealize.ShloMosaic.Lib.Pointwise
public import Idealize.ShloMosaic.Lib.Tactic.CleanTypes

@[expose] public section

set_option maxRecDepth 16384

noncomputable section

namespace Cert.Reference6Ideal.Value

open Cert.Reference6Ideal Cert.Reference6Ideal.Gen Idealize.ShloMosaic Idealize.ShloMosaic.TcCoe Idealize.SL.Sem
open Cert.Proof.Proj

/-! The reference's context projection, entry by entry. -/

variable (A : FVec Ideal S8x256x1024 .f32) (g : FVec Ideal S1x1024 .f32) (sh sc : FVec Ideal S1024 .f32) (Ws : FVec Ideal S2048x1024 .bf16)

/-- The normed tokens by batch element, chunk and position in the chunk. -/
def rHid : FVec Ideal S8x16x16x1024 .f32 :=
  shapeCast _ (addf (mulf (mulf (mulf A (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf A A) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32))))))
    (broadcastInDim S8x256x1024 ![0, 1, 2] bcast_S1x1x1024_S8x256x1024_0_1_2 (broadcastInDim S1x1x1024 ![2] bcast_S1024_S1x1x1024_2 (shapeCast _ g shapeCasts_S1x1024_S1024))))
    (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) sc))))
    (broadcastInDim S8x256x1024 ![0, 1, 2] bcast_S1x1x1024_S8x256x1024_0_1_2 (broadcastInDim S1x1x1024 ![2] bcast_S1024_S1x1x1024_2 sh))) shapeCasts_S8x256x1024_S8x16x16x1024

theorem rHid_apply (b : Fin 8) (n t : Fin 16) (k : Fin 1024) : rHid A g sh sc (ix4 b n t k) = ctxHid A g sh sc ⟨(n : ℕ) * 16 + t, by omega⟩ b k := by
  unfold rHid
  pointwise
  unfold ctxHid normed
  rw [← mul_assoc]

/-- The projection. -/
def rIn (H : FVec Ideal S8x16x16x1024 .f32) : FVec Ideal S16x1024x128 .bf16 :=
  truncf .bf16 (shapeCast _ (transpose S16x1024x16x8 [3, 0, 2, 1] (Host.dotGeneral dot_S1024x1024_S8x16x16x1024_S1024x8x16x16_1_3_0_012_n_n none (extf .f32 (extractStridedSlice S1024x1024 ![0, 0] Ws slices_S2048x1024_S1024x1024_0_0) bitsLt_bf16_f32) H) transposes_S1024x8x16x16_S16x1024x16x8_3_0_2_1) shapeCasts_S16x1024x16x8_S16x1024x128) bitsLt_bf16_f32

theorem rIn_apply (t : Fin 16) (ch : Fin 1024) (l : Fin 128) : rIn Ws (rHid A g sh sc) (ix3 t ch l) = ctxIn A g sh sc Ws t ch l := by
  unfold rIn
  pointwise [rHid_apply]
  rfl

end Cert.Reference6Ideal.Value

end
-- ==== Proof.AdaValue.lean ====
module

public import proofs.«01_k».proof.Proof.ProjSpec
public import proofs.«01_k».proof.Proof.Gen.Kernel7Ideal.Frame
public import Idealize.ShloMosaic.Lib.Pointwise
public import Idealize.ShloMosaic.Lib.Tactic.CleanTypes
public import Idealize.ShloMosaic.Lib.Pipeline.ValueKit

@[expose] public section

set_option maxRecDepth 16384

noncomputable section

namespace Cert.Kernel7Ideal.Gen

open Idealize.ShloMosaic Idealize.ShloMosaic.TcCoe Idealize.SL.Sem
open Cert.Proof.Proj

/-! The modulation: the body's block at an index, and the output array after the run, from the argument arrays. -/

section
variable (x : FVec Ideal S16x1024 .f32) (w : FVec Ideal S1024x1024 .f32) (b : FVec Ideal S1x1024 .f32)

theorem pay1_apply (r : Fin 16) (k : Fin 1024) :
    k0_pay1 (F := Ideal) x w b (ix2 r k) = channel (fun i => silu (x (ix2 r i))) (fun i => w (ix2 i k)) + b (ix2 0 k) := by
  unfold k0_pay1
  clean_types
  pointwise
  rfl

theorem out3_at (y : S16x1024.Idx) : out0_3 (F := Ideal) x w b y = channel (fun i => silu (x (ix2 (y 0) i))) (fun i => w (ix2 i (y 1))) + b (ix2 0 (y 1)) := by
  have ey : y = ix2 (y 0) (y 1) := by funext a; fin_cases a <;> rfl
  unfold out0_3
  have z : (![0, 0] : Fin 2 → ℕ) = fun _ => 0 := by funext a; fin_cases a <;> rfl
  rw [View.canon_unit_zero z, View.ld_unit_zero z, View.ld_unit_zero z, View.ld_unit_zero z]
  exact (congrArg _ ey).trans (pay1_apply x w b (y 0) (y 1))

end

variable (m : (ℓ : Loc nD τ sig) → Buf (Elt Ideal) ℓ) (ρ : Dev nD → PrngReg)

/-- The argument arrays. -/
abbrev b0 (c : Dev nD) : S16x1024.Idx → EReal := m (c.tc.loc main_arg0)
abbrev b1 (c : Dev nD) : S1x1024x3072.Idx → EReal := m (c.tc.loc main_arg1)
abbrev b2 (c : Dev nD) : S1x3072.Idx → EReal := m (c.tc.loc main_arg2)

/-- Where each window's block sits at a point. -/
theorem idx_at : ∀ t : Fin cfg0.N, (cfg0.win 0).index t = ![0, 0] ∧ (cfg0.win 1).index t = ![0, t.val] ∧ (cfg0.win 2).index t = ![0, t.val]
    ∧ (cfg0.win 3).index t = ![0, t.val] := by
  decide +kernel

/-- The weights where the region finds them. -/
theorem V_w (c : Dev nD) (i : Fin 1024) (k : Fin 3072) : (V m c main_v0 : S1024x3072.Idx → EReal) (ix2 i k) = b1 m c (ix3 0 i k) := by
  have e : V m c main_v0 = shapeCast S1024x3072 (b1 m c) shapeCasts_S1x1024x3072_S1024x3072 := by
    unfold V
    after_results
    try rfl
  rw [e]
  pointwise

/-- The bias where the region finds it. -/
theorem V_b (c : Dev nD) (k : Fin 3072) : (V m c main_v2 : S1x3072.Idx → EReal) (ix2 0 k) = b2 m c (ix2 0 k) := by
  have e : V m c main_v2 = shapeCast S1x3072 (shapeCast S3072 (b2 m c) shapeCasts_S1x3072_S3072) shapeCasts_S3072_S1x3072 := by
    unfold V
    after_results
    try rfl
  rw [e]
  pointwise

section
variable (c : Dev nD) (t : Fin cfg0.N)

theorem link_c (r : Fin 16) (i : Fin 1024) : (iblk m c 0 t : S16x1024.Idx → EReal) (ix2 r i) = b0 m c (ix2 r i) := by
  obtain ⟨i0, -⟩ := idx_at t
  refine Eq.trans ?_ (congrFun (V_main_arg0 m c) (ix2 r i))
  blk_ext [iblk, i0]

theorem link_w (i k : Fin 1024) (K : Fin 3072) (hK : (K : ℕ) = t.val * 1024 + k) : (iblk m c 1 t : S1024x1024.Idx → EReal) (ix2 i k) = b1 m c (ix3 0 i K) := by
  obtain ⟨-, i1, -⟩ := idx_at t
  refine Eq.trans ?_ (V_w m c i K)
  blk_ext [iblk, i1]

theorem link_b (k : Fin 1024) (K : Fin 3072) (hK : (K : ℕ) = t.val * 1024 + k) : (iblk m c 2 t : S1x1024.Idx → EReal) (ix2 0 k) = b2 m c (ix2 0 K) := by
  obtain ⟨-, -, i2, -⟩ := idx_at t
  refine Eq.trans ?_ (V_b m c K)
  blk_ext [iblk, i2]

end

/-- The result as an array. -/
def resMod (c : Dev nD) : S16x3072.Idx → EReal := fun y => modulation (b0 m c) (b1 m c) (b2 m c) (y 0) (y 1)

theorem block3 (c : Dev nD) (t : Fin cfg0.N) (y : S16x1024.Idx) (z : S16x3072.Idx) (e0 : (z 0).val = (y 0).val) (e1 : (z 1).val = t.val * 1024 + (y 1).val) :
    out0_3 (F := Ideal) (iblk m c 0 t) (iblk m c 1 t) (iblk m c 2 t) y = resMod m c z := by
  have e : y 0 = z 0 := Fin.ext e0.symm
  refine (out3_at _ _ _ y).trans (congrArg₂ (· + ·) (congrArg₂ channel (funext fun i => congrArg silu ?_) (funext fun i => link_w m c t i (y 1) (z 1) e1)) (link_b m c t (y 1) (z 1) e1))
  exact (link_c m c t (y 0) i).trans (congrArg (fun r => b0 m c (ix2 r i)) e)

theorem arr3 (c : Dev nD) : (dats m 0 c).arrAt 3 (cfgs 0).N = resMod m c := by
  refine (dats m 0 c).arrAt_eq_of_covers 3 _ (by decide +kernel) fun t hf y => ?_
  obtain ⟨-, -, -, i3⟩ := idx_at t
  blk_simp
  rw [after0_3]
  exact block3 m c t y _ (by blk_simp [i3]) (by blk_simp [i3])

end Cert.Kernel7Ideal.Gen

end
-- ==== Proof.AdaRef.lean ====
module

public import proofs.«01_k».proof.Proof.ProjSpec
public import proofs.«01_k».proof.Proof.Gen.Reference7Ideal.Run
public import Idealize.ShloMosaic.Lib.Pointwise
public import Idealize.ShloMosaic.Lib.Tactic.CleanTypes

@[expose] public section

set_option maxRecDepth 16384

noncomputable section

namespace Cert.Reference7Ideal.Value

open Cert.Reference7Ideal Cert.Reference7Ideal.Gen Idealize.ShloMosaic Idealize.ShloMosaic.TcCoe Idealize.SL.Sem
open Cert.Proof.Proj

/-! The reference's modulation, entry by entry. -/

variable (C : FVec Ideal S16x1024 .f32) (W : FVec Ideal S1x1024x3072 .f32) (B : FVec Ideal S1x3072 .f32)

/-- The modulation vectors. -/
def rMod : FVec Ideal S16x3072 .f32 :=
  addf (Host.dotGeneral dot_S16x1024_S1024x3072_S16x3072_1_0_0_1_n_n none
      (mulf C (Host.divf (broadcastInDim S16x1024 ![] bcast_S_S16x1024 (constant S_ .f32 0x3F800000#32)) (addf (broadcastInDim S16x1024 ![] bcast_S_S16x1024 (constant S_ .f32 0x3F800000#32)) (Host.exp (Host.negf C)))))
      (shapeCast _ W shapeCasts_S1x1024x3072_S1024x3072))
    (broadcastInDim S16x3072 ![0, 1] bcast_S1x3072_S16x3072_0_1 (broadcastInDim S1x3072 ![1] bcast_S3072_S1x3072_1 (shapeCast _ B shapeCasts_S1x3072_S3072)))

theorem rMod_apply (r : Fin 16) (k : Fin 3072) : rMod C W B (ix2 r k) = modulation C W B r k := by
  unfold rMod
  pointwise
  rfl

end Cert.Reference7Ideal.Value

end
-- ==== Proof.Weights.lean ====
/- The preparation of the weights: the three transposed and the one cast array after the runs, and their references. -/
module

public import proofs.«01_k».proof.Proof.Gen.Kernel8Ideal.Frame
public import proofs.«01_k».proof.Proof.Gen.Reference8Ideal.Run
public import proofs.«01_k».proof.Proof.Gen.Kernel9Ideal.Frame
public import proofs.«01_k».proof.Proof.Gen.Reference9Ideal.Run
public import proofs.«01_k».proof.Proof.Gen.Kernel10Ideal.Frame
public import proofs.«01_k».proof.Proof.Gen.Reference10Ideal.Run
public import proofs.«01_k».proof.Proof.Gen.Kernel11Ideal.Frame
public import proofs.«01_k».proof.Proof.Gen.Reference11Ideal.Run
public import Idealize.ShloMosaic.Lib.Pointwise
public import Idealize.ShloMosaic.Lib.Tactic.CleanTypes
public import Idealize.ShloMosaic.Lib.Pipeline.ValueKit

@[expose] public section

set_option maxRecDepth 16384

noncomputable section

namespace Cert.Proof.Weights

open Idealize.ShloMosaic

/-- Columns of a layer's matrix from `o` on, transposed. -/
def columns {K N : ℕ} (M o : ℕ) (h : o + M ≤ N) (W : (⟨3, ![1, K, N]⟩ : Shape).Idx → EReal) : (⟨2, ![M, K]⟩ : Shape).Idx → EReal :=
  fun y => W (ix3 0 (y 1) ⟨o + (y 0).val, lt_of_lt_of_le (Nat.add_lt_add_left (y 0).isLt o) h⟩)

/-- A layer's matrix. -/
def plain {K N : ℕ} (W : (⟨3, ![1, K, N]⟩ : Shape).Idx → EReal) : (⟨2, ![K, N]⟩ : Shape).Idx → EReal := fun y => W (ix3 0 (y 0) (y 1))

theorem zero2 : (![0, 0] : Fin 2 → ℕ) = fun _ => 0 := by funext a; fin_cases a <;> rfl

end Cert.Proof.Weights

/-! ## The columns of the convolution branch -/

namespace Cert.Kernel8Ideal.Gen

open Idealize.ShloMosaic Idealize.ShloMosaic.TcCoe Idealize.SL.Sem
open Cert.Proof.Weights

theorem out1_at (x : FVec Ideal S1024x512 .f32) (y : S512x1024.Idx) : out0_1 (F := Ideal) x y = x (ix2 (y 1) (y 0)) := by
  have ey : y = ix2 (y 0) (y 1) := by funext a; fin_cases a <;> rfl
  have e : ∀ (r : Fin 512) (k : Fin 1024), k0_pay1 (F := Ideal) x (ix2 r k) = x (ix2 k r) := fun r k => by
    unfold k0_pay1
    clean_types
    pointwise
  unfold out0_1
  rw [View.canon_unit_zero zero2, View.ld_unit_zero zero2]
  exact (congrArg _ ey).trans (e (y 0) (y 1))

variable (m : (ℓ : Loc nD τ sig) → Buf (Elt Ideal) ℓ)

/-- The argument array. -/
abbrev b0 (c : Dev nD) : S1x1024x5120.Idx → EReal := m (c.tc.loc main_arg0)

theorem idx_at : ∀ t : Fin cfg0.N, (cfg0.win 0).index t = ![0, t.val] ∧ (cfg0.win 1).index t = ![t.val, 0] := by
  decide +kernel

theorem V_w (c : Dev nD) (i : Fin 1024) (k : Fin 5120) : (V m c main_v0 : S1024x5120.Idx → EReal) (ix2 i k) = b0 m c (ix3 0 i k) := by
  have e : V m c main_v0 = shapeCast S1024x5120 (b0 m c) shapeCasts_S1x1024x5120_S1024x5120 := by
    unfold V
    after_results
    try rfl
  rw [e]
  pointwise

/-- The result as an array. -/
def resW (c : Dev nD) : S3072x1024.Idx → EReal := columns 3072 0 (by decide) (b0 m c)

theorem block1 (c : Dev nD) (t : Fin cfg0.N) (y : S512x1024.Idx) (z : S3072x1024.Idx) (e0 : (z 0).val = t.val * 512 + (y 0).val) (e1 : (z 1).val = (y 1).val) :
    out0_1 (F := Ideal) (iblk m c 0 t) y = resW m c z := by
  obtain ⟨i0, -⟩ := idx_at t
  refine (out1_at _ y).trans ?_
  refine Eq.trans ?_ (V_w m c (z 1) ⟨0 + (z 0).val, lt_of_lt_of_le (Nat.add_lt_add_left (z 0).isLt 0) (by decide)⟩)
  blk_ext [iblk, i0]

theorem arr1 (c : Dev nD) : (dats m 0 c).arrAt 1 (cfgs 0).N = resW m c := by
  refine (dats m 0 c).arrAt_eq_of_covers 1 _ (by decide +kernel) fun t hf y => ?_
  obtain ⟨-, i1⟩ := idx_at t
  blk_simp
  rw [after0_1]
  exact block1 m c t y _ (by blk_simp [i1]) (by blk_simp [i1])

end Cert.Kernel8Ideal.Gen

namespace Cert.Reference8Ideal.Value

open Cert.Reference8Ideal Cert.Reference8Ideal.Gen Idealize.ShloMosaic
open Cert.Proof.Weights

/-- The reference's array. -/
def rW (W : FVec Ideal S1x1024x5120 .f32) : FVec Ideal S3072x1024 .bf16 :=
  truncf .bf16 (transpose S3072x1024 [1, 0] (shapeCast _ (extractStridedSlice S1x1024x3072 ![0, 0, 0] W slices_S1x1024x5120_S1x1024x3072_0_0_0) shapeCasts_S1x1024x3072_S1024x3072) transposes_S1024x3072_S3072x1024_1_0) bitsLt_bf16_f32

theorem rW_eq (W : FVec Ideal S1x1024x5120 .f32) : rW W = columns 3072 0 (by decide) W := by
  funext y
  have ey : y = ix2 (y 0) (y 1) := by funext a; fin_cases a <;> rfl
  have e : ∀ (r : Fin 3072) (k : Fin 1024), rW W (ix2 r k) = columns 3072 0 (by decide) W (ix2 r k) := fun r k => by
    unfold rW
    pointwise
    exact congrArg (fun q => W (ix3 0 k q)) (Fin.ext (Nat.zero_add _).symm)
  exact (congrArg _ ey).trans ((e (y 0) (y 1)).trans (congrArg _ ey.symm))

end Cert.Reference8Ideal.Value

/-! ## The columns of the state-space branch -/

namespace Cert.Kernel9Ideal.Gen

open Idealize.ShloMosaic Idealize.ShloMosaic.TcCoe Idealize.SL.Sem
open Cert.Proof.Weights

theorem out1_at (x : FVec Ideal S1024x512 .f32) (y : S512x1024.Idx) : out0_1 (F := Ideal) x y = x (ix2 (y 1) (y 0)) := by
  have ey : y = ix2 (y 0) (y 1) := by funext a; fin_cases a <;> rfl
  have e : ∀ (r : Fin 512) (k : Fin 1024), k0_pay1 (F := Ideal) x (ix2 r k) = x (ix2 k r) := fun r k => by
    unfold k0_pay1
    clean_types
    pointwise
  unfold out0_1
  rw [View.canon_unit_zero zero2, View.ld_unit_zero zero2]
  exact (congrArg _ ey).trans (e (y 0) (y 1))

variable (m : (ℓ : Loc nD τ sig) → Buf (Elt Ideal) ℓ)

/-- The argument array. -/
abbrev b0 (c : Dev nD) : S1x1024x5120.Idx → EReal := m (c.tc.loc main_arg0)

theorem idx_at : ∀ t : Fin cfg0.N, (cfg0.win 0).index t = ![0, t.val + 6] ∧ (cfg0.win 1).index t = ![t.val, 0] := by
  decide +kernel

theorem V_w (c : Dev nD) (i : Fin 1024) (k : Fin 5120) : (V m c main_v0 : S1024x5120.Idx → EReal) (ix2 i k) = b0 m c (ix3 0 i k) := by
  have e : V m c main_v0 = shapeCast S1024x5120 (b0 m c) shapeCasts_S1x1024x5120_S1024x5120 := by
    unfold V
    after_results
    try rfl
  rw [e]
  pointwise

/-- The result as an array. -/
def resW (c : Dev nD) : S2048x1024.Idx → EReal := columns 2048 3072 (by decide) (b0 m c)

theorem block1 (c : Dev nD) (t : Fin cfg0.N) (y : S512x1024.Idx) (z : S2048x1024.Idx) (e0 : (z 0).val = t.val * 512 + (y 0).val) (e1 : (z 1).val = (y 1).val) :
    out0_1 (F := Ideal) (iblk m c 0 t) y = resW m c z := by
  obtain ⟨i0, -⟩ := idx_at t
  refine (out1_at _ y).trans ?_
  refine Eq.trans ?_ (V_w m c (z 1) ⟨3072 + (z 0).val, lt_of_lt_of_le (Nat.add_lt_add_left (z 0).isLt 3072) (by decide)⟩)
  blk_ext [iblk, i0]

theorem arr1 (c : Dev nD) : (dats m 0 c).arrAt 1 (cfgs 0).N = resW m c := by
  refine (dats m 0 c).arrAt_eq_of_covers 1 _ (by decide +kernel) fun t hf y => ?_
  obtain ⟨-, i1⟩ := idx_at t
  blk_simp
  rw [after0_1]
  exact block1 m c t y _ (by blk_simp [i1]) (by blk_simp [i1])

end Cert.Kernel9Ideal.Gen

namespace Cert.Reference9Ideal.Value

open Cert.Reference9Ideal Cert.Reference9Ideal.Gen Idealize.ShloMosaic
open Cert.Proof.Weights

/-- The reference's array. -/
def rW (W : FVec Ideal S1x1024x5120 .f32) : FVec Ideal S2048x1024 .bf16 :=
  truncf .bf16 (transpose S2048x1024 [1, 0] (shapeCast _ (extractStridedSlice S1x1024x2048 ![0, 0, 3072] W slices_S1x1024x5120_S1x1024x2048_0_0_3072) shapeCasts_S1x1024x2048_S1024x2048) transposes_S1024x2048_S2048x1024_1_0) bitsLt_bf16_f32

theorem rW_eq (W : FVec Ideal S1x1024x5120 .f32) : rW W = columns 2048 3072 (by decide) W := by
  funext y
  have ey : y = ix2 (y 0) (y 1) := by funext a; fin_cases a <;> rfl
  have e : ∀ (r : Fin 2048) (k : Fin 1024), rW W (ix2 r k) = columns 2048 3072 (by decide) W (ix2 r k) := fun r k => by
    unfold rW
    pointwise
    unfold columns
    congr 1
  exact (congrArg _ ey).trans ((e (y 0) (y 1)).trans (congrArg _ ey.symm))

end Cert.Reference9Ideal.Value

/-! ## The half-GLU's weights -/

namespace Cert.Kernel10Ideal.Gen

open Idealize.ShloMosaic Idealize.ShloMosaic.TcCoe Idealize.SL.Sem
open Cert.Proof.Weights

theorem out1_at (x : FVec Ideal S1024x512 .f32) (y : S512x1024.Idx) : out0_1 (F := Ideal) x y = x (ix2 (y 1) (y 0)) := by
  have ey : y = ix2 (y 0) (y 1) := by funext a; fin_cases a <;> rfl
  have e : ∀ (r : Fin 512) (k : Fin 1024), k0_pay1 (F := Ideal) x (ix2 r k) = x (ix2 k r) := fun r k => by
    unfold k0_pay1
    clean_types
    pointwise
  unfold out0_1
  rw [View.canon_unit_zero zero2, View.ld_unit_zero zero2]
  exact (congrArg _ ey).trans (e (y 0) (y 1))

variable (m : (ℓ : Loc nD τ sig) → Buf (Elt Ideal) ℓ)

/-- The argument array. -/
abbrev b0 (c : Dev nD) : S1x1024x1024.Idx → EReal := m (c.tc.loc main_arg0)

theorem idx_at : ∀ t : Fin cfg0.N, (cfg0.win 0).index t = ![0, t.val] ∧ (cfg0.win 1).index t = ![t.val, 0] := by
  decide +kernel

theorem V_w (c : Dev nD) (i : Fin 1024) (k : Fin 1024) : (V m c main_v0 : S1024x1024.Idx → EReal) (ix2 i k) = b0 m c (ix3 0 i k) := by
  have e : V m c main_v0 = shapeCast S1024x1024 (b0 m c) shapeCasts_S1x1024x1024_S1024x1024 := by
    unfold V
    after_results
    try rfl
  rw [e]
  pointwise

/-- The result as an array. -/
def resW (c : Dev nD) : S1024x1024.Idx → EReal := columns 1024 0 (by decide) (b0 m c)

theorem block1 (c : Dev nD) (t : Fin cfg0.N) (y : S512x1024.Idx) (z : S1024x1024.Idx) (e0 : (z 0).val = t.val * 512 + (y 0).val) (e1 : (z 1).val = (y 1).val) :
    out0_1 (F := Ideal) (iblk m c 0 t) y = resW m c z := by
  obtain ⟨i0, -⟩ := idx_at t
  refine (out1_at _ y).trans ?_
  refine Eq.trans ?_ (V_w m c (z 1) ⟨0 + (z 0).val, lt_of_lt_of_le (Nat.add_lt_add_left (z 0).isLt 0) (by decide)⟩)
  blk_ext [iblk, i0]

theorem arr1 (c : Dev nD) : (dats m 0 c).arrAt 1 (cfgs 0).N = resW m c := by
  refine (dats m 0 c).arrAt_eq_of_covers 1 _ (by decide +kernel) fun t hf y => ?_
  obtain ⟨-, i1⟩ := idx_at t
  blk_simp
  rw [after0_1]
  exact block1 m c t y _ (by blk_simp [i1]) (by blk_simp [i1])

end Cert.Kernel10Ideal.Gen

namespace Cert.Reference10Ideal.Value

open Cert.Reference10Ideal Cert.Reference10Ideal.Gen Idealize.ShloMosaic
open Cert.Proof.Weights

/-- The reference's array. -/
def rW (W : FVec Ideal S1x1024x1024 .f32) : FVec Ideal S1024x1024 .bf16 :=
  truncf .bf16 (transpose S1024x1024 [1, 0] (shapeCast _ W shapeCasts_S1x1024x1024_S1024x1024) transposes_S1024x1024_S1024x1024_1_0) bitsLt_bf16_f32

theorem rW_eq (W : FVec Ideal S1x1024x1024 .f32) : rW W = columns 1024 0 (by decide) W := by
  funext y
  have ey : y = ix2 (y 0) (y 1) := by funext a; fin_cases a <;> rfl
  have e : ∀ (r : Fin 1024) (k : Fin 1024), rW W (ix2 r k) = columns 1024 0 (by decide) W (ix2 r k) := fun r k => by
    unfold rW
    pointwise
    exact congrArg (fun q => W (ix3 0 k q)) (Fin.ext (Nat.zero_add _).symm)
  exact (congrArg _ ey).trans ((e (y 0) (y 1)).trans (congrArg _ ey.symm))

end Cert.Reference10Ideal.Value

/-! ## The output projection's weights -/

namespace Cert.Kernel11Ideal.Gen

open Idealize.ShloMosaic Idealize.ShloMosaic.TcCoe Idealize.SL.Sem
open Cert.Proof.Weights

theorem out1_at (x : FVec Ideal S512x1024 .f32) (y : S512x1024.Idx) : out0_1 (F := Ideal) x y = x (ix2 (y 0) (y 1)) := by
  have ey : y = ix2 (y 0) (y 1) := by funext a; fin_cases a <;> rfl
  have e : ∀ (r : Fin 512) (k : Fin 1024), k0_pay1 (F := Ideal) x (ix2 r k) = x (ix2 r k) := fun r k => by
    unfold k0_pay1
    clean_types
    pointwise
  unfold out0_1
  rw [View.canon_unit_zero zero2, View.ld_unit_zero zero2]
  exact (congrArg _ ey).trans (e (y 0) (y 1))

variable (m : (ℓ : Loc nD τ sig) → Buf (Elt Ideal) ℓ)

/-- The argument array. -/
abbrev b0 (c : Dev nD) : S1x2048x1024.Idx → EReal := m (c.tc.loc main_arg0)

theorem idx_at : ∀ t : Fin cfg0.N, (cfg0.win 0).index t = ![t.val, 0] ∧ (cfg0.win 1).index t = ![t.val, 0] := by
  decide +kernel

theorem V_w (c : Dev nD) (i : Fin 2048) (k : Fin 1024) : (V m c main_v0 : S2048x1024.Idx → EReal) (ix2 i k) = b0 m c (ix3 0 i k) := by
  have e : V m c main_v0 = shapeCast S2048x1024 (b0 m c) shapeCasts_S1x2048x1024_S2048x1024 := by
    unfold V
    after_results
    try rfl
  rw [e]
  pointwise

/-- The result as an array. -/
def resW (c : Dev nD) : S2048x1024.Idx → EReal := plain (b0 m c)

theorem block1 (c : Dev nD) (t : Fin cfg0.N) (y : S512x1024.Idx) (z : S2048x1024.Idx) (e0 : (z 0).val = t.val * 512 + (y 0).val) (e1 : (z 1).val = (y 1).val) :
    out0_1 (F := Ideal) (iblk m c 0 t) y = resW m c z := by
  obtain ⟨i0, -⟩ := idx_at t
  refine (out1_at _ y).trans ?_
  refine Eq.trans ?_ (V_w m c (z 0) (z 1))
  blk_ext [iblk, i0]

theorem arr1 (c : Dev nD) : (dats m 0 c).arrAt 1 (cfgs 0).N = resW m c := by
  refine (dats m 0 c).arrAt_eq_of_covers 1 _ (by decide +kernel) fun t hf y => ?_
  obtain ⟨-, i1⟩ := idx_at t
  blk_simp
  rw [after0_1]
  exact block1 m c t y _ (by blk_simp [i1]) (by blk_simp [i1])

end Cert.Kernel11Ideal.Gen

namespace Cert.Reference11Ideal.Value

open Cert.Reference11Ideal Cert.Reference11Ideal.Gen Idealize.ShloMosaic
open Cert.Proof.Weights

/-- The reference's array. -/
def rW (W : FVec Ideal S1x2048x1024 .f32) : FVec Ideal S2048x1024 .bf16 :=
  truncf .bf16 (shapeCast _ W shapeCasts_S1x2048x1024_S2048x1024) bitsLt_bf16_f32

theorem rW_eq (W : FVec Ideal S1x2048x1024 .f32) : rW W = plain W := by
  funext y
  have ey : y = ix2 (y 0) (y 1) := by funext a; fin_cases a <;> rfl
  have e : ∀ (r : Fin 2048) (k : Fin 1024), rW W (ix2 r k) = plain W (ix2 r k) := fun r k => by
    unfold rW
    pointwise
    unfold plain
    congr 1
  exact (congrArg _ ey).trans ((e (y 0) (y 1)).trans (congrArg _ ey.symm))

end Cert.Reference11Ideal.Value

end
-- ==== Proof.DecaySpec.lean ====
module

public import Idealize.ShloMosaic.Lib.Pointwise
public import Idealize.ShloMosaic.Lib.Tactic.CleanTypes

@[expose] public section

noncomputable section

namespace Cert.Proof.Decay

open Idealize.ShloMosaic

/-! The powers of a diagonal layer's complex decay, by real and imaginary part. -/

/-- `exp (k a dt)` of a step `dt = exp s`. -/
def size (k : BitVec 32) (a s : EReal) : EReal := Ideal.exp (FloatOps.sitofp (F := Ideal) .f32 k * (a * Ideal.exp s))

/-- `k b dt`. -/
def angle (k : BitVec 32) (b s : EReal) : EReal := FloatOps.sitofp (F := Ideal) .f32 k * (b * Ideal.exp s)

/-- The real part of the `k`-th power of the decay `exp ((a + i b) dt)` for `x = 0`, its imaginary part for `x = 1`. -/
def power (x : Fin 2) (k : BitVec 32) (a b s : EReal) : EReal :=
  if x = 0 then size k a s * Ideal.cos (angle k b s) else size k a s * Ideal.sin (angle k b s)

/-- The exponent after token `i` of a chunk: `i + 1` forwards, `16 - i` backwards. -/
def after (d : Fin 2) (i : Fin 16) : Fin 24 := if d = 0 then ⟨(i : ℕ) + 1, by omega⟩ else ⟨16 - (i : ℕ), by omega⟩

/-- A lane of a complex product as the readout has it: the real part in the lanes below 64, minus the imaginary part above. -/
def lane (l : ℕ) (xr xi yr yi : EReal) : EReal := if l < 64 then xr * yr - xi * yi else -(xr * yi + xi * yr)

end Cert.Proof.Decay

end
-- ==== Proof.DecayBlock.lean ====
module

public import proofs.«01_k».proof.Proof.Gen.Kernel12Ideal.Value
public import proofs.«01_k».proof.Proof.DecaySpec
public import Idealize.ShloMosaic.Lib.Pointwise
public import Idealize.ShloMosaic.Lib.Tactic.CleanTypes
public import Idealize.ShloMosaic.Lib.Pipeline.ValueKit

@[expose] public section

set_option maxRecDepth 16384
noncomputable section
namespace Cert.Kernel12Ideal.Gen
open Idealize.ShloMosaic Idealize.ShloMosaic.TcCoe Idealize.SL.Sem
open Cert.Proof.Decay

/-! The decays' powers in the scratch of a block. -/

section
variable (a b s : FVec Ideal S1x1x1x128 .f32) (k : Fin 24) (l : Fin 128)

theorem pay10_apply : k0_pay10 (F := Ideal) k0_pay3 (k0_pay5 a) (k0_pay6 b) (k0_pay7 s) (ix3 0 k l)
    = power 0 (BitVec.ofNat 32 k) (a (ix4 0 0 0 l)) (b (ix4 0 0 0 l)) (s (ix4 0 0 0 l)) := by
  unfold k0_pay10 k0_pay9 k0_pay8 k0_pay7 k0_pay6 k0_pay5 k0_pay3
  clean_types
  pointwise
  rfl

theorem pay11_apply : k0_pay11 (F := Ideal) k0_pay3 (k0_pay5 a) (k0_pay6 b) (k0_pay7 s) (ix3 0 k l)
    = power 1 (BitVec.ofNat 32 k) (a (ix4 0 0 0 l)) (b (ix4 0 0 0 l)) (s (ix4 0 0 0 l)) := by
  unfold k0_pay11 k0_pay9 k0_pay8 k0_pay7 k0_pay6 k0_pay5 k0_pay3
  clean_types
  pointwise
  rfl

theorem pay107_apply : k0_pay107 (F := Ideal) k0_pay3 a b s (ix3 0 k l)
    = power 0 (BitVec.ofNat 32 k) (a (ix4 0 0 0 l)) (b (ix4 0 0 0 l)) (s (ix4 0 0 0 l)) := by
  unfold k0_pay107 k0_pay106 k0_pay105 k0_pay104 k0_pay103 k0_pay102 k0_pay3
  clean_types
  pointwise
  rfl

theorem pay109_apply : k0_pay109 (F := Ideal) (k0_pay108 k0_pay3 a b s) (ix3 0 k l)
    = power 1 (BitVec.ofNat 32 k) (a (ix4 0 0 0 l)) (b (ix4 0 0 0 l)) (s (ix4 0 0 0 l)) := by
  unfold k0_pay109 k0_pay108 k0_pay106 k0_pay105 k0_pay104 k0_pay103 k0_pay102 k0_pay3
  clean_types
  pointwise
  rfl

end

variable (X : Vec Ideal S1x2x8x128 .f32)

/-- A direction's powers, by part and exponent. -/
def pows (d : Fin 2) : S2x24x128.Idx → EReal :=
  fun y => power (y 0) (BitVec.ofNat 32 (y 1 : ℕ)) (X (ix4 0 d 0 (y 2))) (X (ix4 0 d 1 (y 2))) (X (ix4 0 d 2 (y 2)))

/-- The scratch's pieces after the first direction's stores. -/
abbrev scratch0 : List (View.Piece (Elt Ideal) S2x24x128 .f32) :=
  [⟨Rect.unit ![1, 0, 0] ![1, 24, 128] inb_S2x24x128_S1x24x128_1_0_0, k0_pay11 k0_pay3
      (k0_pay5 (View.ld X (Rect.unit ![0, 0, 0, 0] ![1, 1, 1, 128] inb_S1x2x8x128_S1x1x1x128_0_0_0_0)))
      (k0_pay6 (View.ld X (Rect.unit ![0, 0, 1, 0] ![1, 1, 1, 128] inb_S1x2x8x128_S1x1x1x128_0_0_1_0)))
      (k0_pay7 (View.ld X (Rect.unit ![0, 0, 2, 0] ![1, 1, 1, 128] inb_S1x2x8x128_S1x1x1x128_0_0_2_0)))⟩,
    ⟨Rect.unit ![0, 0, 0] ![1, 24, 128] inb_S2x24x128_S1x24x128_0_0_0, k0_pay10 k0_pay3
      (k0_pay5 (View.ld X (Rect.unit ![0, 0, 0, 0] ![1, 1, 1, 128] inb_S1x2x8x128_S1x1x1x128_0_0_0_0)))
      (k0_pay6 (View.ld X (Rect.unit ![0, 0, 1, 0] ![1, 1, 1, 128] inb_S1x2x8x128_S1x1x1x128_0_0_1_0)))
      (k0_pay7 (View.ld X (Rect.unit ![0, 0, 2, 0] ![1, 1, 1, 128] inb_S1x2x8x128_S1x1x1x128_0_0_2_0)))⟩]

/-- The pieces of the second direction's stores, which cover the scratch anew. -/
abbrev fresh1 : List (View.Piece (Elt Ideal) S2x24x128 .f32) :=
  [⟨Rect.unit ![1, 0, 0] ![1, 24, 128] inb_S2x24x128_S1x24x128_1_0_0, k0_pay109 (k0_pay108 k0_pay3
      (View.ld X (Rect.unit ![0, 1, 0, 0] ![1, 1, 1, 128] inb_S1x2x8x128_S1x1x1x128_0_1_0_0))
      (View.ld X (Rect.unit ![0, 1, 1, 0] ![1, 1, 1, 128] inb_S1x2x8x128_S1x1x1x128_0_1_1_0))
      (View.ld X (Rect.unit ![0, 1, 2, 0] ![1, 1, 1, 128] inb_S1x2x8x128_S1x1x1x128_0_1_2_0)))⟩,
    ⟨Rect.unit ![0, 0, 0] ![1, 24, 128] inb_S2x24x128_S1x24x128_0_0_0, k0_pay107 k0_pay3
      (View.ld X (Rect.unit ![0, 1, 0, 0] ![1, 1, 1, 128] inb_S1x2x8x128_S1x1x1x128_0_1_0_0))
      (View.ld X (Rect.unit ![0, 1, 1, 0] ![1, 1, 1, 128] inb_S1x2x8x128_S1x1x1x128_0_1_1_0))
      (View.ld X (Rect.unit ![0, 1, 2, 0] ![1, 1, 1, 128] inb_S1x2x8x128_S1x1x1x128_0_1_2_0))⟩]

/-- The scratch's pieces after both directions' stores. -/
abbrev scratch1 : List (View.Piece (Elt Ideal) S2x24x128 .f32) :=
  ⟨Rect.unit ![1, 0, 0] ![1, 24, 128] inb_S2x24x128_S1x24x128_1_0_0, k0_pay109 (k0_pay108 k0_pay3
      (View.ld X (Rect.unit ![0, 1, 0, 0] ![1, 1, 1, 128] inb_S1x2x8x128_S1x1x1x128_0_1_0_0))
      (View.ld X (Rect.unit ![0, 1, 1, 0] ![1, 1, 1, 128] inb_S1x2x8x128_S1x1x1x128_0_1_1_0))
      (View.ld X (Rect.unit ![0, 1, 2, 0] ![1, 1, 1, 128] inb_S1x2x8x128_S1x1x1x128_0_1_2_0)))⟩ ::
    ⟨Rect.unit ![0, 0, 0] ![1, 24, 128] inb_S2x24x128_S1x24x128_0_0_0, k0_pay107 k0_pay3
      (View.ld X (Rect.unit ![0, 1, 0, 0] ![1, 1, 1, 128] inb_S1x2x8x128_S1x1x1x128_0_1_0_0))
      (View.ld X (Rect.unit ![0, 1, 1, 0] ![1, 1, 1, 128] inb_S1x2x8x128_S1x1x1x128_0_1_1_0))
      (View.ld X (Rect.unit ![0, 1, 2, 0] ![1, 1, 1, 128] inb_S1x2x8x128_S1x1x1x128_0_1_2_0))⟩ :: scratch0 X

theorem ld_at (o : Fin 4 → ℕ) (inb) (d : Fin 2) (e : Fin 8) (h : o = ![0, (d : ℕ), (e : ℕ), 0]) (l : Fin 128) :
    View.ld X (Rect.unit o ![1, 1, 1, 128] inb) (ix4 0 0 0 l) = X (ix4 0 d e l) := by
  subst h
  exact View.ld_unit_apply_of _ _ _ _ _ _ (Fin.forall_fin_succ.2 ⟨rfl, Fin.forall_fin_succ.2 ⟨rfl, Fin.forall_fin_succ.2 ⟨rfl, Fin.forall_fin_succ.2 ⟨(Nat.zero_add _).symm, fun a => a.elim0⟩⟩⟩⟩)

/-- A stored power, from what the payload is. -/
theorem stored_at {P : FVec Ideal S1x24x128 .f32} {a b s : FVec Ideal S1x1x1x128 .f32} {p : Fin 2} (d : Fin 2)
    (hP : ∀ (k : Fin 24) (l : Fin 128), P (ix3 0 k l) = power p (BitVec.ofNat 32 k) (a (ix4 0 0 0 l)) (b (ix4 0 0 0 l)) (s (ix4 0 0 0 l)))
    (ha : ∀ l, a (ix4 0 0 0 l) = X (ix4 0 d 0 l)) (hb : ∀ l, b (ix4 0 0 0 l) = X (ix4 0 d 1 l)) (hs : ∀ l, s (ix4 0 0 0 l) = X (ix4 0 d 2 l))
    (x : S1x24x128.Idx) (y : S2x24x128.Idx) (h0 : (y 0 : ℕ) = p) (h1 : (y 1 : ℕ) = (x 1 : ℕ)) (h2 : (y 2 : ℕ) = (x 2 : ℕ)) : P x = pows X d y := by
  have ex : x = ix3 0 (y 1) (y 2) := by funext e; fin_cases e; exacts [Subsingleton.elim (α := Fin 1) _ _, Fin.ext h1.symm, Fin.ext h2.symm]
  refine (congrArg P ex).trans ((hP _ _).trans ?_)
  unfold pows
  rw [show y 0 = p from Fin.ext h0]
  exact congr (congr (congrArg (power p _) (ha _)) (hb _)) (hs _)

theorem canon0 (y : S2x24x128.Idx) : View.canon (scratch0 X) y = pows X 0 y := by
  canon_tiles x h
  · exact stored_at X 0 (fun k l => pay11_apply _ _ _ k l) (ld_at X _ _ 0 0 rfl) (ld_at X _ _ 0 1 rfl) (ld_at X _ _ 0 2 rfl) x y (by simp; omega) (by omega) (by omega)
  · exact stored_at X 0 (fun k l => pay10_apply _ _ _ k l) (ld_at X _ _ 0 0 rfl) (ld_at X _ _ 0 1 rfl) (ld_at X _ _ 0 2 rfl) x y (by simp; omega) (by omega) (by omega)

/-- Later pieces that cover an index hide the earlier ones. -/
theorem canon_hide {S : Shape} {e : EltTy} (L' : List (View.Piece (Elt Ideal) S e)) (y : S.Idx) :
    ∀ L : List (View.Piece (Elt Ideal) S e), (∃ p ∈ L, y ∈ p.1.set) → View.canon (L ++ L') y = View.canon L y
  | [], h => absurd h (by simp)
  | p :: L, h => by
    by_cases hm : y ∈ p.1.set
    · obtain ⟨x, rfl⟩ := p.1.exists_idx_of_mem hm
      exact (View.canon_cons_emb _ _ _ _).trans (View.canon_cons_emb _ _ _ _).symm
    · refine (View.canon_cons_of_not_mem _ _ hm).trans ((canon_hide L' y L ?_).trans (View.canon_cons_of_not_mem _ _ hm).symm)
      obtain ⟨q, hq, hy⟩ := h
      rcases List.mem_cons.1 hq with rfl | hq
      exacts [absurd hy hm, ⟨q, hq, hy⟩]

theorem fresh1_covers (y : S2x24x128.Idx) : ∃ p ∈ fresh1 X, y ∈ p.1.set := by
  have y0 : (y 0 : ℕ) < 2 := (y 0).isLt
  have y1 : (y 1 : ℕ) < 24 := (y 1).isLt
  have y2 : (y 2 : ℕ) < 128 := (y 2).isLt
  by_cases h : (y 0 : ℕ) = 0
  · refine ⟨_, List.mem_cons_of_mem _ (List.mem_singleton_self _), ?_⟩
    refine (Rect.mem_set_unit (inb := inb_S2x24x128_S1x24x128_0_0_0)).2 fun a => ?_
    fin_cases a <;> simp <;> omega
  · refine ⟨_, List.mem_cons_self, ?_⟩
    refine (Rect.mem_set_unit (inb := inb_S2x24x128_S1x24x128_1_0_0)).2 fun a => ?_
    fin_cases a <;> simp <;> omega

theorem canon1 (y : S2x24x128.Idx) : View.canon (scratch1 X) y = pows X 1 y := by
  show View.canon (fresh1 X ++ scratch0 X) y = _
  refine (canon_hide (scratch0 X) y (fresh1 X) (fresh1_covers X y)).trans ?_
  canon_tiles x h
  · exact stored_at X 1 (fun k l => pay109_apply _ _ _ k l) (ld_at X _ _ 1 0 rfl) (ld_at X _ _ 1 1 rfl) (ld_at X _ _ 1 2 rfl) x y (by simp; omega) (by omega) (by omega)
  · exact stored_at X 1 (fun k l => pay107_apply _ _ _ k l) (ld_at X _ _ 1 0 rfl) (ld_at X _ _ 1 1 rfl) (ld_at X _ _ 1 2 rfl) x y (by simp; omega) (by omega) (by omega)

theorem read0 {κ : Kind} {sp : Space} (V : View sig κ sp S2x24x128 .f32) (B : LoadRect S2x24x128) :
    V.readCov (Val := Elt Ideal) (scratch0 X) B = fun j => pows X 0 (B.idx j) := by
  rw [View.readCov_eq_canon']
  exact funext fun j => canon0 X _

theorem read1 {κ : Kind} {sp : Space} (V : View sig κ sp S2x24x128 .f32) (B : LoadRect S2x24x128) :
    V.readCov (Val := Elt Ideal) (scratch1 X) B = fun j => pows X 1 (B.idx j) := by
  rw [View.readCov_eq_canon']
  exact funext fun j => canon1 X _

section
variable (v : FVec Ideal S1x8x128 .f32) (j : Fin 8) (l : Fin 128)

theorem pay12_apply : k0_pay12 (F := Ideal) v (ix5 0 0 0 j l) = v (ix3 0 j l) := by
  unfold k0_pay12; pointwise
theorem pay13_apply : k0_pay13 (F := Ideal) v (ix5 0 0 0 j l) = v (ix3 0 j l) := by
  unfold k0_pay13; pointwise
theorem pay110_apply : k0_pay110 (F := Ideal) v (ix5 0 0 0 j l) = v (ix3 0 j l) := by
  unfold k0_pay110; pointwise
theorem pay111_apply : k0_pay111 (F := Ideal) v (ix5 0 0 0 j l) = v (ix3 0 j l) := by
  unfold k0_pay111; pointwise

end

/-- A direction's powers from the sixteenth on, of one part. -/
theorem late_at {P : FVec Ideal S1x8x128 .f32 → FVec Ideal S1x1x1x8x128 .f32} (hP : ∀ v j l, P v (ix5 0 0 0 j l) = v (ix3 0 j l)) (d p : Fin 2) (o : Fin 3 → ℕ) (ho : o = ![(p : ℕ), 16, 0]) (inb)
    (x : S1x1x1x8x128.Idx) (y : S1x2x2x8x128.Idx) (h1 : (y 1 : ℕ) = d) (h2 : (y 2 : ℕ) = p) (h3 : (y 3 : ℕ) = (x 3 : ℕ)) (h4 : (y 4 : ℕ) = (x 4 : ℕ)) (k : Fin 24) (hk : (k : ℕ) = 16 + (y 3 : ℕ)) :
    P (fun j => pows X d ((Rect.unit (s := S2x24x128) o ![1, 8, 128] inb).idx j)) x = pows X (y 1) (ix3 (y 2) k (y 4)) := by
  subst ho
  have ex : x = ix5 0 0 0 (x 3) (x 4) := by
    funext e; fin_cases e; exacts [Subsingleton.elim (α := Fin 1) _ _, Subsingleton.elim (α := Fin 1) _ _, Subsingleton.elim (α := Fin 1) _ _, rfl, rfl]
  refine (congrArg (P _) ex).trans ((hP _ _ _).trans ?_)
  rw [show y 1 = d from Fin.ext h1]
  refine congrArg (pows X d) (funext fun e => Fin.ext ?_)
  fin_cases e
  · exact h2.symm
  · show 16 + 1 * (x 3 : ℕ) = k
    omega
  · show 0 + 1 * (x 4 : ℕ) = (y 4 : ℕ)
    omega

variable (m : (ℓ : Loc nD τ sig) → Buf (Elt Ideal) ℓ) (ρ : Dev nD → PrngReg)

/-- The chunk decays of a block: the powers from the sixteenth on. -/
theorem outs5_at (c : Dev nD) (t : Fin cfg0.N) (y : S1x2x2x8x128.Idx) (k : Fin 24) (hk : (k : ℕ) = 16 + (y 3 : ℕ)) :
    (outsAt0 m c t).2.2 y = pows (iblk m c 0 t) (y 1) (ix3 (y 2) k (y 4)) := by
  unfold outsAt0
  dsimp only
  frame_out
  generalize (iblk m c 0 t) = X
  simp only [read0, read1]
  canon_tiles x h
  · exact late_at X pay111_apply 1 1 _ rfl _ x y (by simp; omega) (by simp; omega) (by omega) (by omega) k hk
  · exact late_at X pay110_apply 1 0 _ rfl _ x y (by simp; omega) (by simp; omega) (by omega) (by omega) k hk
  · exact late_at X pay13_apply 0 1 _ rfl _ x y (by simp; omega) (by simp; omega) (by omega) (by omega) k hk
  · exact late_at X pay12_apply 0 0 _ rfl _ x y (by simp; omega) (by simp; omega) (by omega) (by omega) k hk

end Cert.Kernel12Ideal.Gen
end
-- ==== Proof.DecayValue.lean ====
module

public import proofs.«01_k».proof.Proof.DecayBlock
public import Idealize.ShloMosaic.Lib.KernelVsHost

@[expose] public section

set_option maxRecDepth 16384

noncomputable section

namespace Cert.Kernel12Ideal.Gen

open Idealize.ShloMosaic Idealize.ShloMosaic.TcCoe Idealize.SL.Sem
open Cert.Proof.Decay

/-! The chunk decays: the output array after the run, from the argument arrays. -/

section
variable (A B : FVec Ideal S2x64x64 .f32) (D : FVec Ideal S2x64 .f32)

/-- A parameter's states twice over, as a row. -/
def twice : FVec Ideal S2x64x1x128 .f32 :=
  broadcastInDim S2x64x1x128 ![0, 1, 3] bcast_S2x64x128_S2x64x1x128_0_1_3
    (concatenate S2x64x128 2 [⟨S2x64x64, A⟩, ⟨S2x64x64, A⟩] concatenates_S2x64x64_S2x64x64_S2x64x128_d2)

/-- The log step at every state, as a row. -/
def spread : FVec Ideal S2x64x1x128 .f32 :=
  broadcastInDim S2x64x1x128 ![0, 1, 3] bcast_S2x64x128_S2x64x1x128_0_1_3
    (broadcastInDim S2x64x128 ![0, 1, 2] bcast_S2x64x1_S2x64x128_0_1_2 (broadcastInDim S2x64x1 ![0, 1] bcast_S2x64_S2x64x1_0_1 D))

/-- The three rows. -/
def stacked : FVec Ideal S2x64x3x128 .f32 :=
  concatenate S2x64x3x128 2 [⟨S2x64x1x128, twice A⟩, ⟨S2x64x1x128, twice B⟩, ⟨S2x64x1x128, spread D⟩] concatenates_S2x64x1x128_S2x64x1x128_S2x64x1x128_S2x64x3x128_d2

/-- The rows by group, with rows of zeros below. -/
def rows : FVec Ideal S64x2x8x128 .f32 :=
  transpose S64x2x8x128 [1, 0, 2, 3]
    (pad S2x64x8x128 ![0, 0, 0, 0] ![0, 0, 5, 0] ![0, 0, 0, 0] (stacked A B D) (sitofp .f32 (constantI S_ 32 0#32) : FVec Ideal S_ .f32) pads_S2x64x3x128_S2x64x8x128_000_000_050_000 h_S_)
    transposes_S2x64x8x128_S64x2x8x128_1_0_2_3

theorem twice_apply (d : Fin 2) (g : Fin 64) (l : Fin 128) : twice A (ix4 d g 0 l) = A (ix3 d g ⟨(l : ℕ) % 64, by omega⟩) := by
  unfold twice
  pointwise
  split
  all_goals exact congrArg (fun p => A (ix3 d g p)) (Fin.ext (by simp only []; omega))

theorem spread_apply (d : Fin 2) (g : Fin 64) (l : Fin 128) : spread D (ix4 d g 0 l) = D (ix2 d g) := by
  unfold spread
  pointwise

theorem rows_apply (g : Fin 64) (d : Fin 2) (e : Fin 8) (l : Fin 128) (e' : Fin 3) (he : (e : ℕ) = e') : rows A B D (ix4 g d e l) = stacked A B D (ix4 d g e' l) := by
  unfold rows
  refine Eq.trans (b := pad S2x64x8x128 ![0, 0, 0, 0] ![0, 0, 5, 0] ![0, 0, 0, 0] (stacked A B D) (sitofp .f32 (constantI S_ 32 0#32) : FVec Ideal S_ .f32) pads_S2x64x3x128_S2x64x8x128_000_000_050_000 h_S_ (ix4 d g e l)) ?_ ?_
  · pointwise
  · refine pad_apply_of_inside _ _ _ _ _ _ _ _ (ix4 d g e' l) fun a => ?_
    fin_cases a
    · show (d : ℕ) = 0 + (d : ℕ) * (0 + 1); omega
    · show (g : ℕ) = 0 + (g : ℕ) * (0 + 1); omega
    · show (e : ℕ) = 0 + (e' : ℕ) * (0 + 1); omega
    · show (l : ℕ) = 0 + (l : ℕ) * (0 + 1); omega

theorem rows_0 (g : Fin 64) (d : Fin 2) (l : Fin 128) : rows A B D (ix4 g d 0 l) = A (ix3 d g ⟨(l : ℕ) % 64, by omega⟩) := by
  refine (rows_apply A B D g d 0 l 0 rfl).trans (Eq.trans ?_ (twice_apply A d g l))
  unfold stacked; pointwise

theorem rows_1 (g : Fin 64) (d : Fin 2) (l : Fin 128) : rows A B D (ix4 g d 1 l) = B (ix3 d g ⟨(l : ℕ) % 64, by omega⟩) := by
  refine (rows_apply A B D g d 1 l 1 rfl).trans (Eq.trans ?_ (twice_apply B d g l))
  unfold stacked; pointwise

theorem rows_2 (g : Fin 64) (d : Fin 2) (l : Fin 128) : rows A B D (ix4 g d 2 l) = D (ix2 d g) := by
  refine (rows_apply A B D g d 2 l 2 rfl).trans (Eq.trans ?_ (spread_apply D d g l))
  unfold stacked; pointwise

end

variable (m : (ℓ : Loc nD τ sig) → Buf (Elt Ideal) ℓ) (ρ : Dev nD → PrngReg)

/-- The argument arrays that the decays are of. -/
abbrev b0 (c : Dev nD) : S2x64x64.Idx → EReal := m (c.tc.loc main_arg0)
abbrev b1 (c : Dev nD) : S2x64x64.Idx → EReal := m (c.tc.loc main_arg1)
abbrev b2 (c : Dev nD) : S2x64.Idx → EReal := m (c.tc.loc main_arg2)

/-- The rows where the region finds them. -/
theorem V_rows (c : Dev nD) : (V m c main_v9 : S64x2x8x128.Idx → EReal) = rows (b0 m c) (b1 m c) (b2 m c) := by
  unfold V
  simp only [hostOps0, hostOps0_1, hostOps0_2, List.flatten_cons, List.flatten_nil, List.append_nil, List.cons_append, List.nil_append]
  after_results
  try rfl

/-- Where each window's block sits at a point. -/
theorem idx_at : ∀ t : Fin cfg0.N, (cfg0.win 0).index t = ![t.val, 0, 0, 0] ∧ (cfg0.win 1).index t = ![t.val, 0, 0, 0, 0] ∧ (cfg0.win 2).index t = ![t.val, 0, 0, 0, 0]
    ∧ (cfg0.win 3).index t = ![t.val, 0, 0] ∧ (cfg0.win 4).index t = ![t.val, 0, 0] ∧ (cfg0.win 5).index t = ![t.val, 0, 0, 0, 0] := by
  decide +kernel

theorem link_rows (c : Dev nD) (t : Fin cfg0.N) (d : Fin 2) (e : Fin 8) (l : Fin 128) (g : Fin 64) (hg : (g : ℕ) = t.val) :
    (iblk m c 0 t : S1x2x8x128.Idx → EReal) (ix4 0 d e l) = rows (b0 m c) (b1 m c) (b2 m c) (ix4 g d e l) := by
  obtain ⟨i0, -⟩ := idx_at t
  refine Eq.trans ?_ (congrFun (V_rows m c) (ix4 g d e l))
  blk_ext [iblk, i0]

/-- A group's powers are of its parameters. -/
theorem pows_eq (c : Dev nD) (t : Fin cfg0.N) (g : Fin 64) (hg : (g : ℕ) = t.val) (d p : Fin 2) (k : Fin 24) (l : Fin 128) :
    pows (iblk m c 0 t) d (ix3 p k l) = power p (BitVec.ofNat 32 k) (b0 m c (ix3 d g ⟨(l : ℕ) % 64, by omega⟩)) (b1 m c (ix3 d g ⟨(l : ℕ) % 64, by omega⟩)) (b2 m c (ix2 d g)) :=
  congr (congr (congrArg (power p _) ((link_rows m c t d 0 l g hg).trans (rows_0 _ _ _ g d l))) ((link_rows m c t d 1 l g hg).trans (rows_1 _ _ _ g d l)))
    ((link_rows m c t d 2 l g hg).trans (rows_2 _ _ _ g d l))

/-- A chunk decay of the arguments. -/
def decAt (c : Dev nD) (g : Fin 64) (d p : Fin 2) (j : Fin 8) (l : Fin 128) : EReal :=
  power p (BitVec.ofNat 32 (16 + (j : ℕ))) (b0 m c (ix3 d g ⟨(l : ℕ) % 64, by omega⟩)) (b1 m c (ix3 d g ⟨(l : ℕ) % 64, by omega⟩)) (b2 m c (ix2 d g))

/-- The chunk decays as an array. -/
def resDec (c : Dev nD) : S64x2x2x8x128.Idx → EReal := fun y => decAt m c (y 0) (y 1) (y 2) (y 3) (y 4)

theorem block5 (c : Dev nD) (t : Fin cfg0.N) (y : S1x2x2x8x128.Idx) (z : S64x2x2x8x128.Idx) (e0 : (z 0).val = t.val) (e1 : z 1 = y 1) (e2 : z 2 = y 2) (e3 : z 3 = y 3) (e4 : z 4 = y 4) :
    (outsAt0 m c t).2.2 y = resDec m c z := by
  have h3 : (y 3 : ℕ) < 8 := (y 3).isLt
  refine (outs5_at m c t y ⟨16 + (y 3 : ℕ), by omega⟩ rfl).trans ((pows_eq m c t (z 0) e0 (y 1) (y 2) _ (y 4)).trans ?_)
  show decAt m c (z 0) (y 1) (y 2) (y 3) (y 4) = decAt m c (z 0) (z 1) (z 2) (z 3) (z 4)
  rw [e1, e2, e3, e4]

theorem arr5 (c : Dev nD) : (dats m 0 c).arrAt 5 (cfgs 0).N = resDec m c := by
  refine (dats m 0 c).arrAt_eq_of_covers 5 _ (by decide +kernel) fun t hf y => ?_
  obtain ⟨-, -, -, -, -, i5⟩ := idx_at t
  blk_simp
  rw [after0_5]
  refine block5 m c t y _ ?_ (Fin.ext ?_) (Fin.ext ?_) (Fin.ext ?_) (Fin.ext ?_)
  all_goals first | blk_simp [i5] | skip

end Cert.Kernel12Ideal.Gen

end
-- ==== Proof.CotValue.lean ====
module

public import proofs.«01_k».proof.Proof.DecayValue

@[expose] public section

set_option maxRecDepth 16384

noncomputable section

namespace Cert.Kernel12Ideal.Gen

open Idealize.ShloMosaic Idealize.ShloMosaic.TcCoe Idealize.SL.Sem
open Cert.Proof.Decay

/-! The readout matrices: sixteen tiles of sixteen rows, one for each token of a chunk. -/

/-- A row, sixteen times. -/
def strip (v : FVec Ideal S1x1x128 .f32) : FVec Ideal S16x128 .f32 :=
  broadcastTo S16x128 (shapeCast S1x128 (shapeCast S1x128 v shapeCasts_S1x1x128_S1x128) shapeCasts_S1x128_S1x128) broadcasts_S1x128_S16x128

/-- Sixteen tiles, one under the other. -/
def cat (f : Fin 16 → FVec Ideal S16x128 .f32) : FVec Ideal S256x128 .f32 :=
  concatenate S256x128 0 [⟨S16x128, f 0⟩, ⟨S16x128, f 1⟩, ⟨S16x128, f 2⟩, ⟨S16x128, f 3⟩, ⟨S16x128, f 4⟩, ⟨S16x128, f 5⟩, ⟨S16x128, f 6⟩, ⟨S16x128, f 7⟩,
    ⟨S16x128, f 8⟩, ⟨S16x128, f 9⟩, ⟨S16x128, f 10⟩, ⟨S16x128, f 11⟩, ⟨S16x128, f 12⟩, ⟨S16x128, f 13⟩, ⟨S16x128, f 14⟩, ⟨S16x128, f 15⟩]
    concatenates_S16x128_S16x128_S16x128_S16x128_S16x128_S16x128_S16x128_S16x128_S16x128_S16x128_S16x128_S16x128_S16x128_S16x128_S16x128_S16x128_S256x128_d0

/-- The product of complex tiles: the real part in the first half of the lanes, the imaginary part, scaled, in the second. -/
def prodOf (b : BitVec 32) (xr xi yr yi : FVec Ideal S256x128 .f32) : FVec Ideal S256x128 .f32 :=
  select (broadcastTo S256x128 (shapeCast S1x128 k0_pay1 shapeCasts_S1x128_S1x128) broadcasts_S1x128_S256x128) (subf (mulf xr yr) (mulf xi yi))
    (mulf (broadcast S256x128 (Scalar.ofBits .f32 b)) (addf (mulf xr yi) (mulf xi yr)))

theorem strip_apply (v : FVec Ideal S1x1x128 .f32) (r : Fin 16) (l : Fin 128) : strip v (ix2 r l) = v (ix3 0 0 l) := by
  unfold strip; pointwise

theorem cat_apply (f : Fin 16 → FVec Ideal S16x128 .f32) (r : Fin 256) (l : Fin 128) :
    cat f (ix2 r l) = f ⟨(r : ℕ) / 16, by omega⟩ (ix2 ⟨(r : ℕ) % 16, by omega⟩ l) := by
  show concatenate S256x128 0 (List.ofFn fun n : Fin 16 => (⟨S16x128, f n⟩ : (s : Shape) × (s.Idx → EReal))) _ (ix2 r l) = _
  refine concatenate_ofFn_apply (t := S256x128) (s₁ := S16x128) 0 f _ rfl 16 rfl (ix2 r l) ⟨(r : ℕ) / 16, by omega⟩ rfl (ix2 ⟨(r : ℕ) % 16, by omega⟩ l) rfl fun b hb => ?_
  fin_cases b
  · exact absurd rfl hb
  · rfl

theorem low_lane : ∀ l : Fin 128, IntOp.cmpi .slt (BitVec.ofNat 32 (l : ℕ)) 64#32 = if (l : ℕ) < 64 then 1#1 else 0#1 := by decide

theorem prodOf_apply (b : BitVec 32) (xr xi yr yi : FVec Ideal S256x128 .f32) (r : Fin 256) (l : Fin 128) :
    prodOf b xr xi yr yi (ix2 r l) = if (l : ℕ) < 64 then xr (ix2 r l) * yr (ix2 r l) - xi (ix2 r l) * yi (ix2 r l)
      else Scalar.ofBits (F := Ideal) .f32 b * (xr (ix2 r l) * yi (ix2 r l) + xi (ix2 r l) * yr (ix2 r l)) := by
  unfold prodOf k0_pay1
  pointwise
  refine (congrArg (fun w => Scalar.select w _ _) (low_lane l)).trans ?_
  by_cases h : (l : ℕ) < 64
  · rw [if_pos h, if_pos h]; rfl
  · rw [if_neg h, if_neg h]; rfl

section
variable (X : Vec Ideal S1x2x8x128 .f32)

theorem row_inb (p : Fin 2) (k : Fin 24) : ∀ a, (![(p : ℕ), (k : ℕ), 0] : Fin 3 → ℕ) a + (![1, 1, 128] : Fin 3 → ℕ) a ≤ S2x24x128.size a := by
  intro a; fin_cases a
  · show (p : ℕ) + 1 ≤ 2; omega
  · show (k : ℕ) + 1 ≤ 24; omega
  · show 0 + 128 ≤ 128; omega

/-- A direction's powers of one exponent, as they are loaded. -/
def row (d p : Fin 2) (k : Fin 24) : FVec Ideal S1x1x128 .f32 := fun j => pows X d ((Rect.unit (s := S2x24x128) ![(p : ℕ), (k : ℕ), 0] ![1, 1, 128] (row_inb p k)).idx j)

/-- Powers, an exponent for each tile. -/
def tiles (d p : Fin 2) (e : Fin 16 → Fin 24) : FVec Ideal S256x128 .f32 := cat fun i => strip (row X d p (e i))

theorem tiles_apply (d p : Fin 2) (e : Fin 16 → Fin 24) (r : Fin 256) (l : Fin 128) : tiles X d p e (ix2 r l) = pows X d (ix3 p (e ⟨(r : ℕ) / 16, by omega⟩) l) := by
  refine (cat_apply _ r l).trans ((strip_apply _ _ l).trans (congrArg (pows X d) (funext fun a => Fin.ext ?_)))
  fin_cases a
  · show (p : ℕ) + 1 * 0 = p; omega
  · show (e _ : ℕ) + 1 * 0 = (e _ : ℕ); omega
  · show 0 + 1 * (l : ℕ) = l; omega

end

variable (m : (ℓ : Loc nD τ sig) → Buf (Elt Ideal) ℓ)

/-- A matrix's sixteen rows, sixteen times. -/
def again (v : FVec Ideal S1x1x1x16x128 .f32) : FVec Ideal S256x128 .f32 := cat fun _ => shapeCast S16x128 v shapeCasts_S1x1x1x16x128_S16x128

theorem again_apply (v : FVec Ideal S1x1x1x16x128 .f32) (r : Fin 256) (l : Fin 128) : again v (ix2 r l) = v (ix5 0 0 0 ⟨(r : ℕ) % 16, by omega⟩ l) := by
  refine (cat_apply _ r l).trans ?_
  pointwise

theorem bits_neg_one : Scalar.ofBits (F := Ideal) .f32 0xBF800000#32 = -1 := by
  show Ideal.ofBits .f32 0xBF800000#32 = -1
  simp [Ideal.ofBits, Ideal.ieee, -EReal.coe_mul]
  norm_num

theorem lane_eq (l : Fin 128) (xr xi yr yi : EReal) :
    (if (l : ℕ) < 64 then xr * yr - xi * yi else Scalar.ofBits (F := Ideal) .f32 0xBF800000#32 * (xr * yi + xi * yr)) = lane l xr xi yr yi := by
  unfold lane
  refine if_congr Iff.rfl rfl ?_
  refine (congrArg (· * (xr * yi + xi * yr)) bits_neg_one).trans ?_
  rw [neg_mul, one_mul]

/-- A direction's readout tile. -/
def outOf (X : Vec Ideal S1x2x8x128 .f32) (d : Fin 2) (cr ci : FVec Ideal S1x1x1x16x128 .f32) : FVec Ideal S1x256x128 .bf16 :=
  shapeCast S1x256x128 (truncf .bf16 (prodOf 0xBF800000#32 (again cr) (again ci) (tiles X d 0 (after d)) (tiles X d 1 (after d))) bitsLt_bf16_f32) shapeCasts_S256x128_S1x256x128

theorem outOf_apply (X : Vec Ideal S1x2x8x128 .f32) (d : Fin 2) (cr ci : FVec Ideal S1x1x1x16x128 .f32) (r : Fin 256) (l : Fin 128) (i h : Fin 16) (e : (r : ℕ) = (i : ℕ) * 16 + h) :
    outOf X d cr ci (ix3 0 r l) = lane l (cr (ix5 0 0 0 h l)) (ci (ix5 0 0 0 h l)) (pows X d (ix3 0 (after d i) l)) (pows X d (ix3 1 (after d i) l)) := by
  obtain rfl : i = ⟨(r : ℕ) / 16, Nat.div_lt_of_lt_mul r.isLt⟩ := Fin.ext (by simp only []; omega)
  obtain rfl : h = ⟨(r : ℕ) % 16, Nat.mod_lt _ (by decide)⟩ := Fin.ext (by simp only []; omega)
  refine Eq.trans (b := prodOf 0xBF800000#32 (again cr) (again ci) (tiles X d 0 (after d)) (tiles X d 1 (after d)) (ix2 r l)) ?_ ?_
  · unfold outOf; pointwise
  refine (prodOf_apply _ _ _ _ _ r l).trans ((lane_eq l _ _ _ _).trans ?_)
  exact congr (congr (congr (congrArg (lane l) (again_apply _ r l)) (again_apply _ r l)) (tiles_apply X d 0 _ r l)) (tiles_apply X d 1 _ r l)

theorem ld5_at (Z : Vec Ideal S1x2x2x16x128 .f32) (o : Fin 5 → ℕ) (inb) (d p : Fin 2) (h : o = ![0, (d : ℕ), (p : ℕ), 0, 0]) (r : Fin 16) (l : Fin 128) :
    View.ld Z (Rect.unit o ![1, 1, 1, 16, 128] inb) (ix5 0 0 0 r l) = Z (ix5 0 d p r l) := by
  subst h
  exact View.ld_unit_apply_of _ _ _ _ _ _ (Fin.forall_fin_succ.2 ⟨rfl, Fin.forall_fin_succ.2 ⟨rfl, Fin.forall_fin_succ.2 ⟨rfl, Fin.forall_fin_succ.2 ⟨(Nat.zero_add _).symm, Fin.forall_fin_succ.2 ⟨(Nat.zero_add _).symm, fun a => a.elim0⟩⟩⟩⟩⟩)

/-- A direction's readout tile in its block. -/
theorem tile_at (X : Vec Ideal S1x2x8x128 .f32) (Z : Vec Ideal S1x2x2x16x128 .f32) (d : Fin 2) (cr ci : FVec Ideal S1x1x1x16x128 .f32)
    (hr : ∀ r l, cr (ix5 0 0 0 r l) = Z (ix5 0 d 0 r l)) (hi : ∀ r l, ci (ix5 0 0 0 r l) = Z (ix5 0 d 1 r l))
    (x : S1x256x128.Idx) (i h : Fin 16) (l : Fin 128) (hx : (x 1 : ℕ) = (i : ℕ) * 16 + h) (hl : (x 2 : ℕ) = l) :
    outOf X d cr ci x = lane l (Z (ix5 0 d 0 h l)) (Z (ix5 0 d 1 h l)) (pows X d (ix3 0 (after d i) l)) (pows X d (ix3 1 (after d i) l)) := by
  have ex : x = ix3 0 (x 1) l := by funext e; fin_cases e; exacts [Subsingleton.elim (α := Fin 1) _ _, rfl, Fin.ext hl]
  refine (congrArg (outOf X d cr ci) ex).trans ((outOf_apply X d cr ci (x 1) l i h hx).trans ?_)
  exact congr (congr (congrArg₂ (lane l) (hr _ _) (hi _ _)) rfl) rfl

/-- The readout matrices of a block. -/
theorem outs4_at (c : Dev nD) (t : Fin cfg0.N) (y : S1x256x256.Idx) (d : Fin 2) (i h : Fin 16) (l : Fin 128) (h1 : (y 1 : ℕ) = (i : ℕ) * 16 + h) (h2 : (y 2 : ℕ) = (d : ℕ) * 128 + l) :
    (outsAt0 m c t).2.1 y = lane l ((iblk m c 2 t : S1x2x2x16x128.Idx → EReal) (ix5 0 d 0 h l)) ((iblk m c 2 t : S1x2x2x16x128.Idx → EReal) (ix5 0 d 1 h l))
      (pows (iblk m c 0 t) d (ix3 0 (after d i) l)) (pows (iblk m c 0 t) d (ix3 1 (after d i) l)) := by
  unfold outsAt0
  dsimp only
  frame_out
  generalize (iblk m c 0 t) = X
  generalize (iblk m c 2 t) = Z
  simp only [read0, read1]
  canon_tiles x h
  · obtain rfl : d = 1 := Fin.ext (by show (d : ℕ) = 1; omega)
    refine Eq.trans (b := outOf X 1 (View.ld Z (Rect.unit ![0, 1, 0, 0, 0] ![1, 1, 1, 16, 128] inb_S1x2x2x16x128_S1x1x1x16x128_0_1_0_0_0)) (View.ld Z (Rect.unit ![0, 1, 1, 0, 0] ![1, 1, 1, 16, 128] inb_S1x2x2x16x128_S1x1x1x16x128_0_1_1_0_0)) x) rfl ?_
    exact tile_at X Z 1 _ _ (ld5_at Z _ _ 1 0 rfl) (ld5_at Z _ _ 1 1 rfl) x i _ l (by omega) (by simp at h2; omega)
  · obtain rfl : d = 0 := Fin.ext (by show (d : ℕ) = 0; omega)
    refine Eq.trans (b := outOf X 0 (View.ld Z (Rect.unit ![0, 0, 0, 0, 0] ![1, 1, 1, 16, 128] inb_S1x2x2x16x128_S1x1x1x16x128_0_0_0_0_0)) (View.ld Z (Rect.unit ![0, 0, 1, 0, 0] ![1, 1, 1, 16, 128] inb_S1x2x2x16x128_S1x1x1x16x128_0_0_1_0_0)) x) rfl ?_
    exact tile_at X Z 0 _ _ (ld5_at Z _ _ 0 0 rfl) (ld5_at Z _ _ 0 1 rfl) x i _ l (by omega) (by simp at h2; omega)

/-! The readout matrices as an array. -/

abbrev b5 (c : Dev nD) : S2x64x16x64.Idx → EReal := m (c.tc.loc main_arg5)
abbrev b6 (c : Dev nD) : S2x64x16x64.Idx → EReal := m (c.tc.loc main_arg6)

/-- A matrix's states twice over. -/
def dup4 (P : FVec Ideal S2x64x16x64 .f32) : FVec Ideal S2x64x1x16x128 .f32 :=
  broadcastInDim S2x64x1x16x128 ![0, 1, 3, 4] bcast_S2x64x16x128_S2x64x1x16x128_0_1_3_4
    (concatenate S2x64x16x128 3 [⟨S2x64x16x64, P⟩, ⟨S2x64x16x64, P⟩] concatenates_S2x64x16x64_S2x64x16x64_S2x64x16x128_d3)

/-- Real and imaginary parts by group. -/
def parts (P Q : FVec Ideal S2x64x16x64 .f32) : FVec Ideal S64x2x2x16x128 .f32 :=
  transpose S64x2x2x16x128 [1, 0, 2, 3, 4] (concatenate S2x64x2x16x128 2 [⟨S2x64x1x16x128, dup4 P⟩, ⟨S2x64x1x16x128, dup4 Q⟩] concatenates_S2x64x1x16x128_S2x64x1x16x128_S2x64x2x16x128_d2)
    transposes_S2x64x2x16x128_S64x2x2x16x128_1_0_2_3_4

theorem dup4_apply (P : FVec Ideal S2x64x16x64 .f32) (d : Fin 2) (g : Fin 64) (h : Fin 16) (l : Fin 128) : dup4 P (ix5 d g 0 h l) = P (ix4 d g h ⟨(l : ℕ) % 64, by omega⟩) := by
  unfold dup4
  pointwise
  split
  all_goals exact congrArg (fun p => P (ix4 d g h p)) (Fin.ext (by simp only []; omega))

theorem parts_0 (P Q : FVec Ideal S2x64x16x64 .f32) (d : Fin 2) (g : Fin 64) (h : Fin 16) (l : Fin 128) : parts P Q (ix5 g d 0 h l) = P (ix4 d g h ⟨(l : ℕ) % 64, by omega⟩) := by
  refine Eq.trans ?_ (dup4_apply P d g h l)
  unfold parts; pointwise

theorem parts_1 (P Q : FVec Ideal S2x64x16x64 .f32) (d : Fin 2) (g : Fin 64) (h : Fin 16) (l : Fin 128) : parts P Q (ix5 g d 1 h l) = Q (ix4 d g h ⟨(l : ℕ) % 64, by omega⟩) := by
  refine Eq.trans ?_ (dup4_apply Q d g h l)
  unfold parts; pointwise

/-- The output matrices where the region finds them. -/
theorem V_ct (c : Dev nD) : (V m c main_v23 : S64x2x2x16x128.Idx → EReal) = parts (b5 m c) (b6 m c) := by
  unfold V
  simp only [hostOps0, hostOps0_1, hostOps0_2, List.flatten_cons, List.flatten_nil, List.append_nil, List.cons_append, List.nil_append]
  after_results
  try rfl

theorem link_ct (c : Dev nD) (t : Fin cfg0.N) (d p : Fin 2) (h : Fin 16) (l : Fin 128) (g : Fin 64) (hg : (g : ℕ) = t.val) :
    (iblk m c 2 t : S1x2x2x16x128.Idx → EReal) (ix5 0 d p h l) = parts (b5 m c) (b6 m c) (ix5 g d p h l) := by
  obtain ⟨-, -, i2, -⟩ := idx_at t
  refine Eq.trans ?_ (congrFun (V_ct m c) (ix5 g d p h l))
  blk_ext [iblk, i2]

/-- An entry of the readout matrices. -/
def outAt (c : Dev nD) (g : Fin 64) (d : Fin 2) (i h : Fin 16) (l : Fin 128) : EReal :=
  lane l (b5 m c (ix4 d g h ⟨(l : ℕ) % 64, by omega⟩)) (b6 m c (ix4 d g h ⟨(l : ℕ) % 64, by omega⟩))
    (power 0 (BitVec.ofNat 32 (after d i : ℕ)) (b0 m c (ix3 d g ⟨(l : ℕ) % 64, by omega⟩)) (b1 m c (ix3 d g ⟨(l : ℕ) % 64, by omega⟩)) (b2 m c (ix2 d g)))
    (power 1 (BitVec.ofNat 32 (after d i : ℕ)) (b0 m c (ix3 d g ⟨(l : ℕ) % 64, by omega⟩)) (b1 m c (ix3 d g ⟨(l : ℕ) % 64, by omega⟩)) (b2 m c (ix2 d g)))

/-- The readout matrices as an array. -/
def resOut (c : Dev nD) : S64x256x256.Idx → EReal := fun y =>
  have h1 : (y 1 : ℕ) < 256 := (y 1).isLt
  have h2 : (y 2 : ℕ) < 256 := (y 2).isLt
  outAt m c (y 0) ⟨(y 2 : ℕ) / 128, by omega⟩ ⟨(y 1 : ℕ) / 16, by omega⟩ ⟨(y 1 : ℕ) % 16, by omega⟩ ⟨(y 2 : ℕ) % 128, by omega⟩

theorem block4 (c : Dev nD) (t : Fin cfg0.N) (y : S1x256x256.Idx) (z : S64x256x256.Idx) (e0 : (z 0).val = t.val) (e1 : (z 1).val = (y 1).val) (e2 : (z 2).val = (y 2).val) :
    (outsAt0 m c t).2.1 y = resOut m c z := by
  have h1 : (z 1 : ℕ) < 256 := (z 1).isLt
  have h2 : (z 2 : ℕ) < 256 := (z 2).isLt
  refine (outs4_at m c t y ⟨(z 2 : ℕ) / 128, by omega⟩ ⟨(z 1 : ℕ) / 16, by omega⟩ ⟨(z 1 : ℕ) % 16, by omega⟩ ⟨(z 2 : ℕ) % 128, by omega⟩ (by simp only []; omega) (by simp only []; omega)).trans ?_
  exact congr (congr (congr (congrArg (lane _) ((link_ct m c t _ _ _ _ (z 0) e0).trans (parts_0 _ _ _ _ _ _))) ((link_ct m c t _ _ _ _ (z 0) e0).trans (parts_1 _ _ _ _ _ _)))
    (pows_eq m c t (z 0) e0 _ _ _ _)) (pows_eq m c t (z 0) e0 _ _ _ _)

theorem arr4 (c : Dev nD) : (dats m 0 c).arrAt 4 (cfgs 0).N = resOut m c := by
  refine (dats m 0 c).arrAt_eq_of_covers 4 _ (by decide +kernel) fun t hf y => ?_
  obtain ⟨-, -, -, -, i4, -⟩ := idx_at t
  blk_simp
  rw [after0_4]
  refine block4 m c t y _ ?_ ?_ ?_
  all_goals first | blk_simp [i4] | skip

end Cert.Kernel12Ideal.Gen
end
-- ==== Proof.DecayRef.lean ====
module

public import proofs.«01_k».proof.Proof.DecaySpec
public import proofs.«01_k».proof.Proof.Gen.Reference12Ideal.Run
public import Idealize.ShloMosaic.Lib.Pointwise
public import Idealize.ShloMosaic.Lib.Tactic.CleanTypes

@[expose] public section

set_option maxRecDepth 16384

noncomputable section

namespace Cert.Reference12Ideal.Value

open Cert.Reference12Ideal Cert.Reference12Ideal.Gen Idealize.ShloMosaic Idealize.ShloMosaic.TcCoe Idealize.SL.Sem
open Cert.Proof.Decay

/-! The reference's decays, entry by entry. -/

variable (A B : FVec Ideal S2x64x64 .f32) (D : FVec Ideal S2x64 .f32)

/-- The exponents, at every entry. -/
def exps : FVec Ideal S2x64x8x64 .f32 :=
  broadcastInDim S2x64x8x64 ![0, 1, 2, 3] bcast_S1x1x8x1_S2x64x8x64_0_1_2_3 (broadcastInDim S1x1x8x1 ![2, 3] bcast_S8x1_S1x1x8x1_2_3 (broadcastInDim S8x1 ![0] bcast_S8_S8x1_0
    (sitofp .f32 (addi (broadcastInDim S8 ![] bcast_S_S8 (constantI S_ 32 16#32)) (iotaInDim S8 32 0)))))

/-- A parameter times the step, at every exponent. -/
def rate : FVec Ideal S2x64x8x64 .f32 :=
  broadcastInDim S2x64x8x64 ![0, 1, 2, 3] bcast_S2x64x1x64_S2x64x8x64_0_1_2_3 (broadcastInDim S2x64x1x64 ![0, 1, 3] bcast_S2x64x64_S2x64x1x64_0_1_3
    (mulf A (broadcastInDim S2x64x64 ![0, 1, 2] bcast_S2x64x1_S2x64x64_0_1_2 (broadcastInDim S2x64x1 ![0, 1] bcast_S2x64_S2x64x1_0_1 (Host.exp D)))))

/-- The powers by direction, group, part, exponent and state. -/
def both : FVec Ideal S2x64x2x8x64 .f32 :=
  concatenate S2x64x2x8x64 2 [⟨S2x64x1x8x64, (broadcastInDim S2x64x1x8x64 ![0, 1, 3, 4] bcast_S2x64x8x64_S2x64x1x8x64_0_1_3_4 (mulf (Host.exp (mulf exps (rate A D))) (Host.cos (mulf exps (rate B D)))))⟩,
    ⟨S2x64x1x8x64, (broadcastInDim S2x64x1x8x64 ![0, 1, 3, 4] bcast_S2x64x8x64_S2x64x1x8x64_0_1_3_4 (mulf (Host.exp (mulf exps (rate A D))) (Host.sin (mulf exps (rate B D)))))⟩] concatenates_S2x64x1x8x64_S2x64x1x8x64_S2x64x2x8x64_d2

/-- The decays. -/
def rDec : FVec Ideal S64x2x2x8x128 .f32 :=
  transpose S64x2x2x8x128 [1, 0, 2, 3, 4] (concatenate S2x64x2x8x128 4 [⟨S2x64x2x8x64, both A B D⟩, ⟨S2x64x2x8x64, both A B D⟩] concatenates_S2x64x2x8x64_S2x64x2x8x64_S2x64x2x8x128_d4)
    transposes_S2x64x2x8x128_S64x2x2x8x128_1_0_2_3_4

theorem exps_apply (d : Fin 2) (g : Fin 64) (j : Fin 8) (p : Fin 64) : exps (ix4 d g j p) = FloatOps.sitofp (F := Ideal) .f32 (BitVec.ofNat 32 (16 + (j : ℕ))) := by
  unfold exps
  pointwise
  refine congrArg _ ?_
  fin_cases j <;> rfl

theorem rate_apply (d : Fin 2) (g : Fin 64) (j : Fin 8) (p : Fin 64) : rate A D (ix4 d g j p) = A (ix3 d g p) * Ideal.exp (D (ix2 d g)) := by
  unfold rate
  pointwise

theorem both_apply (d : Fin 2) (g : Fin 64) (x : Fin 2) (j : Fin 8) (p : Fin 64) :
    both A B D (ix5 d g x j p) = power x (BitVec.ofNat 32 (16 + (j : ℕ))) (A (ix3 d g p)) (B (ix3 d g p)) (D (ix2 d g)) := by
  unfold both
  fin_cases x
  · pointwise [exps_apply, rate_apply]
    rfl
  · pointwise [exps_apply, rate_apply]
    rfl

theorem rDec_apply (g : Fin 64) (d x : Fin 2) (j : Fin 8) (l : Fin 128) :
    rDec A B D (ix5 g d x j l) = power x (BitVec.ofNat 32 (16 + (j : ℕ))) (A (ix3 d g ⟨(l : ℕ) % 64, by omega⟩)) (B (ix3 d g ⟨(l : ℕ) % 64, by omega⟩)) (D (ix2 d g)) := by
  refine Eq.trans (b := both A B D (ix5 d g x j ⟨(l : ℕ) % 64, by omega⟩)) ?_ (both_apply A B D d g x j _)
  unfold rDec
  pointwise
  split
  all_goals exact congrArg (fun p => both A B D (ix5 d g x j p)) (Fin.ext (by simp only []; omega))

/-! The readout matrices. -/

/-- The exponents after the tokens, at every entry. -/
def expsOut : FVec Ideal S2x64x16x64 .f32 :=
  broadcastInDim S2x64x16x64 ![0, 1, 2, 3] bcast_S2x1x16x1_S2x64x16x64_0_1_2_3 (broadcastInDim S2x1x16x1 ![0, 2] bcast_S2x16_S2x1x16x1_0_2
    (sitofp .f32 (concatenate S2x16 0 [⟨S1x16, broadcastInDim S1x16 ![1] bcast_S16_S1x16_1 (addi (iotaInDim S16 32 0) (broadcastInDim S16 ![] bcast_S_S16 (constantI S_ 32 1#32)))⟩,
      ⟨S1x16, broadcastInDim S1x16 ![1] bcast_S16_S1x16_1 (subi (broadcastInDim S16 ![] bcast_S_S16 (constantI S_ 32 16#32)) (iotaInDim S16 32 0))⟩] concatenates_S1x16_S1x16_S2x16_d0 : IVec S2x16 32)))

/-- A parameter times the step, at every token. -/
def rateT : FVec Ideal S2x64x16x64 .f32 :=
  broadcastInDim S2x64x16x64 ![0, 1, 2, 3] bcast_S2x64x1x64_S2x64x16x64_0_1_2_3 (broadcastInDim S2x64x1x64 ![0, 1, 3] bcast_S2x64x64_S2x64x1x64_0_1_3
    (mulf A (broadcastInDim S2x64x64 ![0, 1, 2] bcast_S2x64x1_S2x64x64_0_1_2 (broadcastInDim S2x64x1 ![0, 1] bcast_S2x64_S2x64x1_0_1 (Host.exp D)))))

/-- The powers at every token, for every row of a matrix. -/
def spreadRe (E : FVec Ideal S2x64x16x64 .f32) : FVec Ideal S2x64x16x16x64 .f32 :=
  broadcastInDim S2x64x16x16x64 ![0, 1, 2, 3, 4] bcast_S2x64x16x1x64_S2x64x16x16x64_0_1_2_3_4 (broadcastInDim S2x64x16x1x64 ![0, 1, 2, 4] bcast_S2x64x16x64_S2x64x16x1x64_0_1_2_4
    (mulf (Host.exp (mulf E (rateT A D))) (Host.cos (mulf E (rateT B D)))))
def spreadIm (E : FVec Ideal S2x64x16x64 .f32) : FVec Ideal S2x64x16x16x64 .f32 :=
  broadcastInDim S2x64x16x16x64 ![0, 1, 2, 3, 4] bcast_S2x64x16x1x64_S2x64x16x16x64_0_1_2_3_4 (broadcastInDim S2x64x16x1x64 ![0, 1, 2, 4] bcast_S2x64x16x64_S2x64x16x1x64_0_1_2_4
    (mulf (Host.exp (mulf E (rateT A D))) (Host.sin (mulf E (rateT B D)))))

/-- A matrix's rows, at every token. -/
def each (P : FVec Ideal S2x64x16x64 .f32) : FVec Ideal S2x64x16x16x64 .f32 :=
  broadcastInDim S2x64x16x16x64 ![0, 1, 2, 3, 4] bcast_S2x64x1x16x64_S2x64x16x16x64_0_1_2_3_4 (broadcastInDim S2x64x1x16x64 ![0, 1, 3, 4] bcast_S2x64x16x64_S2x64x1x16x64_0_1_3_4 P)

/-- The readout, by direction, group, token, channel, and part and state. -/
def readout (P Q : FVec Ideal S2x64x16x64 .f32) : FVec Ideal S2x64x16x16x128 .f32 :=
  concatenate S2x64x16x16x128 4
    [⟨S2x64x16x16x64, subf (mulf (each P) (spreadRe A B D expsOut)) (mulf (each Q) (spreadIm A B D expsOut))⟩,
      ⟨S2x64x16x16x64, Host.negf (addf (mulf (each P) (spreadIm A B D expsOut)) (mulf (each Q) (spreadRe A B D expsOut)))⟩] concatenates_S2x64x16x16x64_S2x64x16x16x64_S2x64x16x16x128_d4

/-- The readout matrices. -/
def rOut (P Q : FVec Ideal S2x64x16x64 .f32) : FVec Ideal S64x256x256 .bf16 :=
  truncf .bf16 (shapeCast S64x256x256 (transpose S64x16x16x2x128 [1, 2, 3, 0, 4] (readout A B D P Q)
    transposes_S2x64x16x16x128_S64x16x16x2x128_1_2_3_0_4) shapeCasts_S64x16x16x2x128_S64x256x256) bitsLt_bf16_f32

theorem expsOut_apply (d : Fin 2) (g : Fin 64) (j : Fin 16) (p : Fin 64) : expsOut (ix4 d g j p) = FloatOps.sitofp (F := Ideal) .f32 (BitVec.ofNat 32 (after d j : ℕ)) := by
  unfold expsOut
  fin_cases d
  · pointwise
    refine congrArg _ ?_
    fin_cases j <;> rfl
  · pointwise
    refine congrArg _ ?_
    fin_cases j <;> rfl

theorem rateT_apply (d : Fin 2) (g : Fin 64) (j : Fin 16) (p : Fin 64) : rateT A D (ix4 d g j p) = A (ix3 d g p) * Ideal.exp (D (ix2 d g)) := by
  unfold rateT
  pointwise

theorem spreadRe_apply (E : FVec Ideal S2x64x16x64 .f32) (k : BitVec 32) (d : Fin 2) (g : Fin 64) (i h : Fin 16) (p : Fin 64) (hE : E (ix4 d g i p) = FloatOps.sitofp (F := Ideal) .f32 k) :
    spreadRe A B D E (ix5 d g i h p) = power 0 k (A (ix3 d g p)) (B (ix3 d g p)) (D (ix2 d g)) := by
  unfold spreadRe
  pointwise [rateT_apply, hE]
  rfl

theorem spreadIm_apply (E : FVec Ideal S2x64x16x64 .f32) (k : BitVec 32) (d : Fin 2) (g : Fin 64) (i h : Fin 16) (p : Fin 64) (hE : E (ix4 d g i p) = FloatOps.sitofp (F := Ideal) .f32 k) :
    spreadIm A B D E (ix5 d g i h p) = power 1 k (A (ix3 d g p)) (B (ix3 d g p)) (D (ix2 d g)) := by
  unfold spreadIm
  pointwise [rateT_apply, hE]
  rfl

theorem each_apply (P : FVec Ideal S2x64x16x64 .f32) (d : Fin 2) (g : Fin 64) (i h : Fin 16) (p : Fin 64) : each P (ix5 d g i h p) = P (ix4 d g h p) := by
  unfold each
  pointwise

/-- A product of a matrix's entry and a power. -/
theorem re_at (P : FVec Ideal S2x64x16x64 .f32) (d : Fin 2) (g : Fin 64) (i h : Fin 16) (p q : Fin 64) (e : (q : ℕ) = p) :
    each P (ix5 d g i h q) * spreadRe A B D expsOut (ix5 d g i h q) = P (ix4 d g h p) * power 0 (BitVec.ofNat 32 (after d i : ℕ)) (A (ix3 d g p)) (B (ix3 d g p)) (D (ix2 d g)) := by
  obtain rfl : q = p := Fin.ext e
  exact congrArg₂ (· * ·) (each_apply P d g i h q) (spreadRe_apply A B D _ _ d g i h q (expsOut_apply d g i q))

theorem im_at (P : FVec Ideal S2x64x16x64 .f32) (d : Fin 2) (g : Fin 64) (i h : Fin 16) (p q : Fin 64) (e : (q : ℕ) = p) :
    each P (ix5 d g i h q) * spreadIm A B D expsOut (ix5 d g i h q) = P (ix4 d g h p) * power 1 (BitVec.ofNat 32 (after d i : ℕ)) (A (ix3 d g p)) (B (ix3 d g p)) (D (ix2 d g)) := by
  obtain rfl : q = p := Fin.ext e
  exact congrArg₂ (· * ·) (each_apply P d g i h q) (spreadIm_apply A B D _ _ d g i h q (expsOut_apply d g i q))

/-- An entry of the readout matrices. -/
def outEntry (P Q : FVec Ideal S2x64x16x64 .f32) (g : Fin 64) (d : Fin 2) (i h : Fin 16) (l : Fin 128) : EReal :=
  lane l (P (ix4 d g h ⟨(l : ℕ) % 64, by omega⟩)) (Q (ix4 d g h ⟨(l : ℕ) % 64, by omega⟩))
    (power 0 (BitVec.ofNat 32 (after d i : ℕ)) (A (ix3 d g ⟨(l : ℕ) % 64, by omega⟩)) (B (ix3 d g ⟨(l : ℕ) % 64, by omega⟩)) (D (ix2 d g)))
    (power 1 (BitVec.ofNat 32 (after d i : ℕ)) (A (ix3 d g ⟨(l : ℕ) % 64, by omega⟩)) (B (ix3 d g ⟨(l : ℕ) % 64, by omega⟩)) (D (ix2 d g)))

theorem readout_apply (P Q : FVec Ideal S2x64x16x64 .f32) (d : Fin 2) (g : Fin 64) (i h : Fin 16) (l : Fin 128) :
    readout A B D P Q (ix5 d g i h l) = outEntry A B D P Q g d i h l := by
  unfold readout
  pointwise
  unfold outEntry lane
  by_cases hl : (l : ℕ) < 64
  · rw [dif_pos hl, if_pos hl]
    have e : (l : ℕ) = (l : ℕ) % 64 := by omega
    exact congrArg₂ (fun x y : EReal => x - y) (re_at A B D P d g i h ⟨(l : ℕ) % 64, by omega⟩ ⟨l, hl⟩ e) (im_at A B D Q d g i h ⟨(l : ℕ) % 64, by omega⟩ ⟨l, hl⟩ e)
  · rw [dif_neg hl, if_neg hl]
    have e : (l : ℕ) - 64 = (l : ℕ) % 64 := by omega
    exact congrArg₂ (fun x y : EReal => -(x + y)) (im_at A B D P d g i h ⟨(l : ℕ) % 64, by omega⟩ ⟨(l : ℕ) - 64, by omega⟩ e) (re_at A B D Q d g i h ⟨(l : ℕ) % 64, by omega⟩ ⟨(l : ℕ) - 64, by omega⟩ e)

theorem rOut_apply (P Q : FVec Ideal S2x64x16x64 .f32) (g : Fin 64) (r q : Fin 256) :
    rOut A B D P Q (ix3 g r q) = outEntry A B D P Q g ⟨(q : ℕ) / 128, by omega⟩ ⟨(r : ℕ) / 16, by omega⟩ ⟨(r : ℕ) % 16, by omega⟩ ⟨(q : ℕ) % 128, by omega⟩ := by
  refine Eq.trans ?_ (readout_apply A B D P Q _ g _ _ _)
  unfold rOut
  pointwise

end Cert.Reference12Ideal.Value

end
-- ==== Proof.Pairs.lean ====
/- The third to the twelfth call: on equal arguments the ideal kernel's results and its reference's are equal. -/
module

public import proofs.«01_k».proof.Proof.RowValue
public import proofs.«01_k».proof.Proof.RowRef
public import proofs.«01_k».proof.Proof.TailValue
public import proofs.«01_k».proof.Proof.TailRef
public import proofs.«01_k».proof.Proof.FinValue
public import proofs.«01_k».proof.Proof.FinRef
public import proofs.«01_k».proof.Proof.CtxValue
public import proofs.«01_k».proof.Proof.CtxRef
public import proofs.«01_k».proof.Proof.AdaValue
public import proofs.«01_k».proof.Proof.AdaRef
public import proofs.«01_k».proof.Proof.Weights
public import proofs.«01_k».proof.Proof.DecayValue
public import proofs.«01_k».proof.Proof.CotValue
public import proofs.«01_k».proof.Proof.DecayRef

@[expose] public section

noncomputable section

namespace Cert.Proof

open Idealize.ShloMosaic Idealize.ShloMosaic.TcCoe Idealize.SL.Sem

section
variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- The third call's argument arrays are the reference's. -/
def SameArgs3 : Prop :=
  m' ((c.tc : Thread Cert.Reference3Ideal.nD Cert.Reference3Ideal.τ).loc Cert.Reference3Ideal.main_arg0) = Cert.Kernel3Ideal.Gen.b0 m c
    ∧ m' ((c.tc : Thread Cert.Reference3Ideal.nD Cert.Reference3Ideal.τ).loc Cert.Reference3Ideal.main_arg1) = Cert.Kernel3Ideal.Gen.b1 m c
    ∧ m' ((c.tc : Thread Cert.Reference3Ideal.nD Cert.Reference3Ideal.τ).loc Cert.Reference3Ideal.main_arg2) = Cert.Kernel3Ideal.Gen.b2 m c
    ∧ m' ((c.tc : Thread Cert.Reference3Ideal.nD Cert.Reference3Ideal.τ).loc Cert.Reference3Ideal.main_arg3) = Cert.Kernel3Ideal.Gen.b3 m c
    ∧ m' ((c.tc : Thread Cert.Reference3Ideal.nD Cert.Reference3Ideal.τ).loc Cert.Reference3Ideal.main_arg4) = Cert.Kernel3Ideal.Gen.b4 m c

/-- The reference's normed tokens, of its argument arrays. -/
abbrev hidden3 := Cert.Reference3Ideal.Value.rHid (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))

theorem same3_conv (h : SameArgs3 m m' c) : Cert.Reference3Ideal.Value.rConv (m' ((c.tc : Thread Cert.Reference3Ideal.nD Cert.Reference3Ideal.τ).loc Cert.Reference3Ideal.main_arg4)) (hidden3 m' c) = Cert.Kernel3Ideal.Gen.resConv m c := by
  obtain ⟨h0, h1, h2, h3, h4⟩ := h
  unfold hidden3
  rw [h0, h1, h2, h3, h4]
  funext y
  have ey : y = ix4 (y 0) (y 1) (y 2) (y 3) := by funext a; fin_cases a <;> rfl
  exact (congrArg _ ey).trans (Cert.Reference3Ideal.Value.rConv_apply _ _ _ _ _ (y 0) (y 1) (y 2) (y 3) _ rfl)

theorem same3_gate (h : SameArgs3 m m' c) : Cert.Reference3Ideal.Value.rConvGate (m' ((c.tc : Thread Cert.Reference3Ideal.nD Cert.Reference3Ideal.τ).loc Cert.Reference3Ideal.main_arg4)) (hidden3 m' c) = Cert.Kernel3Ideal.Gen.resConvGate m c := by
  obtain ⟨h0, h1, h2, h3, h4⟩ := h
  unfold hidden3
  rw [h0, h1, h2, h3, h4]
  funext y
  have ey : y = ix2 (y 0) (y 1) := by funext a; fin_cases a <;> rfl
  exact (congrArg _ ey).trans (Cert.Reference3Ideal.Value.rConvGate_apply _ _ _ _ _ (y 0) (y 1))

end

section
variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)

/-- The fourth call's argument arrays are the reference's. -/
def SameArgs4 : Prop :=
  m' ((c.tc : Thread Cert.Reference4Ideal.nD Cert.Reference4Ideal.τ).loc Cert.Reference4Ideal.main_arg0) = Cert.Kernel4Ideal.Gen.b0 m c
    ∧ m' ((c.tc : Thread Cert.Reference4Ideal.nD Cert.Reference4Ideal.τ).loc Cert.Reference4Ideal.main_arg1) = Cert.Kernel4Ideal.Gen.b1 m c
    ∧ m' ((c.tc : Thread Cert.Reference4Ideal.nD Cert.Reference4Ideal.τ).loc Cert.Reference4Ideal.main_arg2) = Cert.Kernel4Ideal.Gen.b2 m c
    ∧ m' ((c.tc : Thread Cert.Reference4Ideal.nD Cert.Reference4Ideal.τ).loc Cert.Reference4Ideal.main_arg3) = Cert.Kernel4Ideal.Gen.b3 m c
    ∧ m' ((c.tc : Thread Cert.Reference4Ideal.nD Cert.Reference4Ideal.τ).loc Cert.Reference4Ideal.main_arg4) = Cert.Kernel4Ideal.Gen.b4 m c
    ∧ m' ((c.tc : Thread Cert.Reference4Ideal.nD Cert.Reference4Ideal.τ).loc Cert.Reference4Ideal.main_arg5) = Cert.Kernel4Ideal.Gen.b5 m c
    ∧ m' ((c.tc : Thread Cert.Reference4Ideal.nD Cert.Reference4Ideal.τ).loc Cert.Reference4Ideal.main_arg6) = Cert.Kernel4Ideal.Gen.b6 m c
    ∧ m' ((c.tc : Thread Cert.Reference4Ideal.nD Cert.Reference4Ideal.τ).loc Cert.Reference4Ideal.main_arg7) = Cert.Kernel4Ideal.Gen.b7 m c
    ∧ m' ((c.tc : Thread Cert.Reference4Ideal.nD Cert.Reference4Ideal.τ).loc Cert.Reference4Ideal.main_arg8) = Cert.Kernel4Ideal.Gen.b8 m c
    ∧ m' ((c.tc : Thread Cert.Reference4Ideal.nD Cert.Reference4Ideal.τ).loc Cert.Reference4Ideal.main_arg9) = Cert.Kernel4Ideal.Gen.b9 m c
    ∧ m' ((c.tc : Thread Cert.Reference4Ideal.nD Cert.Reference4Ideal.τ).loc Cert.Reference4Ideal.main_arg10) = Cert.Kernel4Ideal.Gen.b10 m c
    ∧ m' ((c.tc : Thread Cert.Reference4Ideal.nD Cert.Reference4Ideal.τ).loc Cert.Reference4Ideal.main_arg11) = Cert.Kernel4Ideal.Gen.b11 m c
    ∧ m' ((c.tc : Thread Cert.Reference4Ideal.nD Cert.Reference4Ideal.τ).loc Cert.Reference4Ideal.main_arg12) = Cert.Kernel4Ideal.Gen.b12 m c

theorem same4 (h : SameArgs4 m m' c) : Cert.Reference4Ideal.Value.res_main_v70 m' c = Cert.Kernel4Ideal.Gen.resMix m c := by
  obtain ⟨h0, h1, h2, h3, h4, h5, h6, h7, h8, h9, h10, h11, h12⟩ := h
  refine (Cert.Reference4Ideal.Value.res_eq m' c).trans ?_
  rw [h0, h1, h2, h3, h4, h5, h6, h7, h8, h9, h10, h11, h12]
  funext y
  have ey : y = ix4 (y 0) (y 1) (y 2) (y 3) := by funext a; fin_cases a <;> rfl
  exact (congrArg _ ey).trans (Cert.Reference4Ideal.Value.mixRef_apply _ _ _ _ _ _ _ _ _ _ _ _ _ (y 0) (y 1) (y 2) (y 3))

end

section
variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ) (c : Dev Cert.Kernel5Ideal.nD)

/-- The fifth call's argument arrays are the reference's. -/
def SameArgs5 : Prop :=
  m' ((c.tc : Thread Cert.Reference5Ideal.nD Cert.Reference5Ideal.τ).loc Cert.Reference5Ideal.main_arg0) = Cert.Kernel5Ideal.Gen.b0 m c
    ∧ m' ((c.tc : Thread Cert.Reference5Ideal.nD Cert.Reference5Ideal.τ).loc Cert.Reference5Ideal.main_arg1) = Cert.Kernel5Ideal.Gen.b1 m c
    ∧ m' ((c.tc : Thread Cert.Reference5Ideal.nD Cert.Reference5Ideal.τ).loc Cert.Reference5Ideal.main_arg2) = Cert.Kernel5Ideal.Gen.b2 m c
    ∧ m' ((c.tc : Thread Cert.Reference5Ideal.nD Cert.Reference5Ideal.τ).loc Cert.Reference5Ideal.main_arg3) = Cert.Kernel5Ideal.Gen.b3 m c
    ∧ m' ((c.tc : Thread Cert.Reference5Ideal.nD Cert.Reference5Ideal.τ).loc Cert.Reference5Ideal.main_arg4) = Cert.Kernel5Ideal.Gen.b4 m c
    ∧ m' ((c.tc : Thread Cert.Reference5Ideal.nD Cert.Reference5Ideal.τ).loc Cert.Reference5Ideal.main_arg5) = Cert.Kernel5Ideal.Gen.b5 m c
    ∧ m' ((c.tc : Thread Cert.Reference5Ideal.nD Cert.Reference5Ideal.τ).loc Cert.Reference5Ideal.main_arg6) = Cert.Kernel5Ideal.Gen.b6 m c
    ∧ m' ((c.tc : Thread Cert.Reference5Ideal.nD Cert.Reference5Ideal.τ).loc Cert.Reference5Ideal.main_arg7) = Cert.Kernel5Ideal.Gen.b7 m c
    ∧ m' ((c.tc : Thread Cert.Reference5Ideal.nD Cert.Reference5Ideal.τ).loc Cert.Reference5Ideal.main_arg8) = Cert.Kernel5Ideal.Gen.b8 m c
    ∧ m' ((c.tc : Thread Cert.Reference5Ideal.nD Cert.Reference5Ideal.τ).loc Cert.Reference5Ideal.main_arg9) = Cert.Kernel5Ideal.Gen.b9 m c
    ∧ m' ((c.tc : Thread Cert.Reference5Ideal.nD Cert.Reference5Ideal.τ).loc Cert.Reference5Ideal.main_arg10) = Cert.Kernel5Ideal.Gen.b10 m c
    ∧ m' ((c.tc : Thread Cert.Reference5Ideal.nD Cert.Reference5Ideal.τ).loc Cert.Reference5Ideal.main_arg11) = Cert.Kernel5Ideal.Gen.b11 m c
    ∧ m' ((c.tc : Thread Cert.Reference5Ideal.nD Cert.Reference5Ideal.τ).loc Cert.Reference5Ideal.main_arg12) = Cert.Kernel5Ideal.Gen.b12 m c

theorem same5 (h : SameArgs5 m m' c) : Cert.Reference5Ideal.Value.res_main_v63 m' c = Cert.Kernel5Ideal.Gen.resOut m c := by
  obtain ⟨h0, h1, h2, h3, h4, h5, h6, h7, h8, h9, h10, h11, h12⟩ := h
  refine (Cert.Reference5Ideal.Value.res_eq m' c).trans ?_
  rw [h0, h1, h2, h3, h4, h5, h6, h7, h8, h9, h10, h11, h12]
  funext y
  have ey : y = ix3 (y 0) (y 1) (y 2) := by funext a; fin_cases a <;> rfl
  exact (congrArg _ ey).trans (Cert.Reference5Ideal.Value.layer_apply _ _ _ _ _ _ _ _ _ _ _ _ _ (y 0) (y 1) (y 2))

end

section
variable (m : (ℓ : Loc Cert.Kernel6Ideal.nD Cert.Kernel6Ideal.τ Cert.Kernel6Ideal.sig) → Buf (Elt Ideal) ℓ)
  (m' : (ℓ : Loc Cert.Reference6Ideal.nD Cert.Reference6Ideal.τ Cert.Reference6Ideal.sig) → Buf (Elt Ideal) ℓ) (c : Dev Cert.Kernel6Ideal.nD)

/-- The sixth call's argument arrays are the reference's. -/
def SameArgs6 : Prop :=
  m' ((c.tc : Thread Cert.Reference6Ideal.nD Cert.Reference6Ideal.τ).loc Cert.Reference6Ideal.main_arg0) = Cert.Kernel6Ideal.Gen.b0 m c
    ∧ m' ((c.tc : Thread Cert.Reference6Ideal.nD Cert.Reference6Ideal.τ).loc Cert.Reference6Ideal.main_arg1) = Cert.Kernel6Ideal.Gen.b1 m c
    ∧ m' ((c.tc : Thread Cert.Reference6Ideal.nD Cert.Reference6Ideal.τ).loc Cert.Reference6Ideal.main_arg2) = Cert.Kernel6Ideal.Gen.b2 m c
    ∧ m' ((c.tc : Thread Cert.Reference6Ideal.nD Cert.Reference6Ideal.τ).loc Cert.Reference6Ideal.main_arg3) = Cert.Kernel6Ideal.Gen.b3 m c
    ∧ m' ((c.tc : Thread Cert.Reference6Ideal.nD Cert.Reference6Ideal.τ).loc Cert.Reference6Ideal.main_arg4) = Cert.Kernel6Ideal.Gen.b4 m c

theorem same6 (h : SameArgs6 m m' c) : Cert.Reference6Ideal.Value.rIn (m' ((c.tc : Thread Cert.Reference6Ideal.nD Cert.Reference6Ideal.τ).loc Cert.Reference6Ideal.main_arg4)) (Cert.Reference6Ideal.Value.rHid (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))) = Cert.Kernel6Ideal.Gen.resCtx m c := by
  obtain ⟨h0, h1, h2, h3, h4⟩ := h
  rw [h0, h1, h2, h3, h4]
  funext y
  have ey : y = ix3 (y 0) (y 1) (y 2) := by funext a; fin_cases a <;> rfl
  exact (congrArg _ ey).trans (Cert.Reference6Ideal.Value.rIn_apply _ _ _ _ _ (y 0) (y 1) (y 2))

end

section
variable (m : (ℓ : Loc Cert.Kernel7Ideal.nD Cert.Kernel7Ideal.τ Cert.Kernel7Ideal.sig) → Buf (Elt Ideal) ℓ)
  (m' : (ℓ : Loc Cert.Reference7Ideal.nD Cert.Reference7Ideal.τ Cert.Reference7Ideal.sig) → Buf (Elt Ideal) ℓ) (c : Dev Cert.Kernel7Ideal.nD)

/-- The seventh call's argument arrays are the reference's. -/
def SameArgs7 : Prop :=
  m' ((c.tc : Thread Cert.Reference7Ideal.nD Cert.Reference7Ideal.τ).loc Cert.Reference7Ideal.main_arg0) = Cert.Kernel7Ideal.Gen.b0 m c
    ∧ m' ((c.tc : Thread Cert.Reference7Ideal.nD Cert.Reference7Ideal.τ).loc Cert.Reference7Ideal.main_arg1) = Cert.Kernel7Ideal.Gen.b1 m c
    ∧ m' ((c.tc : Thread Cert.Reference7Ideal.nD Cert.Reference7Ideal.τ).loc Cert.Reference7Ideal.main_arg2) = Cert.Kernel7Ideal.Gen.b2 m c

theorem same7 (h : SameArgs7 m m' c) : Cert.Reference7Ideal.Value.rMod (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) = Cert.Kernel7Ideal.Gen.resMod m c := by
  obtain ⟨h0, h1, h2⟩ := h
  rw [h0, h1, h2]
  funext y
  have ey : y = ix2 (y 0) (y 1) := by funext a; fin_cases a <;> rfl
  exact (congrArg _ ey).trans (Cert.Reference7Ideal.Value.rMod_apply _ _ _ (y 0) (y 1))

end

section
variable (m : (ℓ : Loc Cert.Kernel8Ideal.nD Cert.Kernel8Ideal.τ Cert.Kernel8Ideal.sig) → Buf (Elt Ideal) ℓ)
  (m' : (ℓ : Loc Cert.Reference8Ideal.nD Cert.Reference8Ideal.τ Cert.Reference8Ideal.sig) → Buf (Elt Ideal) ℓ) (c : Dev Cert.Kernel8Ideal.nD)

/-- The eighth call's argument array is the reference's. -/
theorem same8 (h : m' ((c.tc : Thread Cert.Reference8Ideal.nD Cert.Reference8Ideal.τ).loc Cert.Reference8Ideal.main_arg0) = Cert.Kernel8Ideal.Gen.b0 m c) :
    Cert.Reference8Ideal.Value.rW (m' ((c.tc : Thread Cert.Reference8Ideal.nD Cert.Reference8Ideal.τ).loc Cert.Reference8Ideal.main_arg0)) = Cert.Kernel8Ideal.Gen.resW m c := by
  rw [h]
  exact Cert.Reference8Ideal.Value.rW_eq _

end

section
variable (m : (ℓ : Loc Cert.Kernel9Ideal.nD Cert.Kernel9Ideal.τ Cert.Kernel9Ideal.sig) → Buf (Elt Ideal) ℓ)
  (m' : (ℓ : Loc Cert.Reference9Ideal.nD Cert.Reference9Ideal.τ Cert.Reference9Ideal.sig) → Buf (Elt Ideal) ℓ) (c : Dev Cert.Kernel9Ideal.nD)

/-- The ninth call's argument array is the reference's. -/
theorem same9 (h : m' ((c.tc : Thread Cert.Reference9Ideal.nD Cert.Reference9Ideal.τ).loc Cert.Reference9Ideal.main_arg0) = Cert.Kernel9Ideal.Gen.b0 m c) :
    Cert.Reference9Ideal.Value.rW (m' ((c.tc : Thread Cert.Reference9Ideal.nD Cert.Reference9Ideal.τ).loc Cert.Reference9Ideal.main_arg0)) = Cert.Kernel9Ideal.Gen.resW m c := by
  rw [h]
  exact Cert.Reference9Ideal.Value.rW_eq _

end

section
variable (m : (ℓ : Loc Cert.Kernel10Ideal.nD Cert.Kernel10Ideal.τ Cert.Kernel10Ideal.sig) → Buf (Elt Ideal) ℓ)
  (m' : (ℓ : Loc Cert.Reference10Ideal.nD Cert.Reference10Ideal.τ Cert.Reference10Ideal.sig) → Buf (Elt Ideal) ℓ) (c : Dev Cert.Kernel10Ideal.nD)

/-- The tenth call's argument array is the reference's. -/
theorem same10 (h : m' ((c.tc : Thread Cert.Reference10Ideal.nD Cert.Reference10Ideal.τ).loc Cert.Reference10Ideal.main_arg0) = Cert.Kernel10Ideal.Gen.b0 m c) :
    Cert.Reference10Ideal.Value.rW (m' ((c.tc : Thread Cert.Reference10Ideal.nD Cert.Reference10Ideal.τ).loc Cert.Reference10Ideal.main_arg0)) = Cert.Kernel10Ideal.Gen.resW m c := by
  rw [h]
  exact Cert.Reference10Ideal.Value.rW_eq _

end

section
variable (m : (ℓ : Loc Cert.Kernel11Ideal.nD Cert.Kernel11Ideal.τ Cert.Kernel11Ideal.sig) → Buf (Elt Ideal) ℓ)
  (m' : (ℓ : Loc Cert.Reference11Ideal.nD Cert.Reference11Ideal.τ Cert.Reference11Ideal.sig) → Buf (Elt Ideal) ℓ) (c : Dev Cert.Kernel11Ideal.nD)

/-- The eleventh call's argument array is the reference's. -/
theorem same11 (h : m' ((c.tc : Thread Cert.Reference11Ideal.nD Cert.Reference11Ideal.τ).loc Cert.Reference11Ideal.main_arg0) = Cert.Kernel11Ideal.Gen.b0 m c) :
    Cert.Reference11Ideal.Value.rW (m' ((c.tc : Thread Cert.Reference11Ideal.nD Cert.Reference11Ideal.τ).loc Cert.Reference11Ideal.main_arg0)) = Cert.Kernel11Ideal.Gen.resW m c := by
  rw [h]
  exact Cert.Reference11Ideal.Value.rW_eq _

end

section
variable (m : (ℓ : Loc Cert.Kernel12Ideal.nD Cert.Kernel12Ideal.τ Cert.Kernel12Ideal.sig) → Buf (Elt Ideal) ℓ)
  (m' : (ℓ : Loc Cert.Reference12Ideal.nD Cert.Reference12Ideal.τ Cert.Reference12Ideal.sig) → Buf (Elt Ideal) ℓ) (c : Dev Cert.Kernel12Ideal.nD)

/-- The twelfth call's argument arrays are the reference's; the decays are of the first three, the readout matrices of the last two too. -/
def SameArgs12 : Prop :=
  m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
    ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
    ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
    ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
    ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
    ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
    ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)

theorem same12_dec (h : SameArgs12 m m' c) : Cert.Reference12Ideal.Value.res_out1 m' c = Cert.Kernel12Ideal.Gen.resDec m c := by
  obtain ⟨h0, h1, h2, -⟩ := h
  refine Eq.trans (b := Cert.Reference12Ideal.Value.rDec (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2))) rfl ?_
  rw [h0, h1, h2]
  funext y
  have ey : y = ix5 (y 0) (y 1) (y 2) (y 3) (y 4) := by funext a; fin_cases a <;> rfl
  exact (congrArg _ ey).trans (Cert.Reference12Ideal.Value.rDec_apply _ _ _ (y 0) (y 1) (y 2) (y 3) (y 4))

theorem same12_out (h : SameArgs12 m m' c) : Cert.Reference12Ideal.Value.res_out0 m' c = Cert.Kernel12Ideal.Gen.resOut m c := by
  obtain ⟨h0, h1, h2, -, -, h5, h6⟩ := h
  refine Eq.trans (b := Cert.Reference12Ideal.Value.rOut (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg5)) (m' ((c.tc : Thread Cert.Reference12Ideal.nD Cert.Reference12Ideal.τ).loc Cert.Reference12Ideal.main_arg6))) rfl ?_
  rw [h0, h1, h2, h5, h6]
  funext y
  have ey : y = ix3 (y 0) (y 1) (y 2) := by funext a; fin_cases a <;> rfl
  exact (congrArg _ ey).trans (Cert.Reference12Ideal.Value.rOut_apply _ _ _ _ _ (y 0) (y 1) (y 2))

end

end Cert.Proof

end
-- ==== Proof.lean ====
/- The certificate's claim, call by call: the frames, each kernel's idealization, and the equality of each ideal kernel's
   results with its reference's. The first call (the S5 layer): its runs are in Proof/KernelFrame.lean and
   Proof/IdealFrame.lean, its value in Proof/IdealValue.lean, its reference's value in Proof/RefOut.lean; both values are the
   layer of Proof/Spec.lean. The second call (the modulated norm and the input projection): its value is in
   Proof/ProjValue.lean, its reference's in Proof/ProjRef.lean; both values are the entries of Proof/ProjSpec.lean. The
   third to the twelfth call (the projection by row; the half-GLU, the channel norm and the output projection; the other
   channels' norm and projection with the gated residual and the final norm; the context's projection; the modulation
   vectors; the four preparations of weights; the readout matrices and the decays over a chunk): their values are in Proof/RowValue.lean, Proof/TailValue.lean,
   Proof/FinValue.lean, Proof/CtxValue.lean and Proof/AdaValue.lean, their references' in Proof/RowRef.lean, Proof/TailRef.lean,
   Proof/FinRef.lean, Proof/CtxRef.lean and Proof/AdaRef.lean, both of the weights' in Proof/Weights.lean, the last
   call's in Proof/CotValue.lean, Proof/DecayValue.lean and Proof/DecayRef.lean; Proof/Pairs.lean makes
   them equal. The entries are those of Proof/ProjSpec.lean, Proof/TailSpec.lean, Proof/FinSpec.lean and Proof/DecaySpec.lean. -/
module

public import proofs.«01_k».proof.Defs
public import proofs.«01_k».proof.Proof.KernelFrame
public import proofs.«01_k».proof.Proof.IdealValue
public import proofs.«01_k».proof.Proof.RefOut
public import proofs.«01_k».proof.Proof.ProjValue
public import proofs.«01_k».proof.Proof.ProjRef
public import proofs.«01_k».proof.Proof.Pairs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import Idealize.ShloMosaic.Lib.Quiescent

@[expose] public section

noncomputable section

namespace Cert.Proof

open Idealize.ShloMosaic Idealize.ShloMosaic.TcCoe Idealize.SL.Sem

/-- The ideal kernel ends with the layer in its result array. -/
theorem kernel_value (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD, r.2.mem ((c.tc : Thread Cert.KernelIdeal.nD Cert.KernelIdeal.τ).loc Cert.KernelIdeal.main_v0) = Cert.KernelIdeal.Gen.result m c) :=
  (θ_run Cert.KernelIdeal.defs _ _).mono (fun _ h c => (h.out_eq c 6).trans (Cert.KernelIdeal.Gen.arr_out m c)) (Cert.KernelIdeal.Gen.run_main m g)

/-- The two results are the same layer of the same arguments. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.ReferenceIdeal.Value.in0 m' c = Cert.KernelIdeal.Gen.a0 m c ∧ Cert.ReferenceIdeal.Value.in1 m' c = Cert.KernelIdeal.Gen.a1 m c
      ∧ Cert.ReferenceIdeal.Value.in2 m' c = Cert.KernelIdeal.Gen.a2 m c ∧ Cert.ReferenceIdeal.Value.in3 m' c = Cert.KernelIdeal.Gen.a3 m c
      ∧ Cert.ReferenceIdeal.Value.in4 m' c = Cert.KernelIdeal.Gen.a4 m c ∧ Cert.ReferenceIdeal.Value.in5 m' c = Cert.KernelIdeal.Gen.a5 m c) :
    Cert.ReferenceIdeal.Value.out_main_v82 (Cert.ReferenceIdeal.Value.after m' c 272) = Cert.KernelIdeal.Gen.result m c := by
  obtain ⟨h0, h1, h2, h3, h4, h5⟩ := h
  funext y
  have ey : y = ix3 (y 0) (y 1) (y 2) := by funext a; fin_cases a <;> rfl
  refine (congrArg (Cert.ReferenceIdeal.Value.out_main_v82 (Cert.ReferenceIdeal.Value.after m' c 272)) ey).trans ?_
  refine (Cert.ReferenceIdeal.Value.run_out m' c (y 0) (y 1) (y 2)).trans ?_
  rw [h0, h1, h2, h3, h4, h5]
  rfl

section
variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

/-- The second call's argument arrays are the reference's. -/
def SameArgs : Prop :=
  m' ((c.tc : Thread Cert.Reference2Ideal.nD Cert.Reference2Ideal.τ).loc Cert.Reference2Ideal.main_arg0) = Cert.Kernel2Ideal.Gen.b0 m c
    ∧ m' ((c.tc : Thread Cert.Reference2Ideal.nD Cert.Reference2Ideal.τ).loc Cert.Reference2Ideal.main_arg1) = Cert.Kernel2Ideal.Gen.b1 m c
    ∧ m' ((c.tc : Thread Cert.Reference2Ideal.nD Cert.Reference2Ideal.τ).loc Cert.Reference2Ideal.main_arg2) = Cert.Kernel2Ideal.Gen.b2 m c
    ∧ m' ((c.tc : Thread Cert.Reference2Ideal.nD Cert.Reference2Ideal.τ).loc Cert.Reference2Ideal.main_arg3) = Cert.Kernel2Ideal.Gen.b3 m c
    ∧ m' ((c.tc : Thread Cert.Reference2Ideal.nD Cert.Reference2Ideal.τ).loc Cert.Reference2Ideal.main_arg4) = Cert.Kernel2Ideal.Gen.b4 m c
    ∧ m' ((c.tc : Thread Cert.Reference2Ideal.nD Cert.Reference2Ideal.τ).loc Cert.Reference2Ideal.main_arg5) = Cert.Kernel2Ideal.Gen.b5 m c

/-- The reference's normed tokens, of its argument arrays. -/
abbrev hidden := Cert.Reference2Ideal.Value.rHid (m' ((c.tc : Thread Cert.Reference2Ideal.nD Cert.Reference2Ideal.τ).loc Cert.Reference2Ideal.main_arg0))
  (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
  (m' ((c.tc : Thread Cert.Reference2Ideal.nD Cert.Reference2Ideal.τ).loc Cert.Reference2Ideal.main_arg3))

theorem same_in (h : SameArgs m m' c) :
    Cert.Reference2Ideal.Value.rIn (m' ((c.tc : Thread Cert.Reference2Ideal.nD Cert.Reference2Ideal.τ).loc Cert.Reference2Ideal.main_arg4)) (hidden m' c) = Cert.Kernel2Ideal.Gen.resIn m c := by
  obtain ⟨h0, h1, h2, h3, h4, h5⟩ := h
  unfold hidden
  rw [h0, h1, h2, h3, h4]
  funext y
  have ey : y = ix3 (y 0) (y 1) (y 2) := by funext a; fin_cases a <;> rfl
  exact (congrArg _ ey).trans (Cert.Reference2Ideal.Value.rIn_apply _ _ _ _ _ (y 0) (y 1) (y 2))

theorem same_gate (h : SameArgs m m' c) :
    Cert.Reference2Ideal.Value.rGate (m' ((c.tc : Thread Cert.Reference2Ideal.nD Cert.Reference2Ideal.τ).loc Cert.Reference2Ideal.main_arg4)) (hidden m' c) = Cert.Kernel2Ideal.Gen.resGate m c := by
  obtain ⟨h0, h1, h2, h3, h4, h5⟩ := h
  unfold hidden
  rw [h0, h1, h2, h3, h4]
  funext y
  have ey : y = ix3 (y 0) (y 1) (y 2) := by funext a; fin_cases a <;> rfl
  exact (congrArg _ ey).trans (Cert.Reference2Ideal.Value.rGate_apply _ _ _ _ _ (y 0) (y 1) (y 2))

theorem same_conv (h : SameArgs m m' c) :
    Cert.Reference2Ideal.Value.rConv (m' ((c.tc : Thread Cert.Reference2Ideal.nD Cert.Reference2Ideal.τ).loc Cert.Reference2Ideal.main_arg5)) (hidden m' c) = Cert.Kernel2Ideal.Gen.resConv m c := by
  obtain ⟨h0, h1, h2, h3, h4, h5⟩ := h
  unfold hidden
  rw [h0, h1, h2, h3, h5]
  funext y
  have ey : y = ix4 (y 0) (y 1) (y 2) (y 3) := by funext a; fin_cases a <;> rfl
  exact (congrArg _ ey).trans (Cert.Reference2Ideal.Value.rConv_apply _ _ _ _ _ (y 0) (y 1) (y 2) (y 3) _ rfl)

theorem same_conv_gate (h : SameArgs m m' c) :
    Cert.Reference2Ideal.Value.rConvGate (m' ((c.tc : Thread Cert.Reference2Ideal.nD Cert.Reference2Ideal.τ).loc Cert.Reference2Ideal.main_arg5)) (hidden m' c) = Cert.Kernel2Ideal.Gen.resConvGate m c := by
  obtain ⟨h0, h1, h2, h3, h4, h5⟩ := h
  unfold hidden
  rw [h0, h1, h2, h3, h5]
  funext y
  have ey : y = ix2 (y 0) (y 1) := by funext a; fin_cases a <;> rfl
  exact (congrArg _ ey).trans (Cert.Reference2Ideal.Value.rConvGate_apply _ _ _ _ _ (y 0) (y 1))

end

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts,
    Cert.Kernel12.Gen.facts, Cert.Kernel12Ideal.Gen.facts, Cert.Reference12Ideal.Gen.facts,
    fun m g _ => Cert.Kernel.Gen.frame m g,
    fun m g _ => Cert.KernelIdeal.Gen.frame m g,
    fun m g _ => (θ_run Cert.ReferenceIdeal.defs _ _).mono (fun _ h => ⟨fun c => (h c).2, Idealize.ShloMosaic.sem_eq_zero_of_no_sems (by decide) _⟩) (Cert.ReferenceIdeal.Value.run (F := Ideal) m g),
    fun m g _ => Cert.Kernel2.Gen.frame m g,
    fun m g _ => Cert.Kernel2Ideal.Gen.frame m g,
    fun m g _ => (θ_run Cert.Reference2Ideal.defs _ _).mono (fun _ h => ⟨fun c => (h c).2.2.2.2, Idealize.ShloMosaic.sem_eq_zero_of_no_sems (by decide) _⟩) (Cert.Reference2Ideal.Value.run (F := Ideal) m g),
    fun m g _ => Cert.Kernel3.Gen.frame m g,
    fun m g _ => Cert.Kernel3Ideal.Gen.frame m g,
    fun m g _ => (θ_run Cert.Reference3Ideal.defs _ _).mono (fun _ h => ⟨fun c => (h c).2.2, Idealize.ShloMosaic.sem_eq_zero_of_no_sems (by decide) _⟩) (Cert.Reference3Ideal.Value.run (F := Ideal) m g),
    fun m g _ => Cert.Kernel4.Gen.frame m g,
    fun m g _ => Cert.Kernel4Ideal.Gen.frame m g,
    fun m g _ => (θ_run Cert.Reference4Ideal.defs _ _).mono (fun _ h => ⟨fun c => (h c).2, Idealize.ShloMosaic.sem_eq_zero_of_no_sems (by decide) _⟩) (Cert.Reference4Ideal.Value.run (F := Ideal) m g),
    fun m g _ => Cert.Kernel5.Gen.frame m g,
    fun m g _ => Cert.Kernel5Ideal.Gen.frame m g,
    fun m g _ => (θ_run Cert.Reference5Ideal.defs _ _).mono (fun _ h => ⟨fun c => (h c).2, Idealize.ShloMosaic.sem_eq_zero_of_no_sems (by decide) _⟩) (Cert.Reference5Ideal.Value.run (F := Ideal) m g),
    fun m g _ => Cert.Kernel6.Gen.frame m g,
    fun m g _ => Cert.Kernel6Ideal.Gen.frame m g,
    fun m g _ => (θ_run Cert.Reference6Ideal.defs _ _).mono (fun _ h => ⟨fun c => (h c).2, Idealize.ShloMosaic.sem_eq_zero_of_no_sems (by decide) _⟩) (Cert.Reference6Ideal.Value.run (F := Ideal) m g),
    fun m g _ => Cert.Kernel7.Gen.frame m g,
    fun m g _ => Cert.Kernel7Ideal.Gen.frame m g,
    fun m g _ => (θ_run Cert.Reference7Ideal.defs _ _).mono (fun _ h => ⟨fun c => (h c).2, Idealize.ShloMosaic.sem_eq_zero_of_no_sems (by decide) _⟩) (Cert.Reference7Ideal.Value.run (F := Ideal) m g),
    fun m g _ => Cert.Kernel8.Gen.frame m g,
    fun m g _ => Cert.Kernel8Ideal.Gen.frame m g,
    fun m g _ => (θ_run Cert.Reference8Ideal.defs _ _).mono (fun _ h => ⟨fun c => (h c).2, Idealize.ShloMosaic.sem_eq_zero_of_no_sems (by decide) _⟩) (Cert.Reference8Ideal.Value.run (F := Ideal) m g),
    fun m g _ => Cert.Kernel9.Gen.frame m g,
    fun m g _ => Cert.Kernel9Ideal.Gen.frame m g,
    fun m g _ => (θ_run Cert.Reference9Ideal.defs _ _).mono (fun _ h => ⟨fun c => (h c).2, Idealize.ShloMosaic.sem_eq_zero_of_no_sems (by decide) _⟩) (Cert.Reference9Ideal.Value.run (F := Ideal) m g),
    fun m g _ => Cert.Kernel10.Gen.frame m g,
    fun m g _ => Cert.Kernel10Ideal.Gen.frame m g,
    fun m g _ => (θ_run Cert.Reference10Ideal.defs _ _).mono (fun _ h => ⟨fun c => (h c).2, Idealize.ShloMosaic.sem_eq_zero_of_no_sems (by decide) _⟩) (Cert.Reference10Ideal.Value.run (F := Ideal) m g),
    fun m g _ => Cert.Kernel11.Gen.frame m g,
    fun m g _ => Cert.Kernel11Ideal.Gen.frame m g,
    fun m g _ => (θ_run Cert.Reference11Ideal.defs _ _).mono (fun _ h => ⟨fun c => (h c).2, Idealize.ShloMosaic.sem_eq_zero_of_no_sems (by decide) _⟩) (Cert.Reference11Ideal.Value.run (F := Ideal) m g),
    fun m g _ => Cert.Kernel12.Gen.frame m g,
    fun m g _ => Cert.Kernel12Ideal.Gen.frame m g,
    fun m g _ => (θ_run Cert.Reference12Ideal.defs _ _).mono (fun _ h => ⟨fun c => (h c).2.2, Idealize.ShloMosaic.sem_eq_zero_of_no_sems (by decide) _⟩) (Cert.Reference12Ideal.Value.run (F := Ideal) m g),
    trivial,
    fun m g m' g' _ hargs => ⟨Cert.KernelIdeal.Gen.result m,
      (θ_run Cert.KernelIdeal.defs _ _).mono (fun _ h c => ⟨h.1 c, h.2.1 c⟩) (θ_run_and (kernel_value m g) (Cert.KernelIdeal.Gen.frame m g)),
      (θ_run Cert.ReferenceIdeal.defs _ _).mono (fun _ h c => ⟨(h c).1.trans (same_result m m' c (hargs c)), (h c).2⟩) (Cert.ReferenceIdeal.Value.run (F := Ideal) m' g')⟩,
    trivial,
    fun m g m' g' _ hargs => ⟨Cert.Kernel2Ideal.Gen.resIn m, Cert.Kernel2Ideal.Gen.resGate m, Cert.Kernel2Ideal.Gen.resConv m, Cert.Kernel2Ideal.Gen.resConvGate m,
      (θ_run Cert.Kernel2Ideal.defs _ _).mono (fun _ h c => ⟨(h c).1.trans (Cert.Kernel2Ideal.Gen.arr7 m c), (h c).2.1.trans (Cert.Kernel2Ideal.Gen.arr8 m c),
        (h c).2.2.1.trans (Cert.Kernel2Ideal.Gen.arr9 m c), (h c).2.2.2.1.trans (Cert.Kernel2Ideal.Gen.arr10 m c), (h c).2.2.2.2⟩) (Cert.Kernel2Ideal.Value.run_blocks m g),
      (θ_run Cert.Reference2Ideal.defs _ _).mono (fun _ h c => ⟨(h c).1.trans (same_in m m' c (hargs c)), (h c).2.1.trans (same_gate m m' c (hargs c)),
        (h c).2.2.1.trans (same_conv m m' c (hargs c)), (h c).2.2.2.1.trans (same_conv_gate m m' c (hargs c)), (h c).2.2.2.2⟩) (Cert.Reference2Ideal.Value.run (F := Ideal) m' g')⟩,
    trivial,
    fun m g m' g' _ hargs => ⟨Cert.Kernel3Ideal.Gen.resConv m, Cert.Kernel3Ideal.Gen.resConvGate m,
      (θ_run Cert.Kernel3Ideal.defs _ _).mono (fun _ h c => ⟨(h c).1.trans (Cert.Kernel3Ideal.Gen.arr6 m c), (h c).2.1.trans (Cert.Kernel3Ideal.Gen.arr7 m c), (h c).2.2⟩) (Cert.Kernel3Ideal.Value.run_blocks m g),
      (θ_run Cert.Reference3Ideal.defs _ _).mono (fun _ h c => ⟨(h c).1.trans (same3_conv m m' c (hargs c)), (h c).2.1.trans (same3_gate m m' c (hargs c)), (h c).2.2⟩) (Cert.Reference3Ideal.Value.run (F := Ideal) m' g')⟩,
    trivial,
    fun m g m' g' _ hargs => ⟨Cert.Kernel4Ideal.Gen.resMix m,
      (θ_run Cert.Kernel4Ideal.defs _ _).mono (fun _ h c => ⟨(h c).1.trans (Cert.Kernel4Ideal.Gen.arr11 m c), (h c).2⟩) (Cert.Kernel4Ideal.Value.run_blocks m g),
      (θ_run Cert.Reference4Ideal.defs _ _).mono (fun _ h c => ⟨(h c).1.trans (same4 m m' c (hargs c)), (h c).2⟩) (Cert.Reference4Ideal.Value.run (F := Ideal) m' g')⟩,
    trivial,
    fun m g m' g' _ hargs => ⟨Cert.Kernel5Ideal.Gen.resOut m,
      (θ_run Cert.Kernel5Ideal.defs _ _).mono (fun _ h c => ⟨(h c).1.trans (Cert.Kernel5Ideal.Gen.arr10 m c), (h c).2⟩) (Cert.Kernel5Ideal.Value.run_blocks m g),
      (θ_run Cert.Reference5Ideal.defs _ _).mono (fun _ h c => ⟨(h c).1.trans (same5 m m' c (hargs c)), (h c).2⟩) (Cert.Reference5Ideal.Value.run (F := Ideal) m' g')⟩,
    trivial,
    fun m g m' g' _ hargs => ⟨Cert.Kernel6Ideal.Gen.resCtx m,
      (θ_run Cert.Kernel6Ideal.defs _ _).mono (fun _ h c => ⟨(h c).1.trans (Cert.Kernel6Ideal.Gen.arr4 m c), (h c).2⟩) (Cert.Kernel6Ideal.Value.run_blocks m g),
      (θ_run Cert.Reference6Ideal.defs _ _).mono (fun _ h c => ⟨(h c).1.trans (same6 m m' c (hargs c)), (h c).2⟩) (Cert.Reference6Ideal.Value.run (F := Ideal) m' g')⟩,
    trivial,
    fun m g m' g' _ hargs => ⟨Cert.Kernel7Ideal.Gen.resMod m,
      (θ_run Cert.Kernel7Ideal.defs _ _).mono (fun _ h c => ⟨(h c).1.trans (Cert.Kernel7Ideal.Gen.arr3 m c), (h c).2⟩) (Cert.Kernel7Ideal.Value.run_blocks m g),
      (θ_run Cert.Reference7Ideal.defs _ _).mono (fun _ h c => ⟨(h c).1.trans (same7 m m' c (hargs c)), (h c).2⟩) (Cert.Reference7Ideal.Value.run (F := Ideal) m' g')⟩,
    trivial,
    fun m g m' g' _ hargs => ⟨Cert.Kernel8Ideal.Gen.resW m,
      (θ_run Cert.Kernel8Ideal.defs _ _).mono (fun _ h c => ⟨(h c).1.trans (Cert.Kernel8Ideal.Gen.arr1 m c), (h c).2⟩) (Cert.Kernel8Ideal.Value.run_blocks m g),
      (θ_run Cert.Reference8Ideal.defs _ _).mono (fun _ h c => ⟨(h c).1.trans (same8 m m' c (hargs c)), (h c).2⟩) (Cert.Reference8Ideal.Value.run (F := Ideal) m' g')⟩,
    trivial,
    fun m g m' g' _ hargs => ⟨Cert.Kernel9Ideal.Gen.resW m,
      (θ_run Cert.Kernel9Ideal.defs _ _).mono (fun _ h c => ⟨(h c).1.trans (Cert.Kernel9Ideal.Gen.arr1 m c), (h c).2⟩) (Cert.Kernel9Ideal.Value.run_blocks m g),
      (θ_run Cert.Reference9Ideal.defs _ _).mono (fun _ h c => ⟨(h c).1.trans (same9 m m' c (hargs c)), (h c).2⟩) (Cert.Reference9Ideal.Value.run (F := Ideal) m' g')⟩,
    trivial,
    fun m g m' g' _ hargs => ⟨Cert.Kernel10Ideal.Gen.resW m,
      (θ_run Cert.Kernel10Ideal.defs _ _).mono (fun _ h c => ⟨(h c).1.trans (Cert.Kernel10Ideal.Gen.arr1 m c), (h c).2⟩) (Cert.Kernel10Ideal.Value.run_blocks m g),
      (θ_run Cert.Reference10Ideal.defs _ _).mono (fun _ h c => ⟨(h c).1.trans (same10 m m' c (hargs c)), (h c).2⟩) (Cert.Reference10Ideal.Value.run (F := Ideal) m' g')⟩,
    trivial,
    fun m g m' g' _ hargs => ⟨Cert.Kernel11Ideal.Gen.resW m,
      (θ_run Cert.Kernel11Ideal.defs _ _).mono (fun _ h c => ⟨(h c).1.trans (Cert.Kernel11Ideal.Gen.arr1 m c), (h c).2⟩) (Cert.Kernel11Ideal.Value.run_blocks m g),
      (θ_run Cert.Reference11Ideal.defs _ _).mono (fun _ h c => ⟨(h c).1.trans (same11 m m' c (hargs c)), (h c).2⟩) (Cert.Reference11Ideal.Value.run (F := Ideal) m' g')⟩,
    trivial,
    fun m g m' g' _ hargs => ⟨Cert.Kernel12Ideal.Gen.resOut m, Cert.Kernel12Ideal.Gen.resDec m,
      (θ_run Cert.Kernel12Ideal.defs _ _).mono (fun _ h c => ⟨(h c).2.1.trans (Cert.Kernel12Ideal.Gen.arr4 m c), (h c).2.2.1.trans (Cert.Kernel12Ideal.Gen.arr5 m c), (h c).2.2.2⟩) (Cert.Kernel12Ideal.Value.run_blocks m g),
      (θ_run Cert.Reference12Ideal.defs _ _).mono (fun _ h c => ⟨(h c).1.trans (same12_out m m' c (hargs c)), (h c).2.1.trans (same12_dec m m' c (hargs c)), (h c).2.2⟩) (Cert.Reference12Ideal.Value.run (F := Ideal) m' g')⟩⟩

end Cert.Proof

end
